-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_448" .f32 0x3B124925#32 ((1 / 448 : ℝ) : EReal)

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_3)) (v3 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_3) = v2 c
          ∧ r.2.mem ((c.tc : Thread Cert.KernelIdeal.nD Cert.KernelIdeal.τ).loc Cert.KernelIdeal.main_v2_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_1) = v0 c
          ∧ r.2.mem ((c.tc : Thread Cert.ReferenceIdeal.nD Cert.ReferenceIdeal.τ).loc Cert.ReferenceIdeal.main_v2_2) = v1 c
          ∧ r.2.mem ((c.tc : Thread Cert.ReferenceIdeal.nD Cert.ReferenceIdeal.τ).loc Cert.ReferenceIdeal.main_v2_3) = v2 c
          ∧ r.2.mem ((c.tc : Thread Cert.ReferenceIdeal.nD Cert.ReferenceIdeal.τ).loc Cert.ReferenceIdeal.main_v2_4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S6x256x1024 : Shape := ⟨3, ![6, 256, 1024]⟩
abbrev S1024x4096 : Shape := ⟨2, ![1024, 4096]⟩
abbrev S4096 : Shape := ⟨1, ![4096]⟩
abbrev S_ : Shape := ⟨0, ![]⟩

class Facts : Prop where
  bcast_S_S6x256x1024 : S_.BroadcastsInDim S6x256x1024 (![] : Fin 0 → Fin S6x256x1024.rank)
  reducesTo_S6x256x1024_S_d0_1_2 : S6x256x1024.ReducesTo [0, 1, 2] S_
  h_S_ : 0 < S_.numel

variable [Facts]

def fn {F : FTy → Type} [FloatOps F] (main_arg0 : FVec F S6x256x1024 .bf16) (main_arg1 : FVec F S1024x4096 .fp8e4m3) (main_arg2 : FVec F S4096 .f32) : IVec S_ 1 :=
  let main_v0 : FVec F S6x256x1024 .bf16 := Host.absf main_arg0
  let main_cst : FVec F S_ .bf16 := constant S_ .bf16 0x7F80#16
  let main_v1 : FVec F S6x256x1024 .bf16 := broadcastInDim S6x256x1024 ![] bcast_S_S6x256x1024 main_cst
  let main_v2 : IVec S6x256x1024 1 := cmpf .olt main_v0 main_v1
  let main_c : IVec S_ 1 := constantI S_ 1 1#1
  let main_v3 : IVec S_ 1 := (fun x v => Host.reduce IntOp.andi x v reducesTo_S6x256x1024_S_d0_1_2 h_S_) main_v2 main_c
  main_v3
-- ==== Kernel.lean ====
abbrev S6x256x1024 : Shape := ⟨3, ![6, 256, 1024]⟩
abbrev S1024x4096 : Shape := ⟨2, ![1024, 4096]⟩
abbrev S4096 : Shape := ⟨1, ![4096]⟩
abbrev S1536x1024 : Shape := ⟨2, ![1536, 1024]⟩
abbrev S1x4096 : Shape := ⟨2, ![1, 4096]⟩
abbrev S1536x4096 : Shape := ⟨2, ![1536, 4096]⟩
abbrev S1x1 : Shape := ⟨2, ![1, 1]⟩
abbrev S1536x8 : Shape := ⟨2, ![1536, 8]⟩
abbrev S8x128 : Shape := ⟨2, ![8, 128]⟩
abbrev S8x8x128 : Shape := ⟨3, ![8, 8, 128]⟩
abbrev S2x8x128 : Shape := ⟨3, ![2, 8, 128]⟩
abbrev S6 : Shape := ⟨1, ![6]⟩
abbrev S4 : Shape := ⟨1, ![4]⟩
abbrev S8 : Shape := ⟨1, ![8]⟩
abbrev S_ : Shape := ⟨0, ![]⟩
abbrev S1 : Shape := ⟨1, ![1]⟩
abbrev S256x1024 : Shape := ⟨2, ![256, 1024]⟩
abbrev S256x512 : Shape := ⟨2, ![256, 512]⟩
abbrev S1024x512 : Shape := ⟨2, ![1024, 512]⟩
abbrev S256x128 : Shape := ⟨2, ![256, 128]⟩
abbrev S256 : Shape := ⟨1, ![256]⟩
abbrev S256x1 : Shape := ⟨2, ![256, 1]⟩
abbrev S256x8 : Shape := ⟨2, ![256, 8]⟩
abbrev S256x256 : Shape := ⟨2, ![256, 256]⟩
abbrev S1x128 : Shape := ⟨2, ![1, 128]⟩
abbrev S32x8x128 : Shape := ⟨3, ![32, 8, 128]⟩
abbrev S8x1 : Shape := ⟨2, ![8, 1]⟩
abbrev S1x8x128 : Shape := ⟨3, ![1, 8, 128]⟩
abbrev S1x1x1 : Shape := ⟨3, ![1, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S6x256x1024, .bf16⟩
  | .hbm, ⟨1, _⟩ => ⟨S1024x4096, .fp8e4m3⟩
  | .hbm, ⟨2, _⟩ => ⟨S4096, .f32⟩
  | .hbm, ⟨3, _⟩ => ⟨S1536x1024, .bf16⟩
  | .hbm, ⟨4, _⟩ => ⟨S1x4096, .f32⟩
  | .hbm, ⟨5, _⟩ => ⟨S1536x4096, .fp8e4m3⟩
  | .hbm, ⟨6, _⟩ => ⟨S1x1, .f32⟩
  | .hbm, ⟨7, _⟩ => ⟨S1x1, .f32⟩
  | .hbm, ⟨8, _⟩ => ⟨S1536x1024, .fp8e4m3⟩
  | .hbm, ⟨9, _⟩ => ⟨S1536x8, .f32⟩
  | .local _ .vmem, ⟨0, _⟩ => ⟨S1536x1024, .bf16⟩
  | .local _ .vmem, ⟨1, _⟩ => ⟨S1024x4096, .fp8e4m3⟩
  | .local _ .vmem, ⟨2, _⟩ => ⟨S1x4096, .f32⟩
  | .local _ .vmem, ⟨3, _⟩ => ⟨S1536x1024, .bf16⟩
  | .local _ .vmem, ⟨4, _⟩ => ⟨S1536x1024, .fp8e4m3⟩
  | .local _ .vmem, ⟨5, _⟩ => ⟨S1536x8, .f32⟩
  | .local _ .vmem, ⟨6, _⟩ => ⟨S1536x4096, .f32⟩
  | .local _ .vmem, ⟨7, _⟩ => ⟨S1536x4096, .fp8e4m3⟩
  | .local _ .vmem, ⟨8, _⟩ => ⟨S8x128, .f32⟩
  | .local _ .vmem, ⟨9, _⟩ => ⟨S8x8x128, .f32⟩
  | .local _ .vmem, ⟨10, _⟩ => ⟨S8x128, .f32⟩
  | .local _ .vmem, ⟨11, _⟩ => ⟨S2x8x128, .f32⟩
  | .local _ .vmem, ⟨12, _⟩ => ⟨S1x1, .f32⟩
  | .local _ .vmem, ⟨13, _⟩ => ⟨S1x1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_6024_r0 : BitVec 32 := 0#32
  let c12_i32_r0 : BitVec 32 := 12#32
  let v9808_r0 : BitVec 32 := Scalar.addi c0_i32_6024_r0 c12_i32_r0
  let c1_i32_6025_r0 : BitVec 32 := 1#32
  ⟨c0_i32_6024_r0, v9808_r0, c1_i32_6025_r0⟩
def k0_off1 (k0_t1 : Fin k0_t1_loop.trips) (c0_i32_6034_r0 : BitVec 32) : Fin 2 → Nat :=
  let c0_i32_6028_r0 : BitVec 32 := 0#32
  let c0_i32_6024_r0 : BitVec 32 := 0#32
  let c1_i32_6025_r0 : BitVec 32 := 1#32
  let arg30_r0 : BitVec 32 := Scf.iv c0_i32_6024_r0 c1_i32_6025_r0 k0_t1
  let c1_i32_6027_r0 : BitVec 32 := 1#32
  let v9809_r0 : BitVec 32 := Scalar.muli arg30_r0 c1_i32_6027_r0
  let v9810_r0 : BitVec 32 := Scalar.addi c0_i32_6028_r0 v9809_r0
  let c6_i32_6030_r0 : BitVec 32 := 6#32
  let v9812_r0 : BitVec 32 := Scalar.remsi v9810_r0 c6_i32_6030_r0
  let c256_i32_6035_r0 : BitVec 32 := 256#32
  let v9816_r0 : BitVec 32 := Scalar.muli v9812_r0 c256_i32_6035_r0
  let v9817_r0 : Index := Scalar.indexCast v9816_r0
  let c6_i32_6029_r0 : BitVec 32 := 6#32
  let v9811_r0 : BitVec 32 := Scalar.divsi v9810_r0 c6_i32_6029_r0
  let c512_i32_6033_r0 : BitVec 32 := 512#32
  let v9814_r0 : BitVec 32 := Scalar.muli v9811_r0 c512_i32_6033_r0
  let v9815_r0 : BitVec 32 := Scalar.addi v9814_r0 c0_i32_6034_r0
  let v9818_r0 : Index := Scalar.indexCast v9815_r0
  ![v9817_r0.toNat, v9818_r0.toNat]
def k0_off2 (k0_t1 : Fin k0_t1_loop.trips) : Fin 2 → Nat :=
  let c0_i32_6028_r0 : BitVec 32 := 0#32
  let c0_i32_6024_r0 : BitVec 32 := 0#32
  let c1_i32_6025_r0 : BitVec 32 := 1#32
  let arg30_r0 : BitVec 32 := Scf.iv c0_i32_6024_r0 c1_i32_6025_r0 k0_t1
  let c1_i32_6027_r0 : BitVec 32 := 1#32
  let v9809_r0 : BitVec 32 := Scalar.muli arg30_r0 c1_i32_6027_r0
  let v9810_r0 : BitVec 32 := Scalar.addi c0_i32_6028_r0 v9809_r0
  let c6_i32_6030_r0 : BitVec 32 := 6#32
  let v9812_r0 : BitVec 32 := Scalar.remsi v9810_r0 c6_i32_6030_r0
  let c256_i32_6057_r0 : BitVec 32 := 256#32
  let v9890_r0 : BitVec 32 := Scalar.muli v9812_r0 c256_i32_6057_r0
  let c6_i32_6029_r0 : BitVec 32 := 6#32
  let v9811_r0 : BitVec 32 := Scalar.divsi v9810_r0 c6_i32_6029_r0
  let c512_i32_6058_r0 : BitVec 32 := 512#32
  let v9891_r0 : BitVec 32 := Scalar.muli v9811_r0 c512_i32_6058_r0
  ![v9890_r0.toNat, v9891_r0.toNat]
@[reducible] def k0_t2_loop : Scf.Loop 32 :=
  let c0_i32_6024_r0 : BitVec 32 := 0#32
  let c12_i32_r0 : BitVec 32 := 12#32
  let v9808_r0 : BitVec 32 := Scalar.addi c0_i32_6024_r0 c12_i32_r0
  let c1_i32_6025_r0 : BitVec 32 := 1#32
  ⟨c0_i32_6024_r0, v9808_r0, c1_i32_6025_r0⟩
def k0_off3 (k0_t2 : Fin k0_t2_loop.trips) (c0_i32_6034_r0 : BitVec 32) : Fin 2 → Nat :=
  let c12_i32_6028_r0 : BitVec 32 := 12#32
  let c0_i32_6024_r0 : BitVec 32 := 0#32
  let c1_i32_6025_r0 : BitVec 32 := 1#32
  let arg30_r0 : BitVec 32 := Scf.iv c0_i32_6024_r0 c1_i32_6025_r0 k0_t2
  let c1_i32_6027_r0 : BitVec 32 := 1#32
  let v9809_r0 : BitVec 32 := Scalar.muli arg30_r0 c1_i32_6027_r0
  let v9810_r0 : BitVec 32 := Scalar.addi c12_i32_6028_r0 v9809_r0
  let c6_i32_6030_r0 : BitVec 32 := 6#32
  let v9812_r0 : BitVec 32 := Scalar.remsi v9810_r0 c6_i32_6030_r0
  let c256_i32_6035_r0 : BitVec 32 := 256#32
  let v9816_r0 : BitVec 32 := Scalar.muli v9812_r0 c256_i32_6035_r0
  let v9817_r0 : Index := Scalar.indexCast v9816_r0
  let c6_i32_6029_r0 : BitVec 32 := 6#32
  let v9811_r0 : BitVec 32 := Scalar.divsi v9810_r0 c6_i32_6029_r0
  let c512_i32_6033_r0 : BitVec 32 := 512#32
  let v9814_r0 : BitVec 32 := Scalar.muli v9811_r0 c512_i32_6033_r0
  let v9815_r0 : BitVec 32 := Scalar.addi v9814_r0 c0_i32_6034_r0
  let v9818_r0 : Index := Scalar.indexCast v9815_r0
  ![v9817_r0.toNat, v9818_r0.toNat]
def k0_off4 (k0_t2 : Fin k0_t2_loop.trips) : Fin 2 → Nat :=
  let c12_i32_6028_r0 : BitVec 32 := 12#32
  let c0_i32_6024_r0 : BitVec 32 := 0#32
  let c1_i32_6025_r0 : BitVec 32 := 1#32
  let arg30_r0 : BitVec 32 := Scf.iv c0_i32_6024_r0 c1_i32_6025_r0 k0_t2
  let c1_i32_6027_r0 : BitVec 32 := 1#32
  let v9809_r0 : BitVec 32 := Scalar.muli arg30_r0 c1_i32_6027_r0
  let v9810_r0 : BitVec 32 := Scalar.addi c12_i32_6028_r0 v9809_r0
  let c6_i32_6030_r0 : BitVec 32 := 6#32
  let v9812_r0 : BitVec 32 := Scalar.remsi v9810_r0 c6_i32_6030_r0
  let c256_i32_6057_r0 : BitVec 32 := 256#32
  let v9890_r0 : BitVec 32 := Scalar.muli v9812_r0 c256_i32_6057_r0
  let c6_i32_6029_r0 : BitVec 32 := 6#32
  let v9811_r0 : BitVec 32 := Scalar.divsi v9810_r0 c6_i32_6029_r0
  let c512_i32_6058_r0 : BitVec 32 := 512#32
  let v9891_r0 : BitVec 32 := Scalar.muli v9811_r0 c512_i32_6058_r0
  ![v9890_r0.toNat, v9891_r0.toNat]
@[reducible] def k0_t3_loop : Scf.Loop 32 :=
  let c0_i32_6024_r0 : BitVec 32 := 0#32
  let c24_i32_r0 : BitVec 32 := 24#32
  let v9808_r0 : BitVec 32 := Scalar.addi c0_i32_6024_r0 c24_i32_r0
  let c1_i32_6025_r0 : BitVec 32 := 1#32
  ⟨c0_i32_6024_r0, v9808_r0, c1_i32_6025_r0⟩
def k0_off5 (k0_t3 : Fin k0_t3_loop.trips) (c0_i32_6034_r0 : BitVec 32) : Fin 2 → Nat :=
  let c24_i32_6028_r0 : BitVec 32 := 24#32
  let c0_i32_6024_r0 : BitVec 32 := 0#32
  let c1_i32_6025_r0 : BitVec 32 := 1#32
  let arg30_r0 : BitVec 32 := Scf.iv c0_i32_6024_r0 c1_i32_6025_r0 k0_t3
  let c1_i32_6027_r0 : BitVec 32 := 1#32
  let v9809_r0 : BitVec 32 := Scalar.muli arg30_r0 c1_i32_6027_r0
  let v9810_r0 : BitVec 32 := Scalar.addi c24_i32_6028_r0 v9809_r0
  let c6_i32_6030_r0 : BitVec 32 := 6#32
  let v9812_r0 : BitVec 32 := Scalar.remsi v9810_r0 c6_i32_6030_r0
  let c256_i32_6035_r0 : BitVec 32 := 256#32
  let v9816_r0 : BitVec 32 := Scalar.muli v9812_r0 c256_i32_6035_r0
  let v9817_r0 : Index := Scalar.indexCast v9816_r0
  let c6_i32_6029_r0 : BitVec 32 := 6#32
  let v9811_r0 : BitVec 32 := Scalar.divsi v9810_r0 c6_i32_6029_r0
  let c512_i32_6033_r0 : BitVec 32 := 512#32
  let v9814_r0 : BitVec 32 := Scalar.muli v9811_r0 c512_i32_6033_r0
  let v9815_r0 : BitVec 32 := Scalar.addi v9814_r0 c0_i32_6034_r0
  let v9818_r0 : Index := Scalar.indexCast v9815_r0
  ![v9817_r0.toNat, v9818_r0.toNat]
def k0_off6 (k0_t3 : Fin k0_t3_loop.trips) : Fin 2 → Nat :=
  let c24_i32_6028_r0 : BitVec 32 := 24#32
  let c0_i32_6024_r0 : BitVec 32 := 0#32
  let c1_i32_6025_r0 : BitVec 32 := 1#32
  let arg30_r0 : BitVec 32 := Scf.iv c0_i32_6024_r0 c1_i32_6025_r0 k0_t3
  let c1_i32_6027_r0 : BitVec 32 := 1#32
  let v9809_r0 : BitVec 32 := Scalar.muli arg30_r0 c1_i32_6027_r0
  let v9810_r0 : BitVec 32 := Scalar.addi c24_i32_6028_r0 v9809_r0
  let c6_i32_6030_r0 : BitVec 32 := 6#32
  let v9812_r0 : BitVec 32 := Scalar.remsi v9810_r0 c6_i32_6030_r0
  let c256_i32_6057_r0 : BitVec 32 := 256#32
  let v9890_r0 : BitVec 32 := Scalar.muli v9812_r0 c256_i32_6057_r0
  let c6_i32_6029_r0 : BitVec 32 := 6#32
  let v9811_r0 : BitVec 32 := Scalar.divsi v9810_r0 c6_i32_6029_r0
  let c512_i32_6058_r0 : BitVec 32 := 512#32
  let v9891_r0 : BitVec 32 := Scalar.muli v9811_r0 c512_i32_6058_r0
  ![v9890_r0.toNat, v9891_r0.toNat]
-- ==== KernelIdeal.lean ====
variable {F : FTy → Type} [FloatOps F] [Named F]
def κ : String → Option EReal := fun
  | "inv_448" => some ((1 / 448 : ℝ) : EReal)
  | _ => none
-- ==== ReferenceIdeal.lean ====
abbrev S6x256x1024 : Shape := ⟨3, ![6, 256, 1024]⟩
abbrev S1024x4096 : Shape := ⟨2, ![1024, 4096]⟩
abbrev S4096 : Shape := ⟨1, ![4096]⟩
abbrev S1536x1024 : Shape := ⟨2, ![1536, 1024]⟩
abbrev S1x4096 : Shape := ⟨2, ![1, 4096]⟩
abbrev S1536x4096 : Shape := ⟨2, ![1536, 4096]⟩
abbrev S1x1 : Shape := ⟨2, ![1, 1]⟩
abbrev S1536x8 : Shape := ⟨2, ![1536, 8]⟩
abbrev S12288x128 : Shape := ⟨2, ![12288, 128]⟩
abbrev S12288 : Shape := ⟨1, ![12288]⟩
abbrev S12288x1 : Shape := ⟨2, ![12288, 1]⟩
abbrev S12288x256 : Shape := ⟨2, ![12288, 256]⟩
abbrev S1x1536x4096 : Shape := ⟨3, ![1, 1536, 4096]⟩
abbrev S1 : Shape := ⟨1, ![1]⟩
abbrev S1x1x1 : Shape := ⟨3, ![1, 1, 1]⟩
abbrev S1x256 : Shape := ⟨2, ![1, 256]⟩

abbrev nBuf : Space → Nat
  | .hbm => 10
  | .vmem => 8
  | .smem => 0
  | _ => 0

abbrev bufTy : (tb : Table) → Fin (tcTables nBuf tb) → BufTy
  | .hbm, ⟨0, _⟩ => ⟨S6x256x1024, .bf16⟩
  | .hbm, ⟨1, _⟩ => ⟨S1024x4096, .fp8e4m3⟩
  | .hbm, ⟨2, _⟩ => ⟨S4096, .f32⟩
  | .hbm, ⟨3, _⟩ => ⟨S1536x1024, .bf16⟩
  | .hbm, ⟨4, _⟩ => ⟨S1x4096, .f32⟩
  | .hbm, ⟨5, _⟩ => ⟨S1536x4096, .fp8e4m3⟩
  | .hbm, ⟨6, _⟩ => ⟨S1x1, .f32⟩
  | .hbm, ⟨7, _⟩ => ⟨S1x1, .f32⟩
  | .hbm, ⟨8, _⟩ => ⟨S1536x1024, .fp8e4m3⟩
  | .hbm, ⟨9, _⟩ => ⟨S1536x8, .f32⟩
  | .local _ .vmem, ⟨0, _⟩ => ⟨S1536x1024, .bf16⟩
  | .local _ .vmem, ⟨1, _⟩ => ⟨S1024x4096, .fp8e4m3⟩
  | .local _ .vmem, ⟨2, _⟩ => ⟨S1x4096, .f32⟩
  | .local _ .vmem, ⟨3, _⟩ => ⟨S1536x4096, .fp8e4m3⟩
  | .local _ .vmem, ⟨4, _⟩ => ⟨S1x1, .f32⟩
  | .local _ .vmem, ⟨5, _⟩ => ⟨S1x1, .f32⟩
  | .local _ .vmem, ⟨6, _⟩ => ⟨S1536x1024, .fp8e4m3⟩
  | .local _ .vmem, ⟨7, _⟩ => ⟨S1536x8, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_448" => some ((1 / 448 : ℝ) : EReal)
  | _ => none

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Own.lean ====
/- What a core holds of a buffer, stated by the buffer's contents at indices of the memref's own shape, with one rule for each
   kind of access: a load, a store, a transfer the core starts and its wait. -/
module

public import Idealize.ShloMosaic.Lib.Pipeline.FrameBody
public import Idealize.ShloMosaic.Lib.Transfers
public import Idealize.ShloMosaic.Lib.Batch
public import Idealize.ShloMosaic.Lib.Tactic
public import Idealize.ShloMosaic.Lib.Mxu

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}

/-- The core owns the elements of `M` at the indices `S`, and they hold what `G` says. -/
def holds (c : Dev nD) {sp : Space} {s : Shape} {e : EltTy} (M : Memref sig .tc sp s e) (S : Finset s.Idx)
    (G : s.Idx → Elt F e) : sProp (MT nD τ sig Unit (Elt F) ℕ (Pipeline.UD sig nD τ) ℕ) :=
  iprop(∃ f : Buf (Elt F) (M.view.loc (c : Thread nD τ)), (M.view.loc (c : Thread nD τ) ↦[M.view.setOn S]{fullShare} f)
    ∗ ⌜∀ i ∈ S, M.view.read (Elt F) f i = G i⌝)

section

variable {c : Dev nD} {sp sp' : Space} {s : Shape} {e : EltTy} {M : Memref sig .tc sp s e}

instance holds_storable (S : Finset s.Idx) (G : s.Idx → Elt F e) :
    Storable (upEmb : UEmb _ (MT nD τ sig Unit (Elt F) ℕ (Pipeline.UD sig nD τ) ℕ)) (holds (F := F) (τ := τ) c M S G) := by
  unfold holds; infer_instance

/-- Only the values at the owned indices matter. -/
theorem holds_congr {S : Finset s.Idx} {G G' : s.Idx → Elt F e} (h : ∀ i ∈ S, G i = G' i) :
    holds (F := F) (τ := τ) c M S G ⊢ holds c M S G' := by
  unfold holds
  iintro ⟨%f, H, %hf⟩
  iexists f
  isplitl [H]; · iexact H
  ipureintro; intro i hi; rw [hf i hi, h i hi]

/-- Ownership of two disjoint sets of indices is ownership of their union. -/
theorem holds_split {S T : Finset s.Idx} (hd : Disjoint S T) {G : s.Idx → Elt F e} :
    holds (F := F) (τ := τ) c M (S ∪ T) G ⊢ iprop(holds c M S G ∗ holds c M T G) := by
  unfold holds
  have hd' : Disjoint (M.view.setOn S) (M.view.setOn T) := (Finset.disjoint_map _).mpr hd
  have hu : M.view.setOn (S ∪ T) = M.view.setOn S ∪ M.view.setOn T := Finset.map_union _ _
  rw [hu]
  iintro ⟨%f, H, %hf⟩
  ihave H := (pointsTo_union hd').1 $$ H
  icases H with ⟨H1, H2⟩
  isplitl [H1]
  · iexists f
    isplitl [H1]; · iexact H1
    ipureintro; intro i hi; exact hf i (Finset.mem_union_left _ hi)
  · iexists f
    isplitl [H2]; · iexact H2
    ipureintro; intro i hi; exact hf i (Finset.mem_union_right _ hi)

theorem holds_join {S T : Finset s.Idx} (hd : Disjoint S T) {G : s.Idx → Elt F e} :
    iprop(holds (F := F) (τ := τ) c M S G ∗ holds c M T G) ⊢ holds c M (S ∪ T) G := by
  unfold holds
  have hd' : Disjoint (M.view.setOn S) (M.view.setOn T) := (Finset.disjoint_map _).mpr hd
  have hu : M.view.setOn (S ∪ T) = M.view.setOn S ∪ M.view.setOn T := Finset.map_union _ _
  rw [hu]
  iintro ⟨⟨%f, H1, %hf⟩, ⟨%g, H2, %hg⟩⟩
  iexists (M.view.setOn T).piecewise g f
  isplitl [H1 H2]
  · iapply (pointsTo_join hd')
    isplitl [H1]; · iexact H1
    iexact H2
  ipureintro
  intro i hi
  by_cases hT : i ∈ T
  · rw [← hg i hT]
    exact M.view.read_congr_at i (Finset.piecewise_eq_of_mem _ _ _ (M.view.mem_setOn.mpr hT))
  · rw [← hf i ((Finset.mem_union.mp hi).resolve_right hT)]
    exact M.view.read_congr_at i (Finset.piecewise_eq_of_notMem _ _ _ (fun h => hT (M.view.mem_setOn.mp h)))

/-- A separating conjunction over a set and one more index. -/
theorem sep_insert {M : Type*} [URA M] {n : ℕ} {t : Fin n} {T : Finset (Fin n)} (ht : t ∉ T) (Φ : Fin n → sProp M) :
    bigSep (insert t T) Φ = iprop(Φ t ∗ bigSep T Φ) := bigSep_insert ht

/-- One member of a conjunction over all indices taken out; put back changed, the others change with it. -/
theorem sep_acc {M : Type*} [URA M] {n : ℕ} (m : Fin n) {Φ Ψ : Fin n → sProp M} (h : ∀ m', m' ≠ m → Φ m' = Ψ m') :
    bigSep Finset.univ Φ ⊢ iprop(Φ m ∗ (Ψ m -∗ bigSep Finset.univ Ψ)) := by
  have e1 : bigSep Finset.univ Φ = iprop(Φ m ∗ bigSep (Finset.univ.erase m) Φ) := bigSep_erase (Finset.mem_univ m)
  have e2 : bigSep Finset.univ Ψ = iprop(Ψ m ∗ bigSep (Finset.univ.erase m) Ψ) := bigSep_erase (Finset.mem_univ m)
  have e3 : bigSep (Finset.univ.erase m) Φ = bigSep (Finset.univ.erase m) Ψ :=
    bigSep_congr fun m' hm' => h m' (Finset.ne_of_mem_erase hm')
  rw [e1, e2, e3]
  iintro ⟨H1, H2⟩
  isplitl [H1]; · iexact H1
  iintro H
  isplitl [H]; · iexact H
  iexact H2

/-- Ownership of every index of a family of pairwise disjoint sets. -/
theorem holds_biUnion {n : ℕ} (K : Fin n → Finset s.Idx) (hK : ∀ t t', t ≠ t' → Disjoint (K t) (K t')) (T : Finset (Fin n))
    {G : s.Idx → Elt F e} : holds (F := F) (τ := τ) c M (T.biUnion K) G ⊢ bigSep T fun t => holds c M (K t) G := by
  induction T using Finset.induction_on with
  | empty => rw [bigSep_empty]; iintro -; iempintro
  | insert t T ht ih =>
    rw [Finset.biUnion_insert, sep_insert ht]
    refine (holds_split ((Finset.disjoint_biUnion_right _ _ _).mpr fun t' ht' => hK t t' (fun e => ht (e ▸ ht')))).trans ?_
    iintro ⟨H1, H2⟩
    isplitl [H1]; · iexact H1
    iapply ih $$ H2

theorem holds_biUnion_join {n : ℕ} (K : Fin n → Finset s.Idx) (hK : ∀ t t', t ≠ t' → Disjoint (K t) (K t')) (T : Finset (Fin n))
    {G : s.Idx → Elt F e} (hT : T.Nonempty) :
    (bigSep T fun t => holds (F := F) (τ := τ) c M (K t) G) ⊢ holds c M (T.biUnion K) G := by
  revert hT
  induction T using Finset.induction_on with
  | empty => intro hT; exact absurd hT Finset.not_nonempty_empty
  | insert t T ht ih =>
    intro _
    rw [Finset.biUnion_insert, sep_insert ht]
    rcases T.eq_empty_or_nonempty with rfl | hT
    · rw [bigSep_empty, Finset.biUnion_empty, Finset.union_empty]
      iintro ⟨H, _⟩; iexact H
    refine BIBase.Entails.trans ?_ (holds_join ((Finset.disjoint_biUnion_right _ _ _).mpr fun t' ht' => hK t t' (fun e => ht (e ▸ ht'))))
    iintro ⟨H1, H2⟩
    isplitl [H1]; · iexact H1
    iapply (ih hT) $$ H2

/-- A whole buffer at some contents is owned at every index. -/
theorem holds_of_whole (hM : M.IsWhole) {f : Buf (Elt F) (M.view.loc (c : Thread nD τ))} :
    (M.view.loc (c : Thread nD τ) ↦{fullShare} f : sProp (MT nD τ sig Unit (Elt F) ℕ (Pipeline.UD sig nD τ) ℕ)) ⊢ holds c M Finset.univ (M.view.read (Elt F) f) := by
  unfold holds
  iintro H
  iexists f
  isplitl [H]
  · rw [View.setOn_univ, hM.set_eq_univ]; iexact H
  ipureintro; intro i _; rfl

variable {α : Type} {Q : α → sProp (MT nD τ sig Unit (Elt F) ℕ (Pipeline.UD sig nD τ) ℕ)} {defs : Defs nD τ sig (Elt F) Λ} {𝒱 : Variants} {bd : Option 𝒱.V}

/-- A load returns what the buffer holds at the rectangle. -/
theorem wp_ld {cs : CoreSpace} {M : Memref sig .tc cs s e} {r : Rect s} {hl : M.view.LoadsAt r.toLoadRect}
    {k : (r.shape.Idx → Elt F e) → Prog (TpuEff nD τ sig (Elt F) Λ (c : Thread nD τ).2) α} {S : Finset s.Idx} {G : s.Idx → Elt F e}
    (hS : r.set ⊆ S) :
    holds (F := F) (τ := τ) c M S G
      ⊢ iprop((holds c M S G -∗ wp frame (wpE defs 𝒱 (c : Thread nD τ) bd) Set.univ (k (fun j => G (r.emb j))) Q)
        -∗ wp frame (wpE defs 𝒱 (c : Thread nD τ) bd) Set.univ (.op (.load M r.toLoadRect hl) k) Q) := by
  have hset : (M.access r).set ⊆ M.view.setOn S := by
    rw [View.set_slice]; exact Finset.map_subset_map.mpr hS
  unfold holds
  iintro ⟨%f, H, %hf⟩ Hk
  iapply (wp_load_rect 𝒱 (c : Thread nD τ) bd Set.univ (hl := hl) hset) $$ H
  iintro H
  rw [show (M.access r).read (Elt F) f = fun j => G (r.emb j) from
    funext fun j => hf (r.emb j) (hS (by rw [← Rect.map_emb_univ]; exact Finset.mem_map_of_mem _ (Finset.mem_univ j)))]
  iapply Hk
  iexists f
  isplitl [H]; · iexact H
  ipureintro; exact hf

/-- A store leaves the payload at the rectangle and what was there elsewhere. -/
theorem wp_st {cs : CoreSpace} {M : Memref sig .tc cs s e} {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ (c : Thread nD τ).2) α} {S : Finset s.Idx} {G : s.Idx → Elt F e}
    (G' : s.Idx → Elt F e) (hS : r.set ⊆ S) (hw : ∀ j, G' (r.emb j) = w j) (hG : ∀ i ∈ S, i ∉ r.set → G' i = G i) :
    holds (F := F) (τ := τ) c M S G
      ⊢ iprop((holds c M S G' -∗ wp frame (wpE defs 𝒱 (c : Thread nD τ) bd) Set.univ (k ⟨⟩) Q)
        -∗ wp frame (wpE defs 𝒱 (c : Thread nD τ) bd) Set.univ (.op (.store M r w Finset.univ hx hm) k) Q) := by
  have hset : (M.access r).setOn Finset.univ ⊆ M.view.setOn S := by
    rw [View.setOn_univ, View.set_slice]; exact Finset.map_subset_map.mpr hS
  unfold holds
  iintro ⟨%f, H, %hf⟩ Hk
  iapply (wp_store 𝒱 (c : Thread nD τ) bd Set.univ (hx := hx) (hm := hm) hset) $$ H
  iintro H
  iapply Hk
  iexists _
  isplitl [H]; · iexact H
  ipureintro
  intro i hi
  by_cases hr : i ∈ r.set
  · rw [← Rect.map_emb_univ] at hr
    obtain ⟨j, -, rfl⟩ := Finset.mem_map.mp hr
    rw [hw j]
    exact congrFun (View.read_write_univ (v := M.access r) f w) j
  · rw [hG i hi hr, ← hf i hi]
    refine M.view.read_congr_at i (View.write_of_not_mem _ _ _ ?_)
    rw [View.setOn_univ, View.set_slice, Finset.mem_map]
    rintro ⟨x, hx, hxi⟩
    exact hr (M.view.emb.injective hxi ▸ hx)

/-- A transfer between equal rectangles of two memrefs of one shape: started, its flight delivers the destination holding the
    source's values, and the source back. -/
theorem wp_dma {Ms : Memref sig .tc sp s e} {Md : Memref sig .tc sp' s e} {r : Rect s} {h1 h2 : ∀ a, r.stride a = 1} {sm : DmaSem sig}
    {hsrc : (Ms.slice r h1).view.WordExact} {hdst : (Md.slice r h2).view.WordExact}
    {hsem : DmaTarget.Typed (nD := nD) (p := (c : Thread nD τ).2) sp (SemLoc.dma sm) (.here (Md.slice r h2))}
    {k : PUnit → Prog (TpuEff nD τ sig (Elt F) Λ (c : Thread nD τ).2) α} {G G' : s.Idx → Elt F e} (h0 : 0 < r.shape.numel) :
    iprop(holds (F := F) (τ := τ) c Ms r.set G ∗ holds c Md r.set G' ∗ semVal ((c : Thread nD τ), .dma sm) 0)
      ⊢ iprop((Flight (countersEmb (U := Pipeline.UD sig nD τ)) (c : Thread nD τ) (.dma sm) () (Md.slice r h2).view.dmaCredit
                iprop(holds c Md r.set G ∗ holds c Ms r.set G)
              -∗ wp frame (wpE defs 𝒱 (c : Thread nD τ) bd) Set.univ (k ⟨⟩) Q)
          -∗ wp frame (wpE defs 𝒱 (c : Thread nD τ) bd) Set.univ
              (.op (.enqueueDma (Ms.slice r h1) (.here (Md.slice r h2)) (.dma sm) hsrc hdst hsem) k) Q) := by
  unfold holds
  iintro ⟨⟨%fs, Hs, %hfs⟩, ⟨%fd, Hd, %hfd⟩, Hv⟩ Hk
  have e1 : (Ms.slice r h1).view.set = Ms.view.setOn r.set := View.set_slice _ _
  have e2 : (Md.slice r h2).view.set = Md.view.setOn r.set := View.set_slice _ _
  iapply (wp_dmaLocal (countersEmb (U := Pipeline.UD sig nD τ)) 𝒱 (c : Thread nD τ) bd (fs := fs) (fd := fd) (q := fullShare)
    (Sd := Md.view.setOn r.set) (hsrc := hsrc) (hdst := hdst) (hsem := hsem) () (Md.slice r h2).view.dmaCredit rfl
    (View.dmaCredit_pos _ h0) (by rw [e2])) $$ [Hs Hd Hv]
  · isplitl [Hs]; · rw [e1]; iexact Hs
    isplitl [Hd]; · iexact Hd
    iexact Hv
  iintro Hf
  iapply Hk
  iapply (Flight_mono _ _ ?_) $$ Hf
  iintro ⟨Hd, Hs⟩
  isplitl [Hd]
  · iexists _
    isplitl [Hd]; · iexact Hd
    ipureintro
    intro i hi
    rw [← Rect.map_emb_univ] at hi
    obtain ⟨j, -, rfl⟩ := Finset.mem_map.mp hi
    refine (congrFun (View.read_write_univ (v := (Md.slice r h2).view) fd _) j).trans ?_
    exact hfs _ (by rw [← Rect.map_emb_univ]; exact Finset.mem_map_of_mem _ (Finset.mem_univ j))
  · iexists fs
    isplitl [Hs]; · rw [← e1]; iexact Hs
    ipureintro; exact hfs

end

end Cert.Fp8
-- ==== Proof.Model.lean ====
/- The kernel's program over its own steps: the values it computes as functions of what it loads, its pieces (a quantised row chunk,
   a push, an accumulate, an epilogue, an estimate, a quantised result tile, the copies) and one unit of the main loop, each at a
   symbolic chunk, group or unit. -/
module

public import proofs.«01_k».proof.Proof.Own

@[expose] public section

noncomputable section

namespace Cert.Fp8

open Idealize.ShloMosaic Idealize.ShloMosaic.TcCoe Idealize.SL.Sem

abbrev S_ : Shape := ⟨0, ![]⟩
abbrev S1 : Shape := ⟨1, ![1]⟩
abbrev S4 : Shape := ⟨1, ![4]⟩
abbrev S6 : Shape := ⟨1, ![6]⟩
abbrev S8 : Shape := ⟨1, ![8]⟩
abbrev S256 : Shape := ⟨1, ![256]⟩
abbrev S1x1 : Shape := ⟨2, ![1, 1]⟩
abbrev S8x1 : Shape := ⟨2, ![8, 1]⟩
abbrev S1x128 : Shape := ⟨2, ![1, 128]⟩
abbrev S8x128 : Shape := ⟨2, ![8, 128]⟩
abbrev S256x1 : Shape := ⟨2, ![256, 1]⟩
abbrev S256x8 : Shape := ⟨2, ![256, 8]⟩
abbrev S256x128 : Shape := ⟨2, ![256, 128]⟩
abbrev S256x256 : Shape := ⟨2, ![256, 256]⟩
abbrev S256x512 : Shape := ⟨2, ![256, 512]⟩
abbrev S256x1024 : Shape := ⟨2, ![256, 1024]⟩
abbrev S1024x512 : Shape := ⟨2, ![1024, 512]⟩
abbrev S1024x4096 : Shape := ⟨2, ![1024, 4096]⟩
abbrev S1536x8 : Shape := ⟨2, ![1536, 8]⟩
abbrev S1536x1024 : Shape := ⟨2, ![1536, 1024]⟩
abbrev S1536x4096 : Shape := ⟨2, ![1536, 4096]⟩
abbrev S1x4096 : Shape := ⟨2, ![1, 4096]⟩
abbrev S1x1x1 : Shape := ⟨3, ![1, 1, 1]⟩
abbrev S1x8x128 : Shape := ⟨3, ![1, 8, 128]⟩
abbrev S2x8x128 : Shape := ⟨3, ![2, 8, 128]⟩
abbrev S8x8x128 : Shape := ⟨3, ![8, 8, 128]⟩
abbrev S32x8x128 : Shape := ⟨3, ![32, 8, 128]⟩

section values

variable {F : FTy → Type} [FloatOps F]

/-- The largest magnitude of each row of a block, on every lane. -/
def rowAmax (v : FVec F S256x128 .bf16) : FVec F S256x128 .bf16 :=
  broadcastTo S256x128
    (shapeCast S256x1
      (shapeCast S256x1 (multiReduction .maximumf [1] S256 (absf v) 0xFF80#16 (by decide) (.inr rfl) rfl) (by decide))
      (by decide))
    (by decide)

/-- How many of the thresholds of the block's scale lie at or below each row's largest magnitude, less eight. -/
def blkCount (v : FVec F S256x128 .bf16) : IVec S256x1 32 :=
  let lane : IVec S256x128 32 := iota .tc S256x128 32 [1] (by decide)
  let a : FVec F S256x128 .f32 := extf .f32 (rowAmax v) (by decide)
  let lo : FVec F S256x128 .f32 := bitcastToFloat .f32 (ori (shli lane (broadcast S256x128 23#32)) (broadcast S256x128 6291456#32))
  let hi : FVec F S256x128 .f32 :=
    bitcastToFloat .f32 (ori (shli (addi lane (broadcast S256x128 128#32)) (broadcast S256x128 23#32)) (broadcast S256x128 6291456#32))
  let n1 : IVec S256x128 32 := select (cmpf .olt a lo) (broadcast S256x128 0#32) (broadcast S256x128 1#32)
  let n2 : IVec S256x128 32 :=
    select (ori (cmpf .olt a hi) (cmpi .eq lane (broadcast S256x128 127#32))) (broadcast S256x128 0#32) (broadcast S256x128 1#32)
  subi (shapeCast S256x1 (multiReductionI .add [1] S256 (addi n1 n2) 0#32 (by decide) rfl) (by decide)) (broadcast S256x1 8#32)

/-- The exponent field of the block's scale, on every lane of each row. -/
def blkField (v : FVec F S256x128 .bf16) : IVec S256x128 32 :=
  broadcastTo S256x128
    (shapeCast S256x1 (select (cmpi .slt (blkCount v) (broadcast S256x1 2#32)) (broadcast S256x1 127#32) (blkCount v)) (by decide))
    (by decide)

/-- The block's scale and its inverse, as bf16. -/
def blkScale (v : FVec F S256x128 .bf16) : FVec F S256x128 .bf16 :=
  truncf .bf16 (bitcastToFloat .f32 (shli (blkField v) (broadcast S256x128 23#32)) : FVec F S256x128 .f32) (by decide)
def blkInv (v : FVec F S256x128 .bf16) : FVec F S256x128 .bf16 :=
  truncf .bf16 (bitcastToFloat .f32 (shli (subi (broadcast S256x128 254#32) (blkField v)) (broadcast S256x128 23#32)) : FVec F S256x128 .f32)
    (by decide)

/-- The block's codes, and the codes times the scale. -/
def blkCodes (v : FVec F S256x128 .bf16) : FVec F S256x128 .fp8e4m3 :=
  truncf .fp8e4m3
    (minimumf (broadcast S256x128 (Scalar.ofBits .bf16 0x43E0#16))
      (maximumf (broadcast S256x128 (Scalar.ofBits .bf16 0xC3E0#16)) (mulf v (blkInv v)))) (by decide)
def blkXw (v : FVec F S256x128 .bf16) : FVec F S256x128 .bf16 :=
  mulf (extf .bf16 (blkCodes v) (by decide)) (blkScale v)

/-- The packed scales after block `b`: lane `b` takes the block's scale. -/
def pack (b : Fin 8) (v p : FVec F S256x128 .bf16) : FVec F S256x128 .bf16 :=
  select (cmpi .eq (iota .tc S256x128 32 [1] (by decide)) (broadcast S256x128 (BitVec.ofNat 32 b.val))) (blkScale v) p
def pack0 : FVec F S256x128 .bf16 := broadcast S256x128 (Scalar.ofBits .bf16 0x0000#16)
def packOut (p : FVec F S256x128 .bf16) : FVec F S256x8 .f32 :=
  extf .f32 (extractStridedSlice S256x8 ![0, 0] p (by decide)) (by decide)

/-- Half of a popped tile times the output scales. -/
def scaled (h : Fin 2) (z : FVec F S256x256 .f32) (ws : FVec F S1x128 .f32) : FVec F S256x128 .f32 :=
  mulf (extractStridedSlice S256x128 ![0, 128 * h.val] z (by revert h; decide)) (broadcastTo S256x128 ws (by decide))

/-- The running maximum of magnitudes, after a tile. -/
def grow (top : FVec F S8x128 .f32) (y : FVec F S256x128 .f32) : FVec F S8x128 .f32 :=
  maximumf top (multiReduction .maximumf [0] S8x128 (shapeCast S32x8x128 (absf y) (by decide)) 0xFF800000#32 (by decide) (.inl rfl) rfl)

/-- The running maximum's largest entry, on every lane. -/
def estTop (a : FVec F S8x128 .f32) : FVec F S8x128 .f32 :=
  broadcastTo S8x128
    (shapeCast S1x1
      (shapeCast S1x1
        (multiReduction .maximumf [0] S1
          (shapeCast S8x1 (multiReduction .maximumf [1] S8 a 0xFF800000#32 (by decide) (.inl rfl) rfl) (by decide))
          0xFF800000#32 (by decide) (.inl rfl) rfl) (by decide)) (by decide)) (by decide)

/-- The exponent of the scale of a magnitude, and the scale and its inverse. -/
def estExp (κ448 : F .f32) (a : FVec F S8x128 .f32) : IVec S8x128 32 :=
  let lane : IVec S8x128 32 := iota .tc S8x128 32 [1] (by decide)
  let v : FVec F S8x128 .f32 := mulf a (broadcast S8x128 κ448)
  let lo : FVec F S8x128 .f32 := bitcastToFloat .f32 (shli (addi lane (broadcast S8x128 1#32)) (broadcast S8x128 23#32))
  let hi : FVec F S8x128 .f32 := bitcastToFloat .f32 (shli (addi lane (broadcast S8x128 129#32)) (broadcast S8x128 23#32))
  let n1 : IVec S8x128 32 := select (cmpf .olt v lo) (broadcast S8x128 0#32) (broadcast S8x128 1#32)
  let n2 : IVec S8x128 32 :=
    select (ori (cmpf .olt v hi) (cmpi .sge lane (broadcast S8x128 118#32))) (broadcast S8x128 0#32) (broadcast S8x128 1#32)
  let field : IVec S8x128 32 :=
    broadcastTo S8x128
      (shapeCast S8x1 (shapeCast S8x1 (multiReductionI .add [1] S8 (addi n1 n2) 0#32 (by decide) rfl) (by decide)) (by decide)) (by decide)
  select (andi (cmpi .sgt field (broadcast S8x128 0#32)) (cmpf .olt v (broadcast S8x128 (Scalar.ofBits .f32 0x7F800000#32))))
    (subi field (broadcast S8x128 126#32)) (broadcast S8x128 0#32)
def estScale (κ448 : F .f32) (a : FVec F S8x128 .f32) : FVec F S8x128 .f32 :=
  bitcastToFloat .f32 (shli (addi (estExp κ448 a) (broadcast S8x128 127#32)) (broadcast S8x128 23#32))
def estInv (κ448 : F .f32) (a : FVec F S8x128 .f32) : FVec F S8x128 .f32 :=
  bitcastToFloat .f32 (shli (subi (broadcast S8x128 127#32) (estExp κ448 a)) (broadcast S8x128 23#32))

/-- A block of the result's codes. -/
def yCodes (inv : FVec F S1x128 .f32) (y : FVec F S256x128 .f32) : FVec F S256x128 .fp8e4m3 :=
  truncf .fp8e4m3
    (minimumf (broadcast S256x128 (Scalar.ofBits .f32 0x43E00000#32))
      (maximumf (broadcast S256x128 (Scalar.ofBits .f32 0xC3E00000#32)) (mulf y (broadcastTo S256x128 inv (by decide))))) (by decide)

end values

/-- The kernel's buffers and semaphores. -/
structure Env (sig : RefSig) where
  a0 : Memref sig .tc .hbm S1536x1024 .bf16
  h0 : a0.IsWhole
  a1 : Memref sig .tc .hbm S1024x4096 .fp8e4m3
  h1 : a1.IsWhole
  a2 : Memref sig .tc .hbm S1x4096 .f32
  h2 : a2.IsWhole
  a3 : Memref sig .tc .hbm S1536x4096 .fp8e4m3
  h3 : a3.IsWhole
  a4 : Memref sig .tc .hbm S1x1 .f32
  h4 : a4.IsWhole
  a5 : Memref sig .tc .hbm S1x1 .f32
  h5 : a5.IsWhole
  a6 : Memref sig .tc .hbm S1536x1024 .fp8e4m3
  h6 : a6.IsWhole
  a7 : Memref sig .tc .hbm S1536x8 .f32
  h7 : a7.IsWhole
  a8 : Memref sig .tc .vmem S1536x1024 .bf16
  h8 : a8.IsWhole
  a9 : Memref sig .tc .vmem S1024x4096 .fp8e4m3
  h9 : a9.IsWhole
  a10 : Memref sig .tc .vmem S1x4096 .f32
  h10 : a10.IsWhole
  a11 : Memref sig .tc .vmem S1536x1024 .bf16
  h11 : a11.IsWhole
  a12 : Memref sig .tc .vmem S1536x1024 .fp8e4m3
  h12 : a12.IsWhole
  a13 : Memref sig .tc .vmem S1536x8 .f32
  h13 : a13.IsWhole
  a14 : Memref sig .tc .vmem S1536x4096 .f32
  h14 : a14.IsWhole
  a15 : Memref sig .tc .vmem S1536x4096 .fp8e4m3
  h15 : a15.IsWhole
  a16 : Memref sig .tc .vmem S8x128 .f32
  h16 : a16.IsWhole
  a17 : Memref sig .tc .vmem S8x8x128 .f32
  h17 : a17.IsWhole
  a18 : Memref sig .tc .vmem S8x128 .f32
  h18 : a18.IsWhole
  a19 : Memref sig .tc .vmem S2x8x128 .f32
  h19 : a19.IsWhole
  a20 : Memref sig .tc .vmem S1x1 .f32
  h20 : a20.IsWhole
  a21 : Memref sig .tc .vmem S1x1 .f32
  h21 : a21.IsWhole
  s22 : DmaSems sig S6
  s23 : DmaSems sig S4
  s24 : DmaSems sig S8
  s25 : DmaSems sig S_
  s26 : DmaSems sig S_
  s27 : DmaSems sig S6
  s28 : DmaSems sig S_
  s29 : DmaSems sig S_

/- The rectangles. -/
abbrev rRow (m : Fin 6) : Rect S1536x1024 := Rect.unit (s := S1536x1024) ![256 * m.val, 0] S256x1024.size (by revert m; decide)
abbrev rRow8 (m : Fin 6) : Rect S1536x8 := Rect.unit (s := S1536x8) ![256 * m.val, 0] S256x8.size (by revert m; decide)
abbrev rBlk (m : Fin 6) (b : Fin 8) : Rect S1536x1024 :=
  Rect.unit (s := S1536x1024) ![256 * m.val, 128 * b.val] S256x128.size (by revert m b; decide)
abbrev rXw (m : Fin 6) (k : Fin 4) : Rect S1536x1024 :=
  Rect.unit (s := S1536x1024) ![256 * m.val, 256 * k.val] S256x256.size (by revert m k; decide)
abbrev rW0 (k : Fin 4) : Rect S1024x4096 := Rect.unit (s := S1024x4096) ![256 * k.val, 0] S256x512.size (by revert k; decide)
abbrev rWg (g : Fin 8) : Rect S1024x4096 := Rect.unit (s := S1024x4096) ![0, 512 * g.val] S1024x512.size (by revert g; decide)
abbrev rWt (k : Fin 4) (g : Fin 8) (q : Fin 2) : Rect S1024x4096 :=
  Rect.unit (s := S1024x4096) ![256 * k.val, 512 * g.val + 256 * q.val] S256x256.size (by revert k g q; decide)
abbrev rWs (g : Fin 8) (j : Fin 4) : Rect S1x4096 :=
  Rect.unit (s := S1x4096) ![0, 512 * g.val + 128 * j.val] S1x128.size (by revert g j; decide)
abbrev rY (m : Fin 6) (g : Fin 8) (j : Fin 4) : Rect S1536x4096 :=
  Rect.unit (s := S1536x4096) ![256 * m.val, 512 * g.val + 128 * j.val] S256x128.size (by revert m g j; decide)
abbrev rYt (m : Fin 6) (g : Fin 8) : Rect S1536x4096 :=
  Rect.unit (s := S1536x4096) ![256 * m.val, 512 * g.val] S256x512.size (by revert m g; decide)
abbrev rTop : Rect S8x128 := Rect.unit (s := S8x128) ![0, 0] S8x128.size (by decide)
abbrev rInv : Rect S8x128 := Rect.unit (s := S8x128) ![0, 0] S1x128.size (by decide)
abbrev rOne : Rect S1x1 := Rect.unit (s := S1x1) ![0, 0] S1x1.size (by decide)
abbrev rEst (p : Fin 3) : Rect S8x8x128 := Rect.unit (s := S8x8x128) ![p.val, 0, 0] S1x8x128.size (by revert p; decide)
abbrev rEst0 (p : Fin 3) : Rect S8x8x128 := Rect.unit (s := S8x8x128) ![p.val, 0, 0] S1x1x1.size (by revert p; decide)
abbrev rFin (p : Fin 2) : Rect S2x8x128 := Rect.unit (s := S2x8x128) ![p.val, 0, 0] S1x8x128.size (by revert p; decide)
abbrev rFin1 : Rect S2x8x128 := Rect.unit (s := S2x8x128) ![1, 0, 0] S1x1x1.size (by decide)

theorem one : ∀ {S : Shape} (off size : Fin S.rank → ℕ) (inb), ∀ a, (Rect.unit (s := S) off size inb).stride a = 1 := fun _ _ _ _ => rfl

theorem packed8Blk : ∀ (m : Fin 6) (b : Fin 8), (rBlk m b).PackedRows (EltTy.packing .fp8e4m3) := by decide
theorem packedBlk : ∀ (m : Fin 6) (b : Fin 8), (rBlk m b).PackedRows (EltTy.packing .bf16) := by decide

theorem inY : ∀ (m : Fin 6) (g : Fin 8) (j : Fin 4), ∀ a, (![256 * m.val, 512 * g.val + 128 * j.val] : Fin 2 → ℕ) a + S256x128.size a ≤ S1536x4096.size a := by
  decide
theorem packedY : ∀ (m : Fin 6) (g : Fin 8) (j : Fin 4),
    (Rect.unit (s := S1536x4096) ![256 * m.val, 512 * g.val + 128 * j.val] S256x128.size (inY m g j)).PackedRows (EltTy.packing .fp8e4m3) := by
  decide

/-- The row chunk, the column group and the accumulator of a unit. -/
abbrev mOf (u : ℕ) : Fin 6 := ⟨u % 6, Nat.mod_lt _ (by decide)⟩
abbrev gOf (u : ℕ) (hu : u < 48) : Fin 8 := ⟨u / 6, by omega⟩
theorem fits (u : ℕ) : Mxu.Fits (64 * (u % 2)) 256 := by
  rcases Nat.mod_two_eq_zero_or_one u with h | h <;> rw [h] <;> decide

theorem inOne : ∀ a, (![0, 0, 0] : Fin 3 → ℕ) a < S1x1x1.size a := by decide

/-- A loop over result tiles: its trips, and the offsets it computes for each trip. -/
structure Redo where
  L : Scf.Loop 32
  ok : L.OK
  o : Fin L.trips → Fin 4 → Fin 2 → ℕ
  hi : ∀ n r a, o n r a + S256x128.size a ≤ S1536x4096.size a
  hp : ∀ n r, (Rect.unit (s := S1536x4096) (o n r) S256x128.size (hi n r)).PackedRows (EltTy.packing .fp8e4m3)
  t : Fin L.trips → Fin 2 → ℕ
  ht : ∀ n a, t n a + S256x512.size a ≤ S1536x4096.size a
  hw : ∀ n, (Rect.unit (s := S1536x4096) (t n) S256x512.size (ht n)).WholeWords (EltTy.packing .fp8e4m3)

/-- The loop's trips are the tiles from `lo`, in order. -/
def Redo.Tiles (L : Redo) (lo n : ℕ) : Prop :=
  L.L.trips = n ∧ (∀ v r, L.o v r = ![256 * ((lo + v.val) % 6), 512 * ((lo + v.val) / 6) + 128 * r.val]) ∧
    ∀ v, L.t v = ![256 * ((lo + v.val) % 6), 512 * ((lo + v.val) / 6)]

section pieces

variable {F : FTy → Type} [FloatOps F] {nD : Nat} {τ : Topo} {sig : RefSig} {Λ : Labels} {α : Type}

/-- A piece run when a condition holds. -/
def opt (p : Prop) [Decidable p] (f : p → (Prog (TpuEff nD τ sig (Elt F) Λ .tc) α) → (Prog (TpuEff nD τ sig (Elt F) Λ .tc) α))
    (k : (Prog (TpuEff nD τ sig (Elt F) Λ .tc) α)) : (Prog (TpuEff nD τ sig (Elt F) Λ .tc) α) :=
  if h : p then f h k else k

/-- A load. -/
def ld {cs : CoreSpace} {s : Shape} {e : EltTy} (M : Memref sig .tc (.core cs) s e) (r : Rect s) (hl : M.view.LoadsAt r.toLoadRect)
    (k : (r.shape.Idx → Elt F e) → (Prog (TpuEff nD τ sig (Elt F) Λ .tc) α)) : (Prog (TpuEff nD τ sig (Elt F) Λ .tc) α) :=
  .op (.load M r.toLoadRect hl) k

/-- A load, then a store of a payload at the same rectangle. -/
def put {cs : CoreSpace} {s : Shape} {e : EltTy} (M : Memref sig .tc (.core cs) s e) (r : Rect s) (hl : M.view.LoadsAt r.toLoadRect)
    (w : r.shape.Idx → Elt F e) (hx : (M.access r).Stores Finset.univ) (k : (Prog (TpuEff nD τ sig (Elt F) Λ .tc) α)) : (Prog (TpuEff nD τ sig (Elt F) Λ .tc) α) :=
  .op (.load M r.toLoadRect hl) fun _ => .op (.store M r w Finset.univ hx (.inl rfl)) fun _ => k

namespace Env

variable (E : Env sig)

/- The semaphores of the arrays. -/
abbrev xSem (m : Fin 6) : DmaSem sig :=
  ((E.s22.slice (Rect.unit (s := S6) ![m.val] S1.size (by revert m; decide))).squeeze S_ (show S1.Squeezes S_ by decide)).sem
abbrev w0Sem (k : Fin 4) : DmaSem sig :=
  ((E.s23.slice (Rect.unit (s := S4) ![k.val] S1.size (by revert k; decide))).squeeze S_ (show S1.Squeezes S_ by decide)).sem
abbrev wSem (g : Fin 8) : DmaSem sig :=
  ((E.s24.slice (Rect.unit (s := S8) ![g.val] S1.size (by revert g; decide))).squeeze S_ (show S1.Squeezes S_ by decide)).sem
abbrev xsSem (m : Fin 6) : DmaSem sig :=
  ((E.s27.slice (Rect.unit (s := S6) ![m.val] S1.size (by revert m; decide))).squeeze S_ (show S1.Squeezes S_ by decide)).sem

/- The copies. -/
def xStart (m : Fin 6) (k : (Prog (TpuEff nD τ sig (Elt F) Λ .tc) α)) : (Prog (TpuEff nD τ sig (Elt F) Λ .tc) α) :=
  .op (.enqueueDma (E.a0.slice (rRow m) (fun _ => rfl)) (.here (E.a8.slice (rRow m) (fun _ => rfl))) (.dma (E.xSem m))
    (E.h0.wordExact_slice rfl _ (by revert m; decide)) (E.h8.wordExact_slice rfl _ (by revert m; decide)) ⟨Or.inl rfl, trivial⟩) fun _ => k
def xWait (m : Fin 6) (k : (Prog (TpuEff nD τ sig (Elt F) Λ .tc) α)) : (Prog (TpuEff nD τ sig (Elt F) Λ .tc) α) :=
  .op (.waitDma2 (E.xSem m) (E.a0.slice (rRow m) (fun _ => rfl)) (E.a8.slice (rRow m) (fun _ => rfl))
    (E.h0.wordExact_slice rfl _ (by revert m; decide)) (E.h8.wordExact_slice rfl _ (by revert m; decide))) fun _ => k
def w0Start (n : Fin 4) (k : (Prog (TpuEff nD τ sig (Elt F) Λ .tc) α)) : (Prog (TpuEff nD τ sig (Elt F) Λ .tc) α) :=
  .op (.enqueueDma (E.a1.slice (rW0 n) (fun _ => rfl)) (.here (E.a9.slice (rW0 n) (fun _ => rfl))) (.dma (E.w0Sem n))
    (E.h1.wordExact_slice rfl _ (by revert n; decide)) (E.h9.wordExact_slice rfl _ (by revert n; decide)) ⟨Or.inl rfl, trivial⟩) fun _ => k
def w0Wait (n : Fin 4) (k : (Prog (TpuEff nD τ sig (Elt F) Λ .tc) α)) : (Prog (TpuEff nD τ sig (Elt F) Λ .tc) α) :=
  .op (.waitDma2 (E.w0Sem n) (E.a1.slice (rW0 n) (fun _ => rfl)) (E.a9.slice (rW0 n) (fun _ => rfl))
    (E.h1.wordExact_slice rfl _ (by revert n; decide)) (E.h9.wordExact_slice rfl _ (by revert n; decide))) fun _ => k
def wStart (g : Fin 8) (k : (Prog (TpuEff nD τ sig (Elt F) Λ .tc) α)) : (Prog (TpuEff nD τ sig (Elt F) Λ .tc) α) :=
  .op (.enqueueDma (E.a1.slice (rWg g) (fun _ => rfl)) (.here (E.a9.slice (rWg g) (fun _ => rfl))) (.dma (E.wSem g))
    (E.h1.wordExact_slice rfl _ (by revert g; decide)) (E.h9.wordExact_slice rfl _ (by revert g; decide)) ⟨Or.inl rfl, trivial⟩) fun _ => k
def wWait (g : Fin 8) (k : (Prog (TpuEff nD τ sig (Elt F) Λ .tc) α)) : (Prog (TpuEff nD τ sig (Elt F) Λ .tc) α) :=
  .op (.waitDma2 (E.wSem g) (E.a1.slice (rWg g) (fun _ => rfl)) (E.a9.slice (rWg g) (fun _ => rfl))
    (E.h1.wordExact_slice rfl _ (by revert g; decide)) (E.h9.wordExact_slice rfl _ (by revert g; decide))) fun _ => k
def wsStart (k : (Prog (TpuEff nD τ sig (Elt F) Λ .tc) α)) : (Prog (TpuEff nD τ sig (Elt F) Λ .tc) α) :=
  .op (.enqueueDma E.a2 (.here E.a10) (.dma E.s25.sem) E.h2.wordExact E.h10.wordExact ⟨Or.inl rfl, trivial⟩) fun _ => k
def wsWait (k : (Prog (TpuEff nD τ sig (Elt F) Λ .tc) α)) : (Prog (TpuEff nD τ sig (Elt F) Λ .tc) α) :=
  .op (.waitDma2 E.s25.sem E.a2 E.a10 E.h2.wordExact E.h10.wordExact) fun _ => k
def xcStart (m : Fin 6) (k : (Prog (TpuEff nD τ sig (Elt F) Λ .tc) α)) : (Prog (TpuEff nD τ sig (Elt F) Λ .tc) α) :=
  .op (.enqueueDma (E.a12.slice (rRow m) (fun _ => rfl)) (.here (E.a6.slice (rRow m) (fun _ => rfl))) (.dma E.s26.sem)
    (E.h12.wordExact_slice rfl _ (by revert m; decide)) (E.h6.wordExact_slice rfl _ (by revert m; decide)) ⟨Or.inl rfl, trivial⟩) fun _ => k
def xcWait (m : Fin 6) (k : (Prog (TpuEff nD τ sig (Elt F) Λ .tc) α)) : (Prog (TpuEff nD τ sig (Elt F) Λ .tc) α) :=
  .op (.waitDma2 E.s26.sem (E.a12.slice (rRow m) (fun _ => rfl)) (E.a6.slice (rRow m) (fun _ => rfl))
    (E.h12.wordExact_slice rfl _ (by revert m; decide)) (E.h6.wordExact_slice rfl _ (by revert m; decide))) fun _ => k
def xsStart (m : Fin 6) (k : (Prog (TpuEff nD τ sig (Elt F) Λ .tc) α)) : (Prog (TpuEff nD τ sig (Elt F) Λ .tc) α) :=
  .op (.enqueueDma (E.a13.slice (rRow8 m) (fun _ => rfl)) (.here (E.a7.slice (rRow8 m) (fun _ => rfl))) (.dma (E.xsSem m))
    (View.wordExact_bits rfl) (View.wordExact_bits rfl) ⟨Or.inl rfl, trivial⟩) fun _ => k
def xsWait (m : Fin 6) (k : (Prog (TpuEff nD τ sig (Elt F) Λ .tc) α)) : (Prog (TpuEff nD τ sig (Elt F) Λ .tc) α) :=
  .op (.waitDma2 (E.xsSem m) (E.a13.slice (rRow8 m) (fun _ => rfl)) (E.a7.slice (rRow8 m) (fun _ => rfl))
    (View.wordExact_bits rfl) (View.wordExact_bits rfl)) fun _ => k
def yStart (m : Fin 6) (g : Fin 8) (k : (Prog (TpuEff nD τ sig (Elt F) Λ .tc) α)) : (Prog (TpuEff nD τ sig (Elt F) Λ .tc) α) :=
  .op (.enqueueDma (E.a15.slice (rYt m g) (fun _ => rfl)) (.here (E.a3.slice (rYt m g) (fun _ => rfl))) (.dma E.s28.sem)
    (E.h15.wordExact_slice rfl _ (by revert m g; decide)) (E.h3.wordExact_slice rfl _ (by revert m g; decide)) ⟨Or.inl rfl, trivial⟩)
    fun _ => k
def yWait (m : Fin 6) (g : Fin 8) (k : (Prog (TpuEff nD τ sig (Elt F) Λ .tc) α)) : (Prog (TpuEff nD τ sig (Elt F) Λ .tc) α) :=
  .op (.waitDma2 E.s28.sem (E.a15.slice (rYt m g) (fun _ => rfl)) (E.a3.slice (rYt m g) (fun _ => rfl))
    (E.h15.wordExact_slice rfl _ (by revert m g; decide)) (E.h3.wordExact_slice rfl _ (by revert m g; decide))) fun _ => k
def amStart (k : (Prog (TpuEff nD τ sig (Elt F) Λ .tc) α)) : (Prog (TpuEff nD τ sig (Elt F) Λ .tc) α) :=
  .op (.enqueueDma E.a20 (.here E.a5) (.dma E.s29.sem) E.h20.wordExact E.h5.wordExact ⟨Or.inl rfl, trivial⟩) fun _ => k
def amWait (k : (Prog (TpuEff nD τ sig (Elt F) Λ .tc) α)) : (Prog (TpuEff nD τ sig (Elt F) Λ .tc) α) :=
  .op (.waitDma2 E.s29.sem E.a20 E.a5 E.h20.wordExact E.h5.wordExact) fun _ => k
def scStart (k : (Prog (TpuEff nD τ sig (Elt F) Λ .tc) α)) : (Prog (TpuEff nD τ sig (Elt F) Λ .tc) α) :=
  .op (.enqueueDma E.a21 (.here E.a4) (.dma E.s29.sem) E.h21.wordExact E.h4.wordExact ⟨Or.inl rfl, trivial⟩) fun _ => k
def scWait (k : (Prog (TpuEff nD τ sig (Elt F) Λ .tc) α)) : (Prog (TpuEff nD τ sig (Elt F) Λ .tc) α) :=
  .op (.waitDma2 E.s29.sem E.a21 E.a4 E.h21.wordExact E.h4.wordExact) fun _ => k

/-- One block of a row chunk quantised: its codes, the codes times the scale, and the packed scales. -/
def quantBlk (m : Fin 6) (b : Fin 8) (p : FVec F S256x128 .bf16) (k : FVec F S256x128 .bf16 → (Prog (TpuEff nD τ sig (Elt F) Λ .tc) α)) : (Prog (TpuEff nD τ sig (Elt F) Λ .tc) α) :=
  ld E.a8 (rBlk m b) (View.loadsAt_vmem (show 0 < S256x128.numel by decide)) fun v =>
    put E.a12 (rBlk m b) (View.loadsAt_vmem (show 0 < S256x128.numel by decide)) (shapeCast S256x128 (blkCodes v) (by decide))
      (View.stores_vmem (show 0 < S256x128.numel by decide) (E.h12.storeExact_slice rfl _ (packed8Blk m b)) (fun _ => rfl)) <|
    put E.a11 (rBlk m b) (View.loadsAt_vmem (show 0 < S256x128.numel by decide)) (shapeCast S256x128 (blkXw v) (by decide))
      (View.stores_vmem (show 0 < S256x128.numel by decide) (E.h11.storeExact_slice rfl _ (packedBlk m b)) (fun _ => rfl)) <|
    k (pack b v p)

/-- A row chunk quantised. -/
def quantX (m : Fin 6) (k : (Prog (TpuEff nD τ sig (Elt F) Λ .tc) α)) : (Prog (TpuEff nD τ sig (Elt F) Λ .tc) α) :=
  E.quantBlk m 0 pack0 fun p => E.quantBlk m 1 p fun p => E.quantBlk m 2 p fun p => E.quantBlk m 3 p fun p =>
  E.quantBlk m 4 p fun p => E.quantBlk m 5 p fun p => E.quantBlk m 6 p fun p => E.quantBlk m 7 p fun p =>
    put E.a13 (rRow8 m) (View.loadsAt_vmem (show 0 < S256x8.numel by decide)) (shapeCast S256x8 (packOut p) (by decide))
      (View.stores_vmem_bits_univ (show 0 < S256x8.numel by decide) rfl) k

/-- A weight tile pushed into a register of a unit. -/
def push1 (g : Fin 8) (n : Fin 4) (r : Fin 2) (q : Fin 2) (mx : Mxu F) (k : Mxu F → (Prog (TpuEff nD τ sig (Elt F) Λ .tc) α)) : (Prog (TpuEff nD τ sig (Elt F) Λ .tc) α) :=
  ld E.a9 (rWt n g q) (View.loadsAt_vmem (show 0 < S256x256.numel by decide)) fun v =>
    .op (.assume (mx.PushOk q r false)) fun _ => k (mx.pushed q r false (extf .bf16 v (by decide) : FVec F S256x256 .bf16))
def push (g : Fin 8) (n : Fin 4) (r : Fin 2) (mx : Mxu F) (k : Mxu F → (Prog (TpuEff nD τ sig (Elt F) Λ .tc) α)) : (Prog (TpuEff nD τ sig (Elt F) Λ .tc) α) :=
  E.push1 g n r 0 mx fun mx => E.push1 g n r 1 mx k

/-- A tile of the quantised activations multiplied into a unit's accumulator. -/
def acc1 (m : Fin 6) (n : Fin 4) (r : Fin 2) (A : ℕ) (hA : Mxu.Fits A 256) (q : Fin 2) (mx : Mxu F) (k : Mxu F → (Prog (TpuEff nD τ sig (Elt F) Λ .tc) α)) : (Prog (TpuEff nD τ sig (Elt F) Λ .tc) α) :=
  ld E.a11 (rXw m n) (View.loadsAt_vmem (show 0 < S256x256.numel by decide)) fun v => k (mx.accLhs q r A (v : FVec F S256x256 .bf16) hA)
def acc (m : Fin 6) (n : Fin 4) (r : Fin 2) (A : ℕ) (hA : Mxu.Fits A 256) (mx : Mxu F) (k : Mxu F → (Prog (TpuEff nD τ sig (Elt F) Λ .tc) α)) : (Prog (TpuEff nD τ sig (Elt F) Λ .tc) α) :=
  E.acc1 m n r A hA 0 mx fun mx => E.acc1 m n r A hA 1 mx k

/-- Half of a popped tile scaled, stored, and joined to the running maximum. -/
def half (m : Fin 6) (g : Fin 8) (j : Fin 4) (h : Fin 2) (z : FVec F S256x256 .f32) (top : FVec F S8x128 .f32)
    (k : FVec F S8x128 .f32 → (Prog (TpuEff nD τ sig (Elt F) Λ .tc) α)) : (Prog (TpuEff nD τ sig (Elt F) Λ .tc) α) :=
  ld E.a10 (rWs g j) (View.loadsAt_vmem (show 0 < S1x128.numel by decide)) fun ws =>
    put E.a14 (rY m g j) (View.loadsAt_vmem (show 0 < S256x128.numel by decide)) (shapeCast S256x128 (scaled h z ws) (by decide))
      (View.stores_vmem_bits_univ (show 0 < S256x128.numel by decide) rfl) <|
    k (grow top (scaled h z ws))

/-- A unit's two accumulators popped. -/
def epilogue (m : Fin 6) (g : Fin 8) (A : ℕ) (hA : Mxu.Fits A 256) (mx : Mxu F) (k : Mxu F → (Prog (TpuEff nD τ sig (Elt F) Λ .tc) α)) : (Prog (TpuEff nD τ sig (Elt F) Λ .tc) α) :=
  ld E.a16 rTop (View.loadsAt_vmem (show 0 < S8x128.numel by decide)) fun top =>
    E.half m g 0 0 (mx.read 0 A hA) top fun top =>
    E.half m g 1 1 (mx.read 0 A hA) top fun top =>
    E.half m g 2 0 ((mx.pop 0 A 256 hA).read 1 A hA) top fun top =>
    E.half m g 3 1 ((mx.pop 0 A 256 hA).read 1 A hA) top fun top =>
    put E.a16 rTop (View.loadsAt_vmem (show 0 < S8x128.numel by decide)) (shapeCast S8x128 top (by decide)) (View.stores_vmem_bits_univ (show 0 < S8x128.numel by decide) rfl) <|
    k ((mx.pop 0 A 256 hA).pop 1 A 256 hA)

/-- An estimate of the result's scale, kept in slot `p`, and its inverse. -/
def estimate (κ448 : F .f32) (p : Fin 3) (k : (Prog (TpuEff nD τ sig (Elt F) Λ .tc) α)) : (Prog (TpuEff nD τ sig (Elt F) Λ .tc) α) :=
  ld E.a16 rTop (View.loadsAt_vmem (show 0 < S8x128.numel by decide)) fun a =>
    put E.a17 (rEst p) (View.loadsAt_vmem (show 0 < S1x8x128.numel by decide)) (shapeCast S1x8x128 (estScale κ448 (estTop a)) (by decide))
      (View.stores_vmem_bits_univ (show 0 < S1x8x128.numel by decide) rfl) <|
    put E.a18 rTop (View.loadsAt_vmem (show 0 < S8x128.numel by decide)) (shapeCast S8x128 (estInv κ448 (estTop a)) (by decide))
      (View.stores_vmem_bits_univ (show 0 < S8x128.numel by decide) rfl) k

/-- The first weights of a unit pushed, if there is such a unit. -/
def next (u : ℕ) (mx : Mxu F) (k : Mxu F → (Prog (TpuEff nD τ sig (Elt F) Λ .tc) α)) : (Prog (TpuEff nD τ sig (Elt F) Λ .tc) α) :=
  if h : u < 48 then E.push (gOf u h) 0 0 mx k else k mx

/-- The tile of the unit before popped, if there is such a unit. -/
def before (u : ℕ) (hu : u ≤ 48) (mx : Mxu F) (k : Mxu F → (Prog (TpuEff nD τ sig (Elt F) Λ .tc) α)) :
    (Prog (TpuEff nD τ sig (Elt F) Λ .tc) α) :=
  if h : 0 < u then E.epilogue (mOf (u - 1)) (gOf (u - 1) (by omega)) (64 * ((u - 1) % 2)) (fits (u - 1)) mx k else k mx

/-- A block of the result quantised, at an offset of the result. -/
def quantJ (o : Fin 2 → ℕ) (hi : ∀ a, o a + S256x128.size a ≤ S1536x4096.size a)
    (hp : (Rect.unit (s := S1536x4096) o S256x128.size hi).PackedRows (EltTy.packing .fp8e4m3)) (inv : FVec F S1x128 .f32)
    (k : (Prog (TpuEff nD τ sig (Elt F) Λ .tc) α)) : (Prog (TpuEff nD τ sig (Elt F) Λ .tc) α) :=
  ld E.a14 (Rect.unit (s := S1536x4096) o S256x128.size hi) (View.loadsAt_vmem (show 0 < S256x128.numel by decide)) fun v =>
    put E.a15 (Rect.unit (s := S1536x4096) o S256x128.size hi) (View.loadsAt_vmem (show 0 < S256x128.numel by decide))
      (shapeCast S256x128 (yCodes inv v) (by decide))
      (View.stores_vmem (show 0 < S256x128.numel by decide) (E.h15.storeExact_slice rfl _ hp) (fun _ => rfl)) k

/-- A tile of the result quantised. -/
def quantY (m : Fin 6) (g : Fin 8) (k : (Prog (TpuEff nD τ sig (Elt F) Λ .tc) α)) : (Prog (TpuEff nD τ sig (Elt F) Λ .tc) α) :=
  ld E.a18 rInv (View.loadsAt_vmem (show 0 < S1x128.numel by decide)) fun inv =>
    E.quantJ ![256 * m.val, 512 * g.val + 128 * (0 : Fin 4).val] (inY m g 0) (packedY m g 0) inv <|
    E.quantJ ![256 * m.val, 512 * g.val + 128 * (1 : Fin 4).val] (inY m g 1) (packedY m g 1) inv <|
    E.quantJ ![256 * m.val, 512 * g.val + 128 * (2 : Fin 4).val] (inY m g 2) (packedY m g 2) inv <|
    E.quantJ ![256 * m.val, 512 * g.val + 128 * (3 : Fin 4).val] (inY m g 3) (packedY m g 3) inv k

/-- The copies a unit starts: those of the row chunk and the result tiles of the unit before. -/
def starts (u : ℕ) (hu : u ≤ 48) (k : (Prog (TpuEff nD τ sig (Elt F) Λ .tc) α)) : (Prog (TpuEff nD τ sig (Elt F) Λ .tc) α) :=
  opt (1 ≤ u ∧ u ≤ 6) (fun h k => E.xcStart ⟨u - 1, by omega⟩ (E.xsStart ⟨u - 1, by omega⟩ k)) <|
  opt (26 ≤ u) (fun h k => E.yStart (mOf (2 * (u - 26))) (gOf (2 * (u - 26)) (by omega))
    (E.yStart (mOf (2 * (u - 26) + 1)) (gOf (2 * (u - 26) + 1) (by omega)) k)) k

/-- The estimate and the result tiles a unit quantises. -/
def quants (κ448 : F .f32) (u : ℕ) (hu : u ≤ 48) (k : (Prog (TpuEff nD τ sig (Elt F) Λ .tc) α)) : (Prog (TpuEff nD τ sig (Elt F) Λ .tc) α) :=
  opt (u = 25 ∨ u = 31 ∨ u = 37) (fun h k => E.estimate κ448 ⟨(u - 25) / 6, by omega⟩ k) <|
  opt (25 ≤ u) (fun h k => E.quantY (mOf (2 * (u - 25))) (gOf (2 * (u - 25)) (by omega))
    (E.quantY (mOf (2 * (u - 25) + 1)) (gOf (2 * (u - 25) + 1) (by omega)) k)) k

/-- A unit up to the push of the next unit's first weights: the copies it waits for, and three of its four passes over the inner
    dimension, the next pass's weights pushed before each. -/
def front (u : ℕ) (hu : u < 48) (mx : Mxu F) (k : Mxu F → (Prog (TpuEff nD τ sig (Elt F) Λ .tc) α)) : (Prog (TpuEff nD τ sig (Elt F) Λ .tc) α) :=
  opt (u + 1 < 6) (fun h k => E.xWait ⟨u + 1, h⟩ k) <|
  opt (u % 6 = 4 ∧ u / 6 + 1 < 8) (fun h k => E.wWait ⟨u / 6 + 1, h.2⟩ k) <|
  E.push (gOf u hu) 1 1 mx fun mx => E.acc (mOf u) 0 0 (64 * (u % 2)) (fits u) mx fun mx =>
  E.push (gOf u hu) 2 0 mx fun mx => E.acc (mOf u) 1 1 (64 * (u % 2)) (fits u) mx fun mx =>
  E.push (gOf u hu) 3 1 mx fun mx => E.acc (mOf u) 2 0 (64 * (u % 2)) (fits u) mx fun mx =>
  E.next (u + 1) mx k

/-- The rest of a unit: its last pass, the next row chunk quantised, the copies, the tile of the unit before popped, and the tiles of the
    result it quantises. -/
def back (κ448 : F .f32) (u : ℕ) (hu : u < 48) (mx : Mxu F) (k : Mxu F → (Prog (TpuEff nD τ sig (Elt F) Λ .tc) α)) : (Prog (TpuEff nD τ sig (Elt F) Λ .tc) α) :=
  E.acc (mOf u) 3 1 (64 * (u % 2)) (fits u) mx fun mx =>
  opt (u + 1 < 6) (fun h k => E.quantX ⟨u + 1, h⟩ k) <|
  E.starts u hu.le <|
  E.before u hu.le mx fun mx =>
  E.quants κ448 u hu.le (k mx)

/-- The end of a unit and the front of the next, for `n` units from unit `u`. -/
def units (κ448 : F .f32) (n u : ℕ) (hu : u + n < 48) (mx : Mxu F) (k : Mxu F → (Prog (TpuEff nD τ sig (Elt F) Λ .tc) α)) : (Prog (TpuEff nD τ sig (Elt F) Λ .tc) α) :=
  match n with
  | 0 => k mx
  | n + 1 => E.back κ448 u (by omega) mx fun mx => E.front (u + 1) (by omega) mx fun mx => units κ448 n (u + 1) (by omega) mx k

/-- The main loop's last round: no products, the last tile popped. -/
def lastRound (κ448 : F .f32) (mx : Mxu F) (k : Mxu F → (Prog (TpuEff nD τ sig (Elt F) Λ .tc) α)) : (Prog (TpuEff nD τ sig (Elt F) Λ .tc) α) :=
  E.starts 48 le_rfl <|
  E.before 48 le_rfl mx fun mx =>
  E.quants κ448 48 le_rfl (k mx)

/-- Everything before the main loop. -/
def begin (k : Mxu F → (Prog (TpuEff nD τ sig (Elt F) Λ .tc) α)) : (Prog (TpuEff nD τ sig (Elt F) Λ .tc) α) :=
  E.xStart 0 <| E.wsStart <| E.w0Start 0 <| E.w0Start 1 <| E.w0Start 2 <| E.w0Start 3 <|
  E.xStart 1 <| E.xStart 2 <| E.xStart 3 <| E.xStart 4 <| E.xStart 5 <|
  E.wStart 1 <| E.wStart 2 <| E.wStart 3 <| E.wStart 4 <| E.wStart 5 <| E.wStart 6 <| E.wStart 7 <|
  put E.a16 rTop (View.loadsAt_vmem (show 0 < S8x128.numel by decide))
    (shapeCast S8x128 (broadcast S8x128 (Scalar.ofBits .f32 0x00000000#32) : FVec F S8x128 .f32) (by decide))
    (View.stores_vmem_bits_univ (show 0 < S8x128.numel by decide) rfl) <|
  E.xWait 0 <| E.quantX 0 <| E.wsWait <| E.w0Wait 0 <| E.w0Wait 1 <| E.w0Wait 2 <| E.w0Wait 3 <|
  E.push 0 0 0 Mxu.init k

/-- The scale and the largest magnitude computed and their copies started, after the last tiles' copies. -/
def finish (κ448 : F .f32) (k : (Prog (TpuEff nD τ sig (Elt F) Λ .tc) α)) : (Prog (TpuEff nD τ sig (Elt F) Λ .tc) α) :=
  E.yStart 4 7 <| E.yStart 5 7 <|
  ld E.a16 rTop (View.loadsAt_vmem (show 0 < S8x128.numel by decide)) fun a =>
    put E.a19 (rFin 0) (View.loadsAt_vmem (show 0 < S1x8x128.numel by decide)) (shapeCast S1x8x128 (estTop a) (by decide))
      (View.stores_vmem_bits_univ (show 0 < S1x8x128.numel by decide) rfl) <|
    put E.a19 (rFin 1) (View.loadsAt_vmem (show 0 < S1x8x128.numel by decide))
      (shapeCast S1x8x128 (estScale κ448 (estTop a)) (by decide))
      (View.stores_vmem_bits_univ (show 0 < S1x8x128.numel by decide) rfl) <|
    put E.a20 rOne (View.loadsAt_vmem (show 0 < S1x1.numel by decide))
      (shapeCast S1x1 (extractStridedSlice S1x1 ![0, 0] (estTop a) (by decide)) (by decide))
      (View.stores_vmem_bits_univ (show 0 < S1x1.numel by decide) rfl) <|
    put E.a21 rOne (View.loadsAt_vmem (show 0 < S1x1.numel by decide))
      (shapeCast S1x1 (extractStridedSlice S1x1 ![0, 0] (estScale κ448 (estTop a)) (by decide)) (by decide))
      (View.stores_vmem_bits_univ (show 0 < S1x1.numel by decide) rfl) <|
    E.amStart <| E.scStart k

/-- A row chunk's copies waited for, and a list of result tiles' copies. -/
def xOut (m : Fin 6) (k : (Prog (TpuEff nD τ sig (Elt F) Λ .tc) α)) : (Prog (TpuEff nD τ sig (Elt F) Λ .tc) α) :=
  E.xcWait m (E.xsWait m k)
def yOut (n : ℕ) (u : ℕ) (hu : u + n = 48) (k : (Prog (TpuEff nD τ sig (Elt F) Λ .tc) α)) :
    (Prog (TpuEff nD τ sig (Elt F) Λ .tc) α) :=
  match n with
  | 0 => k
  | n + 1 => E.yWait (mOf u) (gOf u (by omega)) (yOut n (u + 1) (by omega) k)

/-- Every copy still under way waited for. -/
def waits (k : (Prog (TpuEff nD τ sig (Elt F) Λ .tc) α)) : (Prog (TpuEff nD τ sig (Elt F) Λ .tc) α) :=
  E.xOut 0 <| E.xOut 1 <| E.xOut 2 <| E.xOut 3 <| E.xOut 4 <| E.xOut 5 <|
  E.yOut 48 0 rfl <| E.amWait <| E.scWait k

/-- Whether an estimate's scale differs from the final one. -/
def differs (p : Fin 3) (k : BitVec 1 → (Prog (TpuEff nD τ sig (Elt F) Λ .tc) α)) : (Prog (TpuEff nD τ sig (Elt F) Λ .tc) α) :=
  ld E.a17 (rEst0 p) (View.loadsAt_vmem (show 0 < S1x1x1.numel by decide)) fun a =>
  ld E.a19 rFin1 (View.loadsAt_vmem (show 0 < S1x1x1.numel by decide)) fun b =>
  k (Scalar.cmpi .ne (Scalar.extui (Scalar.cmpf .one (extractAt ![0, 0, 0] (a : FVec F S1x1x1 .f32) inOne : F .f32)
    (extractAt ![0, 0, 0] (b : FVec F S1x1x1 .f32) inOne)) : BitVec 32) 0#32)

/-- The inverse of the final scale stored over the last estimate's. -/
def reinv (κ448 : F .f32) (k : (Prog (TpuEff nD τ sig (Elt F) Λ .tc) α)) : (Prog (TpuEff nD τ sig (Elt F) Λ .tc) α) :=
  ld E.a16 rTop (View.loadsAt_vmem (show 0 < S8x128.numel by decide)) fun a =>
    put E.a18 rTop (View.loadsAt_vmem (show 0 < S8x128.numel by decide)) (shapeCast S8x128 (estInv κ448 (estTop a)) (by decide))
      (View.stores_vmem_bits_univ (show 0 < S8x128.numel by decide) rfl) k

/-- A result tile quantised again and copied out again, at given offsets. -/
def again (o : Fin 4 → Fin 2 → ℕ) (hi : ∀ r a, o r a + S256x128.size a ≤ S1536x4096.size a)
    (hp : ∀ r, (Rect.unit (s := S1536x4096) (o r) S256x128.size (hi r)).PackedRows (EltTy.packing .fp8e4m3))
    (t : Fin 2 → ℕ) (ht : ∀ a, t a + S256x512.size a ≤ S1536x4096.size a)
    (hw : (Rect.unit (s := S1536x4096) t S256x512.size ht).WholeWords (EltTy.packing .fp8e4m3))
    (k : (Prog (TpuEff nD τ sig (Elt F) Λ .tc) α)) : (Prog (TpuEff nD τ sig (Elt F) Λ .tc) α) :=
  ld E.a18 rInv (View.loadsAt_vmem (show 0 < S1x128.numel by decide)) fun inv =>
    E.quantJ (o 0) (hi 0) (hp 0) inv <| E.quantJ (o 1) (hi 1) (hp 1) inv <|
    E.quantJ (o 2) (hi 2) (hp 2) inv <| E.quantJ (o 3) (hi 3) (hp 3) inv <|
    .op (.enqueueDma (E.a15.slice (Rect.unit (s := S1536x4096) t S256x512.size ht) (fun _ => rfl))
      (.here (E.a3.slice (Rect.unit (s := S1536x4096) t S256x512.size ht) (fun _ => rfl))) (.dma E.s28.sem)
      (E.h15.wordExact_slice rfl _ hw) (E.h3.wordExact_slice rfl _ hw) ⟨Or.inl rfl, trivial⟩) fun _ =>
    .op (.waitDma2 E.s28.sem (E.a15.slice (Rect.unit (s := S1536x4096) t S256x512.size ht) (fun _ => rfl))
      (E.a3.slice (Rect.unit (s := S1536x4096) t S256x512.size ht) (fun _ => rfl))
      (E.h15.wordExact_slice rfl _ hw) (E.h3.wordExact_slice rfl _ hw)) fun _ => k

/-- The tiles of one estimate quantised again when its scale differs from the final one. -/
def redo1 (L : Redo) (p : Fin 3) (k : (Prog (TpuEff nD τ sig (Elt F) Λ .tc) α)) : (Prog (TpuEff nD τ sig (Elt F) Λ .tc) α) :=
  E.differs p fun c => if c = 1#1 then
    Prog.bind (Scf.Loop.for L.L L.ok (⟨⟩ : PUnit) fun n _ => E.again (L.o n) (L.hi n) (L.hp n) (L.t n) (L.ht n) (L.hw n) (.ret ⟨⟩)) fun _ => k
  else k

/-- The end: everything quantised again that needs it. -/
def redo (κ448 : F .f32) (L : Fin 3 → Redo) (k : (Prog (TpuEff nD τ sig (Elt F) Λ .tc) α)) : (Prog (TpuEff nD τ sig (Elt F) Λ .tc) α) :=
  E.differs 0 fun c => if c = 1#1 then
    E.reinv κ448 <| E.redo1 (L 0) 0 <| E.redo1 (L 1) 1 <| E.redo1 (L 2) 2 k
  else k

/-- The kernel after the main loop's last round. -/
def ending (κ448 : F .f32) (L : Fin 3 → Redo) (mx : Mxu F) (k : PUnit → (Prog (TpuEff nD τ sig (Elt F) Λ .tc) α)) : (Prog (TpuEff nD τ sig (Elt F) Λ .tc) α) :=
  E.finish κ448 <| E.waits <| E.redo κ448 L <| .op (.assume mx.Drained) fun _ => k ⟨⟩

/-- The whole kernel. -/
def program (κ448 : F .f32) (L : Fin 3 → Redo) (k : PUnit → (Prog (TpuEff nD τ sig (Elt F) Λ .tc) α)) : (Prog (TpuEff nD τ sig (Elt F) Λ .tc) α) :=
  E.begin fun mx => E.front 0 (by decide) mx fun mx => E.units κ448 47 0 (by decide) mx fun mx =>
  E.back κ448 47 (by decide) mx fun mx => E.lastRound κ448 mx fun mx => E.ending κ448 L mx k

end Env

end pieces

end Cert.Fp8
-- ==== Proof.CutKernel.lean ====
/- The printed kernel as one chain of its parts, cut where each tile's first weights have been pushed. -/
module

public import proofs.«01_k».proof.Kernel
public import proofs.«01_k».proof.Proof.Model
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]

set_option open_calls.check false

/- The kernel's body with its outermost parts opened. -/
open_calls flat := cc0_fp8_linear [k0_part298, k0_part299, k0_part300, k0_part301]

/- The chain's stretches. -/
cut_chain c := flat at 19, 20, 35, 51, 67, 84, 100, 102, 105, 108, 110, 113, 116, 118, 121, 123, 126, 129, 131, 134, 136, 139, 141, 144, 147, 149, 152, 158, 164, 169, 174, 180, 185, 192, 197, 202, 208, 213, 218, 225, 230, 236, 241, 246, 252, 257, 262, 267

end Cert.Kernel
-- ==== Proof.Again.lean ====
/- The tiles quantised again, in the nesting the printed kernel has. -/
module

public import proofs.«01_k».proof.Proof.Model

@[expose] public section

noncomputable section

namespace Cert.Fp8

open Idealize.ShloMosaic Idealize.ShloMosaic.TcCoe Idealize.SL.Sem

variable {F : FTy → Type} [FloatOps F] {nD : Nat} {τ : Topo} {sig : RefSig} {Λ : Labels} {α β : Type}

/-- A condition before a continuation, as the continuation in both branches. -/
theorem ite_bind {E : Type → Type} {p : Prop} [Decidable p] (A B : Prog E α) (k : α → Prog E β) :
    Prog.bind (if p then A else B) k = if p then Prog.bind A k else Prog.bind B k := by
  by_cases h : p
  · rw [if_pos h, if_pos h]
  · rw [if_neg h, if_neg h]

namespace Env

variable (E : Env sig)

/-- One loop over tiles, with what follows. -/
theorem redo1_bind (L : Redo) (p : Fin 3) (j : Prog (TpuEff nD τ sig (Elt F) Λ .tc) α) (k : α → Prog (TpuEff nD τ sig (Elt F) Λ .tc) β) :
    Prog.bind (E.redo1 L p j) k = E.redo1 L p (Prog.bind j k) := by
  have e : ∀ c : BitVec 1, Prog.bind (if c = 1#1 then
      Prog.bind (Scf.Loop.for L.L L.ok (⟨⟩ : PUnit) fun n _ => E.again (L.o n) (L.hi n) (L.hp n) (L.t n) (L.ht n) (L.hw n) (.ret ⟨⟩)) fun _ => j
      else j) k = if c = 1#1 then
      Prog.bind (Scf.Loop.for L.L L.ok (⟨⟩ : PUnit) fun n _ => E.again (L.o n) (L.hi n) (L.hp n) (L.t n) (L.ht n) (L.hw n) (.ret ⟨⟩)) fun _ => Prog.bind j k
      else Prog.bind j k := fun c => by
    rw [ite_bind]
    congr 1
    exact Prog.bind_assoc _ _ _
  exact congrArg (E.differs p) (funext e)

/-- The last estimate read. -/
def last : Prog (TpuEff nD τ sig (Elt F) Λ .tc) (F .f32) :=
  ld E.a17 (rEst0 2) (View.loadsAt_vmem (show 0 < S1x1x1.numel by decide)) fun a => .ret (extractAt ![0, 0, 0] (a : FVec F S1x1x1 .f32) inOne)

/-- The last loop, from the last estimate. -/
def redoL (L : Redo) (k : Prog (TpuEff nD τ sig (Elt F) Λ .tc) α) (v : F .f32) : Prog (TpuEff nD τ sig (Elt F) Λ .tc) α :=
  ld E.a19 rFin1 (View.loadsAt_vmem (show 0 < S1x1x1.numel by decide)) fun b =>
  if Scalar.cmpi .ne (Scalar.extui (Scalar.cmpf .one v (extractAt ![0, 0, 0] (b : FVec F S1x1x1 .f32) inOne)) : BitVec 32) 0#32 = 1#1 then
    Prog.bind (Scf.Loop.for L.L L.ok (⟨⟩ : PUnit) fun n _ => E.again (L.o n) (L.hi n) (L.hp n) (L.t n) (L.ht n) (L.hw n) (.ret ⟨⟩)) fun _ => k
  else k

/-- The three loops as printed: the first two inside one part that reads the last estimate. -/
def redoP (κ448 : F .f32) (L : Fin 3 → Redo) (k : Prog (TpuEff nD τ sig (Elt F) Λ .tc) α) : Prog (TpuEff nD τ sig (Elt F) Λ .tc) α :=
  E.differs 0 fun c => if c = 1#1 then
    E.reinv κ448 <| Prog.bind (E.redo1 (L 0) 0 <| E.redo1 (L 1) 1 E.last) (E.redoL (L 2) k)
  else k

theorem redoP_eq (κ448 : F .f32) (L : Fin 3 → Redo) (k : Prog (TpuEff nD τ sig (Elt F) Λ .tc) α) : E.redoP κ448 L k = E.redo κ448 L k := by
  unfold redoP redo
  rw [redo1_bind, redo1_bind]
  rfl

/-- The kernel from its last tile's products on, as printed. -/
def tailP (κ448 : F .f32) (L : Fin 3 → Redo) (k : Prog (TpuEff nD τ sig (Elt F) Λ .tc) α) (mx : Mxu F) : Prog (TpuEff nD τ sig (Elt F) Λ .tc) α :=
  E.back κ448 47 (by decide) mx fun mx => E.lastRound κ448 mx fun mx =>
    E.finish κ448 <| E.waits <| E.redoP κ448 L <| .op (.assume mx.Drained) fun _ => k

theorem tailP_eq (κ448 : F .f32) (L : Fin 3 → Redo) (k : Prog (TpuEff nD τ sig (Elt F) Λ .tc) α) (mx : Mxu F) :
    E.tailP κ448 L k mx = E.back κ448 47 (by decide) mx fun mx => E.lastRound κ448 mx fun mx =>
      E.finish κ448 <| E.waits <| E.redoP κ448 L <| .op (.assume mx.Drained) fun _ => k := rfl

theorem units_zero (κ448 : F .f32) (u : ℕ) (h : u + 0 < 48) (mx : Mxu F) (k : Mxu F → Prog (TpuEff nD τ sig (Elt F) Λ .tc) α) :
    E.units κ448 0 u h mx k = k mx := rfl
theorem units_succ (κ448 : F .f32) (n u : ℕ) (h : u + (n + 1) < 48) (h0 : u < 48) (h1 : u + 1 < 48) (h2 : u + 1 + n < 48) (mx : Mxu F)
    (k : Mxu F → Prog (TpuEff nD τ sig (Elt F) Λ .tc) α) :
    E.units κ448 (n + 1) u h mx k = E.back κ448 u h0 mx fun mx => E.front (u + 1) h1 mx fun mx => E.units κ448 n (u + 1) h2 mx k := rfl

/-- The units from unit `u` on, from the first of them and the others. -/
theorem units_of (κ448 : F .f32) (n u v : ℕ) (hv : v = u + 1) (h : u + (n + 1) < 48) (h0 : u < 48) (h1 : v < 48) (h2 : v + n < 48) (mx : Mxu F)
    (k : Mxu F → Prog (TpuEff nD τ sig (Elt F) Λ .tc) α) {p : Prog (TpuEff nD τ sig (Elt F) Λ .tc) α} (T : Mxu F → Prog (TpuEff nD τ sig (Elt F) Λ .tc) α)
    (hp : p = E.back κ448 u h0 mx fun mx => E.front v h1 mx fun mx => T mx) (hT : ∀ mx, T mx = E.units κ448 n v h2 mx k) :
    p = E.units κ448 (n + 1) u h mx k := by
  subst hv
  obtain rfl : T = fun mx => E.units κ448 n (u + 1) h2 mx k := funext hT
  exact hp

theorem front_of (mx : Mxu F) {p : Prog (TpuEff nD τ sig (Elt F) Λ .tc) α} {T T' : Mxu F → Prog (TpuEff nD τ sig (Elt F) Λ .tc) α}
    (hp : p = E.front 0 (by decide) mx fun mx => T mx) (hT : ∀ mx, T mx = T' mx) : p = E.front 0 (by decide) mx fun mx => T' mx := by
  obtain rfl : T = T' := funext hT
  exact hp

theorem begin_of {p : Prog (TpuEff nD τ sig (Elt F) Λ .tc) α} {T T' : Mxu F → Prog (TpuEff nD τ sig (Elt F) Λ .tc) α}
    (hp : p = E.begin fun mx => T mx) (hT : ∀ mx, T mx = T' mx) : p = E.begin fun mx => T' mx := by
  obtain rfl : T = T' := funext hT
  exact hp

theorem programP (κ448 : F .f32) (L : Fin 3 → Redo) (k : Prog (TpuEff nD τ sig (Elt F) Λ .tc) α) :
    (E.begin fun mx => E.front 0 (by decide) mx fun mx => E.units κ448 47 0 (by decide) mx (E.tailP κ448 L k)) = E.program κ448 L fun _ => k := by
  have e : E.tailP κ448 L k = fun mx => E.back κ448 47 (by decide) mx fun mx => E.lastRound κ448 mx fun mx => E.ending κ448 L mx fun _ => k := by
    unfold tailP ending
    simp only [redoP_eq]
  rw [e]
  rfl

end Env

end Cert.Fp8
-- ==== Proof.BaseKernel.lean ====
/- The printed loops over tiles and the constant of the scale. -/
module

public import proofs.«01_k».proof.Proof.CutKernel
public import proofs.«01_k».proof.Proof.Again
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]

/-- The multiplier of the scale. -/
abbrev c448 : F .f32 := Scalar.ofBits .f32 0x3B124925#32

/-- The printed loop number 1 over tiles. -/
def loop1 : Cert.Fp8.Redo :=
  ⟨k0_t1_loop, Facts₀.k0_t1_ok, fun t r => k0_off1 t (BitVec.ofNat 32 (128 * r.val)), fun t r => Facts₀.k0_off1_inb t r, fun t r => Facts₀.k0_off1_packedfp8e4m3 t r,
    fun t => k0_off2 t, fun t => Facts₀.k0_off2_inb t, fun t => Facts₀.k0_off2_wordsfp8e4m3 t⟩

/-- The printed loop number 2 over tiles. -/
def loop2 : Cert.Fp8.Redo :=
  ⟨k0_t2_loop, Facts₀.k0_t2_ok, fun t r => k0_off3 t (BitVec.ofNat 32 (128 * r.val)), fun t r => Facts₀.k0_off3_inb t r, fun t r => Facts₀.k0_off3_packedfp8e4m3 t r,
    fun t => k0_off4 t, fun t => Facts₀.k0_off4_inb t, fun t => Facts₀.k0_off4_wordsfp8e4m3 t⟩

/-- The printed loop number 3 over tiles. -/
def loop3 : Cert.Fp8.Redo :=
  ⟨k0_t3_loop, Facts₀.k0_t3_ok, fun t r => k0_off5 t (BitVec.ofNat 32 (128 * r.val)), fun t r => Facts₀.k0_off5_inb t r, fun t r => Facts₀.k0_off5_packedfp8e4m3 t r,
    fun t => k0_off6 t, fun t => Facts₀.k0_off6_inb t, fun t => Facts₀.k0_off6_wordsfp8e4m3 t⟩
def loops : Fin 3 → Cert.Fp8.Redo := ![loop1, loop2, loop3]

end Cert.Kernel
-- ==== Proof.Seg4Kernel.lean ====
/- Stretches of the printed kernel, each as the steps of the kernel's own program. -/
module

public import proofs.«01_k».proof.Proof.BaseKernel
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]
/- Part 215 from its first push of a tile on. -/
cut_chain p36_ := k0_part215 at 5
/- Part 220 from its first push of a tile on. -/
cut_chain p37_ := k0_part220 at 11
/- Part 225 from its first push of a tile on. -/
cut_chain p38_ := k0_part225 at 16
/- Part 232 from its first push of a tile on. -/
cut_chain p39_ := k0_part232 at 12
/- Part 237 from its first push of a tile on. -/
cut_chain p40_ := k0_part237 at 18
/- Part 243 from its first push of a tile on. -/
cut_chain p41_ := k0_part243 at 6
/- Part 248 from its first push of a tile on. -/
cut_chain p42_ := k0_part248 at 12
/- Part 253 from its first push of a tile on. -/
cut_chain p43_ := k0_part253 at 18
/- Part 259 from its first push of a tile on. -/
cut_chain p44_ := k0_part259 at 4
/- Part 264 from its first push of a tile on. -/
cut_chain p45_ := k0_part264 at 9
/- Part 269 from its first push of a tile on. -/
cut_chain p46_ := k0_part269 at 15
/- Part 274 from its first push of a tile on. -/
cut_chain p47_ := k0_part274 at 21

theorem seg47 {R : Type} (E : Cert.Fp8.Env sig) (mx : Mxu F) (κ : Idealize.SL.Sem.Prog (TpuEff nD τ sig (Elt F) Λ₀ .tc) R) :
    (p47_1.tail E.a11 mx >>= fun st => c49 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 46 (by decide) mx fun mx => E.front 47 (by decide) mx fun mx => E.tailP c448 loops κ mx := rfl
theorem run47 (E : Cert.Fp8.Env sig) (mx : Mxu F) :
    (p47_1.tail E.a11 mx >>= fun st => c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (0 + 1) 46 (by decide) mx (E.tailP c448 loops c49.tail) :=
  E.units_of c448 0 46 47 rfl (by decide) (by decide) (by decide) (by decide) mx (E.tailP c448 loops c49.tail) (E.tailP c448 loops c49.tail)
    ((congrArg ((p47_1.tail E.a11 mx) >>= ·) (funext fun st => c49.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg47 E mx c49.tail))
    fun mx => (E.units_zero c448 47 (by decide) mx (E.tailP c448 loops c49.tail)).symm

theorem seg46 {R : Type} (E : Cert.Fp8.Env sig) (mx : Mxu F) (κ : (Mxu F) → (Vec F S256x256 .bf16) → Idealize.SL.Sem.Prog (TpuEff nD τ sig (Elt F) Λ₀ .tc) R) :
    (p46_1.tail E.a3 E.h3 E.a11 E.a15 E.h15 E.s28 mx >>= fun st => c48 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 45 (by decide) mx fun mx => E.front 46 (by decide) mx fun mx => (p47_1.tail E.a11 mx >>= fun st => κ st.1 st.2) := rfl
theorem run46 (E : Cert.Fp8.Env sig) (mx : Mxu F) :
    (p46_1.tail E.a3 E.h3 E.a11 E.a15 E.h15 E.s28 mx >>= fun st => c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (1 + 1) 45 (by decide) mx (E.tailP c448 loops c49.tail) :=
  E.units_of c448 1 45 46 rfl (by decide) (by decide) (by decide) (by decide) mx (E.tailP c448 loops c49.tail)
    (fun mx => (p47_1.tail E.a11 mx >>= fun st => c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p46_1.tail E.a3 E.h3 E.a11 E.a15 E.h15 E.s28 mx) >>= ·) (funext fun st => c48.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg46 E mx (c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run47 E mx

theorem seg45 {R : Type} (E : Cert.Fp8.Env sig) (mx : Mxu F) (κ : (Mxu F) → Idealize.SL.Sem.Prog (TpuEff nD τ sig (Elt F) Λ₀ .tc) R) :
    (p45_1.tail E.a3 E.h3 E.a10 E.a11 E.a14 E.a15 E.h15 E.a16 E.s28 mx >>= fun st => c47 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 44 (by decide) mx fun mx => E.front 45 (by decide) mx fun mx => (p46_1.tail E.a3 E.h3 E.a11 E.a15 E.h15 E.s28 mx >>= fun st => κ st) := rfl
theorem run45 (E : Cert.Fp8.Env sig) (mx : Mxu F) :
    (p45_1.tail E.a3 E.h3 E.a10 E.a11 E.a14 E.a15 E.h15 E.a16 E.s28 mx >>= fun st => c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (2 + 1) 44 (by decide) mx (E.tailP c448 loops c49.tail) :=
  E.units_of c448 2 44 45 rfl (by decide) (by decide) (by decide) (by decide) mx (E.tailP c448 loops c49.tail)
    (fun mx => (p46_1.tail E.a3 E.h3 E.a11 E.a15 E.h15 E.s28 mx >>= fun st => c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p45_1.tail E.a3 E.h3 E.a10 E.a11 E.a14 E.a15 E.h15 E.a16 E.s28 mx) >>= ·) (funext fun st => c47.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg45 E mx (c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run46 E mx

theorem seg44 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p44_1.tail E.a3 E.h3 E.a10 E.a11 E.a14 E.a15 E.h15 E.a16 E.s28 mx >>= fun st => c46 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 43 (by decide) mx fun mx => E.front 44 (by decide) mx fun mx => (p45_1.tail E.a3 E.h3 E.a10 E.a11 E.a14 E.a15 E.h15 E.a16 E.s28 mx >>= fun st => κ st.1 st.2.1 st.2.2.1 st.2.2.2) := rfl
theorem run44 (E : Cert.Fp8.Env sig) (mx : Mxu F) :
    (p44_1.tail E.a3 E.h3 E.a10 E.a11 E.a14 E.a15 E.h15 E.a16 E.s28 mx >>= fun st => c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (3 + 1) 43 (by decide) mx (E.tailP c448 loops c49.tail) :=
  E.units_of c448 3 43 44 rfl (by decide) (by decide) (by decide) (by decide) mx (E.tailP c448 loops c49.tail)
    (fun mx => (p45_1.tail E.a3 E.h3 E.a10 E.a11 E.a14 E.a15 E.h15 E.a16 E.s28 mx >>= fun st => c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p44_1.tail E.a3 E.h3 E.a10 E.a11 E.a14 E.a15 E.h15 E.a16 E.s28 mx) >>= ·) (funext fun st => c46.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg44 E mx (c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run45 E mx

theorem seg43 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p43_1.tail E.a3 E.a11 mx >>= fun st => c45 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 42 (by decide) mx fun mx => E.front 43 (by decide) mx fun mx => (p44_1.tail E.a3 E.h3 E.a10 E.a11 E.a14 E.a15 E.h15 E.a16 E.s28 mx >>= fun st => κ st.1 st.2.1 st.2.2) := rfl
theorem run43 (E : Cert.Fp8.Env sig) (mx : Mxu F) :
    (p43_1.tail E.a3 E.a11 mx >>= fun st => c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (4 + 1) 42 (by decide) mx (E.tailP c448 loops c49.tail) :=
  E.units_of c448 4 42 43 rfl (by decide) (by decide) (by decide) (by decide) mx (E.tailP c448 loops c49.tail)
    (fun mx => (p44_1.tail E.a3 E.h3 E.a10 E.a11 E.a14 E.a15 E.h15 E.a16 E.s28 mx >>= fun st => c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p43_1.tail E.a3 E.a11 mx) >>= ·) (funext fun st => c45.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg43 E mx (c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run44 E mx

theorem seg42 {R : Type} (E : Cert.Fp8.Env sig) (mx : Mxu F) (κ : (Mxu F) → Idealize.SL.Sem.Prog (TpuEff nD τ sig (Elt F) Λ₀ .tc) R) :
    (p42_1.tail E.a3 E.h3 E.a11 E.a15 E.h15 E.a16 E.s28 mx >>= fun st => c44 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 41 (by decide) mx fun mx => E.front 42 (by decide) mx fun mx => (p43_1.tail E.a3 E.a11 mx >>= fun st => κ st) := rfl
theorem run42 (E : Cert.Fp8.Env sig) (mx : Mxu F) :
    (p42_1.tail E.a3 E.h3 E.a11 E.a15 E.h15 E.a16 E.s28 mx >>= fun st => c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (5 + 1) 41 (by decide) mx (E.tailP c448 loops c49.tail) :=
  E.units_of c448 5 41 42 rfl (by decide) (by decide) (by decide) (by decide) mx (E.tailP c448 loops c49.tail)
    (fun mx => (p43_1.tail E.a3 E.a11 mx >>= fun st => c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p42_1.tail E.a3 E.h3 E.a11 E.a15 E.h15 E.a16 E.s28 mx) >>= ·) (funext fun st => c44.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg42 E mx (c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run43 E mx

theorem seg41 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p41_1.tail E.a3 E.h3 E.a10 E.a11 E.a14 E.a15 E.h15 E.a16 E.s28 mx >>= fun st => c43 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 40 (by decide) mx fun mx => E.front 41 (by decide) mx fun mx => (p42_1.tail E.a3 E.h3 E.a11 E.a15 E.h15 E.a16 E.s28 mx >>= fun st => κ st.1 st.2.1 st.2.2.1 st.2.2.2) := rfl
theorem run41 (E : Cert.Fp8.Env sig) (mx : Mxu F) :
    (p41_1.tail E.a3 E.h3 E.a10 E.a11 E.a14 E.a15 E.h15 E.a16 E.s28 mx >>= fun st => c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (6 + 1) 40 (by decide) mx (E.tailP c448 loops c49.tail) :=
  E.units_of c448 6 40 41 rfl (by decide) (by decide) (by decide) (by decide) mx (E.tailP c448 loops c49.tail)
    (fun mx => (p42_1.tail E.a3 E.h3 E.a11 E.a15 E.h15 E.a16 E.s28 mx >>= fun st => c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p41_1.tail E.a3 E.h3 E.a10 E.a11 E.a14 E.a15 E.h15 E.a16 E.s28 mx) >>= ·) (funext fun st => c43.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg41 E mx (c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run42 E mx

theorem seg40 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p40_1.tail E.a3 E.a11 mx >>= fun st => c42 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 39 (by decide) mx fun mx => E.front 40 (by decide) mx fun mx => (p41_1.tail E.a3 E.h3 E.a10 E.a11 E.a14 E.a15 E.h15 E.a16 E.s28 mx >>= fun st => κ st.1 st.2.1 st.2.2) := rfl
theorem run40 (E : Cert.Fp8.Env sig) (mx : Mxu F) :
    (p40_1.tail E.a3 E.a11 mx >>= fun st => c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (7 + 1) 39 (by decide) mx (E.tailP c448 loops c49.tail) :=
  E.units_of c448 7 39 40 rfl (by decide) (by decide) (by decide) (by decide) mx (E.tailP c448 loops c49.tail)
    (fun mx => (p41_1.tail E.a3 E.h3 E.a10 E.a11 E.a14 E.a15 E.h15 E.a16 E.s28 mx >>= fun st => c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p40_1.tail E.a3 E.a11 mx) >>= ·) (funext fun st => c42.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg40 E mx (c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run41 E mx

theorem seg39 {R : Type} (E : Cert.Fp8.Env sig) (mx : Mxu F) (κ : (Mxu F) → Idealize.SL.Sem.Prog (TpuEff nD τ sig (Elt F) Λ₀ .tc) R) :
    (p39_1.tail E.a3 E.h3 E.a11 E.a15 E.h15 E.a16 E.s28 mx >>= fun st => c41 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 38 (by decide) mx fun mx => E.front 39 (by decide) mx fun mx => (p40_1.tail E.a3 E.a11 mx >>= fun st => κ st) := rfl
theorem run39 (E : Cert.Fp8.Env sig) (mx : Mxu F) :
    (p39_1.tail E.a3 E.h3 E.a11 E.a15 E.h15 E.a16 E.s28 mx >>= fun st => c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (8 + 1) 38 (by decide) mx (E.tailP c448 loops c49.tail) :=
  E.units_of c448 8 38 39 rfl (by decide) (by decide) (by decide) (by decide) mx (E.tailP c448 loops c49.tail)
    (fun mx => (p40_1.tail E.a3 E.a11 mx >>= fun st => c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p39_1.tail E.a3 E.h3 E.a11 E.a15 E.h15 E.a16 E.s28 mx) >>= ·) (funext fun st => c41.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg39 E mx (c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run40 E mx

theorem seg38 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p38_1.tail E.a3 E.h3 E.a11 E.a15 E.h15 E.s28 mx >>= fun st => c40 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 37 (by decide) mx fun mx => E.front 38 (by decide) mx fun mx => (p39_1.tail E.a3 E.h3 E.a11 E.a15 E.h15 E.a16 E.s28 mx >>= fun st => κ st.1 st.2.1 st.2.2.1 st.2.2.2) := rfl
theorem run38 (E : Cert.Fp8.Env sig) (mx : Mxu F) :
    (p38_1.tail E.a3 E.h3 E.a11 E.a15 E.h15 E.s28 mx >>= fun st => c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (9 + 1) 37 (by decide) mx (E.tailP c448 loops c49.tail) :=
  E.units_of c448 9 37 38 rfl (by decide) (by decide) (by decide) (by decide) mx (E.tailP c448 loops c49.tail)
    (fun mx => (p39_1.tail E.a3 E.h3 E.a11 E.a15 E.h15 E.a16 E.s28 mx >>= fun st => c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p38_1.tail E.a3 E.h3 E.a11 E.a15 E.h15 E.s28 mx) >>= ·) (funext fun st => c40.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg38 E mx (c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run39 E mx

theorem seg37 {R : Type} (E : Cert.Fp8.Env sig) (mx : Mxu F) (κ : (Mxu F) → Idealize.SL.Sem.Prog (TpuEff nD τ sig (Elt F) Λ₀ .tc) R) :
    (p37_1.tail E.a3 E.h3 E.a10 E.a11 E.a15 E.h15 E.a16 E.s28 mx >>= fun st => c39 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 36 (by decide) mx fun mx => E.front 37 (by decide) mx fun mx => (p38_1.tail E.a3 E.h3 E.a11 E.a15 E.h15 E.s28 mx >>= fun st => κ st) := rfl
theorem run37 (E : Cert.Fp8.Env sig) (mx : Mxu F) :
    (p37_1.tail E.a3 E.h3 E.a10 E.a11 E.a15 E.h15 E.a16 E.s28 mx >>= fun st => c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (10 + 1) 36 (by decide) mx (E.tailP c448 loops c49.tail) :=
  E.units_of c448 10 36 37 rfl (by decide) (by decide) (by decide) (by decide) mx (E.tailP c448 loops c49.tail)
    (fun mx => (p38_1.tail E.a3 E.h3 E.a11 E.a15 E.h15 E.s28 mx >>= fun st => c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p37_1.tail E.a3 E.h3 E.a10 E.a11 E.a15 E.h15 E.a16 E.s28 mx) >>= ·) (funext fun st => c39.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg37 E mx (c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run38 E mx

theorem seg36 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p36_1.tail E.a3 E.h3 E.a10 E.a11 E.a14 E.a15 E.h15 E.a16 E.s28 mx >>= fun st => c38 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 35 (by decide) mx fun mx => E.front 36 (by decide) mx fun mx => (p37_1.tail E.a3 E.h3 E.a10 E.a11 E.a15 E.h15 E.a16 E.s28 mx >>= fun st => κ st.1 st.2.1 st.2.2.1 st.2.2.2) := rfl
theorem run36 (E : Cert.Fp8.Env sig) (mx : Mxu F) :
    (p36_1.tail E.a3 E.h3 E.a10 E.a11 E.a14 E.a15 E.h15 E.a16 E.s28 mx >>= fun st => c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (11 + 1) 35 (by decide) mx (E.tailP c448 loops c49.tail) :=
  E.units_of c448 11 35 36 rfl (by decide) (by decide) (by decide) (by decide) mx (E.tailP c448 loops c49.tail)
    (fun mx => (p37_1.tail E.a3 E.h3 E.a10 E.a11 E.a15 E.h15 E.a16 E.s28 mx >>= fun st => c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p36_1.tail E.a3 E.h3 E.a10 E.a11 E.a14 E.a15 E.h15 E.a16 E.s28 mx) >>= ·) (funext fun st => c38.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg36 E mx (c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run37 E mx

end Cert.Kernel
-- ==== Proof.Seg3Kernel.lean ====
/- Stretches of the printed kernel, each as the steps of the kernel's own program. -/
module

public import proofs.«01_k».proof.Proof.Seg4Kernel
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]
/- Part 154 from its first push of a tile on. -/
cut_chain p24_ := k0_part154 at 3
/- Part 156 from its first push of a tile on. -/
cut_chain p25_ := k0_part156 at 14
/- Part 159 from its first push of a tile on. -/
cut_chain p26_ := k0_part159 at 5
/- Part 165 from its first push of a tile on. -/
cut_chain p27_ := k0_part165 at 17
/- Part 171 from its first push of a tile on. -/
cut_chain p28_ := k0_part171 at 2
/- Part 176 from its first push of a tile on. -/
cut_chain p29_ := k0_part176 at 11
/- Part 181 from its first push of a tile on. -/
cut_chain p30_ := k0_part181 at 17
/- Part 187 from its first push of a tile on. -/
cut_chain p31_ := k0_part187 at 3
/- Part 192 from its first push of a tile on. -/
cut_chain p32_ := k0_part192 at 8
/- Part 199 from its first push of a tile on. -/
cut_chain p33_ := k0_part199 at 5
/- Part 204 from its first push of a tile on. -/
cut_chain p34_ := k0_part204 at 10
/- Part 209 from its first push of a tile on. -/
cut_chain p35_ := k0_part209 at 19

theorem seg35 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p35_1.tail E.a11 mx >>= fun st => c37 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 34 (by decide) mx fun mx => E.front 35 (by decide) mx fun mx => (p36_1.tail E.a3 E.h3 E.a10 E.a11 E.a14 E.a15 E.h15 E.a16 E.s28 mx >>= fun st => κ st.1 st.2.1 st.2.2) := rfl
theorem run35 (E : Cert.Fp8.Env sig) (mx : Mxu F) :
    (p35_1.tail E.a11 mx >>= fun st => c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (12 + 1) 34 (by decide) mx (E.tailP c448 loops c49.tail) :=
  E.units_of c448 12 34 35 rfl (by decide) (by decide) (by decide) (by decide) mx (E.tailP c448 loops c49.tail)
    (fun mx => (p36_1.tail E.a3 E.h3 E.a10 E.a11 E.a14 E.a15 E.h15 E.a16 E.s28 mx >>= fun st => c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p35_1.tail E.a11 mx) >>= ·) (funext fun st => c37.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg35 E mx (c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run36 E mx

theorem seg34 {R : Type} (E : Cert.Fp8.Env sig) (mx : Mxu F) (κ : (Mxu F) → Idealize.SL.Sem.Prog (TpuEff nD τ sig (Elt F) Λ₀ .tc) R) :
    (p34_1.tail E.a3 E.h3 E.a10 E.a11 E.a15 E.h15 E.a16 E.s28 mx >>= fun st => c36 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 33 (by decide) mx fun mx => E.front 34 (by decide) mx fun mx => (p35_1.tail E.a11 mx >>= fun st => κ st) := rfl
theorem run34 (E : Cert.Fp8.Env sig) (mx : Mxu F) :
    (p34_1.tail E.a3 E.h3 E.a10 E.a11 E.a15 E.h15 E.a16 E.s28 mx >>= fun st => c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (13 + 1) 33 (by decide) mx (E.tailP c448 loops c49.tail) :=
  E.units_of c448 13 33 34 rfl (by decide) (by decide) (by decide) (by decide) mx (E.tailP c448 loops c49.tail)
    (fun mx => (p35_1.tail E.a11 mx >>= fun st => c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p34_1.tail E.a3 E.h3 E.a10 E.a11 E.a15 E.h15 E.a16 E.s28 mx) >>= ·) (funext fun st => c36.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg34 E mx (c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run35 E mx

theorem seg33 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p33_1.tail E.a3 E.h3 E.a10 E.a11 E.a14 E.a15 E.h15 E.a16 E.s28 mx >>= fun st => c35 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 32 (by decide) mx fun mx => E.front 33 (by decide) mx fun mx => (p34_1.tail E.a3 E.h3 E.a10 E.a11 E.a15 E.h15 E.a16 E.s28 mx >>= fun st => κ st.1 st.2.1 st.2.2.1 st.2.2.2) := rfl
theorem run33 (E : Cert.Fp8.Env sig) (mx : Mxu F) :
    (p33_1.tail E.a3 E.h3 E.a10 E.a11 E.a14 E.a15 E.h15 E.a16 E.s28 mx >>= fun st => c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (14 + 1) 32 (by decide) mx (E.tailP c448 loops c49.tail) :=
  E.units_of c448 14 32 33 rfl (by decide) (by decide) (by decide) (by decide) mx (E.tailP c448 loops c49.tail)
    (fun mx => (p34_1.tail E.a3 E.h3 E.a10 E.a11 E.a15 E.h15 E.a16 E.s28 mx >>= fun st => c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p33_1.tail E.a3 E.h3 E.a10 E.a11 E.a14 E.a15 E.h15 E.a16 E.s28 mx) >>= ·) (funext fun st => c35.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg33 E mx (c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run34 E mx

theorem seg32 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p32_1.tail E.a3 E.h3 E.a10 E.a11 E.a14 E.a15 E.h15 E.a16 E.s28 mx >>= fun st => c34 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 31 (by decide) mx fun mx => E.front 32 (by decide) mx fun mx => (p33_1.tail E.a3 E.h3 E.a10 E.a11 E.a14 E.a15 E.h15 E.a16 E.s28 mx >>= fun st => κ st.1 st.2.1 st.2.2) := rfl
theorem run32 (E : Cert.Fp8.Env sig) (mx : Mxu F) :
    (p32_1.tail E.a3 E.h3 E.a10 E.a11 E.a14 E.a15 E.h15 E.a16 E.s28 mx >>= fun st => c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (15 + 1) 31 (by decide) mx (E.tailP c448 loops c49.tail) :=
  E.units_of c448 15 31 32 rfl (by decide) (by decide) (by decide) (by decide) mx (E.tailP c448 loops c49.tail)
    (fun mx => (p33_1.tail E.a3 E.h3 E.a10 E.a11 E.a14 E.a15 E.h15 E.a16 E.s28 mx >>= fun st => c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p32_1.tail E.a3 E.h3 E.a10 E.a11 E.a14 E.a15 E.h15 E.a16 E.s28 mx) >>= ·) (funext fun st => c34.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg32 E mx (c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run33 E mx

theorem seg31 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p31_1.tail E.a3 E.h3 E.a10 E.a11 E.a14 E.a15 E.h15 E.a16 E.s28 mx >>= fun st => c33 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 30 (by decide) mx fun mx => E.front 31 (by decide) mx fun mx => (p32_1.tail E.a3 E.h3 E.a10 E.a11 E.a14 E.a15 E.h15 E.a16 E.s28 mx >>= fun st => κ st.1 st.2.1 st.2.2.1 st.2.2.2) := rfl
theorem run31 (E : Cert.Fp8.Env sig) (mx : Mxu F) :
    (p31_1.tail E.a3 E.h3 E.a10 E.a11 E.a14 E.a15 E.h15 E.a16 E.s28 mx >>= fun st => c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (16 + 1) 30 (by decide) mx (E.tailP c448 loops c49.tail) :=
  E.units_of c448 16 30 31 rfl (by decide) (by decide) (by decide) (by decide) mx (E.tailP c448 loops c49.tail)
    (fun mx => (p32_1.tail E.a3 E.h3 E.a10 E.a11 E.a14 E.a15 E.h15 E.a16 E.s28 mx >>= fun st => c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p31_1.tail E.a3 E.h3 E.a10 E.a11 E.a14 E.a15 E.h15 E.a16 E.s28 mx) >>= ·) (funext fun st => c33.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg31 E mx (c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run32 E mx

theorem seg30 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p30_1.tail E.a3 E.a11 E.a15 mx >>= fun st => c32 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 29 (by decide) mx fun mx => E.front 30 (by decide) mx fun mx => (p31_1.tail E.a3 E.h3 E.a10 E.a11 E.a14 E.a15 E.h15 E.a16 E.s28 mx >>= fun st => κ st.1 st.2.1 st.2.2) := rfl
theorem run30 (E : Cert.Fp8.Env sig) (mx : Mxu F) :
    (p30_1.tail E.a3 E.a11 E.a15 mx >>= fun st => c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (17 + 1) 29 (by decide) mx (E.tailP c448 loops c49.tail) :=
  E.units_of c448 17 29 30 rfl (by decide) (by decide) (by decide) (by decide) mx (E.tailP c448 loops c49.tail)
    (fun mx => (p31_1.tail E.a3 E.h3 E.a10 E.a11 E.a14 E.a15 E.h15 E.a16 E.s28 mx >>= fun st => c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p30_1.tail E.a3 E.a11 E.a15 mx) >>= ·) (funext fun st => c32.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg30 E mx (c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run31 E mx

theorem seg29 {R : Type} (E : Cert.Fp8.Env sig) (mx : Mxu F) (κ : (Mxu F) → Idealize.SL.Sem.Prog (TpuEff nD τ sig (Elt F) Λ₀ .tc) R) :
    (p29_1.tail E.a3 E.h3 E.a10 E.a11 E.a15 E.h15 E.a16 E.s28 mx >>= fun st => c31 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 28 (by decide) mx fun mx => E.front 29 (by decide) mx fun mx => (p30_1.tail E.a3 E.a11 E.a15 mx >>= fun st => κ st) := rfl
theorem run29 (E : Cert.Fp8.Env sig) (mx : Mxu F) :
    (p29_1.tail E.a3 E.h3 E.a10 E.a11 E.a15 E.h15 E.a16 E.s28 mx >>= fun st => c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (18 + 1) 28 (by decide) mx (E.tailP c448 loops c49.tail) :=
  E.units_of c448 18 28 29 rfl (by decide) (by decide) (by decide) (by decide) mx (E.tailP c448 loops c49.tail)
    (fun mx => (p30_1.tail E.a3 E.a11 E.a15 mx >>= fun st => c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p29_1.tail E.a3 E.h3 E.a10 E.a11 E.a15 E.h15 E.a16 E.s28 mx) >>= ·) (funext fun st => c31.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg29 E mx (c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run30 E mx

theorem seg28 {R : Type} (E : Cert.Fp8.Env sig) (mx : Mxu F) (κ : (Vec F S8x128 .f32) → (FVec F S256x256 .f32) → (Mxu F) → (FVec F S256x128 .f32) → (Vec F S1x128 .f32) → Idealize.SL.Sem.Prog (TpuEff nD τ sig (Elt F) Λ₀ .tc) R) :
    (p28_1.tail E.a3 E.h3 E.a10 E.a11 E.a14 E.a15 E.h15 E.a16 E.s28 mx >>= fun st => c30 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 27 (by decide) mx fun mx => E.front 28 (by decide) mx fun mx => (p29_1.tail E.a3 E.h3 E.a10 E.a11 E.a15 E.h15 E.a16 E.s28 mx >>= fun st => κ st.1 st.2.1 st.2.2.1 st.2.2.2.1 st.2.2.2.2) := rfl
theorem run28 (E : Cert.Fp8.Env sig) (mx : Mxu F) :
    (p28_1.tail E.a3 E.h3 E.a10 E.a11 E.a14 E.a15 E.h15 E.a16 E.s28 mx >>= fun st => c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (19 + 1) 27 (by decide) mx (E.tailP c448 loops c49.tail) :=
  E.units_of c448 19 27 28 rfl (by decide) (by decide) (by decide) (by decide) mx (E.tailP c448 loops c49.tail)
    (fun mx => (p29_1.tail E.a3 E.h3 E.a10 E.a11 E.a15 E.h15 E.a16 E.s28 mx >>= fun st => c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p28_1.tail E.a3 E.h3 E.a10 E.a11 E.a14 E.a15 E.h15 E.a16 E.s28 mx) >>= ·) (funext fun st => c30.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg28 E mx (c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run29 E mx

theorem seg27 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p27_1.tail E.a3 E.h3 E.a11 E.a15 E.h15 E.s28 mx >>= fun st => c29 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 26 (by decide) mx fun mx => E.front 27 (by decide) mx fun mx => (p28_1.tail E.a3 E.h3 E.a10 E.a11 E.a14 E.a15 E.h15 E.a16 E.s28 mx >>= fun st => κ st.1 st.2.1 st.2.2) := rfl
theorem run27 (E : Cert.Fp8.Env sig) (mx : Mxu F) :
    (p27_1.tail E.a3 E.h3 E.a11 E.a15 E.h15 E.s28 mx >>= fun st => c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (20 + 1) 26 (by decide) mx (E.tailP c448 loops c49.tail) :=
  E.units_of c448 20 26 27 rfl (by decide) (by decide) (by decide) (by decide) mx (E.tailP c448 loops c49.tail)
    (fun mx => (p28_1.tail E.a3 E.h3 E.a10 E.a11 E.a14 E.a15 E.h15 E.a16 E.s28 mx >>= fun st => c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p27_1.tail E.a3 E.h3 E.a11 E.a15 E.h15 E.s28 mx) >>= ·) (funext fun st => c29.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg27 E mx (c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run28 E mx

theorem seg26 {R : Type} (E : Cert.Fp8.Env sig) (mx : Mxu F) (κ : (Mxu F) → Idealize.SL.Sem.Prog (TpuEff nD τ sig (Elt F) Λ₀ .tc) R) :
    (p26_1.tail E.a10 E.a11 E.a14 E.a16 mx >>= fun st => c28 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 25 (by decide) mx fun mx => E.front 26 (by decide) mx fun mx => (p27_1.tail E.a3 E.h3 E.a11 E.a15 E.h15 E.s28 mx >>= fun st => κ st) := rfl
theorem run26 (E : Cert.Fp8.Env sig) (mx : Mxu F) :
    (p26_1.tail E.a10 E.a11 E.a14 E.a16 mx >>= fun st => c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (21 + 1) 25 (by decide) mx (E.tailP c448 loops c49.tail) :=
  E.units_of c448 21 25 26 rfl (by decide) (by decide) (by decide) (by decide) mx (E.tailP c448 loops c49.tail)
    (fun mx => (p27_1.tail E.a3 E.h3 E.a11 E.a15 E.h15 E.s28 mx >>= fun st => c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p26_1.tail E.a10 E.a11 E.a14 E.a16 mx) >>= ·) (funext fun st => c28.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg26 E mx (c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run27 E mx

theorem seg25 {R : Type} (E : Cert.Fp8.Env sig) (mx : Mxu F) (κ : (FVec F S8x128 .f32) → (FVec F S256x256 .f32) → (Mxu F) → Idealize.SL.Sem.Prog (TpuEff nD τ sig (Elt F) Λ₀ .tc) R) :
    (p25_1.tail E.a10 E.a11 E.a14 E.a16 mx >>= fun st => c27 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 24 (by decide) mx fun mx => E.front 25 (by decide) mx fun mx => (p26_1.tail E.a10 E.a11 E.a14 E.a16 mx >>= fun st => κ st.1 st.2.1 st.2.2) := rfl
theorem run25 (E : Cert.Fp8.Env sig) (mx : Mxu F) :
    (p25_1.tail E.a10 E.a11 E.a14 E.a16 mx >>= fun st => c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (22 + 1) 24 (by decide) mx (E.tailP c448 loops c49.tail) :=
  E.units_of c448 22 24 25 rfl (by decide) (by decide) (by decide) (by decide) mx (E.tailP c448 loops c49.tail)
    (fun mx => (p26_1.tail E.a10 E.a11 E.a14 E.a16 mx >>= fun st => c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p25_1.tail E.a10 E.a11 E.a14 E.a16 mx) >>= ·) (funext fun st => c27.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg25 E mx (c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run26 E mx

theorem seg24 {R : Type} (E : Cert.Fp8.Env sig) (mx : Mxu F) (κ : (Vec F S8x128 .f32) → (FVec F S256x256 .f32) → (Mxu F) → (FVec F S256x128 .f32) → (Vec F S256x128 .f32) → Idealize.SL.Sem.Prog (TpuEff nD τ sig (Elt F) Λ₀ .tc) R) :
    (p24_1.tail E.a10 E.a11 E.a14 E.a16 mx >>= fun st => c26 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 23 (by decide) mx fun mx => E.front 24 (by decide) mx fun mx => (p25_1.tail E.a10 E.a11 E.a14 E.a16 mx >>= fun st => κ st.1 st.2.1 st.2.2.1 st.2.2.2.1 st.2.2.2.2) := rfl
theorem run24 (E : Cert.Fp8.Env sig) (mx : Mxu F) :
    (p24_1.tail E.a10 E.a11 E.a14 E.a16 mx >>= fun st => c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (23 + 1) 23 (by decide) mx (E.tailP c448 loops c49.tail) :=
  E.units_of c448 23 23 24 rfl (by decide) (by decide) (by decide) (by decide) mx (E.tailP c448 loops c49.tail)
    (fun mx => (p25_1.tail E.a10 E.a11 E.a14 E.a16 mx >>= fun st => c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p24_1.tail E.a10 E.a11 E.a14 E.a16 mx) >>= ·) (funext fun st => c26.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg24 E mx (c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run25 E mx

end Cert.Kernel
-- ==== Proof.Seg2Kernel.lean ====
/- Stretches of the printed kernel, each as the steps of the kernel's own program. -/
module

public import proofs.«01_k».proof.Proof.Seg3Kernel
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]
/- Part 123 from its first push of a tile on. -/
cut_chain p12_ := k0_part123 at 5
/- Part 125 from its first push of a tile on. -/
cut_chain p13_ := k0_part125 at 16
/- Part 128 from its first push of a tile on. -/
cut_chain p14_ := k0_part128 at 6
/- Part 130 from its first push of a tile on. -/
cut_chain p15_ := k0_part130 at 18
/- Part 133 from its first push of a tile on. -/
cut_chain p16_ := k0_part133 at 9
/- Part 136 from its first push of a tile on. -/
cut_chain p17_ := k0_part136 at 3
/- Part 138 from its first push of a tile on. -/
cut_chain p18_ := k0_part138 at 14
/- Part 141 from its first push of a tile on. -/
cut_chain p19_ := k0_part141 at 5
/- Part 143 from its first push of a tile on. -/
cut_chain p20_ := k0_part143 at 16
/- Part 146 from its first push of a tile on. -/
cut_chain p21_ := k0_part146 at 7
/- Part 148 from its first push of a tile on. -/
cut_chain p22_ := k0_part148 at 18
/- Part 151 from its first push of a tile on. -/
cut_chain p23_ := k0_part151 at 12

theorem seg23 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p23_1.tail E.a10 E.a11 E.a14 E.a16 mx >>= fun st => c25 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 22 (by decide) mx fun mx => E.front 23 (by decide) mx fun mx => (p24_1.tail E.a10 E.a11 E.a14 E.a16 mx >>= fun st => κ st.1 st.2.1 st.2.2.1 st.2.2.2) := rfl
theorem run23 (E : Cert.Fp8.Env sig) (mx : Mxu F) :
    (p23_1.tail E.a10 E.a11 E.a14 E.a16 mx >>= fun st => c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (24 + 1) 22 (by decide) mx (E.tailP c448 loops c49.tail) :=
  E.units_of c448 24 22 23 rfl (by decide) (by decide) (by decide) (by decide) mx (E.tailP c448 loops c49.tail)
    (fun mx => (p24_1.tail E.a10 E.a11 E.a14 E.a16 mx >>= fun st => c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p23_1.tail E.a10 E.a11 E.a14 E.a16 mx) >>= ·) (funext fun st => c25.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg23 E mx (c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run24 E mx

theorem seg22 {R : Type} (E : Cert.Fp8.Env sig) (mx : Mxu F) (κ : (Vec F S8x128 .f32) → (FVec F S256x256 .f32) → (Mxu F) → (FVec F S32x8x128 .f32) → Idealize.SL.Sem.Prog (TpuEff nD τ sig (Elt F) Λ₀ .tc) R) :
    (p22_1.tail E.a11 E.a16 mx >>= fun st => c24 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 21 (by decide) mx fun mx => E.front 22 (by decide) mx fun mx => (p23_1.tail E.a10 E.a11 E.a14 E.a16 mx >>= fun st => κ st.1 st.2.1 st.2.2.1 st.2.2.2) := rfl
theorem run22 (E : Cert.Fp8.Env sig) (mx : Mxu F) :
    (p22_1.tail E.a11 E.a16 mx >>= fun st => c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (25 + 1) 21 (by decide) mx (E.tailP c448 loops c49.tail) :=
  E.units_of c448 25 21 22 rfl (by decide) (by decide) (by decide) (by decide) mx (E.tailP c448 loops c49.tail)
    (fun mx => (p23_1.tail E.a10 E.a11 E.a14 E.a16 mx >>= fun st => c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p22_1.tail E.a11 E.a16 mx) >>= ·) (funext fun st => c24.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg22 E mx (c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run23 E mx

theorem seg21 {R : Type} (E : Cert.Fp8.Env sig) (mx : Mxu F) (κ : (Mxu F) → (Vec F S8x128 .f32) → Idealize.SL.Sem.Prog (TpuEff nD τ sig (Elt F) Λ₀ .tc) R) :
    (p21_1.tail E.a10 E.a11 E.a14 E.a16 mx >>= fun st => c23 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 20 (by decide) mx fun mx => E.front 21 (by decide) mx fun mx => (p22_1.tail E.a11 E.a16 mx >>= fun st => κ st.1 st.2) := rfl
theorem run21 (E : Cert.Fp8.Env sig) (mx : Mxu F) :
    (p21_1.tail E.a10 E.a11 E.a14 E.a16 mx >>= fun st => c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (26 + 1) 20 (by decide) mx (E.tailP c448 loops c49.tail) :=
  E.units_of c448 26 20 21 rfl (by decide) (by decide) (by decide) (by decide) mx (E.tailP c448 loops c49.tail)
    (fun mx => (p22_1.tail E.a11 E.a16 mx >>= fun st => c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p21_1.tail E.a10 E.a11 E.a14 E.a16 mx) >>= ·) (funext fun st => c23.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg21 E mx (c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run22 E mx

theorem seg20 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p20_1.tail E.a10 E.a11 E.a16 mx >>= fun st => c22 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 19 (by decide) mx fun mx => E.front 20 (by decide) mx fun mx => (p21_1.tail E.a10 E.a11 E.a14 E.a16 mx >>= fun st => κ st.1 st.2.1 st.2.2) := rfl
theorem run20 (E : Cert.Fp8.Env sig) (mx : Mxu F) :
    (p20_1.tail E.a10 E.a11 E.a16 mx >>= fun st => c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (27 + 1) 19 (by decide) mx (E.tailP c448 loops c49.tail) :=
  E.units_of c448 27 19 20 rfl (by decide) (by decide) (by decide) (by decide) mx (E.tailP c448 loops c49.tail)
    (fun mx => (p21_1.tail E.a10 E.a11 E.a14 E.a16 mx >>= fun st => c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p20_1.tail E.a10 E.a11 E.a16 mx) >>= ·) (funext fun st => c22.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg20 E mx (c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run21 E mx

theorem seg19 {R : Type} (E : Cert.Fp8.Env sig) (mx : Mxu F) (κ : (Vec F S8x128 .f32) → (FVec F S256x256 .f32) → (Mxu F) → (FVec F S256x128 .f32) → (Vec F S1x128 .f32) → Idealize.SL.Sem.Prog (TpuEff nD τ sig (Elt F) Λ₀ .tc) R) :
    (p19_1.tail E.a10 E.a11 E.a14 E.a16 mx >>= fun st => c21 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 18 (by decide) mx fun mx => E.front 19 (by decide) mx fun mx => (p20_1.tail E.a10 E.a11 E.a16 mx >>= fun st => κ st.1 st.2.1 st.2.2.1 st.2.2.2.1 st.2.2.2.2) := rfl
theorem run19 (E : Cert.Fp8.Env sig) (mx : Mxu F) :
    (p19_1.tail E.a10 E.a11 E.a14 E.a16 mx >>= fun st => c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (28 + 1) 18 (by decide) mx (E.tailP c448 loops c49.tail) :=
  E.units_of c448 28 18 19 rfl (by decide) (by decide) (by decide) (by decide) mx (E.tailP c448 loops c49.tail)
    (fun mx => (p20_1.tail E.a10 E.a11 E.a16 mx >>= fun st => c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p19_1.tail E.a10 E.a11 E.a14 E.a16 mx) >>= ·) (funext fun st => c21.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg19 E mx (c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run20 E mx

theorem seg18 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p18_1.tail E.a10 E.a11 E.a14 E.a16 mx >>= fun st => c20 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 17 (by decide) mx fun mx => E.front 18 (by decide) mx fun mx => (p19_1.tail E.a10 E.a11 E.a14 E.a16 mx >>= fun st => κ st.1 st.2.1 st.2.2.1 st.2.2.2) := rfl
theorem run18 (E : Cert.Fp8.Env sig) (mx : Mxu F) :
    (p18_1.tail E.a10 E.a11 E.a14 E.a16 mx >>= fun st => c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (29 + 1) 17 (by decide) mx (E.tailP c448 loops c49.tail) :=
  E.units_of c448 29 17 18 rfl (by decide) (by decide) (by decide) (by decide) mx (E.tailP c448 loops c49.tail)
    (fun mx => (p19_1.tail E.a10 E.a11 E.a14 E.a16 mx >>= fun st => c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p18_1.tail E.a10 E.a11 E.a14 E.a16 mx) >>= ·) (funext fun st => c20.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg18 E mx (c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run19 E mx

theorem seg17 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p17_1.tail E.a10 E.a11 E.a14 E.a16 mx >>= fun st => c19 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 16 (by decide) mx fun mx => E.front 17 (by decide) mx fun mx => (p18_1.tail E.a10 E.a11 E.a14 E.a16 mx >>= fun st => κ st.1 st.2.1 st.2.2.1 st.2.2.2) := rfl
theorem run17 (E : Cert.Fp8.Env sig) (mx : Mxu F) :
    (p17_1.tail E.a10 E.a11 E.a14 E.a16 mx >>= fun st => c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (30 + 1) 16 (by decide) mx (E.tailP c448 loops c49.tail) :=
  E.units_of c448 30 16 17 rfl (by decide) (by decide) (by decide) (by decide) mx (E.tailP c448 loops c49.tail)
    (fun mx => (p18_1.tail E.a10 E.a11 E.a14 E.a16 mx >>= fun st => c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p17_1.tail E.a10 E.a11 E.a14 E.a16 mx) >>= ·) (funext fun st => c19.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg17 E mx (c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run18 E mx

theorem seg16 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p16_1.tail E.a10 E.a11 E.a14 E.a16 mx >>= fun st => c18 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 15 (by decide) mx fun mx => E.front 16 (by decide) mx fun mx => (p17_1.tail E.a10 E.a11 E.a14 E.a16 mx >>= fun st => κ st.1 st.2.1 st.2.2.1 st.2.2.2) := rfl
theorem run16 (E : Cert.Fp8.Env sig) (mx : Mxu F) :
    (p16_1.tail E.a10 E.a11 E.a14 E.a16 mx >>= fun st => c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (31 + 1) 15 (by decide) mx (E.tailP c448 loops c49.tail) :=
  E.units_of c448 31 15 16 rfl (by decide) (by decide) (by decide) (by decide) mx (E.tailP c448 loops c49.tail)
    (fun mx => (p17_1.tail E.a10 E.a11 E.a14 E.a16 mx >>= fun st => c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p16_1.tail E.a10 E.a11 E.a14 E.a16 mx) >>= ·) (funext fun st => c18.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg16 E mx (c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run17 E mx

theorem seg15 {R : Type} (E : Cert.Fp8.Env sig) (mx : Mxu F) (κ : (Mxu F) → (FVec F S8x128 .f32) → (FVec F S256x128 .f32) → (Vec F S256x128 .f32) → Idealize.SL.Sem.Prog (TpuEff nD τ sig (Elt F) Λ₀ .tc) R) :
    (p15_1.tail E.a11 E.a16 mx >>= fun st => c17 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 14 (by decide) mx fun mx => E.front 15 (by decide) mx fun mx => (p16_1.tail E.a10 E.a11 E.a14 E.a16 mx >>= fun st => κ st.1 st.2.1 st.2.2.1 st.2.2.2) := rfl
theorem run15 (E : Cert.Fp8.Env sig) (mx : Mxu F) :
    (p15_1.tail E.a11 E.a16 mx >>= fun st => c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (32 + 1) 14 (by decide) mx (E.tailP c448 loops c49.tail) :=
  E.units_of c448 32 14 15 rfl (by decide) (by decide) (by decide) (by decide) mx (E.tailP c448 loops c49.tail)
    (fun mx => (p16_1.tail E.a10 E.a11 E.a14 E.a16 mx >>= fun st => c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p15_1.tail E.a11 E.a16 mx) >>= ·) (funext fun st => c17.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg15 E mx (c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run16 E mx

theorem seg14 {R : Type} (E : Cert.Fp8.Env sig) (mx : Mxu F) (κ : (Mxu F) → (Vec F S8x128 .f32) → (FVec F S256x256 .f32) → Idealize.SL.Sem.Prog (TpuEff nD τ sig (Elt F) Λ₀ .tc) R) :
    (p14_1.tail E.a10 E.a11 E.a14 E.a16 mx >>= fun st => c16 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 13 (by decide) mx fun mx => E.front 14 (by decide) mx fun mx => (p15_1.tail E.a11 E.a16 mx >>= fun st => κ st.1 st.2.1 st.2.2) := rfl
theorem run14 (E : Cert.Fp8.Env sig) (mx : Mxu F) :
    (p14_1.tail E.a10 E.a11 E.a14 E.a16 mx >>= fun st => c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (33 + 1) 13 (by decide) mx (E.tailP c448 loops c49.tail) :=
  E.units_of c448 33 13 14 rfl (by decide) (by decide) (by decide) (by decide) mx (E.tailP c448 loops c49.tail)
    (fun mx => (p15_1.tail E.a11 E.a16 mx >>= fun st => c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p14_1.tail E.a10 E.a11 E.a14 E.a16 mx) >>= ·) (funext fun st => c16.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg14 E mx (c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run15 E mx

theorem seg13 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p13_1.tail E.a10 E.a11 E.a16 mx >>= fun st => c15 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 12 (by decide) mx fun mx => E.front 13 (by decide) mx fun mx => (p14_1.tail E.a10 E.a11 E.a14 E.a16 mx >>= fun st => κ st.1 st.2.1 st.2.2) := rfl
theorem run13 (E : Cert.Fp8.Env sig) (mx : Mxu F) :
    (p13_1.tail E.a10 E.a11 E.a16 mx >>= fun st => c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (34 + 1) 12 (by decide) mx (E.tailP c448 loops c49.tail) :=
  E.units_of c448 34 12 13 rfl (by decide) (by decide) (by decide) (by decide) mx (E.tailP c448 loops c49.tail)
    (fun mx => (p14_1.tail E.a10 E.a11 E.a14 E.a16 mx >>= fun st => c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p13_1.tail E.a10 E.a11 E.a16 mx) >>= ·) (funext fun st => c15.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg13 E mx (c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run14 E mx

theorem seg12 {R : Type} (E : Cert.Fp8.Env sig) (mx : Mxu F) (κ : (Vec F S8x128 .f32) → (FVec F S256x256 .f32) → (Mxu F) → (FVec F S256x128 .f32) → (FVec F S256x128 .f32) → Idealize.SL.Sem.Prog (TpuEff nD τ sig (Elt F) Λ₀ .tc) R) :
    (p12_1.tail E.a10 E.a11 E.a14 E.a16 mx >>= fun st => c14 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 11 (by decide) mx fun mx => E.front 12 (by decide) mx fun mx => (p13_1.tail E.a10 E.a11 E.a16 mx >>= fun st => κ st.1 st.2.1 st.2.2.1 st.2.2.2.1 st.2.2.2.2) := rfl
theorem run12 (E : Cert.Fp8.Env sig) (mx : Mxu F) :
    (p12_1.tail E.a10 E.a11 E.a14 E.a16 mx >>= fun st => c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (35 + 1) 11 (by decide) mx (E.tailP c448 loops c49.tail) :=
  E.units_of c448 35 11 12 rfl (by decide) (by decide) (by decide) (by decide) mx (E.tailP c448 loops c49.tail)
    (fun mx => (p13_1.tail E.a10 E.a11 E.a16 mx >>= fun st => c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p12_1.tail E.a10 E.a11 E.a14 E.a16 mx) >>= ·) (funext fun st => c14.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg12 E mx (c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run13 E mx

end Cert.Kernel
-- ==== Proof.Seg1Kernel.lean ====
/- Stretches of the printed kernel, each as the steps of the kernel's own program. -/
module

public import proofs.«01_k».proof.Proof.Seg2Kernel
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.Kernel

open Idealize.ShloMosaic

variable {F : FTy → Type} [FloatOps F] [Facts]
/- Part 26 from its first push of a tile on. -/
cut_chain p0_ := k0_part26 at 6
/- Part 27 from its first push of a tile on. -/
cut_chain p1_ := k0_part27 at 12
/- Part 42 from its first push of a tile on. -/
cut_chain p2_ := k0_part42 at 4
/- Part 58 from its first push of a tile on. -/
cut_chain p3_ := k0_part58 at 9
/- Part 74 from its first push of a tile on. -/
cut_chain p4_ := k0_part74 at 14
/- Part 91 from its first push of a tile on. -/
cut_chain p5_ := k0_part91 at 2
/- Part 107 from its first push of a tile on. -/
cut_chain p6_ := k0_part107 at 4
/- Part 109 from its first push of a tile on. -/
cut_chain p7_ := k0_part109 at 21
/- Part 112 from its first push of a tile on. -/
cut_chain p8_ := k0_part112 at 17
/- Part 115 from its first push of a tile on. -/
cut_chain p9_ := k0_part115 at 8
/- Part 117 from its first push of a tile on. -/
cut_chain p10_ := k0_part117 at 19
/- Part 120 from its first push of a tile on. -/
cut_chain p11_ := k0_part120 at 13

theorem seg11 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p11_1.tail E.a10 E.a11 E.a14 E.a16 mx >>= fun st => c13 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 10 (by decide) mx fun mx => E.front 11 (by decide) mx fun mx => (p12_1.tail E.a10 E.a11 E.a14 E.a16 mx >>= fun st => κ st.1 st.2.1 st.2.2.1 st.2.2.2) := rfl
theorem run11 (E : Cert.Fp8.Env sig) (mx : Mxu F) :
    (p11_1.tail E.a10 E.a11 E.a14 E.a16 mx >>= fun st => c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (36 + 1) 10 (by decide) mx (E.tailP c448 loops c49.tail) :=
  E.units_of c448 36 10 11 rfl (by decide) (by decide) (by decide) (by decide) mx (E.tailP c448 loops c49.tail)
    (fun mx => (p12_1.tail E.a10 E.a11 E.a14 E.a16 mx >>= fun st => c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p11_1.tail E.a10 E.a11 E.a14 E.a16 mx) >>= ·) (funext fun st => c13.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg11 E mx (c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run12 E mx

theorem seg10 {R : Type} (E : Cert.Fp8.Env sig) (mx : Mxu F) (κ : (Vec F S8x128 .f32) → (FVec F S256x256 .f32) → (Mxu F) → (FVec F S256x128 .f32) → (FVec F S256x128 .f32) → Idealize.SL.Sem.Prog (TpuEff nD τ sig (Elt F) Λ₀ .tc) R) :
    (p10_1.tail E.a11 mx >>= fun st => c12 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 9 (by decide) mx fun mx => E.front 10 (by decide) mx fun mx => (p11_1.tail E.a10 E.a11 E.a14 E.a16 mx >>= fun st => κ st.1 st.2.1 st.2.2.1 st.2.2.2.1 st.2.2.2.2) := rfl
theorem run10 (E : Cert.Fp8.Env sig) (mx : Mxu F) :
    (p10_1.tail E.a11 mx >>= fun st => c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (37 + 1) 9 (by decide) mx (E.tailP c448 loops c49.tail) :=
  E.units_of c448 37 9 10 rfl (by decide) (by decide) (by decide) (by decide) mx (E.tailP c448 loops c49.tail)
    (fun mx => (p11_1.tail E.a10 E.a11 E.a14 E.a16 mx >>= fun st => c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p10_1.tail E.a11 mx) >>= ·) (funext fun st => c12.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg10 E mx (c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run11 E mx

theorem seg9 {R : Type} (E : Cert.Fp8.Env sig) (mx : Mxu F) (κ : (Mxu F) → (Vec F S256x256 .bf16) → Idealize.SL.Sem.Prog (TpuEff nD τ sig (Elt F) Λ₀ .tc) R) :
    (p9_1.tail E.a10 E.a11 E.a14 E.a16 mx >>= fun st => c11 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 8 (by decide) mx fun mx => E.front 9 (by decide) mx fun mx => (p10_1.tail E.a11 mx >>= fun st => κ st.1 st.2) := rfl
theorem run9 (E : Cert.Fp8.Env sig) (mx : Mxu F) :
    (p9_1.tail E.a10 E.a11 E.a14 E.a16 mx >>= fun st => c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (38 + 1) 8 (by decide) mx (E.tailP c448 loops c49.tail) :=
  E.units_of c448 38 8 9 rfl (by decide) (by decide) (by decide) (by decide) mx (E.tailP c448 loops c49.tail)
    (fun mx => (p10_1.tail E.a11 mx >>= fun st => c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p9_1.tail E.a10 E.a11 E.a14 E.a16 mx) >>= ·) (funext fun st => c11.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg9 E mx (c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run10 E mx

theorem seg8 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p8_1.tail E.a11 E.a16 mx >>= fun st => c10 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 7 (by decide) mx fun mx => E.front 8 (by decide) mx fun mx => (p9_1.tail E.a10 E.a11 E.a14 E.a16 mx >>= fun st => κ st.1 st.2.1 st.2.2) := rfl
theorem run8 (E : Cert.Fp8.Env sig) (mx : Mxu F) :
    (p8_1.tail E.a11 E.a16 mx >>= fun st => c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (39 + 1) 7 (by decide) mx (E.tailP c448 loops c49.tail) :=
  E.units_of c448 39 7 8 rfl (by decide) (by decide) (by decide) (by decide) mx (E.tailP c448 loops c49.tail)
    (fun mx => (p9_1.tail E.a10 E.a11 E.a14 E.a16 mx >>= fun st => c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p8_1.tail E.a11 E.a16 mx) >>= ·) (funext fun st => c10.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg8 E mx (c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run9 E mx

theorem seg7 {R : Type} (E : Cert.Fp8.Env sig) (mx : Mxu F) (κ : (Vec F S8x128 .f32) → (FVec F S256x256 .f32) → (Mxu F) → Idealize.SL.Sem.Prog (TpuEff nD τ sig (Elt F) Λ₀ .tc) R) :
    (p7_1.tail E.a11 mx >>= fun st => c9 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 6 (by decide) mx fun mx => E.front 7 (by decide) mx fun mx => (p8_1.tail E.a11 E.a16 mx >>= fun st => κ st.1 st.2.1 st.2.2) := rfl
theorem run7 (E : Cert.Fp8.Env sig) (mx : Mxu F) :
    (p7_1.tail E.a11 mx >>= fun st => c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (40 + 1) 6 (by decide) mx (E.tailP c448 loops c49.tail) :=
  E.units_of c448 40 6 7 rfl (by decide) (by decide) (by decide) (by decide) mx (E.tailP c448 loops c49.tail)
    (fun mx => (p8_1.tail E.a11 E.a16 mx >>= fun st => c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p7_1.tail E.a11 mx) >>= ·) (funext fun st => c9.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg7 E mx (c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run8 E mx

theorem seg6 {R : Type} (E : Cert.Fp8.Env sig) (mx : Mxu F) (κ : (Mxu F) → (Vec F S256x256 .bf16) → Idealize.SL.Sem.Prog (TpuEff nD τ sig (Elt F) Λ₀ .tc) R) :
    (p6_1.tail E.a6 E.h6 E.a7 E.a10 E.a11 E.a12 E.h12 E.a13 E.a14 E.a16 E.s26 E.s27 mx >>= fun st => c8 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 5 (by decide) mx fun mx => E.front 6 (by decide) mx fun mx => (p7_1.tail E.a11 mx >>= fun st => κ st.1 st.2) := rfl
theorem run6 (E : Cert.Fp8.Env sig) (mx : Mxu F) :
    (p6_1.tail E.a6 E.h6 E.a7 E.a10 E.a11 E.a12 E.h12 E.a13 E.a14 E.a16 E.s26 E.s27 mx >>= fun st => c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (41 + 1) 5 (by decide) mx (E.tailP c448 loops c49.tail) :=
  E.units_of c448 41 5 6 rfl (by decide) (by decide) (by decide) (by decide) mx (E.tailP c448 loops c49.tail)
    (fun mx => (p7_1.tail E.a11 mx >>= fun st => c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p6_1.tail E.a6 E.h6 E.a7 E.a10 E.a11 E.a12 E.h12 E.a13 E.a14 E.a16 E.s26 E.s27 mx) >>= ·) (funext fun st => c8.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg6 E mx (c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run7 E mx

theorem seg5 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p5_1.tail E.a8 E.a11 mx >>= fun st => c7 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 4 (by decide) mx fun mx => E.front 5 (by decide) mx fun mx => (p6_1.tail E.a6 E.h6 E.a7 E.a10 E.a11 E.a12 E.h12 E.a13 E.a14 E.a16 E.s26 E.s27 mx >>= fun st => κ st.1 st.2.1 st.2.2) := rfl
theorem run5 (E : Cert.Fp8.Env sig) (mx : Mxu F) :
    (p5_1.tail E.a8 E.a11 mx >>= fun st => c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (42 + 1) 4 (by decide) mx (E.tailP c448 loops c49.tail) :=
  E.units_of c448 42 4 5 rfl (by decide) (by decide) (by decide) (by decide) mx (E.tailP c448 loops c49.tail)
    (fun mx => (p6_1.tail E.a6 E.h6 E.a7 E.a10 E.a11 E.a12 E.h12 E.a13 E.a14 E.a16 E.s26 E.s27 mx >>= fun st => c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p5_1.tail E.a8 E.a11 mx) >>= ·) (funext fun st => c7.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg5 E mx (c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run6 E mx

theorem seg4 {R : Type} (E : Cert.Fp8.Env sig) (mx : Mxu F) (κ : (Mxu F) → (IVec S256x128 32) → (FVec F S256x128 .bf16) → (Vec F S256x128 .bf16) → (IVec S256 32) → Idealize.SL.Sem.Prog (TpuEff nD τ sig (Elt F) Λ₀ .tc) R) :
    (p4_1.tail E.a8 E.a11 mx >>= fun st => c6 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2 κ)
      = E.back c448 3 (by decide) mx fun mx => E.front 4 (by decide) mx fun mx => (p5_1.tail E.a8 E.a11 mx >>= fun st => κ st.1 st.2.1 st.2.2.1 st.2.2.2.1 st.2.2.2.2) := rfl
theorem run4 (E : Cert.Fp8.Env sig) (mx : Mxu F) :
    (p4_1.tail E.a8 E.a11 mx >>= fun st => c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2)
      = E.units c448 (43 + 1) 3 (by decide) mx (E.tailP c448 loops c49.tail) :=
  E.units_of c448 43 3 4 rfl (by decide) (by decide) (by decide) (by decide) mx (E.tailP c448 loops c49.tail)
    (fun mx => (p5_1.tail E.a8 E.a11 mx >>= fun st => c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p4_1.tail E.a8 E.a11 mx) >>= ·) (funext fun st => c6.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2)).trans (seg4 E mx (c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run5 E mx

theorem seg3 {R : Type} (E : Cert.Fp8.Env sig) (mx : Mxu F) (κ : (Mxu F) → (IVec S256x128 32) → (FVec F S256x128 .bf16) → (Vec F S256x128 .bf16) → (IVec S256x128 32) → (FVec F S256x128 .f32) → (BitVec 32) → Idealize.SL.Sem.Prog (TpuEff nD τ sig (Elt F) Λ₀ .tc) R) :
    (p3_1.tail E.a8 E.a11 mx >>= fun st => c5 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 2 (by decide) mx fun mx => E.front 3 (by decide) mx fun mx => (p4_1.tail E.a8 E.a11 mx >>= fun st => κ st.1 st.2.1 st.2.2.1 st.2.2.2.1 st.2.2.2.2.1 st.2.2.2.2.2.1 st.2.2.2.2.2.2) := rfl
theorem run3 (E : Cert.Fp8.Env sig) (mx : Mxu F) :
    (p3_1.tail E.a8 E.a11 mx >>= fun st => c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (44 + 1) 2 (by decide) mx (E.tailP c448 loops c49.tail) :=
  E.units_of c448 44 2 3 rfl (by decide) (by decide) (by decide) (by decide) mx (E.tailP c448 loops c49.tail)
    (fun mx => (p4_1.tail E.a8 E.a11 mx >>= fun st => c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2))
    ((congrArg ((p3_1.tail E.a8 E.a11 mx) >>= ·) (funext fun st => c5.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg3 E mx (c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run4 E mx

theorem seg2 {R : Type} (E : Cert.Fp8.Env sig) (mx : Mxu F) (κ : (Mxu F) → (IVec S256x128 32) → (FVec F S256x128 .bf16) → (Vec F S256x128 .bf16) → (IVec S256x128 32) → (FVec F S256x128 .f32) → (FVec F S256x128 .f32) → (IVec S256x128 32) → Idealize.SL.Sem.Prog (TpuEff nD τ sig (Elt F) Λ₀ .tc) R) :
    (p2_1.tail E.a8 E.a11 mx >>= fun st => c4 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 1 (by decide) mx fun mx => E.front 2 (by decide) mx fun mx => (p3_1.tail E.a8 E.a11 mx >>= fun st => κ st.1 st.2.1 st.2.2.1 st.2.2.2.1 st.2.2.2.2.1 st.2.2.2.2.2.1 st.2.2.2.2.2.2.1 st.2.2.2.2.2.2.2) := rfl
theorem run2 (E : Cert.Fp8.Env sig) (mx : Mxu F) :
    (p2_1.tail E.a8 E.a11 mx >>= fun st => c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (45 + 1) 1 (by decide) mx (E.tailP c448 loops c49.tail) :=
  E.units_of c448 45 1 2 rfl (by decide) (by decide) (by decide) (by decide) mx (E.tailP c448 loops c49.tail)
    (fun mx => (p3_1.tail E.a8 E.a11 mx >>= fun st => c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))
    ((congrArg ((p2_1.tail E.a8 E.a11 mx) >>= ·) (funext fun st => c4.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg2 E mx (c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run3 E mx

theorem seg1 {R : Type} (E : Cert.Fp8.Env sig) (mx : Mxu F) (κ : (Mxu F) → (IVec S256x128 32) → (FVec F S256x128 .bf16) → (Vec F S256x128 .bf16) → (IVec S256x128 32) → (IVec S256x128 1) → (BitVec 32) → (IVec S256x128 32) → Idealize.SL.Sem.Prog (TpuEff nD τ sig (Elt F) Λ₀ .tc) R) :
    (p1_1.tail E.a8 E.a11 mx >>= fun st => c3 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 0 (by decide) mx fun mx => E.front 1 (by decide) mx fun mx => (p2_1.tail E.a8 E.a11 mx >>= fun st => κ st.1 st.2.1 st.2.2.1 st.2.2.2.1 st.2.2.2.2.1 st.2.2.2.2.2.1 st.2.2.2.2.2.2.1 st.2.2.2.2.2.2.2) := rfl
theorem run1 (E : Cert.Fp8.Env sig) (mx : Mxu F) :
    (p1_1.tail E.a8 E.a11 mx >>= fun st => c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (46 + 1) 0 (by decide) mx (E.tailP c448 loops c49.tail) :=
  E.units_of c448 46 0 1 rfl (by decide) (by decide) (by decide) (by decide) mx (E.tailP c448 loops c49.tail)
    (fun mx => (p2_1.tail E.a8 E.a11 mx >>= fun st => c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))
    ((congrArg ((p1_1.tail E.a8 E.a11 mx) >>= ·) (funext fun st => c3.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg1 E mx (c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run2 E mx

theorem seg0 {R : Type} (E : Cert.Fp8.Env sig) (mx : Mxu F) (κ : (Mxu F) → (IVec S256x128 32) → (FVec F S256x128 .bf16) → (Vec F S256x128 .bf16) → (IVec S256x128 32) → (FVec F S256x128 .f32) → (FVec F S256x128 .f32) → (BitVec 32) → Idealize.SL.Sem.Prog (TpuEff nD τ sig (Elt F) Λ₀ .tc) R) :
    (p0_1.tail E.a0 E.h0 E.a8 E.h8 E.a9 E.a11 E.s22 mx >>= fun st => c2 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.front 0 (by decide) mx fun mx => (p1_1.tail E.a8 E.a11 mx >>= fun st => κ st.1 st.2.1 st.2.2.1 st.2.2.2.1 st.2.2.2.2.1 st.2.2.2.2.2.1 st.2.2.2.2.2.2.1 st.2.2.2.2.2.2.2) := rfl
theorem run0 (E : Cert.Fp8.Env sig) (mx : Mxu F) :
    (p0_1.tail E.a0 E.h0 E.a8 E.h8 E.a9 E.a11 E.s22 mx >>= fun st => c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.front 0 (by decide) mx fun mx => E.units c448 (46 + 1) 0 (by decide) mx (E.tailP c448 loops c49.tail) :=
  E.front_of mx (T := (fun mx => (p1_1.tail E.a8 E.a11 mx >>= fun st => c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))) (T' := fun mx => E.units c448 (46 + 1) 0 (by decide) mx (E.tailP c448 loops c49.tail))
    ((congrArg ((p0_1.tail E.a0 E.h0 E.a8 E.h8 E.a9 E.a11 E.s22 mx) >>= ·) (funext fun st => c2.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg0 E mx (c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run1 E mx

theorem seg {R : Type} (E : Cert.Fp8.Env sig) (κ : (Mxu F) → Idealize.SL.Sem.Prog (TpuEff nD τ sig (Elt F) Λ₀ .tc) R) :
    c1 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 κ = E.begin fun mx => (p0_1.tail E.a0 E.h0 E.a8 E.h8 E.a9 E.a11 E.s22 mx >>= fun st => κ st) := rfl
/-- The printed kernel is the kernel's own program. -/
theorem program_eq (E : Cert.Fp8.Env sig) :
    cc0_fp8_linear (F := F) E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 = E.program c448 loops fun _ => c49.tail :=
  (E.begin_of (T := fun mx => (p0_1.tail E.a0 E.h0 E.a8 E.h8 E.a9 E.a11 E.s22 mx >>= fun st => c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)) (T' := fun mx => E.front 0 (by decide) mx fun mx => E.units c448 (46 + 1) 0 (by decide) mx (E.tailP c448 loops c49.tail))
    ((flat.eq_at E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29).trans ((c1.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29).trans (seg E (c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29))))
    fun mx => run0 E mx).trans (E.programP c448 loops c49.tail)

end Cert.Kernel
-- ==== Proof.Rules.lean ====
/- Transfers and their waits over what a core holds: one flight per semaphore, or a batch of equal transfers on one semaphore. -/
module

public import proofs.«01_k».proof.Proof.Own

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {c : Dev nD} {sp sp' : Space} {s : Shape} {e : EltTy} {M : Memref sig .tc sp s e}

/-- The elements of a slice are the elements of the buffer at the rectangle. -/
theorem holds_slice {r : Rect s} (h : ∀ a, r.stride a = 1) {G : s.Idx → Elt F e} :
    holds (F := F) (τ := τ) c M r.set G ⊢ holds c (M.slice r h) Finset.univ (fun j => G (r.emb j)) := by
  unfold holds
  have e2 : (M.slice r h).view.setOn Finset.univ = M.view.setOn r.set := (View.setOn_univ _).trans (View.set_slice _ _)
  iintro ⟨%f, H, %hf⟩
  iexists f
  isplitl [H]; · rw [e2]; iexact H
  ipureintro; intro j _
  exact hf (r.emb j) (by rw [← Rect.map_emb_univ]; exact Finset.mem_map_of_mem _ (Finset.mem_univ j))
theorem holds_unslice {r : Rect s} (h : ∀ a, r.stride a = 1) {G : s.Idx → Elt F e} :
    holds (F := F) (τ := τ) c (M.slice r h) Finset.univ (fun j => G (r.emb j)) ⊢ holds c M r.set G := by
  unfold holds
  have e2 : (M.slice r h).view.setOn Finset.univ = M.view.setOn r.set := (View.setOn_univ _).trans (View.set_slice _ _)
  iintro ⟨%f, H, %hf⟩
  iexists f
  isplitl [H]; · rw [← e2]; iexact H
  ipureintro; intro i hi
  rw [← Rect.map_emb_univ] at hi
  obtain ⟨j, -, rfl⟩ := Finset.mem_map.mp hi
  exact hf j (Finset.mem_univ j)

variable {α : Type} {Q : α → sProp (MT nD τ sig Unit (Elt F) ℕ (Pipeline.UD sig nD τ) ℕ)} {defs : Defs nD τ sig (Elt F) Λ} {𝒱 : Variants} {bd : Option 𝒱.V}

/-- What a landed transfer leaves. -/
theorem landed {src : Memref sig .tc sp s e} {dst : Memref sig .tc sp' s e} {fs : Buf (Elt F) (src.view.loc (c : Thread nD τ))}
    {fd : Buf (Elt F) (dst.view.loc (c : Thread nD τ))} {g : s.Idx → Elt F e} (hg : ∀ i ∈ (Finset.univ : Finset s.Idx), src.view.read (Elt F) fs i = g i)
    {D : sProp (MT nD τ sig Unit (Elt F) ℕ (Pipeline.UD sig nD τ) ℕ)}
    (hD : iprop(holds (F := F) (τ := τ) c dst Finset.univ g ∗ holds c src Finset.univ g) ⊢ D) :
    iprop((dst.view.loc (c : Thread nD τ) ↦[dst.view.setOn Finset.univ]{fullShare} (dst.view.write (Elt F) fd (ReadAs.same.apply (src.view.read (Elt F) fs)) Finset.univ))
      ∗ (src.view.loc (c : Thread nD τ) ↦[src.view.set]{fullShare} fs)) ⊢ D := by
  refine BIBase.Entails.trans ?_ hD
  unfold holds
  iintro ⟨Hd, Hs⟩
  isplitl [Hd]
  · iexists _
    isplitl [Hd]; · iexact Hd
    ipureintro; intro i hi
    exact (congrFun (View.read_write_univ (v := dst.view) fd _) i).trans (hg i hi)
  · iexists fs
    isplitl [Hs]; · rw [View.setOn_univ]; iexact Hs
    ipureintro; exact hg

/-- A transfer on a semaphore of its own. -/
theorem wp_copy {src : Memref sig .tc sp s e} {dst : Memref sig .tc sp' s e} {sm : DmaSem sig}
    {hsrc : src.view.WordExact} {hdst : dst.view.WordExact}
    {hsem : DmaTarget.Typed (nD := nD) (p := (c : Thread nD τ).2) sp (SemLoc.dma sm) (.here dst)}
    {k : PUnit → Prog (TpuEff nD τ sig (Elt F) Λ (c : Thread nD τ).2) α} {g g' : s.Idx → Elt F e} (h0 : 0 < s.numel)
    {D : sProp (MT nD τ sig Unit (Elt F) ℕ (Pipeline.UD sig nD τ) ℕ)}
    (hD : iprop(holds (F := F) (τ := τ) c dst Finset.univ g ∗ holds c src Finset.univ g) ⊢ D) :
    iprop(holds (F := F) (τ := τ) c src Finset.univ g ∗ holds c dst Finset.univ g' ∗ semVal ((c : Thread nD τ), .dma sm) 0)
      ⊢ iprop((Flight (countersEmb (U := Pipeline.UD sig nD τ)) (c : Thread nD τ) (.dma sm) () dst.view.dmaCredit D
              -∗ wp frame (wpE defs 𝒱 (c : Thread nD τ) bd) Set.univ (k ⟨⟩) Q)
          -∗ wp frame (wpE defs 𝒱 (c : Thread nD τ) bd) Set.univ
              (.op (.enqueueDma src (.here dst) (.dma sm) hsrc hdst hsem) k) Q) := by
  unfold holds
  iintro ⟨⟨%fs, Hs, %hfs⟩, ⟨%fd, Hd, %hfd⟩, Hv⟩ Hk
  iapply (wp_dmaLocal (countersEmb (U := Pipeline.UD sig nD τ)) 𝒱 (c : Thread nD τ) bd (fs := fs) (fd := fd) (q := fullShare)
    (Sd := dst.view.setOn Finset.univ) (hsrc := hsrc) (hdst := hdst) (hsem := hsem) () dst.view.dmaCredit rfl
    (View.dmaCredit_pos _ h0) (by rw [View.setOn_univ])) $$ [Hs Hd Hv]
  · isplitl [Hs]; · rw [View.setOn_univ]; iexact Hs
    isplitl [Hd]; · iexact Hd
    iexact Hv
  iintro Hf
  iapply Hk
  iapply (Flight_mono _ _ (landed hfs hD)) $$ Hf

/-- The next transfer of a batch on one semaphore. -/
theorem wp_copyB {src : Memref sig .tc sp s e} {dst : Memref sig .tc sp' s e} {sm : DmaSem sig}
    {hsrc : src.view.WordExact} {hdst : dst.view.WordExact}
    {hsem : DmaTarget.Typed (nD := nD) (p := (c : Thread nD τ).2) sp (SemLoc.dma sm) (.here dst)}
    {k : PUnit → Prog (TpuEff nD τ sig (Elt F) Λ (c : Thread nD τ).2) α} {g g' : s.Idx → Elt F e}
    {n : ℕ} {D : Fin n → sProp (MT nD τ sig Unit (Elt F) ℕ (Pipeline.UD sig nD τ) ℕ)} {N j : ℕ} (hN : dst.view.dmaCredit = N) (hj : j < n)
    (hD : iprop(holds (F := F) (τ := τ) c dst Finset.univ g ∗ holds c src Finset.univ g) ⊢ D ⟨j, hj⟩) :
    iprop(holds (F := F) (τ := τ) c src Finset.univ g ∗ holds c dst Finset.univ g'
        ∗ Batch (countersEmb (U := Pipeline.UD sig nD τ)) (c : Thread nD τ) (.dma sm) () N D j 0)
      ⊢ iprop((Batch (countersEmb (U := Pipeline.UD sig nD τ)) (c : Thread nD τ) (.dma sm) () N D (j + 1) 0
              -∗ wp frame (wpE defs 𝒱 (c : Thread nD τ) bd) Set.univ (k ⟨⟩) Q)
          -∗ wp frame (wpE defs 𝒱 (c : Thread nD τ) bd) Set.univ
              (.op (.enqueueDma src (.here dst) (.dma sm) hsrc hdst hsem) k) Q) := by
  unfold holds
  iintro ⟨⟨%fs, Hs, %hfs⟩, ⟨%fd, Hd, %hfd⟩, Hb⟩ Hk
  iapply (wp_dmaBatch (countersEmb (U := Pipeline.UD sig nD τ)) 𝒱 (c : Thread nD τ) bd (fs := fs) (fd := fd) (q := fullShare)
    (Sd := dst.view.setOn Finset.univ) (hsrc := hsrc) (hdst := hdst) (hsem := hsem) () N hN
    (by rw [View.setOn_univ]) hj (Nat.zero_le _) (landed hfs hD)) $$ [Hs Hd Hb]
  · isplitl [Hs]; · rw [View.setOn_univ]; iexact Hs
    isplitl [Hd]; · iexact Hd
    iexact Hb
  iintro Hf
  iapply Hk $$ Hf

/-- The core's record of the semaphores it has waited on, whatever it is. -/
def ow (c : Dev nD) : sProp (MT nD τ sig Unit (Elt F) ℕ (Pipeline.UD sig nD τ) ℕ) :=
  iprop(∃ W, owes (c : Thread nD τ) 0 W)

/-- A wait for a transfer on a semaphore of its own. -/
theorem wp_wait {src : Memref sig .tc sp s e} {dst : Memref sig .tc sp' s e} {sm : DmaSem sig}
    {hsrc : src.view.WordExact} {hdst : dst.view.WordExact}
    {k : PUnit → Prog (TpuEff nD τ sig (Elt F) Λ (c : Thread nD τ).2) α}
    {D : sProp (MT nD τ sig Unit (Elt F) ℕ (Pipeline.UD sig nD τ) ℕ)} :
    iprop(Flight (countersEmb (U := Pipeline.UD sig nD τ)) (c : Thread nD τ) (.dma sm) () dst.view.dmaCredit D ∗ ow (F := F) (τ := τ) c)
      ⊢ iprop((iprop(D ∗ semVal ((c : Thread nD τ), .dma sm) 0 ∗ ow (F := F) (τ := τ) c)
              -∗ wp frame (wpE defs 𝒱 (c : Thread nD τ) bd) Set.univ (k ⟨⟩) Q)
          -∗ wp frame (wpE defs 𝒱 (c : Thread nD τ) bd) Set.univ (.op (.waitDma2 sm src dst hsrc hdst) k) Q) := by
  unfold ow
  iintro ⟨Hf, ⟨%W, HW⟩⟩ Hk
  iapply (wp_waitLocal (countersEmb (U := Pipeline.UD sig nD τ)) 𝒱 (c : Thread nD τ) bd () rfl) $$ [Hf HW]
  · isplitl [Hf]; · iexact Hf
    iexact HW
  iintro ⟨H1, H2, H3⟩
  iapply Hk
  isplitl [H1]; · iexact H1
  isplitl [H2]; · iexact H2
  iexists _; iexact H3

/-- A wait of a batch all issued, not the last. -/
theorem wp_waitB {src : Memref sig .tc sp s e} {dst : Memref sig .tc sp' s e} {sm : DmaSem sig}
    {hsrc : src.view.WordExact} {hdst : dst.view.WordExact}
    {k : PUnit → Prog (TpuEff nD τ sig (Elt F) Λ (c : Thread nD τ).2) α}
    {n : ℕ} {D : Fin n → sProp (MT nD τ sig Unit (Elt F) ℕ (Pipeline.UD sig nD τ) ℕ)} {N j : ℕ} (hN : dst.view.dmaCredit = N) (hN0 : 0 < N)
    (hj : j + 1 < n) :
    iprop(Batch (countersEmb (U := Pipeline.UD sig nD τ)) (c : Thread nD τ) (.dma sm) () N D n (j * N) ∗ ow (F := F) (τ := τ) c)
      ⊢ iprop((iprop(Batch (countersEmb (U := Pipeline.UD sig nD τ)) (c : Thread nD τ) (.dma sm) () N D n ((j + 1) * N) ∗ ow (F := F) (τ := τ) c)
              -∗ wp frame (wpE defs 𝒱 (c : Thread nD τ) bd) Set.univ (k ⟨⟩) Q)
          -∗ wp frame (wpE defs 𝒱 (c : Thread nD τ) bd) Set.univ (.op (.waitDma2 sm src dst hsrc hdst) k) Q) := by
  unfold ow
  iintro ⟨Hf, ⟨%W, HW⟩⟩ Hk
  iapply (wp_waitBatch (countersEmb (U := Pipeline.UD sig nD τ)) 𝒱 (c : Thread nD τ) bd () hN
    (by rw [← Nat.succ_mul, Nat.mul_comm N n]; exact Nat.mul_lt_mul_of_pos_right hj hN0)) $$ [Hf HW]
  · isplitl [Hf]; · iexact Hf
    iexact HW
  iintro ⟨H1, H3⟩
  iapply Hk
  isplitl [H1]; · rw [Nat.succ_mul]; iexact H1
  iexists _; iexact H3

/-- The last wait of a batch. -/
theorem wp_waitBL {src : Memref sig .tc sp s e} {dst : Memref sig .tc sp' s e} {sm : DmaSem sig}
    {hsrc : src.view.WordExact} {hdst : dst.view.WordExact}
    {k : PUnit → Prog (TpuEff nD τ sig (Elt F) Λ (c : Thread nD τ).2) α}
    {n : ℕ} {D : Fin n → sProp (MT nD τ sig Unit (Elt F) ℕ (Pipeline.UD sig nD τ) ℕ)} {N j : ℕ} (hN : dst.view.dmaCredit = N) (hN0 : 0 < N)
    (hj : j + 1 = n) :
    iprop(Batch (countersEmb (U := Pipeline.UD sig nD τ)) (c : Thread nD τ) (.dma sm) () N D n (j * N) ∗ ow (F := F) (τ := τ) c)
      ⊢ iprop((iprop(bigSep Finset.univ D ∗ semVal ((c : Thread nD τ), .dma sm) 0 ∗ ow (F := F) (τ := τ) c)
              -∗ wp frame (wpE defs 𝒱 (c : Thread nD τ) bd) Set.univ (k ⟨⟩) Q)
          -∗ wp frame (wpE defs 𝒱 (c : Thread nD τ) bd) Set.univ (.op (.waitDma2 sm src dst hsrc hdst) k) Q) := by
  unfold ow
  iintro ⟨Hf, ⟨%W, HW⟩⟩ Hk
  iapply (wp_waitBatchLast (countersEmb (U := Pipeline.UD sig nD τ)) 𝒱 (c : Thread nD τ) bd () hN hN0
    (by rw [← Nat.succ_mul, Nat.mul_comm N n, ← hj])) $$ [Hf HW]
  · isplitl [Hf]; · iexact Hf
    iexact HW
  iintro ⟨H1, H2, H3⟩
  iapply Hk
  isplitl [H1]; · iexact H1
  isplitl [H2]; · iexact H2
  iexists _; iexact H3

end Cert.Fp8
-- ==== Proof.Unit.lean ====
/- The matrix unit's state as the kernel uses it: which tile each register stages and what each of the two accumulators of a unit
   holds. -/
module

public import Idealize.ShloMosaic.Lib.Mxu

@[expose] public section

noncomputable section

namespace Cert.Fp8

open Idealize.ShloMosaic

variable {F : FTy → Type} [FloatOps F]

abbrev T256 : Shape := ⟨2, ![256, 256]⟩

theorem fitsA (a : Fin 2) : Mxu.Fits (64 * a.val) 256 := by revert a; decide

/-- Register `r` of unit `q` stages `R q r`, accumulator `a` of unit `q` holds `Z q a`, and nothing else is live. -/
structure St (s : Mxu F) (R : Fin 2 → Fin 2 → Option (FVec F T256 .bf16)) (Z : Fin 2 → Fin 2 → Option (FVec F T256 .f32)) : Prop where
  reg : ∀ q r, s.reg q r = (R q r).map fun v => ⟨.bf16, false, v⟩
  live : ∀ q (a : Fin 2) (x : Fin 256), s.live q (Mxu.row (fitsA a) x) = (Z q a).isSome
  acc : ∀ q a, ∀ z ∈ Z q a, s.read q (64 * a.val) (fitsA a) = z
  rest : ∀ q (x : Fin 1024), 512 ≤ x.val → s.live q x = false

/-- One entry of a two-by-two table replaced. -/
def upd {β : Type} (T : Fin 2 → Fin 2 → β) (q r : Fin 2) (b : β) : Fin 2 → Fin 2 → β := fun q' r' => if q' = q ∧ r' = r then b else T q' r'

theorem St.init : St (Mxu.init : Mxu F) (fun _ _ => none) (fun _ _ => none) where
  reg _ _ := rfl
  live _ _ _ := rfl
  acc _ _ z hz := by cases hz
  rest _ _ _ := rfl

variable {s : Mxu F} {R : Fin 2 → Fin 2 → Option (FVec F T256 .bf16)} {Z : Fin 2 → Fin 2 → Option (FVec F T256 .f32)}

theorem St.pushOk (h : St s R Z) (q r : Fin 2) : s.PushOk q r false := by
  intro t ht
  rw [h.reg] at ht
  obtain ⟨v, -, rfl⟩ := Option.mem_map.mp ht
  rfl

theorem St.pushed (h : St s R Z) {q r : Fin 2} (hr : R q r = none) (v : FVec F T256 .bf16) :
    St (s.pushed q r false v) (upd R q r (some v)) Z := by
  have e : s.reg q r = none := by rw [h.reg, hr]; rfl
  have e' : s.pushed q r false v = { s with reg := fun q' r' => if q' = q ∧ r' = r then some ⟨.bf16, false, v⟩ else s.reg q' r' } := by
    unfold Mxu.pushed; rw [e]
  rw [e']
  refine ⟨fun q' r' => ?_, h.live, h.acc, h.rest⟩
  show (if q' = q ∧ r' = r then _ else s.reg q' r') = _
  unfold upd
  by_cases hc : q' = q ∧ r' = r
  · rw [if_pos hc, if_pos hc]; rfl
  · rw [if_neg hc, if_neg hc]; exact h.reg q' r'

/-- One pass of the matrix unit over a tile. -/
def pass (x w : FVec F T256 .bf16) : FVec F T256 .f32 := FloatOps.mxuPass (DotDims.plain 256 256 256) x w

/-- A pass added to what an accumulator held. -/
def sum (z : Option (FVec F T256 .f32)) (p : FVec F T256 .f32) : FVec F T256 .f32 :=
  match z with
  | none => p
  | some z => fun i => FloatOps.addf (z i) (p i)

theorem row_val (a : Fin 2) (x : Fin 256) : (Mxu.row (fitsA a) x).val = 256 * a.val + x.val := by
  show 4 * (64 * a.val) + x.val = _; omega

theorem in_iff (a a' : Fin 2) (x : Fin 256) : (4 * (64 * a.val) ≤ (Mxu.row (fitsA a') x).val ∧ (Mxu.row (fitsA a') x).val < 4 * (64 * a.val) + 256) ↔ a' = a := by
  rw [row_val]
  have := x.isLt
  constructor
  · rintro ⟨h1, h2⟩; apply Fin.ext; omega
  · rintro rfl; omega

theorem lt_sub (a : Fin 2) (x : Fin 256) : (Mxu.row (fitsA a) x).val - 4 * (64 * a.val) < 256 := by
  rw [row_val]; have := x.isLt; omega

theorem sub_row (a : Fin 2) (x : Fin 256) : (Mxu.row (fitsA a) x).val - 4 * (64 * a.val) = x.val := by rw [row_val]; omega

theorem St.accLhs (h : St s R Z) {q r : Fin 2} {w : FVec F T256 .bf16} (hr : R q r = some w) (a : Fin 2) (x : FVec F T256 .bf16) :
    St (s.accLhs q r (64 * a.val) x (fitsA a)) (upd R q r none) (upd Z q a (some (sum (Z q a) (pass x w)))) := by
  have hs : s.staged q r = ⟨.bf16, false, w⟩ := by unfold Mxu.staged; rw [h.reg, hr]; rfl
  refine ⟨fun q' r' => ?_, fun q' a' y => ?_, fun q' a' z hz => ?_, fun q' y hy => ?_⟩
  · show (if q' = q ∧ r' = r then none else s.reg q' r') = _
    unfold upd
    by_cases hc : q' = q ∧ r' = r
    · rw [if_pos hc, if_pos hc]; rfl
    · rw [if_neg hc, if_neg hc]; exact h.reg q' r'
  · show (if q' = q ∧ _ ∧ _ then true else s.live q' _) = _
    unfold upd
    by_cases hc : q' = q ∧ a' = a
    · rw [if_pos ⟨hc.1, (in_iff a a' y).mpr hc.2⟩, if_pos hc]; rfl
    · rw [if_neg fun h' => hc ⟨h'.1, (in_iff a a' y).mp h'.2⟩, if_neg hc]; exact h.live q' a' y
  · unfold upd at hz
    funext i
    show (if hq : q' = q ∧ 4 * (64 * a.val) ≤ (Mxu.row (fitsA a') (i 0)).val ∧ (Mxu.row (fitsA a') (i 0)).val < 4 * (64 * a.val) + 256 then
        Mxu.deposit (s.live q' _) (s.acc q' _ (i 1)) ((s.staged q r).pass x _) else s.acc q' _ (i 1)) = z i
    by_cases hc : q' = q ∧ a' = a
    · obtain ⟨rfl, rfl⟩ := hc
      rw [if_pos ⟨rfl, rfl⟩] at hz
      cases hz
      rw [dif_pos ⟨rfl, (in_iff a' a' (i 0 : Fin 256)).mpr rfl⟩, hs]
      refine (congrArg (fun b => Mxu.deposit b _ _) (h.live q' a' (i 0 : Fin 256))).trans ?_
      have hi : (Mxu.ix (⟨(Mxu.row (fitsA a') (i 0)).val - 4 * (64 * a'.val), lt_sub a' (i 0)⟩ : Fin 256) (i 1) : T256.Idx) = i := by
        funext b
        refine Fin.cases ?_ (fun b => Fin.cases ?_ (fun b => b.elim0) b) b
        · apply Fin.ext
          exact sub_row a' (i 0 : Fin 256)
        · rfl
      show Mxu.deposit _ _ (pass x w _) = sum (Z q' a') (pass x w) i
      rw [hi]
      cases hZ : Z q' a' with
      | none => rfl
      | some z' =>
        have := congrFun (h.acc q' a' z' (by rw [hZ]; rfl)) i
        show FloatOps.addf (s.acc q' _ (i 1)) _ = FloatOps.addf (z' i) _
        rw [← this]; rfl
    · rw [if_neg hc] at hz
      rw [dif_neg fun h' => hc ⟨h'.1, (in_iff a a' (i 0 : Fin 256)).mp h'.2⟩]
      exact congrFun (h.acc q' a' z hz) i
  · show (if q' = q ∧ _ ∧ _ then true else s.live q' y) = _
    rw [if_neg (by have := a.isLt; omega)]
    exact h.rest q' y hy

theorem St.pop (h : St s R Z) (q a : Fin 2) : St (s.pop q (64 * a.val) 256 (fitsA a)) R (upd Z q a none) := by
  refine ⟨h.reg, fun q' a' y => ?_, fun q' a' z hz => ?_, fun q' y hy => ?_⟩
  · show (if q' = q ∧ _ ∧ _ then false else s.live q' _) = _
    unfold upd
    by_cases hc : q' = q ∧ a' = a
    · rw [if_pos ⟨hc.1, (in_iff a a' y).mpr hc.2⟩, if_pos hc]; rfl
    · rw [if_neg fun h' => hc ⟨h'.1, (in_iff a a' y).mp h'.2⟩, if_neg hc]; exact h.live q' a' y
  · unfold upd at hz
    by_cases hc : q' = q ∧ a' = a
    · rw [if_pos hc] at hz; cases hz
    rw [if_neg hc] at hz
    funext i
    show (if q' = q ∧ _ ∧ _ then _ else s.acc q' _ (i 1)) = z i
    rw [if_neg fun h' => hc ⟨h'.1, (in_iff a a' (i 0 : Fin 256)).mp h'.2⟩]
    exact congrFun (h.acc q' a' z hz) i
  · show (if q' = q ∧ _ ∧ _ then false else s.live q' y) = _
    rw [if_neg (by have := a.isLt; omega)]
    exact h.rest q' y hy

theorem St.drained (h : St s (fun _ _ => none) (fun _ _ => none)) : s.Drained := by
  refine ⟨fun q r => by rw [h.reg]; rfl, fun q x => ?_⟩
  by_cases hx : 512 ≤ x.val
  · exact h.rest q x hx
  have : x = Mxu.row (fitsA ⟨x.val / 256, by omega⟩) ⟨x.val % 256, Nat.mod_lt _ (by decide)⟩ := by
    apply Fin.ext; rw [row_val]; exact (Nat.div_add_mod _ _).symm
  rw [this]; exact h.live q _ _

end Cert.Fp8
-- ==== Proof.Values.lean ====
/- What each buffer ends up holding, as functions of the activations, the weight codes and the output scales: the kernel's own values
   laid out over whole buffers. -/
module

public import proofs.«01_k».proof.Proof.Model
public import proofs.«01_k».proof.Proof.Unit

@[expose] public section

noncomputable section

namespace Cert.Fp8

open Idealize.ShloMosaic Idealize.ShloMosaic.TcCoe Idealize.SL.Sem

/-- An index of a two-axis shape from its coordinates. -/
def ix2 {m n : ℕ} (r : Fin m) (c : Fin n) : (⟨2, ![m, n]⟩ : Shape).Idx := Fin.cons r (Fin.cons c finZeroElim)

section layout
variable {β : Type}

/-- A buffer from its blocks of 256 rows by 128 columns. -/
def ofBlk (f : Fin 6 → Fin 8 → S256x128.Idx → β) : S1536x1024.Idx → β := fun i =>
  f ⟨(i 0).val / 256, by have : (i 0).val < 1536 := (i 0).isLt; omega⟩ ⟨(i 1).val / 128, by have : (i 1).val < 1024 := (i 1).isLt; omega⟩
    (ix2 ⟨(i 0).val % 256, Nat.mod_lt _ (by decide)⟩ ⟨(i 1).val % 128, Nat.mod_lt _ (by decide)⟩)
def ofRow8 (f : Fin 6 → S256x8.Idx → β) : S1536x8.Idx → β := fun i =>
  f ⟨(i 0).val / 256, by have : (i 0).val < 1536 := (i 0).isLt; omega⟩
    (ix2 ⟨(i 0).val % 256, Nat.mod_lt _ (by decide)⟩ ⟨(i 1).val, (i 1).isLt⟩)
def ofTile (f : Fin 6 → Fin 8 → Fin 4 → S256x128.Idx → β) : S1536x4096.Idx → β := fun i =>
  f ⟨(i 0).val / 256, by have : (i 0).val < 1536 := (i 0).isLt; omega⟩
    ⟨(i 1).val / 512, by have : (i 1).val < 4096 := (i 1).isLt; omega⟩ ⟨(i 1).val % 512 / 128, by have := Nat.mod_lt (i 1).val (show 0 < 512 by decide); omega⟩
    (ix2 ⟨(i 0).val % 256, Nat.mod_lt _ (by decide)⟩ ⟨(i 1).val % 128, Nat.mod_lt _ (by decide)⟩)

theorem ofBlk_emb (f : Fin 6 → Fin 8 → S256x128.Idx → β) (m : Fin 6) (b : Fin 8) (j : S256x128.Idx) : ofBlk f ((rBlk m b).emb j) = f m b j := by
  have h0 : ((rBlk m b).emb j 0).val = 256 * m.val + 1 * (j 0).val := rfl
  have h1 : ((rBlk m b).emb j 1).val = 128 * b.val + 1 * (j 1).val := rfl
  have l0 : (j 0).val < 256 := (j 0).isLt
  have l1 : (j 1).val < 128 := (j 1).isLt
  exact congr (congr (congrArg f (Fin.ext (by show ((rBlk m b).emb j 0).val / 256 = m.val; rw [h0]; omega))) (Fin.ext (by show ((rBlk m b).emb j 1).val / 128 = b.val; rw [h1]; omega)))
    (funext fun a => Fin.cases (Fin.ext (by show ((rBlk m b).emb j 0).val % 256 = (j 0).val; rw [h0]; omega)) (fun a => Fin.cases (Fin.ext (by show ((rBlk m b).emb j 1).val % 128 = (j 1).val; rw [h1]; omega)) (fun a => a.elim0) a) a)
theorem ofRow8_emb (f : Fin 6 → S256x8.Idx → β) (m : Fin 6) (j : S256x8.Idx) : ofRow8 f ((rRow8 m).emb j) = f m j := by
  have h0 : ((rRow8 m).emb j 0).val = 256 * m.val + 1 * (j 0).val := rfl
  have h1 : ((rRow8 m).emb j 1).val = 0 + 1 * (j 1).val := rfl
  have l0 : (j 0).val < 256 := (j 0).isLt
  exact congr (congrArg f (Fin.ext (by show ((rRow8 m).emb j 0).val / 256 = m.val; rw [h0]; omega)))
    (funext fun a => Fin.cases (Fin.ext (by show ((rRow8 m).emb j 0).val % 256 = (j 0).val; rw [h0]; omega)) (fun a => Fin.cases (Fin.ext (by show ((rRow8 m).emb j 1).val = (j 1).val; rw [h1]; omega)) (fun a => a.elim0) a) a)
theorem ofTile_emb (f : Fin 6 → Fin 8 → Fin 4 → S256x128.Idx → β) (m : Fin 6) (g : Fin 8) (b : Fin 4) (j : S256x128.Idx) :
    ofTile f ((rY m g b).emb j) = f m g b j := by
  have h0 : ((rY m g b).emb j 0).val = 256 * m.val + 1 * (j 0).val := rfl
  have h1 : ((rY m g b).emb j 1).val = 512 * g.val + 128 * b.val + 1 * (j 1).val := rfl
  have l0 : (j 0).val < 256 := (j 0).isLt
  have l1 : (j 1).val < 128 := (j 1).isLt
  have lb := b.isLt
  exact congr (congr (congr (congrArg f (Fin.ext (by show ((rY m g b).emb j 0).val / 256 = m.val; rw [h0]; omega))) (Fin.ext (by show ((rY m g b).emb j 1).val / 512 = g.val; rw [h1]; omega))) (Fin.ext (by show ((rY m g b).emb j 1).val % 512 / 128 = b.val; rw [h1]; omega)))
    (funext fun a => Fin.cases (Fin.ext (by show ((rY m g b).emb j 0).val % 256 = (j 0).val; rw [h0]; omega)) (fun a => Fin.cases (Fin.ext (by show ((rY m g b).emb j 1).val % 128 = (j 1).val; rw [h1]; omega)) (fun a => a.elim0) a) a)

end layout

variable {F : FTy → Type} [FloatOps F]

/-- The kernel's operands, and the reciprocal of 448 it multiplies by. -/
structure Ops (F : FTy → Type) where
  X : S1536x1024.Idx → Elt F .bf16
  W : S1024x4096.Idx → Elt F .fp8e4m3
  S : S1x4096.Idx → Elt F .f32
  κ : F .f32

namespace Ops
variable (O : Ops F)

/-- A block of the activations; its codes, scaled codes and packed scales; and these over the whole. -/
def xb (m : Fin 6) (b : Fin 8) : FVec F S256x128 .bf16 := fun j => O.X ((rBlk m b).emb j)
def XC : S1536x1024.Idx → Elt F .fp8e4m3 := ofBlk fun m b => shapeCast S256x128 (blkCodes (O.xb m b)) (by decide)
def XW : S1536x1024.Idx → Elt F .bf16 := ofBlk fun m b => shapeCast S256x128 (blkXw (O.xb m b)) (by decide)
def pk (m : Fin 6) : FVec F S256x128 .bf16 :=
  pack 7 (O.xb m 7) <| pack 6 (O.xb m 6) <| pack 5 (O.xb m 5) <| pack 4 (O.xb m 4) <|
  pack 3 (O.xb m 3) <| pack 2 (O.xb m 2) <| pack 1 (O.xb m 1) <| pack 0 (O.xb m 0) pack0
def XS : S1536x8.Idx → Elt F .f32 := ofRow8 fun m => shapeCast S256x8 (packOut (O.pk m)) (by decide)

/-- A weight tile, a tile of the scaled codes, their product over the four tiles of the inner dimension. -/
def wt (n : Fin 4) (g : Fin 8) (q : Fin 2) : FVec F S256x256 .bf16 := extf .bf16 (fun j => O.W ((rWt n g q).emb j) : FVec F S256x256 .fp8e4m3) (by decide)
def xw (m : Fin 6) (n : Fin 4) : FVec F S256x256 .bf16 := fun j => O.XW ((rXw m n).emb j)
def part (m : Fin 6) (g : Fin 8) (q : Fin 2) : ℕ → Option (FVec F S256x256 .f32)
  | 0 => none
  | n + 1 => some (sum (part m g q n) (pass (O.xw m ⟨n % 4, Nat.mod_lt _ (by decide)⟩) (O.wt ⟨n % 4, Nat.mod_lt _ (by decide)⟩ g q)))
def z (m : Fin 6) (g : Fin 8) (q : Fin 2) : FVec F S256x256 .f32 :=
  sum (O.part m g q 3) (pass (O.xw m 3) (O.wt 3 g q))
theorem part_four (m : Fin 6) (g : Fin 8) (q : Fin 2) : O.part m g q 4 = some (O.z m g q) := rfl

/-- A block of the product times the output scales, and the whole. -/
def y (m : Fin 6) (g : Fin 8) (j : Fin 4) : FVec F S256x128 .f32 :=
  scaled ⟨j.val % 2, Nat.mod_lt _ (by decide)⟩ (O.z m g ⟨j.val / 2, by omega⟩) (fun i => O.S ((rWs g j).emb i))
def Y : S1536x4096.Idx → Elt F .f32 := ofTile fun m g j => shapeCast S256x128 (O.y m g j) (by decide)

/-- The running maximum after `u` tiles. -/
def top : ℕ → FVec F S8x128 .f32
  | 0 => shapeCast S8x128 (broadcast S8x128 (Scalar.ofBits .f32 0x00000000#32) : FVec F S8x128 .f32) (by decide)
  | u + 1 => if h : u < 48 then
      shapeCast S8x128 (grow (grow (grow (grow (top u) (O.y (mOf u) (gOf u h) 0)) (O.y (mOf u) (gOf u h) 1)) (O.y (mOf u) (gOf u h) 2))
        (O.y (mOf u) (gOf u h) 3)) (by decide)
    else top u

/-- The estimates of the scale and its inverse, and the final ones. -/
def est (p : Fin 3) : FVec F S1x8x128 .f32 := shapeCast S1x8x128 (estScale O.κ (estTop (O.top (25 + 6 * p.val)))) (by decide)
def einv (p : Fin 3) : FVec F S8x128 .f32 := shapeCast S8x128 (estInv O.κ (estTop (O.top (25 + 6 * p.val)))) (by decide)
def fin0 : FVec F S1x8x128 .f32 := shapeCast S1x8x128 (estTop (O.top 48)) (by decide)
def fin1 : FVec F S1x8x128 .f32 := shapeCast S1x8x128 (estScale O.κ (estTop (O.top 48))) (by decide)
def finv : FVec F S8x128 .f32 := shapeCast S8x128 (estInv O.κ (estTop (O.top 48))) (by decide)
def am : FVec F S1x1 .f32 := shapeCast S1x1 (extractStridedSlice S1x1 ![0, 0] (estTop (O.top 48)) (by decide)) (by decide)
def sc : FVec F S1x1 .f32 := shapeCast S1x1 (extractStridedSlice S1x1 ![0, 0] (estScale O.κ (estTop (O.top 48))) (by decide)) (by decide)

/-- The row of an inverse a quantisation reads. -/
def row1 (v : FVec F S8x128 .f32) : FVec F S1x128 .f32 := fun i => v (rInv.emb i)

/-- Whether an estimate's scale differs from the final one. -/
def dif (p : Fin 3) : BitVec 1 :=
  Scalar.cmpi .ne (Scalar.extui (Scalar.cmpf .one (O.est p (fun a => ⟨0, by revert a; decide⟩)) (O.fin1 (fun a => ⟨0, by revert a; decide⟩))) : BitVec 32) 0#32

/-- The estimate a tile is quantised by. -/
def slot (v : ℕ) : Fin 3 := ⟨min 2 (v / 12), by omega⟩

/-- The codes of a tile by its estimate, by the final scale, and as the kernel leaves them. -/
def YE : S1536x4096.Idx → Elt F .fp8e4m3 := ofTile fun m g j =>
  shapeCast S256x128 (yCodes (row1 (O.einv (slot (6 * g.val + m.val)))) (fun i => O.Y ((rY m g j).emb i))) (by decide)
def YF : S1536x4096.Idx → Elt F .fp8e4m3 := ofTile fun m g j =>
  shapeCast S256x128 (yCodes (row1 O.finv) (fun i => O.Y ((rY m g j).emb i))) (by decide)
def YC : S1536x4096.Idx → Elt F .fp8e4m3 := fun i =>
  if O.dif 0 = 1#1 ∧ O.dif (slot (6 * ((i 1).val / 512) + (i 0).val / 256)) = 1#1 then O.YF i else O.YE i

end Ops

end Cert.Fp8
-- ==== Proof.Geometry.lean ====
/- The rectangles of the kernel's buffers: which indices each holds, how whole buffers, row chunks and tiles fall into them, and that
   loads and stores stay inside what is held. -/
module

public import proofs.«01_k».proof.Proof.Model

@[expose] public section

noncomputable section

namespace Cert.Fp8

open Idealize.ShloMosaic

theorem mem2 {d off size : Fin 2 → ℕ} {inb} {i : (⟨2, d⟩ : Shape).Idx} :
    i ∈ (Rect.unit (s := ⟨2, d⟩) off size inb).set ↔
      (off 0 ≤ (i 0).val ∧ (i 0).val < off 0 + size 0) ∧ (off 1 ≤ (i 1).val ∧ (i 1).val < off 1 + size 1) :=
  Rect.mem_set_unit.trans Fin.forall_fin_two

theorem mem_row {m : Fin 6} {i : S1536x1024.Idx} :
    i ∈ (rRow m).set ↔ (256 * m.val ≤ (i 0).val ∧ (i 0).val < 256 * m.val + 256) ∧ (0 ≤ (i 1).val ∧ (i 1).val < 0 + 1024) := mem2
theorem mem_blk {m : Fin 6} {b : Fin 8} {i : S1536x1024.Idx} :
    i ∈ (rBlk m b).set ↔ (256 * m.val ≤ (i 0).val ∧ (i 0).val < 256 * m.val + 256) ∧ (128 * b.val ≤ (i 1).val ∧ (i 1).val < 128 * b.val + 128) := mem2
theorem mem_xw {m : Fin 6} {k : Fin 4} {i : S1536x1024.Idx} :
    i ∈ (rXw m k).set ↔ (256 * m.val ≤ (i 0).val ∧ (i 0).val < 256 * m.val + 256) ∧ (256 * k.val ≤ (i 1).val ∧ (i 1).val < 256 * k.val + 256) := mem2
theorem mem_row8 {m : Fin 6} {i : S1536x8.Idx} :
    i ∈ (rRow8 m).set ↔ (256 * m.val ≤ (i 0).val ∧ (i 0).val < 256 * m.val + 256) ∧ (0 ≤ (i 1).val ∧ (i 1).val < 0 + 8) := mem2
theorem mem_w0 {k : Fin 4} {i : S1024x4096.Idx} :
    i ∈ (rW0 k).set ↔ (256 * k.val ≤ (i 0).val ∧ (i 0).val < 256 * k.val + 256) ∧ (0 ≤ (i 1).val ∧ (i 1).val < 0 + 512) := mem2
theorem mem_wg {g : Fin 8} {i : S1024x4096.Idx} :
    i ∈ (rWg g).set ↔ (0 ≤ (i 0).val ∧ (i 0).val < 0 + 1024) ∧ (512 * g.val ≤ (i 1).val ∧ (i 1).val < 512 * g.val + 512) := mem2
theorem mem_wt {k : Fin 4} {g : Fin 8} {q : Fin 2} {i : S1024x4096.Idx} :
    i ∈ (rWt k g q).set ↔ (256 * k.val ≤ (i 0).val ∧ (i 0).val < 256 * k.val + 256) ∧
      (512 * g.val + 256 * q.val ≤ (i 1).val ∧ (i 1).val < 512 * g.val + 256 * q.val + 256) := mem2
theorem mem_y {m : Fin 6} {g : Fin 8} {j : Fin 4} {i : S1536x4096.Idx} :
    i ∈ (rY m g j).set ↔ (256 * m.val ≤ (i 0).val ∧ (i 0).val < 256 * m.val + 256) ∧
      (512 * g.val + 128 * j.val ≤ (i 1).val ∧ (i 1).val < 512 * g.val + 128 * j.val + 128) := mem2
theorem mem_yt {m : Fin 6} {g : Fin 8} {i : S1536x4096.Idx} :
    i ∈ (rYt m g).set ↔ (256 * m.val ≤ (i 0).val ∧ (i 0).val < 256 * m.val + 256) ∧
      (512 * g.val ≤ (i 1).val ∧ (i 1).val < 512 * g.val + 512) := mem2

/-- The tile numbered `v`. -/
abbrev tile (v : Fin 48) : Finset S1536x4096.Idx := (rYt (mOf v.val) (gOf v.val v.isLt)).set

theorem mem_tile {v : Fin 48} {i : S1536x4096.Idx} :
    i ∈ tile v ↔ (256 * (v.val % 6) ≤ (i 0).val ∧ (i 0).val < 256 * (v.val % 6) + 256) ∧
      (512 * (v.val / 6) ≤ (i 1).val ∧ (i 1).val < 512 * (v.val / 6) + 512) := mem_yt

theorem rows_univ : (Finset.univ : Finset S1536x1024.Idx) = Finset.univ.biUnion fun m : Fin 6 => (rRow m).set := by
  ext i
  simp only [Finset.mem_univ, true_iff, Finset.mem_biUnion, true_and]
  have h0 : (i 0).val < 1536 := (i 0).isLt
  have h1 : (i 1).val < 1024 := (i 1).isLt
  refine ⟨⟨(i 0).val / 256, by omega⟩, mem_row.mpr ?_⟩
  dsimp only
  omega
theorem rows_disj (m m' : Fin 6) (h : m ≠ m') : Disjoint (rRow m).set (rRow m').set :=
  Finset.disjoint_left.mpr fun i h1 h2 => h (Fin.ext (by have := mem_row.mp h1; have := mem_row.mp h2; omega))
theorem rows8_univ : (Finset.univ : Finset S1536x8.Idx) = Finset.univ.biUnion fun m : Fin 6 => (rRow8 m).set := by
  ext i
  simp only [Finset.mem_univ, true_iff, Finset.mem_biUnion, true_and]
  have h0 : (i 0).val < 1536 := (i 0).isLt
  have h1 : (i 1).val < 8 := (i 1).isLt
  refine ⟨⟨(i 0).val / 256, by omega⟩, mem_row8.mpr ?_⟩
  dsimp only
  omega
theorem rows8_disj (m m' : Fin 6) (h : m ≠ m') : Disjoint (rRow8 m).set (rRow8 m').set :=
  Finset.disjoint_left.mpr fun i h1 h2 => h (Fin.ext (by have := mem_row8.mp h1; have := mem_row8.mp h2; omega))
theorem blks_row (m : Fin 6) : (rRow m).set = Finset.univ.biUnion fun b : Fin 8 => (rBlk m b).set := by
  ext i
  have h1 : (i 1).val < 1024 := (i 1).isLt
  rw [mem_row, Finset.mem_biUnion]
  constructor
  · intro h
    refine ⟨⟨(i 1).val / 128, by omega⟩, Finset.mem_univ _, mem_blk.mpr ?_⟩
    dsimp only
    omega
  · rintro ⟨b, -, hb⟩
    have := mem_blk.mp hb
    omega
theorem blks_disj (m : Fin 6) (b b' : Fin 8) (h : b ≠ b') : Disjoint (rBlk m b).set (rBlk m b').set :=
  Finset.disjoint_left.mpr fun i h1 h2 => h (Fin.ext (by have := mem_blk.mp h1; have := mem_blk.mp h2; omega))
theorem tiles_univ : (Finset.univ : Finset S1536x4096.Idx) = Finset.univ.biUnion fun v : Fin 48 => tile v := by
  ext i
  simp only [Finset.mem_univ, true_iff, Finset.mem_biUnion, true_and]
  have h0 : (i 0).val < 1536 := (i 0).isLt
  have h1 : (i 1).val < 4096 := (i 1).isLt
  refine ⟨⟨6 * ((i 1).val / 512) + (i 0).val / 256, by omega⟩, mem_tile.mpr ?_⟩
  dsimp only
  omega
theorem tiles_disj (v v' : Fin 48) (h : v ≠ v') : Disjoint (tile v) (tile v') :=
  Finset.disjoint_left.mpr fun i h1 h2 => h (Fin.ext (by have := mem_tile.mp h1; have := mem_tile.mp h2; omega))
theorem ys_tile (m : Fin 6) (g : Fin 8) : (rYt m g).set = Finset.univ.biUnion fun j : Fin 4 => (rY m g j).set := by
  ext i
  rw [mem_yt, Finset.mem_biUnion]
  constructor
  · intro h
    refine ⟨⟨(i 1).val % 512 / 128, by omega⟩, Finset.mem_univ _, mem_y.mpr ?_⟩
    dsimp only
    omega
  · rintro ⟨b, -, hb⟩
    have := mem_y.mp hb
    omega
theorem ys_disj (m : Fin 6) (g : Fin 8) (b b' : Fin 4) (h : b ≠ b') : Disjoint (rY m g b).set (rY m g b').set :=
  Finset.disjoint_left.mpr fun i h1 h2 => h (Fin.ext (by have := mem_y.mp h1; have := mem_y.mp h2; omega))
theorem wg_succ (g : Fin 7) : g.val + 1 < 8 := by omega
theorem w_univ : (Finset.univ : Finset S1024x4096.Idx) =
    (Finset.univ.biUnion fun k : Fin 4 => (rW0 k).set) ∪ Finset.univ.biUnion fun g : Fin 7 => (rWg ⟨g.val + 1, wg_succ g⟩).set := by
  ext i
  simp only [Finset.mem_univ, true_iff, Finset.mem_union, Finset.mem_biUnion, true_and]
  have h0 : (i 0).val < 1024 := (i 0).isLt
  have h1 : (i 1).val < 4096 := (i 1).isLt
  by_cases h : (i 1).val < 512
  · refine .inl ⟨⟨(i 0).val / 256, by omega⟩, mem_w0.mpr ?_⟩
    dsimp only
    omega
  · refine .inr ⟨⟨(i 1).val / 512 - 1, by omega⟩, mem_wg.mpr ?_⟩
    dsimp only
    omega
theorem w_disj : Disjoint (Finset.univ.biUnion fun k : Fin 4 => (rW0 k).set) (Finset.univ.biUnion fun g : Fin 7 => (rWg ⟨g.val + 1, wg_succ g⟩).set) :=
  Finset.disjoint_left.mpr fun i h1 h2 => by
    obtain ⟨k, -, hk⟩ := Finset.mem_biUnion.mp h1
    obtain ⟨g, -, hg⟩ := Finset.mem_biUnion.mp h2
    have := mem_w0.mp hk
    have := mem_wg.mp hg
    dsimp only at this
    omega
theorem w0_disj (k k' : Fin 4) (h : k ≠ k') : Disjoint (rW0 k).set (rW0 k').set :=
  Finset.disjoint_left.mpr fun i h1 h2 => h (Fin.ext (by have := mem_w0.mp h1; have := mem_w0.mp h2; omega))
theorem wg_disj (g g' : Fin 7) (h : g ≠ g') : Disjoint (rWg ⟨g.val + 1, wg_succ g⟩).set (rWg ⟨g'.val + 1, wg_succ g'⟩).set :=
  Finset.disjoint_left.mpr fun i h1 h2 => h (Fin.ext (by
    have := mem_wg.mp h1; have := mem_wg.mp h2; dsimp only at *; omega))

theorem blk_sub (m : Fin 6) (b : Fin 8) : (rBlk m b).set ⊆ (rRow m).set := fun i hi => by
  have := mem_blk.mp hi; have := b.isLt; exact mem_row.mpr (by omega)
theorem xw_sub (m : Fin 6) (k : Fin 4) : (rXw m k).set ⊆ (rRow m).set := fun i hi => by
  have := mem_xw.mp hi; have := k.isLt; exact mem_row.mpr (by omega)
theorem wt_sub0 (k : Fin 4) (g : Fin 8) (hg : g.val = 0) (q : Fin 2) : (rWt k g q).set ⊆ (rW0 k).set := fun i hi => by
  have := mem_wt.mp hi; have := q.isLt; exact mem_w0.mpr (by omega)
theorem wt_sub (k : Fin 4) (g : Fin 8) (q : Fin 2) : (rWt k g q).set ⊆ (rWg g).set := fun i hi => by
  have := mem_wt.mp hi; have := q.isLt; have := k.isLt; exact mem_wg.mpr (by omega)
theorem y_sub (m : Fin 6) (g : Fin 8) (j : Fin 4) : (rY m g j).set ⊆ (rYt m g).set := fun i hi => by
  have := mem_y.mp hi; have := j.isLt; exact mem_yt.mpr (by omega)

theorem top_emb (j : S8x128.Idx) : rTop.emb j = j := by
  funext a
  refine Fin.cases (Fin.ext ?_) (fun a => Fin.cases (Fin.ext ?_) (fun a => a.elim0) a) a
  · show 0 + 1 * (j 0).val = (j 0).val; omega
  · show 0 + 1 * (j 1).val = (j 1).val; omega
theorem top_get {β : Type} (f : S8x128.Idx → β) : (fun j : S8x128.Idx => f (rTop.emb j)) = f := funext fun j => congrArg f (top_emb j)
theorem one_emb (j : S1x1.Idx) : rOne.emb j = j := by
  funext a
  refine Fin.cases (Fin.ext ?_) (fun a => Fin.cases (Fin.ext ?_) (fun a => a.elim0) a) a
  · show 0 + 1 * (j 0).val = (j 0).val; omega
  · show 0 + 1 * (j 1).val = (j 1).val; omega

end Cert.Fp8
-- ==== Proof.Held.lean ====
/- The kernel's buffers and semaphores as families over row chunks, weight groups and tiles, each counted by how far it has come; and
   what each copy does to them. -/
module

public import proofs.«01_k».proof.Proof.Rules
public import proofs.«01_k».proof.Proof.Values
public import proofs.«01_k».proof.Proof.Geometry

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

section stages

variable {M : Type*} [URA M]

/-- A member's state by two counters: before the first, between them, past the second. -/
def stage (i n m : ℕ) (A B C : sProp M) : sProp M := if m < n then C else if m < i then B else A

variable {N : ℕ} {i n : ℕ} {A B C : Fin N → sProp M}

theorem stage_start (hi : i < N) (hn : n ≤ i) :
    bigSep Finset.univ (fun m : Fin N => stage i n m.val (A m) (B m) (C m))
      ⊢ iprop(A ⟨i, hi⟩ ∗ (B ⟨i, hi⟩ -∗ bigSep Finset.univ (fun m : Fin N => stage (i + 1) n m.val (A m) (B m) (C m)))) := by
  have h := sep_acc (M := M) (Φ := fun m : Fin N => stage i n m.val (A m) (B m) (C m))
    (Ψ := fun m : Fin N => stage (i + 1) n m.val (A m) (B m) (C m)) ⟨i, hi⟩ (fun m' hm' => by
      have : m'.val ≠ i := fun e => hm' (Fin.ext e)
      show stage i n m'.val _ _ _ = stage (i + 1) n m'.val _ _ _
      unfold stage
      by_cases h1 : m'.val < n
      · rw [if_pos h1, if_pos h1]
      · rw [if_neg h1, if_neg h1]
        by_cases h2 : m'.val < i
        · rw [if_pos h2, if_pos (by omega)]
        · rw [if_neg h2, if_neg (by omega)])
  have e1 : stage i n i (A ⟨i, hi⟩) (B ⟨i, hi⟩) (C ⟨i, hi⟩) = A ⟨i, hi⟩ := by
    unfold stage; rw [if_neg (by omega), if_neg (by omega)]
  have e2 : stage (i + 1) n i (A ⟨i, hi⟩) (B ⟨i, hi⟩) (C ⟨i, hi⟩) = B ⟨i, hi⟩ := by
    unfold stage; rw [if_neg (by omega), if_pos (by omega)]
  dsimp only at h
  rw [e1, e2] at h
  exact h
theorem stage_wait (hN : n < N) (hn : n < i) :
    bigSep Finset.univ (fun m : Fin N => stage i n m.val (A m) (B m) (C m))
      ⊢ iprop(B ⟨n, hN⟩ ∗ (C ⟨n, hN⟩ -∗ bigSep Finset.univ (fun m : Fin N => stage i (n + 1) m.val (A m) (B m) (C m)))) := by
  have h := sep_acc (M := M) (Φ := fun m : Fin N => stage i n m.val (A m) (B m) (C m))
    (Ψ := fun m : Fin N => stage i (n + 1) m.val (A m) (B m) (C m)) ⟨n, hN⟩ (fun m' hm' => by
      have : m'.val ≠ n := fun e => hm' (Fin.ext e)
      show stage i n m'.val _ _ _ = stage i (n + 1) m'.val _ _ _
      unfold stage
      by_cases h1 : m'.val < n
      · rw [if_pos h1, if_pos (show m'.val < n + 1 by omega)]
      · rw [if_neg h1, if_neg (show ¬ m'.val < n + 1 by omega)])
  have e1 : stage i n n (A ⟨n, hN⟩) (B ⟨n, hN⟩) (C ⟨n, hN⟩) = B ⟨n, hN⟩ := by
    unfold stage; rw [if_neg (by omega), if_pos (by omega)]
  have e2 : stage i (n + 1) n (A ⟨n, hN⟩) (B ⟨n, hN⟩) (C ⟨n, hN⟩) = C ⟨n, hN⟩ := by
    unfold stage; rw [if_pos (by omega)]
  dsimp only at h
  rw [e1, e2] at h
  exact h
/-- Both counters at once. -/
theorem stage_step (hN : n < N) :
    bigSep Finset.univ (fun m : Fin N => stage n n m.val (A m) (B m) (C m))
      ⊢ iprop(A ⟨n, hN⟩ ∗ (C ⟨n, hN⟩ -∗ bigSep Finset.univ (fun m : Fin N => stage (n + 1) (n + 1) m.val (A m) (B m) (C m)))) := by
  have h := sep_acc (M := M) (Φ := fun m : Fin N => stage n n m.val (A m) (B m) (C m))
    (Ψ := fun m : Fin N => stage (n + 1) (n + 1) m.val (A m) (B m) (C m)) ⟨n, hN⟩ (fun m' hm' => by
      have : m'.val ≠ n := fun e => hm' (Fin.ext e)
      show stage n n m'.val _ _ _ = stage (n + 1) (n + 1) m'.val _ _ _
      unfold stage
      by_cases h1 : m'.val < n
      · rw [if_pos h1, if_pos (by omega)]
      · rw [if_neg h1, if_neg h1, if_neg (by omega), if_neg (by omega)])
  have e1 : stage n n n (A ⟨n, hN⟩) (B ⟨n, hN⟩) (C ⟨n, hN⟩) = A ⟨n, hN⟩ := by
    unfold stage; rw [if_neg (by omega), if_neg (by omega)]
  have e2 : stage (n + 1) (n + 1) n (A ⟨n, hN⟩) (B ⟨n, hN⟩) (C ⟨n, hN⟩) = C ⟨n, hN⟩ := by
    unfold stage; rw [if_pos (by omega)]
  dsimp only at h
  rw [e1, e2] at h
  exact h
/-- A member past the second counter, used and put back. -/
theorem stage_use (m : Fin N) (hm : m.val < n) :
    bigSep Finset.univ (fun m : Fin N => stage i n m.val (A m) (B m) (C m))
      ⊢ iprop(C m ∗ (C m -∗ bigSep Finset.univ (fun m : Fin N => stage i n m.val (A m) (B m) (C m)))) := by
  have h := sep_acc (M := M) (Φ := fun m : Fin N => stage i n m.val (A m) (B m) (C m))
    (Ψ := fun m : Fin N => stage i n m.val (A m) (B m) (C m)) m (fun m' hm' => rfl)
  have e1 : stage i n m.val (A m) (B m) (C m) = C m := by unfold stage; rw [if_pos hm]
  rw [e1] at h
  exact h
theorem stage_none : (bigSep Finset.univ fun m : Fin N => stage 0 0 m.val (A m) (B m) (C m)) = bigSep Finset.univ A :=
  bigSep_congr fun m _ => by unfold stage; rw [if_neg (by omega), if_neg (by omega)]
theorem stage_all (hn : N ≤ n) : (bigSep Finset.univ fun m : Fin N => stage i n m.val (A m) (B m) (C m)) = bigSep Finset.univ C :=
  bigSep_congr fun m _ => by unfold stage; rw [if_pos (by omega)]
theorem stage_mid (hi : N ≤ i) : (bigSep Finset.univ fun m : Fin N => stage i 0 m.val (A m) (B m) (C m)) = bigSep Finset.univ B :=
  bigSep_congr fun m _ => by unfold stage; rw [if_neg (by omega), if_pos (by omega)]

theorem sep_pair (A B : Fin N → sProp M) :
    iprop(bigSep Finset.univ A ∗ bigSep Finset.univ B) ⊢ bigSep Finset.univ fun m : Fin N => iprop(A m ∗ B m) := by
  have e : bigSep Finset.univ (fun m : Fin N => iprop(A m ∗ B m)) = iprop(bigSep Finset.univ A ∗ bigSep Finset.univ B) := bigSep_sep _ _ _
  rw [e]
theorem sep_unpair (A B : Fin N → sProp M) :
    (bigSep Finset.univ fun m : Fin N => iprop(A m ∗ B m)) ⊢ iprop(bigSep Finset.univ A ∗ bigSep Finset.univ B) := by
  have e : bigSep Finset.univ (fun m : Fin N => iprop(A m ∗ B m)) = iprop(bigSep Finset.univ A ∗ bigSep Finset.univ B) := bigSep_sep _ _ _
  rw [e]

end stages

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}

/-- The core owns the elements of `M` at the indices `S`, whatever they hold. -/
def some' (c : Dev nD) {sp : Space} {s : Shape} {e : EltTy} (M : Memref sig .tc sp s e) (S : Finset s.Idx) :
    sProp (MT nD τ sig Unit (Elt F) ℕ (Pipeline.UD sig nD τ) ℕ) := iprop(∃ G, holds (F := F) (τ := τ) c M S G)

section
variable {c : Dev nD} {sp : Space} {s : Shape} {e : EltTy} {M : Memref sig .tc sp s e}

theorem some_of {S : Finset s.Idx} {G : s.Idx → Elt F e} : holds (F := F) (τ := τ) c M S G ⊢ some' c M S := by
  unfold some'; iintro H; iexists G; iexact H

theorem some_split {n : ℕ} (K : Fin n → Finset s.Idx) (hK : ∀ t t', t ≠ t' → Disjoint (K t) (K t')) {S : Finset s.Idx} (hS : S = Finset.univ.biUnion K) :
    some' (F := F) (τ := τ) c M S ⊢ bigSep Finset.univ fun t => some' (F := F) (τ := τ) c M (K t) := by
  subst hS
  unfold some'
  iintro ⟨%G, H⟩
  have e : (bigSep Finset.univ fun t => holds (F := F) (τ := τ) c M (K t) G) ⊢ bigSep Finset.univ fun t => iprop(∃ G, holds (F := F) (τ := τ) c M (K t) G) :=
    bigSep_mono fun t _ => (some_of (G := G) : holds (F := F) (τ := τ) c M (K t) G ⊢ iprop(∃ G, holds (F := F) (τ := τ) c M (K t) G))
  iapply e
  iapply (holds_biUnion K hK Finset.univ) $$ H
theorem holds_parts {n : ℕ} (K : Fin n → Finset s.Idx) (hK : ∀ t t', t ≠ t' → Disjoint (K t) (K t')) {S : Finset s.Idx} (hS : S = Finset.univ.biUnion K)
    {G : s.Idx → Elt F e} :
    holds (F := F) (τ := τ) c M S G ⊢ bigSep Finset.univ fun t => holds (F := F) (τ := τ) c M (K t) G := by
  subst hS; exact holds_biUnion K hK Finset.univ
theorem holds_whole {n : ℕ} (K : Fin (n + 1) → Finset s.Idx) (hK : ∀ t t', t ≠ t' → Disjoint (K t) (K t')) {S : Finset s.Idx} (hS : S = Finset.univ.biUnion K)
    {G : s.Idx → Elt F e} :
    (bigSep Finset.univ fun t => holds (F := F) (τ := τ) c M (K t) G) ⊢ holds (F := F) (τ := τ) c M S G := by
  subst hS; exact holds_biUnion_join K hK Finset.univ ⟨0, Finset.mem_univ _⟩
theorem some_join2 {S T : Finset s.Idx} (hd : Disjoint S T) :
    iprop(some' (F := F) (τ := τ) c M S ∗ some' (F := F) (τ := τ) c M T) ⊢ some' (F := F) (τ := τ) c M (S ∪ T) := by
  unfold some'
  iintro ⟨⟨%G, H⟩, ⟨%G', H'⟩⟩
  iexists (fun i => if i ∈ S then G i else G' i)
  iapply (holds_join hd)
  isplitl [H]
  · iapply (holds_congr (fun i hi => (if_pos hi).symm)) $$ H
  · iapply (holds_congr (fun i hi => (if_neg (fun h => Finset.disjoint_left.mp hd h hi)).symm)) $$ H'
theorem some_biUnion {n : ℕ} (K : Fin n → Finset s.Idx) (hK : ∀ t t', t ≠ t' → Disjoint (K t) (K t')) (T : Finset (Fin n)) (hT : T.Nonempty) :
    (bigSep T fun t => some' (F := F) (τ := τ) c M (K t)) ⊢ some' (F := F) (τ := τ) c M (T.biUnion K) := by
  revert hT
  induction T using Finset.induction_on with
  | empty => intro hT; exact absurd hT Finset.not_nonempty_empty
  | insert t T ht ih =>
    intro _
    rw [Finset.biUnion_insert, sep_insert ht]
    rcases T.eq_empty_or_nonempty with rfl | hT
    · rw [Finset.biUnion_empty, Finset.union_empty]
      iintro ⟨H, -⟩; iexact H
    · iintro ⟨H, H'⟩
      iapply (some_join2 ((Finset.disjoint_biUnion_right _ _ _).mpr fun t' ht' => hK t t' (fun e => ht (e ▸ ht'))))
      isplitl [H]; · iexact H
      iapply (ih hT) $$ H'
theorem some_whole {n : ℕ} (K : Fin (n + 1) → Finset s.Idx) (hK : ∀ t t', t ≠ t' → Disjoint (K t) (K t')) {S : Finset s.Idx} (hS : S = Finset.univ.biUnion K) :
    (bigSep Finset.univ fun t => some' (F := F) (τ := τ) c M (K t)) ⊢ some' (F := F) (τ := τ) c M S := by
  subst hS; exact some_biUnion K hK Finset.univ ⟨0, Finset.mem_univ _⟩

end

section
variable {c : Dev nD}

/-- A load whose value is known. -/
theorem ld_spec {cs : CoreSpace} {s : Shape} {e : EltTy} {M : Memref sig .tc (.core cs) s e} {r : Rect s} {hl : M.view.LoadsAt r.toLoadRect}
    {k : (r.shape.Idx → Elt F e) → (Prog (TpuEff nD τ sig (Elt F) Λ .tc) α)} {S : Finset s.Idx} {G : s.Idx → Elt F e} (v : r.shape.Idx → Elt F e)
    (hS : r.set ⊆ S) (hv : (fun j => G (r.emb j)) = v) :
    holds (F := F) (τ := τ) c M S G ⊢ iprop((holds (F := F) (τ := τ) c M S G -∗ wp frame (wpE defs 𝒱 (c : Thread nD τ) bd) Set.univ (k v) Q) -∗ wp frame (wpE defs 𝒱 (c : Thread nD τ) bd) Set.univ (ld M r hl k) Q) := by
  subst hv
  unfold ld
  exact wp_ld hS

/-- A load and a store. -/
theorem put_spec {cs : CoreSpace} {s : Shape} {e : EltTy} {M : Memref sig .tc (.core cs) s e} {r : Rect s} {hl : M.view.LoadsAt r.toLoadRect}
    {w : r.shape.Idx → Elt F e} {hx : (M.access r).Stores Finset.univ} {k : (Prog (TpuEff nD τ sig (Elt F) Λ .tc) α)} {S : Finset s.Idx} {G : s.Idx → Elt F e}
    (G' : s.Idx → Elt F e) (hS : r.set ⊆ S) (hw : ∀ j, G' (r.emb j) = w j) (hG : ∀ i ∈ S, i ∉ r.set → G' i = G i) :
    holds (F := F) (τ := τ) c M S G ⊢ iprop((holds (F := F) (τ := τ) c M S G' -∗ wp frame (wpE defs 𝒱 (c : Thread nD τ) bd) Set.univ (k) Q) -∗ wp frame (wpE defs 𝒱 (c : Thread nD τ) bd) Set.univ (put M r hl w hx k) Q) := by
  unfold put
  iintro H Hk
  iapply (wp_ld hS) $$ H
  iintro H
  iapply (wp_st G' hS hw hG) $$ H
  iintro H
  iapply Hk $$ H
/-- A load and a store over exactly what is held. -/
theorem put_some {cs : CoreSpace} {s : Shape} {e : EltTy} {M : Memref sig .tc (.core cs) s e} {r : Rect s} {hl : M.view.LoadsAt r.toLoadRect}
    {w : r.shape.Idx → Elt F e} {hx : (M.access r).Stores Finset.univ} {k : (Prog (TpuEff nD τ sig (Elt F) Λ .tc) α)}
    (G' : s.Idx → Elt F e) (hw : ∀ j, G' (r.emb j) = w j) :
    some' (F := F) (τ := τ) c M r.set ⊢ iprop((holds (F := F) (τ := τ) c M r.set G' -∗ wp frame (wpE defs 𝒱 (c : Thread nD τ) bd) Set.univ (k) Q) -∗ wp frame (wpE defs 𝒱 (c : Thread nD τ) bd) Set.univ (put M r hl w hx k) Q) := by
  unfold some'
  iintro ⟨%G, H⟩ Hk
  iapply (put_spec G' (fun _ h => h) hw (fun i hi hi' => absurd hi hi')) $$ H
  iexact Hk

/-- A copy of one rectangle onto the same rectangle, in a batch. -/
theorem wp_dmaB {sp sp' : Space} {s : Shape} {e : EltTy} {Ms : Memref sig .tc sp s e} {Md : Memref sig .tc sp' s e} {r : Rect s} {h1 h2 : ∀ a, r.stride a = 1}
    {sm : DmaSem sig} {hsrc : (Ms.slice r h1).view.WordExact} {hdst : (Md.slice r h2).view.WordExact}
    {hsem : DmaTarget.Typed (nD := nD) (p := (c : Thread nD τ).2) sp (SemLoc.dma sm) (.here (Md.slice r h2))}
    {k : PUnit → Prog (TpuEff nD τ sig (Elt F) Λ (c : Thread nD τ).2) α} {G : s.Idx → Elt F e}
    {n : ℕ} {D : Fin n → sProp (MT nD τ sig Unit (Elt F) ℕ (Pipeline.UD sig nD τ) ℕ)} {N j : ℕ} (hN : (Md.slice r h2).view.dmaCredit = N) (hj : j < n)
    (hD : D ⟨j, hj⟩ = iprop(holds (F := F) (τ := τ) c Md r.set G ∗ holds (F := F) (τ := τ) c Ms r.set G)) :
    iprop(holds (F := F) (τ := τ) c Ms r.set G ∗ some' (F := F) (τ := τ) c Md r.set
        ∗ Batch (countersEmb (U := Pipeline.UD sig nD τ)) (c : Thread nD τ) (.dma sm) () N D j 0)
      ⊢ iprop((Batch (countersEmb (U := Pipeline.UD sig nD τ)) (c : Thread nD τ) (.dma sm) () N D (j + 1) 0
              -∗ wp frame (wpE defs 𝒱 (c : Thread nD τ) bd) Set.univ (k ⟨⟩) Q)
          -∗ wp frame (wpE defs 𝒱 (c : Thread nD τ) bd) Set.univ
              (.op (.enqueueDma (Ms.slice r h1) (.here (Md.slice r h2)) (.dma sm) hsrc hdst hsem) k) Q) := by
  unfold some'
  iintro ⟨Hs, ⟨%G', Hd⟩, Hb⟩ Hk
  have hD' : iprop(holds (F := F) (τ := τ) c (Md.slice r h2) Finset.univ (fun i => G (r.emb i))
      ∗ holds (F := F) (τ := τ) c (Ms.slice r h1) Finset.univ (fun i => G (r.emb i))) ⊢ D ⟨j, hj⟩ := by
    rw [hD]
    iintro ⟨H1, H2⟩
    isplitl [H1]
    · iapply (holds_unslice h2) $$ H1
    · iapply (holds_unslice h1) $$ H2
  iapply (wp_copyB (g := fun i => G (r.emb i)) (g' := fun i => G' (r.emb i)) hN hj hD') $$ [Hs Hd Hb]
  · isplitl [Hs]
    · iapply (holds_slice h1) $$ Hs
    isplitl [Hd]
    · iapply (holds_slice h2) $$ Hd
    iexact Hb
  iexact Hk

end

end Cert.Fp8
-- ==== Proof.Pieces.lean ====
/- What each piece of the kernel does to what the core holds: the copies, a row chunk quantised, weights pushed, a pass accumulated, a
   tile popped, and result tiles quantised. -/
module

public import proofs.«01_k».proof.Proof.Held

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

section tables

/-- One column of a two-by-two table replaced. -/
def set1 {β : Type} (T : Fin 2 → Fin 2 → β) (r : Fin 2) (f : Fin 2 → β) : Fin 2 → Fin 2 → β := fun q r' => if r' = r then f q else T q r'

theorem set1_of {β : Type} (T : Fin 2 → Fin 2 → β) (r : Fin 2) (f : Fin 2 → β) : upd (upd T 0 r (f 0)) 1 r (f 1) = set1 T r f := by
  funext q r'
  unfold upd set1
  by_cases h : r' = r
  · subst h
    rcases (show q = 0 ∨ q = 1 by revert q; decide) with rfl | rfl
    · rw [if_neg (fun h => absurd h.1 (by decide)), if_pos ⟨rfl, rfl⟩, if_pos rfl]
    · rw [if_pos ⟨rfl, rfl⟩, if_pos rfl]
  · rw [if_neg (fun h' => h h'.2), if_neg (fun h' => h h'.2), if_neg h]

variable {F : FTy → Type} [FloatOps F] {s : Mxu F} {R : Fin 2 → Fin 2 → Option (FVec F T256 .bf16)} {Z : Fin 2 → Fin 2 → Option (FVec F T256 .f32)}

theorem upd_other {β : Type} (T : Fin 2 → Fin 2 → β) (r a : Fin 2) (b : β) : upd T 0 r b 1 a = T 1 a := if_neg fun h => absurd h.1 (by decide)

theorem St.push2 (h : St s R Z) {r : Fin 2} (hr : ∀ q, R q r = none) (v : Fin 2 → FVec F T256 .bf16) :
    St ((s.pushed 0 r false (v 0)).pushed 1 r false (v 1)) (set1 R r fun q => some (v q)) Z := by
  have := (h.pushed (hr 0) (v 0)).pushed (q := 1) (r := r) (by rw [upd_other]; exact hr 1) (v 1)
  rwa [set1_of R r fun q => some (v q)] at this
theorem St.acc2 (h : St s R Z) {r : Fin 2} {w : Fin 2 → FVec F T256 .bf16} (hr : ∀ q, R q r = some (w q)) (a : Fin 2) (x : FVec F T256 .bf16) :
    St ((s.accLhs 0 r (64 * a.val) x (fitsA a)).accLhs 1 r (64 * a.val) x (fitsA a)) (set1 R r fun _ => none)
      (set1 Z a fun q => some (sum (Z q a) (pass x (w q)))) := by
  have := (h.accLhs (hr 0) a x).accLhs (q := 1) (r := r) (w := w 1) (by rw [upd_other]; exact hr 1) a x
  rw [upd_other] at this
  rwa [set1_of R r fun _ => none, set1_of Z a fun q => some (sum (Z q a) (pass x (w q)))] at this
theorem St.pop2 (h : St s R Z) (a : Fin 2) :
    St ((s.pop 0 (64 * a.val) 256 (fitsA a)).pop 1 (64 * a.val) 256 (fitsA a)) R (set1 Z a fun _ => none) := by
  have := (h.pop 0 a).pop 1 a
  rwa [set1_of Z a fun _ => none] at this

end tables

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}

section families
variable (E : Env sig) (O : Ops F) (c : Dev nD)

/-- The activations' row chunks: `i` copies started, `n` of them landed. -/
def XI (i n : ℕ) : sProp (MT nD τ sig Unit (Elt F) ℕ (Pipeline.UD sig nD τ) ℕ) := bigSep Finset.univ fun m : Fin 6 => stage i n m.val
  iprop((holds (F := F) (τ := τ) c E.a0 (rRow m).set O.X) ∗ (some' (F := F) (τ := τ) c E.a8 (rRow m).set) ∗ semVal ((c : Thread nD τ), .dma (E.xSem m)) 0)
  (Flight (countersEmb (U := Pipeline.UD sig nD τ)) (c : Thread nD τ) (.dma (E.xSem m)) () (E.a8.slice (rRow m) (fun _ => rfl)).view.dmaCredit
    iprop((holds (F := F) (τ := τ) c E.a8 (rRow m).set O.X) ∗ (holds (F := F) (τ := τ) c E.a0 (rRow m).set O.X)))
  iprop((holds (F := F) (τ := τ) c E.a8 (rRow m).set O.X) ∗ (holds (F := F) (τ := τ) c E.a0 (rRow m).set O.X) ∗ semVal ((c : Thread nD τ), .dma (E.xSem m)) 0)
/-- The first weight group's row chunks, and the other weight groups. -/
def W0 (i n : ℕ) : sProp (MT nD τ sig Unit (Elt F) ℕ (Pipeline.UD sig nD τ) ℕ) := bigSep Finset.univ fun m : Fin 4 => stage i n m.val
  iprop((holds (F := F) (τ := τ) c E.a1 (rW0 m).set O.W) ∗ (some' (F := F) (τ := τ) c E.a9 (rW0 m).set) ∗ semVal ((c : Thread nD τ), .dma (E.w0Sem m)) 0)
  (Flight (countersEmb (U := Pipeline.UD sig nD τ)) (c : Thread nD τ) (.dma (E.w0Sem m)) () (E.a9.slice (rW0 m) (fun _ => rfl)).view.dmaCredit
    iprop((holds (F := F) (τ := τ) c E.a9 (rW0 m).set O.W) ∗ (holds (F := F) (τ := τ) c E.a1 (rW0 m).set O.W)))
  iprop((holds (F := F) (τ := τ) c E.a9 (rW0 m).set O.W) ∗ (holds (F := F) (τ := τ) c E.a1 (rW0 m).set O.W) ∗ semVal ((c : Thread nD τ), .dma (E.w0Sem m)) 0)
def WG (i n : ℕ) : sProp (MT nD τ sig Unit (Elt F) ℕ (Pipeline.UD sig nD τ) ℕ) := bigSep Finset.univ fun g : Fin 7 => stage i n g.val
  iprop((holds (F := F) (τ := τ) c E.a1 (rWg ⟨g.val + 1, wg_succ g⟩).set O.W) ∗ (some' (F := F) (τ := τ) c E.a9 (rWg ⟨g.val + 1, wg_succ g⟩).set) ∗ semVal ((c : Thread nD τ), .dma (E.wSem ⟨g.val + 1, wg_succ g⟩)) 0)
  (Flight (countersEmb (U := Pipeline.UD sig nD τ)) (c : Thread nD τ) (.dma (E.wSem ⟨g.val + 1, wg_succ g⟩)) () (E.a9.slice (rWg ⟨g.val + 1, wg_succ g⟩) (fun _ => rfl)).view.dmaCredit
    iprop((holds (F := F) (τ := τ) c E.a9 (rWg ⟨g.val + 1, wg_succ g⟩).set O.W) ∗ (holds (F := F) (τ := τ) c E.a1 (rWg ⟨g.val + 1, wg_succ g⟩).set O.W)))
  iprop((holds (F := F) (τ := τ) c E.a9 (rWg ⟨g.val + 1, wg_succ g⟩).set O.W) ∗ (holds (F := F) (τ := τ) c E.a1 (rWg ⟨g.val + 1, wg_succ g⟩).set O.W)
    ∗ semVal ((c : Thread nD τ), .dma (E.wSem ⟨g.val + 1, wg_succ g⟩)) 0)
/-- The weights landed: the first group, and the groups up to `n`. -/
def WT (n : ℕ) : sProp (MT nD τ sig Unit (Elt F) ℕ (Pipeline.UD sig nD τ) ℕ) := iprop(W0 E O c 4 4 ∗ WG E O c 7 n)
/-- The scaled codes of the first `n` row chunks. -/
def QW (n : ℕ) : sProp (MT nD τ sig Unit (Elt F) ℕ (Pipeline.UD sig nD τ) ℕ) := bigSep Finset.univ fun m : Fin 6 => stage n n m.val (some' (F := F) (τ := τ) c E.a11 (rRow m).set) iprop(emp) (holds (F := F) (τ := τ) c E.a11 (rRow m).set O.XW)
/-- The codes of the row chunks: `i` quantised, the copies out of `n` started. -/
def QC (i n : ℕ) : sProp (MT nD τ sig Unit (Elt F) ℕ (Pipeline.UD sig nD τ) ℕ) := bigSep Finset.univ fun m : Fin 6 => stage i n m.val
  iprop((some' (F := F) (τ := τ) c E.a12 (rRow m).set) ∗ (some' (F := F) (τ := τ) c E.a6 (rRow m).set)) iprop((holds (F := F) (τ := τ) c E.a12 (rRow m).set O.XC) ∗ (some' (F := F) (τ := τ) c E.a6 (rRow m).set)) iprop(emp)
def DC (m : Fin 6) : sProp (MT nD τ sig Unit (Elt F) ℕ (Pipeline.UD sig nD τ) ℕ) := iprop((holds (F := F) (τ := τ) c E.a6 (rRow m).set O.XC) ∗ (holds (F := F) (τ := τ) c E.a12 (rRow m).set O.XC))
abbrev nC : ℕ := (E.a6.slice (rRow 0) (fun _ => rfl)).view.dmaCredit
def BC (j u : ℕ) : sProp (MT nD τ sig Unit (Elt F) ℕ (Pipeline.UD sig nD τ) ℕ) := Batch (countersEmb (U := Pipeline.UD sig nD τ)) (c : Thread nD τ) (.dma E.s26.sem) () (nC E) (DC E O c) j u
/-- The scales of the row chunks likewise. -/
def FS (m : Fin 6) : sProp (MT nD τ sig Unit (Elt F) ℕ (Pipeline.UD sig nD τ) ℕ) := Flight (countersEmb (U := Pipeline.UD sig nD τ)) (c : Thread nD τ) (.dma (E.xsSem m)) () (E.a7.slice (rRow8 m) (fun _ => rfl)).view.dmaCredit
  iprop((holds (F := F) (τ := τ) c E.a7 (rRow8 m).set O.XS) ∗ (holds (F := F) (τ := τ) c E.a13 (rRow8 m).set O.XS))
def QS (i n : ℕ) : sProp (MT nD τ sig Unit (Elt F) ℕ (Pipeline.UD sig nD τ) ℕ) := bigSep Finset.univ fun m : Fin 6 => stage i n m.val
  iprop((some' (F := F) (τ := τ) c E.a13 (rRow8 m).set) ∗ (some' (F := F) (τ := τ) c E.a7 (rRow8 m).set) ∗ semVal ((c : Thread nD τ), .dma (E.xsSem m)) 0)
  iprop((holds (F := F) (τ := τ) c E.a13 (rRow8 m).set O.XS) ∗ (some' (F := F) (τ := τ) c E.a7 (rRow8 m).set) ∗ semVal ((c : Thread nD τ), .dma (E.xsSem m)) 0) (FS E O c m)
/-- The copies of the scales, `n` of them landed. -/
def LS (n : ℕ) : sProp (MT nD τ sig Unit (Elt F) ℕ (Pipeline.UD sig nD τ) ℕ) := bigSep Finset.univ fun m : Fin 6 => stage n n m.val (FS E O c m) iprop(emp)
  iprop((holds (F := F) (τ := τ) c E.a7 (rRow8 m).set O.XS) ∗ (holds (F := F) (τ := τ) c E.a13 (rRow8 m).set O.XS) ∗ semVal ((c : Thread nD τ), .dma (E.xsSem m)) 0)
/-- The first `n` tiles of the product. -/
def YT (n : ℕ) : sProp (MT nD τ sig Unit (Elt F) ℕ (Pipeline.UD sig nD τ) ℕ) := bigSep Finset.univ fun v : Fin 48 => stage n n v.val (some' (F := F) (τ := τ) c E.a14 (tile v)) iprop(emp) (holds (F := F) (τ := τ) c E.a14 (tile v) O.Y)
/-- The codes of the result: `i` tiles quantised, the copies out of `n` started. -/
def QY (i n : ℕ) : sProp (MT nD τ sig Unit (Elt F) ℕ (Pipeline.UD sig nD τ) ℕ) := bigSep Finset.univ fun v : Fin 48 => stage i n v.val
  iprop((some' (F := F) (τ := τ) c E.a15 (tile v)) ∗ (some' (F := F) (τ := τ) c E.a3 (tile v))) iprop((holds (F := F) (τ := τ) c E.a15 (tile v) O.YE) ∗ (some' (F := F) (τ := τ) c E.a3 (tile v))) iprop(emp)
def DY (v : Fin 48) : sProp (MT nD τ sig Unit (Elt F) ℕ (Pipeline.UD sig nD τ) ℕ) := iprop((holds (F := F) (τ := τ) c E.a3 (tile v) O.YE) ∗ (holds (F := F) (τ := τ) c E.a15 (tile v) O.YE))
abbrev nY : ℕ := (E.a3.slice (rYt 0 0) (fun _ => rfl)).view.dmaCredit
def BY (j u : ℕ) : sProp (MT nD τ sig Unit (Elt F) ℕ (Pipeline.UD sig nD τ) ℕ) := Batch (countersEmb (U := Pipeline.UD sig nD τ)) (c : Thread nD τ) (.dma E.s28.sem) () (nY E) (DY E O c) j u
/-- The first `n` estimates. -/
def ES (n : ℕ) : sProp (MT nD τ sig Unit (Elt F) ℕ (Pipeline.UD sig nD τ) ℕ) := iprop((∃ G, (holds (F := F) (τ := τ) c E.a17 Finset.univ G) ∗ ⌜∀ p : Fin 3, p.val < n → ∀ j, G ((rEst p).emb j) = O.est p j⌝)
  ∗ ∃ G, (holds (F := F) (τ := τ) c E.a18 Finset.univ G) ∗ ⌜∀ p : Fin 3, p.val + 1 = n → G = O.einv p⌝)

end families

section pieces
variable {E : Env sig} {O : Ops F} {c : Dev nD}

theorem xStart_spec {n i : ℕ} (hi : i < 6) (hn : n ≤ i) {k : (Prog (TpuEff nD τ sig (Elt F) Λ .tc) α)} :
    XI (τ := τ) E O c i n ⊢ iprop((XI E O c (i + 1) n -∗ wp frame (wpE defs 𝒱 (c : Thread nD τ) bd) Set.univ (k) Q) -∗ wp frame (wpE defs 𝒱 (c : Thread nD τ) bd) Set.univ (E.xStart ⟨i, hi⟩ k) Q) := by
  unfold XI Env.xStart
  iintro H Hk
  icases (stage_start hi hn) $$ H with ⟨⟨H1, ⟨H2, H3⟩⟩, Hb⟩
  unfold some'
  icases H2 with ⟨%G, H2⟩
  iapply (wp_dma (r := rRow ⟨i, hi⟩) (show 0 < S256x1024.numel by decide)) $$ [H1 H2 H3]
  · isplitl [H1]; · iexact H1
    isplitl [H2]; · iexact H2
    iexact H3
  iintro H
  iapply Hk
  iapply Hb $$ H
theorem xWait_spec {n i : ℕ} (hN : n < 6) (hn : n < i) {k : (Prog (TpuEff nD τ sig (Elt F) Λ .tc) α)} :
    iprop(XI (τ := τ) E O c i n ∗ ow (F := F) (τ := τ) c) ⊢ iprop((iprop(XI E O c i (n + 1) ∗ ow c) -∗ wp frame (wpE defs 𝒱 (c : Thread nD τ) bd) Set.univ (k) Q) -∗ wp frame (wpE defs 𝒱 (c : Thread nD τ) bd) Set.univ (E.xWait ⟨n, hN⟩ k) Q) := by
  unfold XI Env.xWait
  iintro ⟨H, Ho⟩ Hk
  icases (stage_wait hN hn) $$ H with ⟨H, Hb⟩
  iapply wp_wait $$ [H Ho]
  · isplitl [H]; · iexact H
    iexact Ho
  iintro ⟨⟨H1, H2⟩, ⟨H3, Ho⟩⟩
  iapply Hk
  isplitl [H1 H2 H3 Hb]
  · iapply Hb
    isplitl [H1]; · iexact H1
    isplitl [H2]; · iexact H2
    iexact H3
  · iexact Ho
theorem w0Start_spec {n i : ℕ} (hi : i < 4) (hn : n ≤ i) {k : (Prog (TpuEff nD τ sig (Elt F) Λ .tc) α)} :
    W0 (τ := τ) E O c i n ⊢ iprop((W0 E O c (i + 1) n -∗ wp frame (wpE defs 𝒱 (c : Thread nD τ) bd) Set.univ (k) Q) -∗ wp frame (wpE defs 𝒱 (c : Thread nD τ) bd) Set.univ (E.w0Start ⟨i, hi⟩ k) Q) := by
  unfold W0 Env.w0Start
  iintro H Hk
  icases (stage_start hi hn) $$ H with ⟨⟨H1, ⟨H2, H3⟩⟩, Hb⟩
  unfold some'
  icases H2 with ⟨%G, H2⟩
  iapply (wp_dma (r := rW0 ⟨i, hi⟩) (show 0 < S256x512.numel by decide)) $$ [H1 H2 H3]
  · isplitl [H1]; · iexact H1
    isplitl [H2]; · iexact H2
    iexact H3
  iintro H
  iapply Hk
  iapply Hb $$ H
theorem w0Wait_spec {n i : ℕ} (hN : n < 4) (hn : n < i) {k : (Prog (TpuEff nD τ sig (Elt F) Λ .tc) α)} :
    iprop(W0 (τ := τ) E O c i n ∗ ow (F := F) (τ := τ) c) ⊢ iprop((iprop(W0 E O c i (n + 1) ∗ ow c) -∗ wp frame (wpE defs 𝒱 (c : Thread nD τ) bd) Set.univ (k) Q) -∗ wp frame (wpE defs 𝒱 (c : Thread nD τ) bd) Set.univ (E.w0Wait ⟨n, hN⟩ k) Q) := by
  unfold W0 Env.w0Wait
  iintro ⟨H, Ho⟩ Hk
  icases (stage_wait hN hn) $$ H with ⟨H, Hb⟩
  iapply wp_wait $$ [H Ho]
  · isplitl [H]; · iexact H
    iexact Ho
  iintro ⟨⟨H1, H2⟩, ⟨H3, Ho⟩⟩
  iapply Hk
  isplitl [H1 H2 H3 Hb]
  · iapply Hb
    isplitl [H1]; · iexact H1
    isplitl [H2]; · iexact H2
    iexact H3
  · iexact Ho
theorem wStart_spec {n i : ℕ} (hi : i < 7) (hn : n ≤ i) {k : (Prog (TpuEff nD τ sig (Elt F) Λ .tc) α)} :
    WG (τ := τ) E O c i n ⊢ iprop((WG E O c (i + 1) n -∗ wp frame (wpE defs 𝒱 (c : Thread nD τ) bd) Set.univ (k) Q) -∗ wp frame (wpE defs 𝒱 (c : Thread nD τ) bd) Set.univ (E.wStart ⟨i + 1, wg_succ ⟨i, hi⟩⟩ k) Q) := by
  unfold WG Env.wStart
  iintro H Hk
  icases (stage_start hi hn) $$ H with ⟨⟨H1, ⟨H2, H3⟩⟩, Hb⟩
  unfold some'
  icases H2 with ⟨%G, H2⟩
  iapply (wp_dma (r := rWg ⟨i + 1, wg_succ ⟨i, hi⟩⟩) (show 0 < S1024x512.numel by decide)) $$ [H1 H2 H3]
  · isplitl [H1]; · iexact H1
    isplitl [H2]; · iexact H2
    iexact H3
  iintro H
  iapply Hk
  iapply Hb $$ H
theorem wWait_spec {n i : ℕ} (hN : n < 7) (hn : n < i) {k : (Prog (TpuEff nD τ sig (Elt F) Λ .tc) α)} :
    iprop(WG (τ := τ) E O c i n ∗ ow (F := F) (τ := τ) c) ⊢ iprop((iprop(WG E O c i (n + 1) ∗ ow c) -∗ wp frame (wpE defs 𝒱 (c : Thread nD τ) bd) Set.univ (k) Q) -∗ wp frame (wpE defs 𝒱 (c : Thread nD τ) bd) Set.univ (E.wWait ⟨n + 1, wg_succ ⟨n, hN⟩⟩ k) Q) := by
  unfold WG Env.wWait
  iintro ⟨H, Ho⟩ Hk
  icases (stage_wait hN hn) $$ H with ⟨H, Hb⟩
  iapply wp_wait $$ [H Ho]
  · isplitl [H]; · iexact H
    iexact Ho
  iintro ⟨⟨H1, H2⟩, ⟨H3, Ho⟩⟩
  iapply Hk
  isplitl [H1 H2 H3 Hb]
  · iapply Hb
    isplitl [H1]; · iexact H1
    isplitl [H2]; · iexact H2
    iexact H3
  · iexact Ho
theorem xsStart_spec {n i : ℕ} (hN : n < 6) (hn : n < i) {k : (Prog (TpuEff nD τ sig (Elt F) Λ .tc) α)} :
    QS (τ := τ) E O c i n ⊢ iprop((QS E O c i (n + 1) -∗ wp frame (wpE defs 𝒱 (c : Thread nD τ) bd) Set.univ (k) Q) -∗ wp frame (wpE defs 𝒱 (c : Thread nD τ) bd) Set.univ (E.xsStart ⟨n, hN⟩ k) Q) := by
  unfold QS Env.xsStart
  iintro H Hk
  icases (stage_wait hN hn) $$ H with ⟨⟨H1, ⟨H2, H3⟩⟩, Hb⟩
  unfold some' FS
  icases H2 with ⟨%G, H2⟩
  iapply (wp_dma (r := rRow8 ⟨n, hN⟩) (show 0 < S256x8.numel by decide)) $$ [H1 H2 H3]
  · isplitl [H1]; · iexact H1
    isplitl [H2]; · iexact H2
    iexact H3
  iintro H
  iapply Hk
  iapply Hb $$ H
theorem xcStart_spec {n i : ℕ} (hN : n < 6) (hn : n < i) {k : (Prog (TpuEff nD τ sig (Elt F) Λ .tc) α)} :
    iprop(QC (τ := τ) E O c i n ∗ BC E O c n 0) ⊢ iprop((iprop(QC E O c i (n + 1) ∗ BC E O c (n + 1) 0) -∗ wp frame (wpE defs 𝒱 (c : Thread nD τ) bd) Set.univ (k) Q) -∗ wp frame (wpE defs 𝒱 (c : Thread nD τ) bd) Set.univ (E.xcStart ⟨n, hN⟩ k) Q) := by
  unfold QC BC Env.xcStart
  iintro ⟨H, HB⟩ Hk
  icases (stage_wait hN hn) $$ H with ⟨⟨H1, H2⟩, Hb⟩
  iapply (wp_dmaB (r := rRow ⟨n, hN⟩) (G := O.XC) (N := nC E) (D := DC E O c) rfl hN rfl) $$ [H1 H2 HB]
  · isplitl [H1]; · iexact H1
    isplitl [H2]; · iexact H2
    iexact HB
  iintro H
  iapply Hk
  isplitr [H]
  · iapply Hb; iempintro
  · iexact H
theorem yStart_spec {n i : ℕ} (hN : n < 48) (hn : n < i) {k : (Prog (TpuEff nD τ sig (Elt F) Λ .tc) α)} :
    iprop(QY (τ := τ) E O c i n ∗ BY E O c n 0) ⊢ iprop((iprop(QY E O c i (n + 1) ∗ BY E O c (n + 1) 0) -∗ wp frame (wpE defs 𝒱 (c : Thread nD τ) bd) Set.univ (k) Q) -∗ wp frame (wpE defs 𝒱 (c : Thread nD τ) bd) Set.univ (E.yStart (mOf n) (gOf n hN) k) Q) := by
  unfold QY BY Env.yStart
  iintro ⟨H, HB⟩ Hk
  icases (stage_wait hN hn) $$ H with ⟨⟨H1, H2⟩, Hb⟩
  iapply (wp_dmaB (r := rYt (mOf n) (gOf n hN)) (G := O.YE) (N := nY E) (D := DY E O c) rfl hN rfl) $$ [H1 H2 HB]
  · isplitl [H1]; · iexact H1
    isplitl [H2]; · iexact H2
    iexact HB
  iintro H
  iapply Hk
  isplitr [H]
  · iapply Hb; iempintro
  · iexact H

/-- The blocks of a row chunk, the first `n` quantised. -/
def QB (E : Env sig) (O : Ops F) (c : Dev nD) (m : Fin 6) (n : ℕ) : sProp (MT nD τ sig Unit (Elt F) ℕ (Pipeline.UD sig nD τ) ℕ) := bigSep Finset.univ fun b : Fin 8 => stage n n b.val
  iprop((some' (F := F) (τ := τ) c E.a12 (rBlk m b).set) ∗ (some' (F := F) (τ := τ) c E.a11 (rBlk m b).set)) iprop(emp) iprop((holds (F := F) (τ := τ) c E.a12 (rBlk m b).set O.XC) ∗ (holds (F := F) (τ := τ) c E.a11 (rBlk m b).set O.XW))

theorem quantBlk_spec {m : Fin 6} {n : ℕ} (hn : n < 8) {p : FVec F S256x128 .bf16} {k : FVec F S256x128 .bf16 → (Prog (TpuEff nD τ sig (Elt F) Λ .tc) α)} :
    iprop((holds (F := F) (τ := τ) c E.a8 (rRow m).set O.X) ∗ QB (τ := τ) E O c m n)
      ⊢ iprop((iprop((holds (F := F) (τ := τ) c E.a8 (rRow m).set O.X) ∗ QB E O c m (n + 1)) -∗ wp frame (wpE defs 𝒱 (c : Thread nD τ) bd) Set.univ (k (pack ⟨n, hn⟩ (O.xb m ⟨n, hn⟩) p)) Q) -∗ wp frame (wpE defs 𝒱 (c : Thread nD τ) bd) Set.univ (E.quantBlk m ⟨n, hn⟩ p k) Q) := by
  unfold QB Env.quantBlk
  iintro ⟨Hx, H⟩ Hk
  icases (stage_step hn) $$ H with ⟨⟨H1, H2⟩, Hb⟩
  iapply (ld_spec (O.xb m ⟨n, hn⟩) (blk_sub m ⟨n, hn⟩) rfl) $$ Hx
  iintro Hx
  iapply (put_some O.XC (ofBlk_emb _ m ⟨n, hn⟩)) $$ H1
  iintro H1
  iapply (put_some O.XW (ofBlk_emb _ m ⟨n, hn⟩)) $$ H2
  iintro H2
  iapply Hk
  isplitl [Hx]; · iexact Hx
  iapply Hb
  isplitl [H1]; · iexact H1
  iexact H2

theorem QB_done {m : Fin 6} : QB (τ := τ) E O c m 8 ⊢ iprop((holds (F := F) (τ := τ) c E.a12 (rRow m).set O.XC) ∗ (holds (F := F) (τ := τ) c E.a11 (rRow m).set O.XW)) := by
  unfold QB
  rw [stage_all (le_refl 8)]
  iintro HB
  icases (sep_unpair _ _) $$ HB with ⟨H1, H2⟩
  isplitl [H1]
  · iapply (holds_whole (fun b => (rBlk m b).set) (blks_disj _) (blks_row _)) $$ H1
  · iapply (holds_whole (fun b => (rBlk m b).set) (blks_disj _) (blks_row _)) $$ H2

theorem quantX_spec {i n s s' j : ℕ} (hi : i < 6) (hn : i < n) (hs : s ≤ i) (hs' : s' ≤ i) {k : (Prog (TpuEff nD τ sig (Elt F) Λ .tc) α)} :
    iprop(XI (τ := τ) E O c j n ∗ QW E O c i ∗ QC E O c i s ∗ QS E O c i s')
      ⊢ iprop((iprop(XI E O c j n ∗ QW E O c (i + 1) ∗ QC E O c (i + 1) s ∗ QS E O c (i + 1) s') -∗ wp frame (wpE defs 𝒱 (c : Thread nD τ) bd) Set.univ (k) Q) -∗ wp frame (wpE defs 𝒱 (c : Thread nD τ) bd) Set.univ (E.quantX ⟨i, hi⟩ k) Q) := by
  unfold XI QW QC QS Env.quantX
  iintro ⟨HX, HW, HC, HS⟩ Hk
  icases (stage_use ⟨i, hi⟩ hn) $$ HX with ⟨⟨Hx, Hx0⟩, HXb⟩
  icases (stage_step hi) $$ HW with ⟨Hw, HWb⟩
  icases (stage_start hi hs) $$ HC with ⟨⟨Hc, Hc0⟩, HCb⟩
  icases (stage_start hi hs') $$ HS with ⟨⟨Hs, Hs0⟩, HSb⟩
  icases (some_split (fun b => (rBlk ⟨i, hi⟩ b).set) (blks_disj _) (blks_row _)) $$ Hw with Hw
  icases (some_split (fun b => (rBlk ⟨i, hi⟩ b).set) (blks_disj _) (blks_row _)) $$ Hc with Hc
  ihave HB : (QB (τ := τ) E O c ⟨i, hi⟩ 0) $$ [Hw Hc]
  · unfold QB
    rw [stage_none]
    iapply (sep_pair _ _)
    isplitl [Hc]; · iexact Hc
    iexact Hw
  iapply (quantBlk_spec (n := 0) (by decide)) $$ [Hx HB]
  · isplitl [Hx]; · iexact Hx
    iexact HB
  iintro H
  iapply (quantBlk_spec (n := 1) (by decide)) $$ H
  iintro H
  iapply (quantBlk_spec (n := 2) (by decide)) $$ H
  iintro H
  iapply (quantBlk_spec (n := 3) (by decide)) $$ H
  iintro H
  iapply (quantBlk_spec (n := 4) (by decide)) $$ H
  iintro H
  iapply (quantBlk_spec (n := 5) (by decide)) $$ H
  iintro H
  iapply (quantBlk_spec (n := 6) (by decide)) $$ H
  iintro H
  iapply (quantBlk_spec (n := 7) (by decide)) $$ H
  iintro ⟨Hx, HB⟩
  iapply (put_some O.XS (ofRow8_emb _ ⟨i, hi⟩)) $$ Hs
  iintro Hs
  iapply Hk
  isplitl [Hx Hx0 HXb]
  · iapply HXb
    isplitl [Hx]; · iexact Hx
    iexact Hx0
  icases QB_done $$ HB with ⟨H1, H2⟩
  isplitl [H2 HWb]
  · iapply HWb $$ H2
  isplitl [H1 Hc0 HCb]
  · iapply HCb
    isplitl [H1]; · iexact H1
    iexact Hc0
  · iapply HSb
    isplitl [Hs]; · iexact Hs
    iexact Hs0

theorem push1_spec {n : Fin 4} {g : Fin 8} {q r : Fin 2} {ng : ℕ} (hg : g.val ≤ ng) {mx : Mxu F} (hp : mx.PushOk q r false) {k : Mxu F → (Prog (TpuEff nD τ sig (Elt F) Λ .tc) α)} :
    WT (τ := τ) E O c ng ⊢ iprop((WT E O c ng -∗ wp frame (wpE defs 𝒱 (c : Thread nD τ) bd) Set.univ (k (mx.pushed q r false (O.wt n g q))) Q) -∗ wp frame (wpE defs 𝒱 (c : Thread nD τ) bd) Set.univ (E.push1 g n r q mx k) Q) := by
  unfold WT W0 WG Env.push1
  iintro ⟨H0, HG⟩ Hk
  by_cases h : g.val = 0
  · icases (stage_use n n.isLt) $$ H0 with ⟨⟨H, H'⟩, Hb⟩
    iapply (ld_spec _ (wt_sub0 n g h q) rfl) $$ H
    iintro H
    iapply (wp_assume _ _ _ _ hp)
    iapply Hk
    isplitr [HG]
    · iapply Hb
      isplitl [H]; · iexact H
      iexact H'
    · iexact HG
  · obtain ⟨g', rfl⟩ : ∃ g' : Fin 7, g = ⟨g'.val + 1, wg_succ g'⟩ := ⟨⟨g.val - 1, by omega⟩, Fin.ext (by dsimp only; omega)⟩
    icases (stage_use g' hg) $$ HG with ⟨⟨H, H'⟩, Hb⟩
    iapply (ld_spec _ (wt_sub n _ q) rfl) $$ H
    iintro H
    iapply (wp_assume _ _ _ _ hp)
    iapply Hk
    isplitl [H0]; · iexact H0
    iapply Hb
    isplitl [H]; · iexact H
    iexact H'

variable {mx : Mxu F} {R : Fin 2 → Fin 2 → Option (FVec F T256 .bf16)} {Z : Fin 2 → Fin 2 → Option (FVec F T256 .f32)}

theorem push_spec {n : Fin 4} {g : Fin 8} {r : Fin 2} {ng : ℕ} (hg : g.val ≤ ng) (h : St mx R Z) (hr : ∀ q, R q r = none) {k : Mxu F → (Prog (TpuEff nD τ sig (Elt F) Λ .tc) α)} :
    WT (τ := τ) E O c ng ⊢ iprop((∀ mx', ⌜St mx' (set1 R r fun q => some (O.wt n g q)) Z⌝ -∗ WT E O c ng -∗ wp frame (wpE defs 𝒱 (c : Thread nD τ) bd) Set.univ (k mx') Q) -∗ wp frame (wpE defs 𝒱 (c : Thread nD τ) bd) Set.univ (E.push g n r mx k) Q) := by
  unfold Env.push
  iintro H Hk
  iapply (push1_spec hg (h.pushOk 0 r)) $$ H
  iintro H
  iapply (push1_spec hg ((h.pushed (hr 0) (O.wt n g 0)).pushOk 1 r)) $$ H
  iintro H
  iapply Hk $$ %_ [] H
  ipureintro
  exact h.push2 hr (O.wt n g)

theorem acc_spec {m : Fin 6} {n : Fin 4} {r : Fin 2} {u nq : ℕ} (hm : m.val < nq) (h : St mx R Z) {w : Fin 2 → FVec F T256 .bf16}
    (hr : ∀ q, R q r = some (w q)) {k : Mxu F → (Prog (TpuEff nD τ sig (Elt F) Λ .tc) α)} :
    QW (τ := τ) E O c nq ⊢ iprop((∀ mx', ⌜St mx' (set1 R r fun _ => none) (set1 Z ⟨u % 2, Nat.mod_lt _ (by decide)⟩ fun q =>
        some (sum (Z q ⟨u % 2, Nat.mod_lt _ (by decide)⟩) (pass (O.xw m n) (w q))))⌝ -∗ QW E O c nq -∗ wp frame (wpE defs 𝒱 (c : Thread nD τ) bd) Set.univ (k mx') Q)
      -∗ wp frame (wpE defs 𝒱 (c : Thread nD τ) bd) Set.univ (E.acc m n r (64 * (u % 2)) (fits u) mx k) Q) := by
  unfold QW Env.acc Env.acc1
  iintro H Hk
  icases (stage_use m hm) $$ H with ⟨H, Hb⟩
  iapply (ld_spec (O.xw m n) (xw_sub m n) rfl) $$ H
  iintro H
  iapply (ld_spec (O.xw m n) (xw_sub m n) rfl) $$ H
  iintro H
  iapply Hk $$ %_ [] [H Hb]
  · ipureintro
    exact h.acc2 hr ⟨u % 2, Nat.mod_lt _ (by decide)⟩ (O.xw m n)
  · iapply Hb $$ H

/-- The blocks of a tile of the product, the first `n` stored. -/
def QT (E : Env sig) (O : Ops F) (c : Dev nD) (m : Fin 6) (g : Fin 8) (n : ℕ) : sProp (MT nD τ sig Unit (Elt F) ℕ (Pipeline.UD sig nD τ) ℕ) := bigSep Finset.univ fun j : Fin 4 => stage n n j.val
  (some' (F := F) (τ := τ) c E.a14 (rY m g j).set) iprop(emp) (holds (F := F) (τ := τ) c E.a14 (rY m g j).set O.Y)

theorem half_spec {m : Fin 6} {g : Fin 8} {n : ℕ} (hn : n < 4) {top : FVec F S8x128 .f32} {k : FVec F S8x128 .f32 → (Prog (TpuEff nD τ sig (Elt F) Λ .tc) α)} :
    iprop((holds (F := F) (τ := τ) c E.a10 Finset.univ O.S) ∗ QT (τ := τ) E O c m g n)
      ⊢ iprop((iprop((holds (F := F) (τ := τ) c E.a10 Finset.univ O.S) ∗ QT E O c m g (n + 1)) -∗ wp frame (wpE defs 𝒱 (c : Thread nD τ) bd) Set.univ (k (grow top (O.y m g ⟨n, hn⟩))) Q)
        -∗ wp frame (wpE defs 𝒱 (c : Thread nD τ) bd) Set.univ (E.half m g ⟨n, hn⟩ ⟨n % 2, Nat.mod_lt _ (by decide)⟩ (O.z m g ⟨n / 2, by omega⟩) top k) Q) := by
  unfold QT Env.half
  iintro ⟨Hs, H⟩ Hk
  icases (stage_step hn) $$ H with ⟨H, Hb⟩
  iapply (ld_spec (fun i => O.S ((rWs g ⟨n, hn⟩).emb i)) (Finset.subset_univ _) rfl) $$ Hs
  iintro Hs
  iapply (put_some O.Y (ofTile_emb _ m g ⟨n, hn⟩)) $$ H
  iintro H
  iapply Hk
  isplitl [Hs]; · iexact Hs
  iapply Hb $$ H

theorem QT_done {m : Fin 6} {g : Fin 8} : QT (τ := τ) E O c m g 4 ⊢ (holds (F := F) (τ := τ) c E.a14 (rYt m g).set O.Y) := by
  unfold QT
  rw [stage_all (le_refl 4)]
  exact holds_whole (fun j => (rY m g j).set) (ys_disj _ _) (ys_tile _ _)

theorem top_succ {u : ℕ} (hu : u < 48) : O.top (u + 1) =
    shapeCast S8x128 (grow (grow (grow (grow (O.top u) (O.y (mOf u) (gOf u hu) 0)) (O.y (mOf u) (gOf u hu) 1)) (O.y (mOf u) (gOf u hu) 2))
      (O.y (mOf u) (gOf u hu) 3)) (by decide) := dif_pos hu

theorem epilogue_spec {u : ℕ} (hu : u < 48) (h : St mx R Z) (hz : ∀ q, Z q ⟨u % 2, Nat.mod_lt _ (by decide)⟩ = some (O.z (mOf u) (gOf u hu) q))
    {k : Mxu F → (Prog (TpuEff nD τ sig (Elt F) Λ .tc) α)} :
    iprop((holds (F := F) (τ := τ) c E.a10 Finset.univ O.S) ∗ YT (τ := τ) E O c u ∗ (holds (F := F) (τ := τ) c E.a16 Finset.univ (O.top u)))
      ⊢ iprop((∀ mx', ⌜St mx' R (set1 Z ⟨u % 2, Nat.mod_lt _ (by decide)⟩ fun _ => none)⌝ -∗
          iprop((holds (F := F) (τ := τ) c E.a10 Finset.univ O.S) ∗ YT E O c (u + 1) ∗ (holds (F := F) (τ := τ) c E.a16 Finset.univ (O.top (u + 1)))) -∗ wp frame (wpE defs 𝒱 (c : Thread nD τ) bd) Set.univ (k mx') Q)
        -∗ wp frame (wpE defs 𝒱 (c : Thread nD τ) bd) Set.univ (E.epilogue (mOf u) (gOf u hu) (64 * (u % 2)) (fits u) mx k) Q) := by
  have r0 : mx.read 0 (64 * (u % 2)) (fits u) = O.z (mOf u) (gOf u hu) 0 := h.acc 0 ⟨u % 2, Nat.mod_lt _ (by decide)⟩ _ (hz 0)
  have r1 : (mx.pop 0 (64 * (u % 2)) 256 (fits u)).read 1 (64 * (u % 2)) (fits u) = O.z (mOf u) (gOf u hu) 1 :=
    (h.pop 0 ⟨u % 2, Nat.mod_lt _ (by decide)⟩).acc 1 ⟨u % 2, Nat.mod_lt _ (by decide)⟩ _ (by rw [upd_other]; exact hz 1)
  unfold YT Env.epilogue
  rw [r0, r1]
  iintro ⟨Hs, HY, Ht⟩ Hk
  icases (stage_step hu) $$ HY with ⟨H, Hb⟩
  icases (some_split (fun j => (rY (mOf u) (gOf u hu) j).set) (ys_disj _ _) (ys_tile _ _)) $$ H with H
  iapply (ld_spec (O.top u) (Finset.subset_univ _) (top_get _)) $$ Ht
  iintro Ht
  ihave HT : (QT (τ := τ) E O c (mOf u) (gOf u hu) 0) $$ [H]
  · unfold QT
    rw [stage_none]
    iexact H
  iapply (half_spec (n := 0) (by decide)) $$ [Hs HT]
  · isplitl [Hs]; · iexact Hs
    iexact HT
  iintro H
  iapply (half_spec (n := 1) (by decide)) $$ H
  iintro H
  iapply (half_spec (n := 2) (by decide)) $$ H
  iintro H
  iapply (half_spec (n := 3) (by decide)) $$ H
  iintro ⟨Hs, HT⟩
  iapply (put_spec (O.top (u + 1)) (Finset.subset_univ _) (fun j => by
    rw [top_emb, top_succ hu]; rfl) (fun i _ hi => absurd (by
      rw [← top_emb i, ← Rect.map_emb_univ]; exact Finset.mem_map_of_mem _ (Finset.mem_univ i)) hi)) $$ Ht
  iintro Ht
  iapply Hk $$ %_ [] [Hs HT Hb Ht]
  · ipureintro
    exact h.pop2 ⟨u % 2, Nat.mod_lt _ (by decide)⟩
  isplitl [Hs]; · iexact Hs
  isplitr [Ht]
  · iapply Hb
    iapply QT_done $$ HT
  · iexact Ht

end pieces

end Cert.Fp8
-- ==== Proof.Steps.lean ====
/- The parts of a unit: its front, its end, the copies it starts and the result tiles it quantises, each taking the counts of what the
   core holds one unit further. -/
module

public import proofs.«01_k».proof.Proof.Pieces

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}
  {E : Env sig} {O : Ops F} {c : Dev nD}

section quant

theorem quantJ_spec {m : Fin 6} {g : Fin 8} {j : Fin 4} {o : Fin 2 → ℕ} {hi hp} (ho : o = ![256 * m.val, 512 * g.val + 128 * j.val])
    {inv : FVec F S1x128 .f32} (G' : S1536x4096.Idx → Elt F .fp8e4m3)
    (hG : ∀ i, G' ((rY m g j).emb i) = shapeCast S256x128 (yCodes inv (fun i => O.Y ((rY m g j).emb i))) (by decide) i) {k : (Prog (TpuEff nD τ sig (Elt F) Λ .tc) α)} :
    iprop((holds (F := F) (τ := τ) c E.a14 (rYt m g).set O.Y) ∗ (some' (F := F) (τ := τ) c E.a15 (rY m g j).set))
      ⊢ iprop((iprop((holds (F := F) (τ := τ) c E.a14 (rYt m g).set O.Y) ∗ (holds (F := F) (τ := τ) c E.a15 (rY m g j).set G')) -∗ wp frame (wpE defs 𝒱 (c : Thread nD τ) bd) Set.univ (k) Q) -∗ wp frame (wpE defs 𝒱 (c : Thread nD τ) bd) Set.univ (E.quantJ o hi hp inv k) Q) := by
  subst ho
  unfold Env.quantJ
  iintro ⟨Hy, H⟩ Hk
  iapply (ld_spec (fun i => O.Y ((rY m g j).emb i)) (y_sub m g j) rfl) $$ Hy
  iintro Hy
  iapply (put_some G' hG) $$ H
  iintro H
  iapply Hk
  isplitl [Hy]; · iexact Hy
  iexact H

/-- The blocks of a tile of the codes, the first `n` stored. -/
def QJ (E : Env sig) (G' : S1536x4096.Idx → Elt F .fp8e4m3) (c : Dev nD) (m : Fin 6) (g : Fin 8) (n : ℕ) : sProp (MT nD τ sig Unit (Elt F) ℕ (Pipeline.UD sig nD τ) ℕ) :=
  bigSep Finset.univ fun j : Fin 4 => stage n n j.val (some' (F := F) (τ := τ) c E.a15 (rY m g j).set) iprop(emp) (holds (F := F) (τ := τ) c E.a15 (rY m g j).set G')

theorem QJ_start {m : Fin 6} {g : Fin 8} {G' : S1536x4096.Idx → Elt F .fp8e4m3} : (some' (F := F) (τ := τ) c E.a15 (rYt m g).set) ⊢ QJ (τ := τ) E G' c m g 0 := by
  unfold QJ
  rw [stage_none]
  exact some_split (fun j => (rY m g j).set) (ys_disj _ _) (ys_tile _ _)
theorem QJ_done {m : Fin 6} {g : Fin 8} {G' : S1536x4096.Idx → Elt F .fp8e4m3} : QJ (τ := τ) E G' c m g 4 ⊢ (holds (F := F) (τ := τ) c E.a15 (rYt m g).set G') := by
  unfold QJ
  rw [stage_all (le_refl 4)]
  exact holds_whole (fun j => (rY m g j).set) (ys_disj _ _) (ys_tile _ _)

theorem quantK_spec {m : Fin 6} {g : Fin 8} {n : ℕ} (hn : n < 4) {o : Fin 2 → ℕ} {hi hp} (ho : o = ![256 * m.val, 512 * g.val + 128 * n])
    {inv : FVec F S1x128 .f32} {G' : S1536x4096.Idx → Elt F .fp8e4m3}
    (hG : ∀ j i, G' ((rY m g j).emb i) = shapeCast S256x128 (yCodes inv (fun i => O.Y ((rY m g j).emb i))) (by decide) i) {k : (Prog (TpuEff nD τ sig (Elt F) Λ .tc) α)} :
    iprop((holds (F := F) (τ := τ) c E.a14 (rYt m g).set O.Y) ∗ QJ (τ := τ) E G' c m g n)
      ⊢ iprop((iprop((holds (F := F) (τ := τ) c E.a14 (rYt m g).set O.Y) ∗ QJ E G' c m g (n + 1)) -∗ wp frame (wpE defs 𝒱 (c : Thread nD τ) bd) Set.univ (k) Q) -∗ wp frame (wpE defs 𝒱 (c : Thread nD τ) bd) Set.univ (E.quantJ o hi hp inv k) Q) := by
  unfold QJ
  iintro ⟨Hy, H⟩ Hk
  icases (stage_step hn) $$ H with ⟨H, Hb⟩
  iapply (quantJ_spec (j := ⟨n, hn⟩) ho G' (hG ⟨n, hn⟩)) $$ [Hy H]
  · isplitl [Hy]; · iexact Hy
    iexact H
  iintro ⟨Hy, H⟩
  iapply Hk
  isplitl [Hy]; · iexact Hy
  iapply Hb $$ H

theorem quant4_spec {m : Fin 6} {g : Fin 8} {o : Fin 4 → Fin 2 → ℕ} {hi : ∀ r a, o r a + S256x128.size a ≤ S1536x4096.size a}
    {hp : ∀ r, (Rect.unit (s := S1536x4096) (o r) S256x128.size (hi r)).PackedRows (EltTy.packing .fp8e4m3)}
    (ho : ∀ r, o r = ![256 * m.val, 512 * g.val + 128 * r.val])
    {inv : FVec F S1x128 .f32} (G' : S1536x4096.Idx → Elt F .fp8e4m3)
    (hG : ∀ j i, G' ((rY m g j).emb i) = shapeCast S256x128 (yCodes inv (fun i => O.Y ((rY m g j).emb i))) (by decide) i) {k : (Prog (TpuEff nD τ sig (Elt F) Λ .tc) α)} :
    iprop((holds (F := F) (τ := τ) c E.a14 (rYt m g).set O.Y) ∗ (some' (F := F) (τ := τ) c E.a15 (rYt m g).set))
      ⊢ iprop((iprop((holds (F := F) (τ := τ) c E.a14 (rYt m g).set O.Y) ∗ (holds (F := F) (τ := τ) c E.a15 (rYt m g).set G')) -∗ wp frame (wpE defs 𝒱 (c : Thread nD τ) bd) Set.univ (k) Q)
        -∗ wp frame (wpE defs 𝒱 (c : Thread nD τ) bd) Set.univ (E.quantJ (o 0) (hi 0) (hp 0) inv <| E.quantJ (o 1) (hi 1) (hp 1) inv <| E.quantJ (o 2) (hi 2) (hp 2) inv <| E.quantJ (o 3) (hi 3) (hp 3) inv k) Q) := by
  iintro ⟨Hy, H⟩ Hk
  icases (QJ_start (G' := G')) $$ H with H
  iapply (quantK_spec (n := 0) (by decide) (ho 0) hG) $$ [Hy H]
  · isplitl [Hy]; · iexact Hy
    iexact H
  iintro H
  iapply (quantK_spec (n := 1) (by decide) (ho 1) hG) $$ H
  iintro H
  iapply (quantK_spec (n := 2) (by decide) (ho 2) hG) $$ H
  iintro H
  iapply (quantK_spec (n := 3) (by decide) (ho 3) hG) $$ H
  iintro ⟨Hy, H⟩
  iapply Hk
  isplitl [Hy]; · iexact Hy
  iapply QJ_done $$ H

theorem quantY_spec {v s nt : ℕ} (hv : v < 48) (hs : s ≤ v) (ht : v < nt) {p : Fin 3} (hp : p = Ops.slot v) {k : (Prog (TpuEff nD τ sig (Elt F) Λ .tc) α)} :
    iprop((holds (F := F) (τ := τ) c E.a18 Finset.univ (O.einv p)) ∗ YT (τ := τ) E O c nt ∗ QY E O c v s)
      ⊢ iprop((iprop((holds (F := F) (τ := τ) c E.a18 Finset.univ (O.einv p)) ∗ YT (τ := τ) E O c nt ∗ QY E O c (v + 1) s) -∗ wp frame (wpE defs 𝒱 (c : Thread nD τ) bd) Set.univ (k) Q) -∗ wp frame (wpE defs 𝒱 (c : Thread nD τ) bd) Set.univ (E.quantY (mOf v) (gOf v hv) k) Q) := by
  subst hp
  have e : 6 * (gOf v hv).val + (mOf v).val = v := by dsimp only; omega
  unfold YT QY Env.quantY
  iintro ⟨Hi, HY, HQ⟩ Hk
  icases (stage_use ⟨v, hv⟩ ht) $$ HY with ⟨Hy, HYb⟩
  icases (stage_start hv hs) $$ HQ with ⟨⟨H, H3⟩, HQb⟩
  iapply (ld_spec (Ops.row1 (O.einv (Ops.slot v))) (Finset.subset_univ _) rfl) $$ Hi
  iintro Hi
  iapply (quant4_spec (m := mOf v) (g := gOf v hv) (o := fun r => ![256 * (mOf v).val, 512 * (gOf v hv).val + 128 * r.val])
    (hi := fun r => inY _ _ r) (hp := fun r => packedY _ _ r) (fun _ => rfl) O.YE (fun j i => by
    unfold Ops.YE; rw [ofTile_emb, e])) $$ [Hy H]
  · isplitl [Hy]; · iexact Hy
    iexact H
  iintro ⟨Hy, H⟩
  iapply Hk
  isplitl [Hi]; · iexact Hi
  isplitl [Hy HYb]
  · iapply HYb $$ Hy
  iapply HQb
  isplitl [H]; · iexact H
  iexact H3

/-- A buffer changed on a rectangle only. -/
theorem exists_put {s : Shape} {β : Type} (r : Rect s) (G : s.Idx → β) (w : r.shape.Idx → β) :
    ∃ G' : s.Idx → β, (∀ j, G' (r.emb j) = w j) ∧ ∀ i, i ∉ r.set → G' i = G i := by
  refine ⟨Function.extend r.emb w G, fun j => r.emb.injective.extend_apply w G j, fun i hi => Function.extend_apply' w G i ?_⟩
  rintro ⟨j, rfl⟩
  exact hi (by rw [← Rect.map_emb_univ]; exact Finset.mem_map_of_mem _ (Finset.mem_univ j))

theorem est_out {p p' : Fin 3} (h : p' ≠ p) (j : S1x8x128.Idx) : (rEst p').emb j ∉ (rEst p).set := by
  intro hi
  have h0 := (Rect.mem_set_unit.mp hi) 0
  have l0 : (j 0).val < 1 := (j 0).isLt
  have e : ((rEst p').emb j 0).val = p'.val + 1 * (j 0).val := rfl
  have h1 : p.val ≤ ((rEst p').emb j 0).val ∧ ((rEst p').emb j 0).val < p.val + 1 := h0
  exact h (Fin.ext (by omega))

theorem top_in (j : S8x128.Idx) : j ∈ (rTop).set := by
  rw [← top_emb j, ← Rect.map_emb_univ]; exact Finset.mem_map_of_mem _ (Finset.mem_univ j)

theorem estimate_spec {p : Fin 3} {u : ℕ} (hu : u = 25 + 6 * p.val) {k : (Prog (TpuEff nD τ sig (Elt F) Λ .tc) α)} :
    iprop(ES (τ := τ) E O c p.val ∗ (holds (F := F) (τ := τ) c E.a16 Finset.univ (O.top u)))
      ⊢ iprop((iprop(ES E O c (p.val + 1) ∗ (holds (F := F) (τ := τ) c E.a16 Finset.univ (O.top u))) -∗ wp frame (wpE defs 𝒱 (c : Thread nD τ) bd) Set.univ (k) Q) -∗ wp frame (wpE defs 𝒱 (c : Thread nD τ) bd) Set.univ (E.estimate O.κ p k) Q) := by
  subst hu
  unfold ES Env.estimate
  iintro ⟨⟨⟨%G, H1, %hG⟩, ⟨%G2, H2, -⟩⟩, Ht⟩ Hk
  obtain ⟨G', h1, h2⟩ := exists_put (rEst p) G (O.est p)
  iapply (ld_spec (O.top (25 + 6 * p.val)) (Finset.subset_univ _) (top_get _)) $$ Ht
  iintro Ht
  iapply (put_spec G' (Finset.subset_univ _) h1 (fun i _ hi => h2 i hi)) $$ H1
  iintro H1
  iapply (put_spec (O.einv p) (Finset.subset_univ _) (fun j => by rw [top_emb]; rfl) (fun i _ hi => absurd (top_in i) hi)) $$ H2
  iintro H2
  iapply Hk
  isplitr [Ht]
  · isplitl [H1]
    · iexists G'
      isplitl [H1]; · iexact H1
      ipureintro
      intro p' hp' j
      by_cases h : p' = p
      · subst h; exact h1 j
      · rw [h2 _ (est_out h j)]
        exact hG p' (by have : p'.val ≠ p.val := fun e => h (Fin.ext e); omega) j
    · iexists (O.einv p)
      isplitl [H2]; · iexact H2
      ipureintro
      intro p' hp'
      have : p' = p := Fin.ext (by omega)
      rw [this]
  · iexact Ht

/-- How many estimates were made before unit `u`. -/
def ne (u : ℕ) : ℕ := if u ≤ 25 then 0 else min 3 ((u - 26) / 6 + 1)

theorem quants_spec {u s : ℕ} (hu : u ≤ 48) {nt : ℕ} (ht : 25 ≤ u → 2 * (u - 25) + 1 < nt) (hs : s ≤ 2 * (u - 25)) {k : (Prog (TpuEff nD τ sig (Elt F) Λ .tc) α)} :
    iprop(ES (τ := τ) E O c (ne u) ∗ (holds (F := F) (τ := τ) c E.a16 Finset.univ (O.top u)) ∗ YT E O c nt ∗ QY E O c (2 * (u - 25)) s)
      ⊢ iprop((iprop(ES E O c (ne (u + 1)) ∗ (holds (F := F) (τ := τ) c E.a16 Finset.univ (O.top u)) ∗ YT E O c nt ∗ QY E O c (2 * (u + 1 - 25)) s) -∗ wp frame (wpE defs 𝒱 (c : Thread nD τ) bd) Set.univ (k) Q)
        -∗ wp frame (wpE defs 𝒱 (c : Thread nD τ) bd) Set.univ (E.quants O.κ u hu k) Q) := by
  unfold Env.quants opt
  by_cases h : 25 ≤ u
  swap
  · rw [dif_neg (by omega), dif_neg h, show ne (u + 1) = ne u by unfold ne; rw [if_pos (by omega), if_pos (by omega)],
      show 2 * (u + 1 - 25) = 2 * (u - 25) by omega]
    iintro H Hk
    iapply Hk $$ H
  rw [dif_pos h, show 2 * (u + 1 - 25) = 2 * (u - 25) + 1 + 1 by omega]
  have tail : iprop(ES (τ := τ) E O c (ne (u + 1)) ∗ (holds (F := F) (τ := τ) c E.a16 Finset.univ (O.top u)) ∗ YT E O c nt ∗ QY E O c (2 * (u - 25)) s)
      ⊢ iprop((iprop(ES E O c (ne (u + 1)) ∗ (holds (F := F) (τ := τ) c E.a16 Finset.univ (O.top u)) ∗ YT E O c nt ∗ QY E O c (2 * (u - 25) + 1 + 1) s) -∗ wp frame (wpE defs 𝒱 (c : Thread nD τ) bd) Set.univ (k) Q)
        -∗ wp frame (wpE defs 𝒱 (c : Thread nD τ) bd) Set.univ (E.quantY (mOf (2 * (u - 25))) (gOf (2 * (u - 25)) (by omega))
          (E.quantY (mOf (2 * (u - 25) + 1)) (gOf (2 * (u - 25) + 1) (by omega)) k)) Q) := by
    have hn : ne (u + 1) = min 3 ((u - 25) / 6 + 1) := by unfold ne; rw [if_neg (by omega)]; congr 2
    have hm : min 2 ((u - 25) / 6) < 3 := by omega
    have hv0 : 2 * (u - 25) < 48 := by omega
    have hv1 : 2 * (u - 25) + 1 < 48 := by omega
    have ht0 : 2 * (u - 25) < nt := by have := ht h; omega
    have hs1 : s ≤ 2 * (u - 25) + 1 := by omega
    unfold ES
    iintro ⟨⟨H1, ⟨%G, H2, %hG⟩⟩, Ht, HY, HQ⟩ Hk
    have e : G = O.einv ⟨min 2 ((u - 25) / 6), hm⟩ := hG _ (by rw [hn]; dsimp only; omega)
    subst e
    iapply (quantY_spec (v := 2 * (u - 25)) (nt := nt) hv0 hs ht0
      (p := ⟨min 2 ((u - 25) / 6), hm⟩) (Fin.ext (by show min 2 ((u - 25) / 6) = min 2 (2 * (u - 25) / 12); omega))) $$ [H2 HY HQ]
    · isplitl [H2]; · iexact H2
      isplitl [HY]; · iexact HY
      iexact HQ
    iintro H
    iapply (quantY_spec (v := 2 * (u - 25) + 1) (s := s) hv1 hs1 (ht h)
      (p := ⟨min 2 ((u - 25) / 6), hm⟩) (Fin.ext (by show min 2 ((u - 25) / 6) = min 2 ((2 * (u - 25) + 1) / 12); omega))) $$ H
    iintro ⟨H2, HY, HQ⟩
    iapply Hk
    isplitl [H1 H2]
    · isplitl [H1]; · iexact H1
      iexists _
      isplitl [H2]; · iexact H2
      ipureintro; exact hG
    isplitl [Ht]; · iexact Ht
    isplitl [HY]; · iexact HY
    iexact HQ
  by_cases he : u = 25 ∨ u = 31 ∨ u = 37
  · rw [dif_pos he]
    have h1 : ne u = (u - 25) / 6 := by
      unfold ne; rcases he with rfl | rfl | rfl <;> rfl
    have h2 : ne (u + 1) = (u - 25) / 6 + 1 := by
      unfold ne; rcases he with rfl | rfl | rfl <;> rfl
    have hp3 : (u - 25) / 6 < 3 := by omega
    have hu' : u = 25 + 6 * ((u - 25) / 6) := by omega
    rw [h1]
    iintro ⟨HE, Ht, HY, HQ⟩ Hk
    iapply (estimate_spec (p := ⟨(u - 25) / 6, hp3⟩) (u := u) hu') $$ [HE Ht]
    · isplitl [HE]; · iexact HE
      iexact Ht
    iintro ⟨HE, Ht⟩
    iapply tail $$ [HE Ht HY HQ]
    · rw [h2]
      isplitl [HE]; · iexact HE
      isplitl [Ht]; · iexact Ht
      isplitl [HY]; · iexact HY
      iexact HQ
    iexact Hk
  · rw [dif_neg he]
    have h1 : ne u = ne (u + 1) := by
      unfold ne; rw [if_neg (by omega), if_neg (by omega)]; omega
    rw [h1]
    exact tail

end quant

section unit

theorem starts_spec {u i : ℕ} (hu : u ≤ 48) (hi : min 6 u ≤ i) {k : (Prog (TpuEff nD τ sig (Elt F) Λ .tc) α)} :
    iprop(QC (τ := τ) E O c i (min 6 (u - 1)) ∗ BC E O c (min 6 (u - 1)) 0 ∗ QS E O c i (min 6 (u - 1)) ∗ QY E O c (2 * (u - 25)) (2 * (u - 26))
        ∗ BY E O c (2 * (u - 26)) 0)
      ⊢ iprop((iprop(QC E O c i (min 6 u) ∗ BC E O c (min 6 u) 0 ∗ QS E O c i (min 6 u) ∗ QY E O c (2 * (u - 25)) (2 * (u - 25))
          ∗ BY E O c (2 * (u - 25)) 0) -∗ wp frame (wpE defs 𝒱 (c : Thread nD τ) bd) Set.univ (k) Q) -∗ wp frame (wpE defs 𝒱 (c : Thread nD τ) bd) Set.univ (E.starts u hu k) Q) := by
  unfold Env.starts
  have part2 : iprop(QY (τ := τ) E O c (2 * (u - 25)) (2 * (u - 26)) ∗ BY E O c (2 * (u - 26)) 0)
      ⊢ iprop((iprop(QY E O c (2 * (u - 25)) (2 * (u - 25)) ∗ BY E O c (2 * (u - 25)) 0) -∗ wp frame (wpE defs 𝒱 (c : Thread nD τ) bd) Set.univ (k) Q)
        -∗ wp frame (wpE defs 𝒱 (c : Thread nD τ) bd) Set.univ (opt (26 ≤ u) (fun h k => E.yStart (mOf (2 * (u - 26))) (gOf (2 * (u - 26)) (by omega))
            (E.yStart (mOf (2 * (u - 26) + 1)) (gOf (2 * (u - 26) + 1) (by omega)) k)) k) Q) := by
    unfold opt
    by_cases h : 26 ≤ u
    · rw [dif_pos h]
      have a1 : 2 * (u - 26) < 48 := by omega
      have a2 : 2 * (u - 26) < 2 * (u - 25) := by omega
      have a3 : 2 * (u - 26) + 1 < 48 := by omega
      have a4 : 2 * (u - 26) + 1 < 2 * (u - 25) := by omega
      have e : BY (τ := τ) E O c (2 * (u - 26) + 1 + 1) 0 = BY (τ := τ) E O c (2 * (u - 25)) 0 := by congr 1; omega
      have e' : QY (τ := τ) E O c (2 * (u - 25)) (2 * (u - 26) + 1 + 1) = QY (τ := τ) E O c (2 * (u - 25)) (2 * (u - 25)) := by congr 1; omega
      iintro H Hk
      iapply (yStart_spec (n := 2 * (u - 26)) (i := 2 * (u - 25)) a1 a2) $$ H
      iintro H
      iapply (yStart_spec (n := 2 * (u - 26) + 1) (i := 2 * (u - 25)) a3 a4) $$ H
      rw [e, e']
      iexact Hk
    · rw [dif_neg h, show 2 * (u - 26) = 2 * (u - 25) by omega]
      iintro H Hk
      iapply Hk $$ H
  have step : iprop(QC (τ := τ) E O c i (min 6 (u - 1)) ∗ BC E O c (min 6 (u - 1)) 0 ∗ QS E O c i (min 6 (u - 1)))
      ⊢ iprop((iprop(QC E O c i (min 6 u) ∗ BC E O c (min 6 u) 0 ∗ QS E O c i (min 6 u)) -∗
          wp frame (wpE defs 𝒱 (c : Thread nD τ) bd) Set.univ (opt (26 ≤ u) (fun h k => E.yStart (mOf (2 * (u - 26))) (gOf (2 * (u - 26)) (by omega))
            (E.yStart (mOf (2 * (u - 26) + 1)) (gOf (2 * (u - 26) + 1) (by omega)) k)) k) Q)
        -∗ wp frame (wpE defs 𝒱 (c : Thread nD τ) bd) Set.univ (opt (1 ≤ u ∧ u ≤ 6) (fun h k => E.xcStart ⟨u - 1, by omega⟩ (E.xsStart ⟨u - 1, by omega⟩ k)) <|
          opt (26 ≤ u) (fun h k => E.yStart (mOf (2 * (u - 26))) (gOf (2 * (u - 26)) (by omega))
            (E.yStart (mOf (2 * (u - 26) + 1)) (gOf (2 * (u - 26) + 1) (by omega)) k)) k) Q) := by
    generalize opt (26 ≤ u) _ k = k'
    unfold opt
    by_cases h : 1 ≤ u ∧ u ≤ 6
    · have a1 : u - 1 < 6 := by omega
      have a2 : u - 1 < i := by omega
      rw [dif_pos h, show min 6 (u - 1) = u - 1 by omega, show min 6 u = u - 1 + 1 by omega]
      iintro ⟨H1, H2, H3⟩ Hk
      iapply (xcStart_spec (n := u - 1) (i := i) a1 a2) $$ [H1 H2]
      · isplitl [H1]; · iexact H1
        iexact H2
      iintro ⟨H1, H2⟩
      iapply (xsStart_spec (n := u - 1) (i := i) a1 a2) $$ H3
      iintro H3
      iapply Hk
      isplitl [H1]; · iexact H1
      isplitl [H2]; · iexact H2
      iexact H3
    · rw [dif_neg h, show min 6 (u - 1) = min 6 u by omega]
      iintro H Hk
      iapply Hk $$ H
  iintro ⟨H1, H2, H3, H4, H5⟩ Hk
  iapply step $$ [H1 H2 H3]
  · isplitl [H1]; · iexact H1
    isplitl [H2]; · iexact H2
    iexact H3
  iintro ⟨H1, H2, H3⟩
  iapply part2 $$ [H4 H5]
  · isplitl [H4]; · iexact H4
    iexact H5
  iintro ⟨H4, H5⟩
  iapply Hk
  isplitl [H1]; · iexact H1
  isplitl [H2]; · iexact H2
  isplitl [H3]; · iexact H3
  isplitl [H4]; · iexact H4
  iexact H5

end unit

end Cert.Fp8
-- ==== Proof.Units.lean ====
/- A unit's front and its end, and the main loop by induction over the units. -/
module

public import proofs.«01_k».proof.Proof.Steps

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}
  {E : Env sig} {O : Ops F} {c : Dev nD}

section tables
variable (O : Ops F)

/-- The registers and accumulators before unit `u`: its first weights are staged, and the accumulators of the unit before hold its tile. -/
def RA (u : ℕ) (q r : Fin 2) : Option (FVec F T256 .bf16) :=
  if r = 0 then (if h : u < 48 then some (O.wt 0 (gOf u h) q) else none) else none
def ZA (u : ℕ) (q a : Fin 2) : Option (FVec F T256 .f32) :=
  if h : 0 < u ∧ u ≤ 48 ∧ a.val = (u - 1) % 2 then some (O.z (mOf (u - 1)) (gOf (u - 1) (by omega)) q) else none
/-- The same after the unit's front. -/
def RM (u : ℕ) (hu : u < 48) (q r : Fin 2) : Option (FVec F T256 .bf16) :=
  if r = 0 then (if h : u + 1 < 48 then some (O.wt 0 (gOf (u + 1) h) q) else none) else some (O.wt 3 (gOf u hu) q)
def ZM (u : ℕ) (hu : u < 48) (q a : Fin 2) : Option (FVec F T256 .f32) :=
  if a.val = u % 2 then O.part (mOf u) (gOf u hu) q 3 else ZA O u q a

abbrev aOf (u : ℕ) : Fin 2 := ⟨u % 2, Nat.mod_lt _ (by decide)⟩

theorem za_none (u : ℕ) (q : Fin 2) : ZA O u q (aOf u) = none := by
  unfold ZA
  rw [dif_neg]
  rintro ⟨h1, h2, h3⟩
  have : u % 2 = (u - 1) % 2 := h3
  omega

theorem set1_self {β : Type} (T : Fin 2 → Fin 2 → β) (r q : Fin 2) (f : Fin 2 → β) : set1 T r f q r = f q := if_pos rfl
theorem set1_ne {β : Type} (T : Fin 2 → Fin 2 → β) {r r' : Fin 2} (h : r' ≠ r) (q : Fin 2) (f : Fin 2 → β) : set1 T r f q r' = T q r' := if_neg h
theorem set1_set1 {β : Type} (T : Fin 2 → Fin 2 → β) (r : Fin 2) (f f' : Fin 2 → β) : set1 (set1 T r f) r f' = set1 T r f' := by
  funext q r'; unfold set1; by_cases h : r' = r
  · rw [if_pos h, if_pos h]
  · rw [if_neg h, if_neg h, if_neg h]

theorem zm_eq (u : ℕ) (hu : u < 48) : set1 (ZA O u) (aOf u) (fun q => O.part (mOf u) (gOf u hu) q 3) = ZM O u hu := by
  funext q a
  unfold set1 ZM
  by_cases h : a = aOf u
  · rw [if_pos h, if_pos (by rw [h])]
  · rw [if_neg h, if_neg (fun e => h (Fin.ext e))]

theorem za_succ (u : ℕ) (hu : u < 48) (q a : Fin 2) :
    ZA O (u + 1) q a = if a = aOf u then some (O.z (mOf u) (gOf u hu) q) else none := by
  unfold ZA
  by_cases h : a = aOf u
  · rw [dif_pos ⟨by omega, by omega, by rw [h]; rfl⟩, if_pos h]; rfl
  · rw [dif_neg (fun e => h (Fin.ext e.2.2)), if_neg h]

theorem rm_eq (u : ℕ) (hu : u < 48) : set1 (RM O u hu) 1 (fun _ => none) = RA O (u + 1) := by
  funext q r
  unfold set1 RM RA
  by_cases h : r = 0
  · subst h; rw [if_neg (by decide), if_pos rfl, if_pos rfl]
  · rw [if_pos (by omega), if_neg h]

end tables

section unit

theorem xWait_opt {u : ℕ} {k : (Prog (TpuEff nD τ sig (Elt F) Λ .tc) α)} :
    iprop(XI (τ := τ) E O c 6 (min 6 (u + 1)) ∗ ow (F := F) (τ := τ) c) ⊢ iprop((iprop(XI E O c 6 (min 6 (u + 2)) ∗ ow c) -∗ wp frame (wpE defs 𝒱 (c : Thread nD τ) bd) Set.univ (k) Q)
      -∗ wp frame (wpE defs 𝒱 (c : Thread nD τ) bd) Set.univ (opt (u + 1 < 6) (fun h k => E.xWait ⟨u + 1, h⟩ k) k) Q) := by
  unfold opt
  by_cases h : u + 1 < 6
  · rw [dif_pos h, show min 6 (u + 1) = u + 1 by omega, show min 6 (u + 2) = u + 1 + 1 by omega]
    exact xWait_spec h h
  · rw [dif_neg h, show min 6 (u + 2) = min 6 (u + 1) by omega]
    iintro H Hk
    iapply Hk $$ H

theorem wWait_opt {u : ℕ} (hu : u < 48) {k : (Prog (TpuEff nD τ sig (Elt F) Λ .tc) α)} :
    iprop(WT (τ := τ) E O c (min 7 ((u + 1) / 6)) ∗ ow (F := F) (τ := τ) c) ⊢ iprop((iprop(WT E O c (min 7 ((u + 2) / 6)) ∗ ow c) -∗ wp frame (wpE defs 𝒱 (c : Thread nD τ) bd) Set.univ (k) Q)
      -∗ wp frame (wpE defs 𝒱 (c : Thread nD τ) bd) Set.univ (opt (u % 6 = 4 ∧ u / 6 + 1 < 8) (fun h k => E.wWait ⟨u / 6 + 1, h.2⟩ k) k) Q) := by
  unfold opt
  by_cases h : u % 6 = 4 ∧ u / 6 + 1 < 8
  · rw [dif_pos h, show min 7 ((u + 1) / 6) = u / 6 by omega, show min 7 ((u + 2) / 6) = u / 6 + 1 by omega]
    have h7 : u / 6 < 7 := by omega
    unfold WT
    iintro ⟨⟨H0, H⟩, Ho⟩ Hk
    iapply (wWait_spec h7 h7) $$ [H Ho]
    · isplitl [H]; · iexact H
      iexact Ho
    iintro ⟨H, Ho⟩
    iapply Hk
    isplitr [Ho]
    · isplitl [H0]; · iexact H0
      iexact H
    · iexact Ho
  · rw [dif_neg h, show min 7 ((u + 2) / 6) = min 7 ((u + 1) / 6) by omega]
    iintro H Hk
    iapply Hk $$ H

variable {mx : Mxu F} {R : Fin 2 → Fin 2 → Option (FVec F T256 .bf16)} {Z : Fin 2 → Fin 2 → Option (FVec F T256 .f32)}

theorem next_spec {u ng : ℕ} (hg : u < 48 → u / 6 ≤ ng) (h : St mx R Z) (hr : ∀ q, R q 0 = none) {k : Mxu F → (Prog (TpuEff nD τ sig (Elt F) Λ .tc) α)} :
    WT (τ := τ) E O c ng ⊢ iprop((∀ mx', ⌜St mx' (set1 R 0 fun q => if h : u < 48 then some (O.wt 0 (gOf u h) q) else none) Z⌝ -∗ WT E O c ng -∗ wp frame (wpE defs 𝒱 (c : Thread nD τ) bd) Set.univ (k mx') Q)
      -∗ wp frame (wpE defs 𝒱 (c : Thread nD τ) bd) Set.univ (E.next u mx k) Q) := by
  unfold Env.next
  by_cases hu : u < 48
  · rw [dif_pos hu]
    have e : (fun q => if h : u < 48 then some (O.wt 0 (gOf u h) q) else none) = fun q => some (O.wt 0 (gOf u hu) q) := by
      funext q; rw [dif_pos hu]
    rw [e]
    exact push_spec (g := gOf u hu) (hg hu) h hr
  · rw [dif_neg hu]
    have e : set1 R 0 (fun q => if h : u < 48 then some (O.wt 0 (gOf u h) q) else none) = R := by
      funext q r; unfold set1
      by_cases h0 : r = 0
      · rw [if_pos h0, h0, hr q]; exact dif_neg hu
      · rw [if_neg h0]
    rw [e]
    iintro H Hk
    iapply Hk $$ %_ [] H
    ipureintro
    exact h

theorem front_spec {u : ℕ} (hu : u < 48) (h : St mx (RA O u) (ZA O u)) {k : Mxu F → (Prog (TpuEff nD τ sig (Elt F) Λ .tc) α)} :
    iprop(XI (τ := τ) E O c 6 (min 6 (u + 1)) ∗ ow (F := F) (τ := τ) c ∗ WT E O c (min 7 ((u + 1) / 6)) ∗ QW E O c (min 6 (u + 1)))
      ⊢ iprop((∀ mx', ⌜St mx' (RM O u hu) (ZM O u hu)⌝ -∗
          iprop(XI E O c 6 (min 6 (u + 2)) ∗ ow c ∗ WT E O c (min 7 ((u + 2) / 6)) ∗ QW E O c (min 6 (u + 1))) -∗ wp frame (wpE defs 𝒱 (c : Thread nD τ) bd) Set.univ (k mx') Q)
        -∗ wp frame (wpE defs 𝒱 (c : Thread nD τ) bd) Set.univ (E.front u hu mx k) Q) := by
  have hg : (gOf u hu).val ≤ min 7 ((u + 2) / 6) := by show u / 6 ≤ _; omega
  have hm : (mOf u).val < min 6 (u + 1) := by show u % 6 < _; omega
  have hn : u + 1 < 48 → (u + 1) / 6 ≤ min 7 ((u + 2) / 6) := by omega
  unfold Env.front
  iintro ⟨HX, Ho, HW, HQ⟩ Hk
  iapply xWait_opt $$ [HX Ho]
  · isplitl [HX]; · iexact HX
    iexact Ho
  iintro ⟨HX, Ho⟩
  iapply (wWait_opt hu) $$ [HW Ho]
  · isplitl [HW]; · iexact HW
    iexact Ho
  iintro ⟨HW, Ho⟩
  have r0 : ∀ q, RA O u q 0 = some (O.wt 0 (gOf u hu) q) := fun q => by unfold RA; rw [if_pos rfl, dif_pos hu]
  iapply (push_spec (n := 1) (r := 1) hg h (fun q => if_neg (by decide))) $$ HW
  iintro %m1 %h1 HW
  iapply (acc_spec (n := 0) (r := 0) hm h1 (w := fun q => O.wt 0 (gOf u hu) q) (fun q => by rw [set1_ne _ (by decide)]; exact r0 q)) $$ HQ
  iintro %m2 %h2 HQ
  iapply (push_spec (n := 2) (r := 0) hg h2 (fun q => set1_self _ _ _ _)) $$ HW
  iintro %m3 %h3 HW
  iapply (acc_spec (n := 1) (r := 1) hm h3 (w := fun q => O.wt 1 (gOf u hu) q) (fun q => by
    rw [set1_ne _ (by decide), set1_ne _ (by decide), set1_self])) $$ HQ
  iintro %m4 %h4 HQ
  iapply (push_spec (n := 3) (r := 1) hg h4 (fun q => set1_self _ _ _ _)) $$ HW
  iintro %m5 %h5 HW
  iapply (acc_spec (n := 2) (r := 0) hm h5 (w := fun q => O.wt 2 (gOf u hu) q) (fun q => by
    rw [set1_ne _ (by decide), set1_ne _ (by decide), set1_self])) $$ HQ
  iintro %m6 %h6 HQ
  iapply (next_spec hn h6 (fun q => set1_self _ _ _ _)) $$ HW
  iintro %m7 %h7 HW
  iapply Hk $$ %m7 [] [HX Ho HW HQ]
  · ipureintro
    have eZ := zm_eq O u hu
    simp only [set1_set1, set1_self] at h7
    convert h7 using 1
    · funext q r
      unfold RM set1
      rcases (show r = 0 ∨ r = 1 by revert r; decide) with rfl | rfl
      · rw [if_pos rfl, if_pos rfl]
      · rw [if_neg (by decide), if_neg (by decide), if_pos rfl]
    · rw [← eZ]
      congr 1
      funext q
      rw [za_none]
      rfl
  · isplitl [HX]; · iexact HX
    isplitl [Ho]; · iexact Ho
    isplitl [HW]; · iexact HW
    iexact HQ

theorem before_spec {u : ℕ} (hu : u ≤ 48) (h : St mx R Z)
    (hz : ∀ h0 : 0 < u, ∀ q, Z q (aOf (u - 1)) = some (O.z (mOf (u - 1)) (gOf (u - 1) (by omega)) q)) {k : Mxu F → (Prog (TpuEff nD τ sig (Elt F) Λ .tc) α)} :
    iprop((holds (F := F) (τ := τ) c E.a10 Finset.univ O.S) ∗ YT (τ := τ) E O c (u - 1) ∗ (holds (F := F) (τ := τ) c E.a16 Finset.univ (O.top (u - 1))))
      ⊢ iprop((∀ mx', ⌜St mx' R (if 0 < u then set1 Z (aOf (u - 1)) (fun _ => none) else Z)⌝ -∗
          iprop((holds (F := F) (τ := τ) c E.a10 Finset.univ O.S) ∗ YT E O c u ∗ (holds (F := F) (τ := τ) c E.a16 Finset.univ (O.top u))) -∗ wp frame (wpE defs 𝒱 (c : Thread nD τ) bd) Set.univ (k mx') Q)
        -∗ wp frame (wpE defs 𝒱 (c : Thread nD τ) bd) Set.univ (E.before u hu mx k) Q) := by
  unfold Env.before
  by_cases h0 : 0 < u
  · obtain ⟨v, rfl⟩ : ∃ v, u = v + 1 := ⟨u - 1, by omega⟩
    rw [dif_pos h0, if_pos h0]
    exact epilogue_spec (u := v) (by omega) h (hz h0)
  · obtain rfl : u = 0 := by omega
    rw [dif_neg h0, if_neg h0]
    iintro H Hk
    iapply Hk $$ %_ [] H
    ipureintro
    exact h

theorem quantX_opt {u : ℕ} {s : ℕ} (hs : s ≤ min 6 u) {k : (Prog (TpuEff nD τ sig (Elt F) Λ .tc) α)} :
    iprop(XI (τ := τ) E O c 6 (min 6 (u + 2)) ∗ QW E O c (min 6 (u + 1)) ∗ QC E O c (min 6 (u + 1)) s ∗ QS E O c (min 6 (u + 1)) s)
      ⊢ iprop((iprop(XI (τ := τ) E O c 6 (min 6 (u + 2)) ∗ QW E O c (min 6 (u + 2)) ∗ QC E O c (min 6 (u + 2)) s ∗ QS E O c (min 6 (u + 2)) s) -∗ wp frame (wpE defs 𝒱 (c : Thread nD τ) bd) Set.univ (k) Q)
        -∗ wp frame (wpE defs 𝒱 (c : Thread nD τ) bd) Set.univ (opt (u + 1 < 6) (fun h k => E.quantX ⟨u + 1, h⟩ k) k) Q) := by
  unfold opt
  by_cases h : u + 1 < 6
  · rw [dif_pos h, show min 6 (u + 1) = u + 1 by omega, show min 6 (u + 2) = u + 1 + 1 by omega]
    exact quantX_spec h (by omega) (by omega) (by omega)
  · rw [dif_neg h, show min 6 (u + 2) = min 6 (u + 1) by omega]
    iintro H Hk
    iapply Hk $$ H

variable (E O c)

/-- What the core holds before unit `u`, apart from the landed inputs, and the landed inputs then. -/
def KU (u : ℕ) : sProp (MT nD τ sig Unit (Elt F) ℕ (Pipeline.UD sig nD τ) ℕ) :=
  iprop(QW (τ := τ) E O c (min 6 (u + 1)) ∗ QC E O c (min 6 (u + 1)) (min 6 (u - 1)) ∗ BC E O c (min 6 (u - 1)) 0
    ∗ QS E O c (min 6 (u + 1)) (min 6 (u - 1)) ∗ QY E O c (2 * (u - 25)) (2 * (u - 26)) ∗ BY E O c (2 * (u - 26)) 0
    ∗ (holds (F := F) (τ := τ) c E.a10 Finset.univ O.S) ∗ YT E O c (u - 1) ∗ (holds (F := F) (τ := τ) c E.a16 Finset.univ (O.top (u - 1))) ∗ ES E O c (ne u))
def IU (u : ℕ) : sProp (MT nD τ sig Unit (Elt F) ℕ (Pipeline.UD sig nD τ) ℕ) := iprop(XI (τ := τ) E O c 6 (min 6 (u + 1)) ∗ ow (F := F) (τ := τ) c ∗ WT E O c (min 7 ((u + 1) / 6)))

variable {E O c}

theorem front_step {u : ℕ} (hu : u < 48) (h : St mx (RA O u) (ZA O u)) {k : Mxu F → (Prog (TpuEff nD τ sig (Elt F) Λ .tc) α)} :
    iprop(IU (τ := τ) E O c u ∗ KU E O c u)
      ⊢ iprop((∀ mx', ⌜St mx' (RM O u hu) (ZM O u hu)⌝ -∗ iprop(IU (τ := τ) E O c (u + 1) ∗ KU E O c u) -∗ wp frame (wpE defs 𝒱 (c : Thread nD τ) bd) Set.univ (k mx') Q) -∗ wp frame (wpE defs 𝒱 (c : Thread nD τ) bd) Set.univ (E.front u hu mx k) Q) := by
  unfold IU KU
  iintro ⟨⟨HX, Ho, HW⟩, ⟨HQ, HR⟩⟩ Hk
  iapply (front_spec hu h) $$ [HX Ho HW HQ]
  · isplitl [HX]; · iexact HX
    isplitl [Ho]; · iexact Ho
    isplitl [HW]; · iexact HW
    iexact HQ
  iintro %mx' %h' ⟨HX, Ho, HW, HQ⟩
  iapply Hk $$ %mx' [] [HX Ho HW HQ HR]
  · ipureintro; exact h'
  isplitl [HX Ho HW]
  · isplitl [HX]; · iexact HX
    isplitl [Ho]; · iexact Ho
    iexact HW
  · isplitl [HQ]; · iexact HQ
    iexact HR

theorem back_step {u : ℕ} (hu : u < 48) (h : St mx (RM O u hu) (ZM O u hu)) {k : Mxu F → (Prog (TpuEff nD τ sig (Elt F) Λ .tc) α)} :
    iprop(IU (τ := τ) E O c (u + 1) ∗ KU E O c u)
      ⊢ iprop((∀ mx', ⌜St mx' (RA O (u + 1)) (ZA O (u + 1))⌝ -∗ iprop(IU (τ := τ) E O c (u + 1) ∗ KU E O c (u + 1)) -∗ wp frame (wpE defs 𝒱 (c : Thread nD τ) bd) Set.univ (k mx') Q)
        -∗ wp frame (wpE defs 𝒱 (c : Thread nD τ) bd) Set.univ (E.back O.κ u hu mx k) Q) := by
  have hm : (mOf u).val < min 6 (u + 1) := by show u % 6 < _; omega
  unfold IU KU Env.back
  iintro ⟨⟨HX, HI⟩, ⟨HQ, HC, HBC, HS, HY, HBY, H10, HT, H16, HE⟩⟩ Hk
  iapply (acc_spec (n := 3) (r := 1) hm h (w := fun q => O.wt 3 (gOf u hu) q) (fun q => if_neg (by decide))) $$ HQ
  iintro %m1 %h1 HQ
  rw [rm_eq] at h1
  iapply (quantX_opt (u := u) (s := min 6 (u - 1)) (by omega)) $$ [HX HQ HC HS]
  · isplitl [HX]; · iexact HX
    isplitl [HQ]; · iexact HQ
    isplitl [HC]; · iexact HC
    iexact HS
  iintro ⟨HX, HQ, HC, HS⟩
  iapply (starts_spec (u := u) (i := min 6 (u + 2)) hu.le (by omega)) $$ [HC HBC HS HY HBY]
  · isplitl [HC]; · iexact HC
    isplitl [HBC]; · iexact HBC
    isplitl [HS]; · iexact HS
    isplitl [HY]; · iexact HY
    iexact HBY
  iintro ⟨HC, HBC, HS, HY, HBY⟩
  iapply (before_spec hu.le h1 (fun h0 q => by
    have hne : aOf (u - 1) ≠ aOf u := fun e => by have : (u - 1) % 2 = u % 2 := congrArg Fin.val e; omega
    rw [set1_ne _ hne]
    unfold ZM ZA
    rw [if_neg (by show ¬ (u - 1) % 2 = u % 2; omega), dif_pos ⟨h0, hu.le, rfl⟩])) $$ [H10 HT H16]
  · isplitl [H10]; · iexact H10
    isplitl [HT]; · iexact HT
    iexact H16
  iintro %m2 %h2 ⟨H10, HT, H16⟩
  iapply (quants_spec (u := u) (s := 2 * (u - 25)) (nt := u) hu.le (by omega) le_rfl) $$ [HE H16 HT HY]
  · isplitl [HE]; · iexact HE
    isplitl [H16]; · iexact H16
    isplitl [HT]; · iexact HT
    iexact HY
  iintro ⟨HE, H16, HT, HY⟩
  iapply Hk $$ %m2 [] [HX HI HQ HC HBC HS HY HBY H10 HT H16 HE]
  · ipureintro
    convert h2 using 1
    funext q a
    rw [za_succ O u hu]
    by_cases h0 : 0 < u
    · rw [if_pos h0]
      by_cases ha : a = aOf u
      · have hne : a ≠ aOf (u - 1) := fun e => by have : u % 2 = (u - 1) % 2 := congrArg Fin.val (ha.symm.trans e); omega
        rw [if_pos ha, set1_ne _ hne, ha, set1_self]
        unfold ZM; rw [if_pos rfl]; rfl
      · have : a = aOf (u - 1) := Fin.ext (by
          have h1 : a.val ≠ u % 2 := fun e => ha (Fin.ext e)
          have := a.isLt; show a.val = (u - 1) % 2; omega)
        rw [if_neg ha, this, set1_self]
    · obtain rfl : u = 0 := by omega
      rw [if_neg h0]
      by_cases ha : a = aOf 0
      · rw [if_pos ha, ha, set1_self]
        unfold ZM; rw [if_pos rfl]; rfl
      · rw [if_neg ha, set1_ne _ ha]
        unfold ZM ZA
        rw [if_neg (fun e => ha (Fin.ext e)), dif_neg (by omega)]
  isplitl [HX HI]
  · isplitl [HX]; · iexact HX
    iexact HI
  isplitl [HQ]; · iexact HQ
  isplitl [HC]; · iexact HC
  isplitl [HBC]; · iexact HBC
  isplitl [HS]; · iexact HS
  isplitl [HY]; · iexact HY
  isplitl [HBY]; · iexact HBY
  isplitl [H10]; · iexact H10
  isplitl [HT]; · iexact HT
  isplitl [H16]; · iexact H16
  iexact HE

theorem units_spec (n : ℕ) : ∀ {u : ℕ} (hu : u + n < 48) {mx : Mxu F} (h : St mx (RM O u (by omega)) (ZM O u (by omega))) {k : Mxu F → (Prog (TpuEff nD τ sig (Elt F) Λ .tc) α)},
    iprop(IU (τ := τ) E O c (u + 1) ∗ KU E O c u)
      ⊢ iprop((∀ mx', ⌜St mx' (RM O (u + n) hu) (ZM O (u + n) hu)⌝ -∗ iprop(IU (τ := τ) E O c (u + n + 1) ∗ KU E O c (u + n)) -∗ wp frame (wpE defs 𝒱 (c : Thread nD τ) bd) Set.univ (k mx') Q)
        -∗ wp frame (wpE defs 𝒱 (c : Thread nD τ) bd) Set.univ (E.units O.κ n u hu mx k) Q) := by
  induction n with
  | zero =>
    intro u hu mx h k
    iintro H Hk
    iapply Hk $$ %mx [] H
    ipureintro
    exact h
  | succ n ih =>
    intro u hu mx h k
    unfold Env.units
    iintro H Hk
    have hu0 : u < 48 := by omega
    have hu1 : u + 1 < 48 := by omega
    have hu2 : u + 1 + n < 48 := by omega
    iapply (back_step hu0 h) $$ H
    iintro %m1 %h1 H
    iapply (front_step (u := u + 1) hu1 h1) $$ H
    iintro %m2 %h2 H
    iapply (ih (u := u + 1) hu2 h2) $$ H
    iintro %m3 %h3 H
    have e : u + 1 + n = u + (n + 1) := by omega
    iapply Hk $$ %m3 [] [H]
    · ipureintro
      convert h3 using 2 <;> exact e.symm
    · rw [e]
      iexact H

theorem lastRound_spec (h : St mx (RA O 48) (ZA O 48)) {k : Mxu F → (Prog (TpuEff nD τ sig (Elt F) Λ .tc) α)} :
    iprop(KU (τ := τ) E O c 48)
      ⊢ iprop((∀ mx', ⌜mx'.Drained⌝ -∗
        iprop(QW E O c 6 ∗ QC E O c 6 6 ∗ BC E O c 6 0 ∗ QS E O c 6 6 ∗ QY E O c 48 46 ∗ BY E O c 46 0
          ∗ (holds (F := F) (τ := τ) c E.a10 Finset.univ O.S) ∗ YT E O c 48 ∗ (holds (F := F) (τ := τ) c E.a16 Finset.univ (O.top 48)) ∗ ES E O c 3) -∗ wp frame (wpE defs 𝒱 (c : Thread nD τ) bd) Set.univ (k mx') Q)
        -∗ wp frame (wpE defs 𝒱 (c : Thread nD τ) bd) Set.univ (E.lastRound O.κ mx k) Q) := by
  unfold KU Env.lastRound
  iintro ⟨HQ, HC, HBC, HS, HY, HBY, H10, HT, H16, HE⟩ Hk
  iapply (starts_spec (u := 48) (i := 6) le_rfl (by decide)) $$ [HC HBC HS HY HBY]
  · isplitl [HC]; · iexact HC
    isplitl [HBC]; · iexact HBC
    isplitl [HS]; · iexact HS
    isplitl [HY]; · iexact HY
    iexact HBY
  iintro ⟨HC, HBC, HS, HY, HBY⟩
  iapply (before_spec (u := 48) le_rfl h (fun h0 q => by unfold ZA; rw [dif_pos ⟨h0, le_rfl, rfl⟩])) $$ [H10 HT H16]
  · isplitl [H10]; · iexact H10
    isplitl [HT]; · iexact HT
    iexact H16
  iintro %m2 %h2 ⟨H10, HT, H16⟩
  iapply (quants_spec (u := 48) (s := 46) (nt := 48) le_rfl (by omega) (by decide)) $$ [HE H16 HT HY]
  · isplitl [HE]; · iexact HE
    isplitl [H16]; · iexact H16
    isplitl [HT]; · iexact HT
    iexact HY
  iintro ⟨HE, H16, HT, HY⟩
  iapply Hk $$ %m2 [] [HQ HC HBC HS HY HBY H10 HT H16 HE]
  · ipureintro
    refine St.drained ?_
    convert h2 using 1
    · funext q r
      unfold RA
      by_cases h0 : r = 0
      · rw [if_pos h0, dif_neg (by decide)]
      · rw [if_neg h0]
    · funext q a
      rw [if_pos (by decide)]
      by_cases ha : a = aOf (48 - 1)
      · rw [ha, set1_self]
      · rw [set1_ne _ ha]
        unfold ZA
        rw [dif_neg (fun e => ha (Fin.ext e.2.2))]
  isplitl [HQ]; · iexact HQ
  isplitl [HC]; · iexact HC
  isplitl [HBC]; · iexact HBC
  isplitl [HS]; · iexact HS
  isplitl [HY]; · iexact HY
  isplitl [HBY]; · iexact HBY
  isplitl [H10]; · iexact H10
  isplitl [HT]; · iexact HT
  isplitl [H16]; · iexact H16
  iexact HE

end unit

end Cert.Fp8
-- ==== Proof.Begin.lean ====
/- The kernel up to its main loop: the copies in started, the first row chunk quantised, and the first weights pushed. -/
module

public import proofs.«01_k».proof.Proof.Units

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}
  {E : Env sig} {O : Ops F} {c : Dev nD}

section setup

theorem xi_setup : iprop((holds (F := F) (τ := τ) c E.a0 Finset.univ O.X) ∗ (some' (F := F) (τ := τ) c E.a8 Finset.univ) ∗ bigSep Finset.univ fun m : Fin 6 => semVal ((c : Thread nD τ), .dma (E.xSem m)) 0)
    ⊢ XI (τ := τ) E O c 0 0 := by
  unfold XI
  rw [stage_none]
  iintro ⟨H1, H2, H3⟩
  iapply (sep_pair _ _)
  isplitl [H1]
  · iapply (holds_parts (fun m => (rRow m).set) rows_disj rows_univ) $$ H1
  iapply (sep_pair _ _)
  isplitl [H2]
  · iapply (some_split (fun m => (rRow m).set) rows_disj rows_univ) $$ H2
  iexact H3

theorem xi_done : XI (τ := τ) E O c 6 6
    ⊢ iprop((holds (F := F) (τ := τ) c E.a0 Finset.univ O.X) ∗ (some' (F := F) (τ := τ) c E.a8 Finset.univ) ∗ bigSep Finset.univ fun m : Fin 6 => semVal ((c : Thread nD τ), .dma (E.xSem m)) 0) := by
  unfold XI
  rw [stage_all (le_refl 6)]
  iintro H
  icases (sep_unpair _ _) $$ H with ⟨H2, H⟩
  icases (sep_unpair _ _) $$ H with ⟨H1, H3⟩
  isplitl [H1]
  · iapply (holds_whole (fun m => (rRow m).set) rows_disj rows_univ) $$ H1
  isplitl [H2]
  · iapply some_of
    iapply (holds_whole (fun m => (rRow m).set) rows_disj rows_univ) $$ H2
  iexact H3

theorem w_setup : iprop((holds (F := F) (τ := τ) c E.a1 Finset.univ O.W) ∗ (some' (F := F) (τ := τ) c E.a9 Finset.univ)
      ∗ (bigSep Finset.univ fun m : Fin 4 => semVal ((c : Thread nD τ), .dma (E.w0Sem m)) 0)
      ∗ (bigSep Finset.univ fun g : Fin 7 => semVal ((c : Thread nD τ), .dma (E.wSem ⟨g.val + 1, wg_succ g⟩)) 0))
    ⊢ iprop(W0 (τ := τ) E O c 0 0 ∗ WG E O c 0 0) := by
  unfold W0 WG
  rw [stage_none, stage_none, w_univ]
  unfold some'
  iintro ⟨H1, ⟨%G, H2⟩, H3, H4⟩
  icases (holds_split w_disj) $$ H1 with ⟨H1, H1'⟩
  icases (holds_split w_disj) $$ H2 with ⟨H2, H2'⟩
  isplitl [H1 H2 H3]
  · iapply (sep_pair _ _)
    isplitl [H1]
    · iapply (holds_parts (fun k : Fin 4 => (rW0 k).set) w0_disj rfl) $$ H1
    iapply (sep_pair _ _)
    isplitl [H2]
    · iapply (some_split (fun k : Fin 4 => (rW0 k).set) w0_disj rfl)
      iapply some_of $$ H2
    iexact H3
  · iapply (sep_pair _ _)
    isplitl [H1']
    · iapply (holds_parts (fun g : Fin 7 => (rWg ⟨g.val + 1, wg_succ g⟩).set) wg_disj rfl) $$ H1'
    iapply (sep_pair _ _)
    isplitl [H2']
    · iapply (some_split (fun g : Fin 7 => (rWg ⟨g.val + 1, wg_succ g⟩).set) wg_disj rfl)
      iapply some_of $$ H2'
    iexact H4

theorem w_done : WT (τ := τ) E O c 7
    ⊢ iprop((holds (F := F) (τ := τ) c E.a1 Finset.univ O.W) ∗ (some' (F := F) (τ := τ) c E.a9 Finset.univ)
      ∗ (bigSep Finset.univ fun m : Fin 4 => semVal ((c : Thread nD τ), .dma (E.w0Sem m)) 0)
      ∗ (bigSep Finset.univ fun g : Fin 7 => semVal ((c : Thread nD τ), .dma (E.wSem ⟨g.val + 1, wg_succ g⟩)) 0)) := by
  unfold WT W0 WG
  rw [stage_all (le_refl 4), stage_all (le_refl 7), w_univ]
  iintro ⟨H, H'⟩
  icases (sep_unpair _ _) $$ H with ⟨H2, H⟩
  icases (sep_unpair _ _) $$ H with ⟨H1, H3⟩
  icases (sep_unpair _ _) $$ H' with ⟨H2', H'⟩
  icases (sep_unpair _ _) $$ H' with ⟨H1', H4⟩
  isplitl [H1 H1']
  · iapply (holds_join w_disj)
    isplitl [H1]
    · iapply (holds_whole (fun k : Fin 4 => (rW0 k).set) w0_disj rfl) $$ H1
    · iapply (holds_whole (fun g : Fin 7 => (rWg ⟨g.val + 1, wg_succ g⟩).set) wg_disj rfl) $$ H1'
  isplitl [H2 H2']
  · iapply some_of
    iapply (holds_join w_disj)
    isplitl [H2]
    · iapply (holds_whole (fun k : Fin 4 => (rW0 k).set) w0_disj rfl) $$ H2
    · iapply (holds_whole (fun g : Fin 7 => (rWg ⟨g.val + 1, wg_succ g⟩).set) wg_disj rfl) $$ H2'
  isplitl [H3]; · iexact H3
  iexact H4

theorem qw_setup : (some' (F := F) (τ := τ) c E.a11 Finset.univ) ⊢ QW (τ := τ) E O c 0 := by
  unfold QW
  rw [stage_none]
  exact some_split (fun m => (rRow m).set) rows_disj rows_univ
theorem qw_done : QW (τ := τ) E O c 6 ⊢ (some' (F := F) (τ := τ) c E.a11 Finset.univ) := by
  unfold QW
  rw [stage_all (le_refl 6)]
  iintro H
  iapply some_of
  iapply (holds_whole (fun m => (rRow m).set) rows_disj rows_univ) $$ H

theorem qc_setup : iprop((some' (F := F) (τ := τ) c E.a12 Finset.univ) ∗ (some' (F := F) (τ := τ) c E.a6 Finset.univ)) ⊢ QC (τ := τ) E O c 0 0 := by
  unfold QC
  rw [stage_none]
  iintro ⟨H1, H2⟩
  iapply (sep_pair _ _)
  isplitl [H1]
  · iapply (some_split (fun m => (rRow m).set) rows_disj rows_univ) $$ H1
  · iapply (some_split (fun m => (rRow m).set) rows_disj rows_univ) $$ H2
theorem qc_done : bigSep Finset.univ (DC (τ := τ) E O c) ⊢ iprop((holds (F := F) (τ := τ) c E.a6 Finset.univ O.XC) ∗ (some' (F := F) (τ := τ) c E.a12 Finset.univ)) := by
  unfold DC
  iintro H
  icases (sep_unpair _ _) $$ H with ⟨H1, H2⟩
  isplitl [H1]
  · iapply (holds_whole (fun m => (rRow m).set) rows_disj rows_univ) $$ H1
  · iapply some_of
    iapply (holds_whole (fun m => (rRow m).set) rows_disj rows_univ) $$ H2

theorem qs_setup : iprop((some' (F := F) (τ := τ) c E.a13 Finset.univ) ∗ (some' (F := F) (τ := τ) c E.a7 Finset.univ) ∗ bigSep Finset.univ fun m : Fin 6 => semVal ((c : Thread nD τ), .dma (E.xsSem m)) 0)
    ⊢ QS (τ := τ) E O c 0 0 := by
  unfold QS
  rw [stage_none]
  iintro ⟨H1, H2, H3⟩
  iapply (sep_pair _ _)
  isplitl [H1]
  · iapply (some_split (fun m => (rRow8 m).set) rows8_disj rows8_univ) $$ H1
  iapply (sep_pair _ _)
  isplitl [H2]
  · iapply (some_split (fun m => (rRow8 m).set) rows8_disj rows8_univ) $$ H2
  iexact H3
theorem qs_ls : QS (τ := τ) E O c 6 6 ⊢ LS (τ := τ) E O c 0 := by
  unfold QS LS
  rw [stage_all (le_refl 6), stage_none]
theorem ls_done : LS (τ := τ) E O c 6
    ⊢ iprop((holds (F := F) (τ := τ) c E.a7 Finset.univ O.XS) ∗ (some' (F := F) (τ := τ) c E.a13 Finset.univ) ∗ bigSep Finset.univ fun m : Fin 6 => semVal ((c : Thread nD τ), .dma (E.xsSem m)) 0) := by
  unfold LS
  rw [stage_all (le_refl 6)]
  iintro H
  icases (sep_unpair _ _) $$ H with ⟨H1, H⟩
  icases (sep_unpair _ _) $$ H with ⟨H2, H3⟩
  isplitl [H1]
  · iapply (holds_whole (fun m => (rRow8 m).set) rows8_disj rows8_univ) $$ H1
  isplitl [H2]
  · iapply some_of
    iapply (holds_whole (fun m => (rRow8 m).set) rows8_disj rows8_univ) $$ H2
  iexact H3

theorem yt_setup : (some' (F := F) (τ := τ) c E.a14 Finset.univ) ⊢ YT (τ := τ) E O c 0 := by
  unfold YT
  rw [stage_none]
  exact some_split (fun v : Fin 48 => tile v) tiles_disj tiles_univ
theorem yt_done : YT (τ := τ) E O c 48 ⊢ (some' (F := F) (τ := τ) c E.a14 Finset.univ) := by
  unfold YT
  rw [stage_all (le_refl 48)]
  iintro H
  iapply some_of
  iapply (holds_whole (fun v : Fin 48 => tile v) tiles_disj tiles_univ) $$ H

theorem qy_setup : iprop((some' (F := F) (τ := τ) c E.a15 Finset.univ) ∗ (some' (F := F) (τ := τ) c E.a3 Finset.univ)) ⊢ QY (τ := τ) E O c 0 0 := by
  unfold QY
  rw [stage_none]
  iintro ⟨H1, H2⟩
  iapply (sep_pair _ _)
  isplitl [H1]
  · iapply (some_split (fun v : Fin 48 => tile v) tiles_disj tiles_univ) $$ H1
  · iapply (some_split (fun v : Fin 48 => tile v) tiles_disj tiles_univ) $$ H2

theorem es_setup : iprop((some' (F := F) (τ := τ) c E.a17 Finset.univ) ∗ (some' (F := F) (τ := τ) c E.a18 Finset.univ)) ⊢ ES (τ := τ) E O c 0 := by
  unfold ES some'
  iintro ⟨⟨%G, H1⟩, ⟨%G', H2⟩⟩
  isplitl [H1]
  · iexists G
    isplitl [H1]; · iexact H1
    ipureintro; intro p hp; exact absurd hp (Nat.not_lt_zero _)
  · iexists G'
    isplitl [H2]; · iexact H2
    ipureintro; intro p hp; exact absurd hp (Nat.succ_ne_zero _)

end setup

section begin'

theorem ra_zero : (set1 (fun _ _ => none) 0 fun q => some (O.wt 0 0 q)) = RA O 0 := by
  funext q r
  unfold set1 RA
  by_cases h : r = 0
  · rw [if_pos h, if_pos h]; rfl
  · rw [if_neg h, if_neg h]
theorem za_zero : (fun _ _ => none) = ZA O 0 := by
  funext q a
  unfold ZA
  rw [dif_neg (fun h => absurd h.1 (by decide))]

theorem begin_spec {k : Mxu F → (Prog (TpuEff nD τ sig (Elt F) Λ .tc) α)} :
    iprop(XI (τ := τ) E O c 0 0 ∗ ow (F := F) (τ := τ) c ∗ W0 E O c 0 0 ∗ WG E O c 0 0
        ∗ (holds (F := F) (τ := τ) c E.a2 Finset.univ O.S) ∗ (some' (F := F) (τ := τ) c E.a10 Finset.univ) ∗ semVal ((c : Thread nD τ), .dma E.s25.sem) 0
        ∗ QW E O c 0 ∗ QC E O c 0 0 ∗ BC E O c 0 0 ∗ QS E O c 0 0 ∗ QY E O c 0 0 ∗ BY E O c 0 0 ∗ YT E O c 0 ∗ (some' (F := F) (τ := τ) c E.a16 Finset.univ) ∗ ES E O c 0)
      ⊢ iprop((∀ mx', ⌜St mx' (RA O 0) (ZA O 0)⌝ -∗
          iprop((IU (τ := τ) E O c 0 ∗ KU E O c 0) ∗ (holds (F := F) (τ := τ) c E.a2 Finset.univ O.S) ∗ semVal ((c : Thread nD τ), .dma E.s25.sem) 0) -∗ wp frame (wpE defs 𝒱 (c : Thread nD τ) bd) Set.univ (k mx') Q)
        -∗ wp frame (wpE defs 𝒱 (c : Thread nD τ) bd) Set.univ (E.begin k) Q) := by
  have hI : iprop(XI (τ := τ) E O c 6 1 ∗ ow (F := F) (τ := τ) c ∗ WT E O c 0) ⊢ IU (τ := τ) E O c 0 := .rfl
  have hK : iprop(QW (τ := τ) E O c 1 ∗ QC E O c 1 0 ∗ BC E O c 0 0 ∗ QS E O c 1 0 ∗ QY E O c 0 0 ∗ BY E O c 0 0
      ∗ (holds (F := F) (τ := τ) c E.a10 Finset.univ O.S) ∗ YT E O c 0 ∗ (holds (F := F) (τ := τ) c E.a16 Finset.univ (O.top 0)) ∗ ES E O c 0) ⊢ KU (τ := τ) E O c 0 := .rfl
  unfold Env.begin
  iintro ⟨HX, Ho, HW0, HWG, H2, H10, Hs, HQ, HC, HBC, HS, HY, HBY, HT, H16, HE⟩ Hk
  iapply (xStart_spec (i := 0) (n := 0) (by decide) (by decide)) $$ HX
  iintro HX
  unfold Env.wsStart some'
  icases H10 with ⟨%G, H10⟩
  iapply (wp_copy (g := O.S) (g' := G) (show 0 < S1x4096.numel by decide) .rfl) $$ [H2 H10 Hs]
  · isplitl [H2]; · iexact H2
    isplitl [H10]; · iexact H10
    iexact Hs
  iintro HF
  iapply (w0Start_spec (i := 0) (n := 0) (by decide) (by decide)) $$ HW0
  iintro HW0
  iapply (w0Start_spec (i := 1) (n := 0) (by decide) (by decide)) $$ HW0
  iintro HW0
  iapply (w0Start_spec (i := 2) (n := 0) (by decide) (by decide)) $$ HW0
  iintro HW0
  iapply (w0Start_spec (i := 3) (n := 0) (by decide) (by decide)) $$ HW0
  iintro HW0
  iapply (xStart_spec (i := 1) (n := 0) (by decide) (by decide)) $$ HX
  iintro HX
  iapply (xStart_spec (i := 2) (n := 0) (by decide) (by decide)) $$ HX
  iintro HX
  iapply (xStart_spec (i := 3) (n := 0) (by decide) (by decide)) $$ HX
  iintro HX
  iapply (xStart_spec (i := 4) (n := 0) (by decide) (by decide)) $$ HX
  iintro HX
  iapply (xStart_spec (i := 5) (n := 0) (by decide) (by decide)) $$ HX
  iintro HX
  iapply (wStart_spec (i := 0) (n := 0) (by decide) (by decide)) $$ HWG
  iintro HWG
  iapply (wStart_spec (i := 1) (n := 0) (by decide) (by decide)) $$ HWG
  iintro HWG
  iapply (wStart_spec (i := 2) (n := 0) (by decide) (by decide)) $$ HWG
  iintro HWG
  iapply (wStart_spec (i := 3) (n := 0) (by decide) (by decide)) $$ HWG
  iintro HWG
  iapply (wStart_spec (i := 4) (n := 0) (by decide) (by decide)) $$ HWG
  iintro HWG
  iapply (wStart_spec (i := 5) (n := 0) (by decide) (by decide)) $$ HWG
  iintro HWG
  iapply (wStart_spec (i := 6) (n := 0) (by decide) (by decide)) $$ HWG
  iintro HWG
  icases H16 with ⟨%G16, H16⟩
  iapply (put_spec (O.top 0) (Finset.subset_univ _) (fun j => by rw [top_emb]; rfl) (fun i _ hi => absurd (top_in i) hi)) $$ H16
  iintro H16
  iapply (xWait_spec (i := 6) (n := 0) (by decide) (by decide)) $$ [HX Ho]
  · isplitl [HX]; · iexact HX
    iexact Ho
  iintro ⟨HX, Ho⟩
  iapply (quantX_spec (i := 0) (n := 1) (s := 0) (s' := 0) (j := 6) (by decide) (by decide) (by decide) (by decide)) $$ [HX HQ HC HS]
  · isplitl [HX]; · iexact HX
    isplitl [HQ]; · iexact HQ
    isplitl [HC]; · iexact HC
    iexact HS
  iintro ⟨HX, HQ, HC, HS⟩
  unfold Env.wsWait
  iapply wp_wait $$ [HF Ho]
  · isplitl [HF]; · iexact HF
    iexact Ho
  iintro ⟨⟨H10, H2⟩, Hs, Ho⟩
  iapply (w0Wait_spec (i := 4) (n := 0) (by decide) (by decide)) $$ [HW0 Ho]
  · isplitl [HW0]; · iexact HW0
    iexact Ho
  iintro H
  iapply (w0Wait_spec (i := 4) (n := 1) (by decide) (by decide)) $$ H
  iintro H
  iapply (w0Wait_spec (i := 4) (n := 2) (by decide) (by decide)) $$ H
  iintro H
  iapply (w0Wait_spec (i := 4) (n := 3) (by decide) (by decide)) $$ H
  iintro ⟨HW0, Ho⟩
  ihave HW : WT (τ := τ) E O c 0 $$ [HW0 HWG]
  · unfold WT
    isplitl [HW0]; · iexact HW0
    iexact HWG
  iapply (push_spec (n := 0) (g := 0) (r := 0) (ng := 0) (by decide) St.init (fun _ => rfl)) $$ HW
  iintro %m1 %h1 HW
  iapply Hk $$ %m1 [] [HX Ho HW HQ HC HBC HS HY HBY HT H10 H16 HE H2 Hs]
  · ipureintro
    rw [ra_zero, za_zero (O := O)] at h1
    exact h1
  isplitr [H2 Hs]
  · isplitl [HX Ho HW]
    · iapply hI
      isplitl [HX]; · iexact HX
      isplitl [Ho]; · iexact Ho
      iexact HW
    · iapply hK
      isplitl [HQ]; · iexact HQ
      isplitl [HC]; · iexact HC
      isplitl [HBC]; · iexact HBC
      isplitl [HS]; · iexact HS
      isplitl [HY]; · iexact HY
      isplitl [HBY]; · iexact HBY
      isplitl [H10]; · iexact H10
      isplitl [HT]; · iexact HT
      isplitl [H16]; · iexact H16
      iexact HE
  · isplitl [H2]; · iexact H2
    iexact Hs

end begin'

end Cert.Fp8
-- ==== Proof.Ends.lean ====
/- The kernel after its main loop: the last copies, the waits, and the tiles quantised again when an estimate was not the final scale. -/
module

public import proofs.«01_k».proof.Proof.Begin

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}
  {E : Env sig} {O : Ops F} {c : Dev nD}

section store

theorem fin_out {p p' : Fin 2} (h : p' ≠ p) (j : S1x8x128.Idx) : (rFin p').emb j ∉ (rFin p).set := by
  intro hi
  have h0 := (Rect.mem_set_unit.mp hi) 0
  have l0 : (j 0).val < 1 := (j 0).isLt
  have e : ((rFin p').emb j 0).val = p'.val + 1 * (j 0).val := rfl
  have h1 : p.val ≤ ((rFin p').emb j 0).val ∧ ((rFin p').emb j 0).val < p.val + 1 := h0
  exact h (Fin.ext (by omega))

theorem one_in (j : S1x1.Idx) : j ∈ (rOne).set := by
  rw [← one_emb j, ← Rect.map_emb_univ]; exact Finset.mem_map_of_mem _ (Finset.mem_univ j)

variable (E O c)

/-- The copies of the largest magnitude and of the scale. -/
def DZ : Fin 2 → sProp (MT nD τ sig Unit (Elt F) ℕ (Pipeline.UD sig nD τ) ℕ) :=
  fun n => if n = 0 then iprop((holds (F := F) (τ := τ) c E.a5 Finset.univ O.am) ∗ (holds (F := F) (τ := τ) c E.a20 Finset.univ O.am)) else iprop((holds (F := F) (τ := τ) c E.a4 Finset.univ O.sc) ∗ (holds (F := F) (τ := τ) c E.a21 Finset.univ O.sc))
def BZ (j u : ℕ) : sProp (MT nD τ sig Unit (Elt F) ℕ (Pipeline.UD sig nD τ) ℕ) := Batch (countersEmb (U := Pipeline.UD sig nD τ)) (c : Thread nD τ) (.dma E.s29.sem) () E.a5.view.dmaCredit (DZ E O c) j u
/-- The final scale kept. -/
def FN : sProp (MT nD τ sig Unit (Elt F) ℕ (Pipeline.UD sig nD τ) ℕ) := iprop(∃ G, (holds (F := F) (τ := τ) c E.a19 Finset.univ G) ∗ ⌜∀ j, G ((rFin 1).emb j) = O.fin1 j⌝)
/-- The estimates kept. -/
def EN : sProp (MT nD τ sig Unit (Elt F) ℕ (Pipeline.UD sig nD τ) ℕ) := iprop(∃ G, (holds (F := F) (τ := τ) c E.a17 Finset.univ G) ∗ ⌜∀ p : Fin 3, ∀ j, G ((rEst p).emb j) = O.est p j⌝)

variable {E O c}

theorem finish_spec (hcr : E.a4.view.dmaCredit = E.a5.view.dmaCredit) {k : (Prog (TpuEff nD τ sig (Elt F) Λ .tc) α)} :
    iprop(QY (τ := τ) E O c 48 46 ∗ BY E O c 46 0 ∗ (holds (F := F) (τ := τ) c E.a16 Finset.univ (O.top 48)) ∗ (some' (F := F) (τ := τ) c E.a19 Finset.univ) ∗ (some' (F := F) (τ := τ) c E.a20 Finset.univ) ∗ (some' (F := F) (τ := τ) c E.a21 Finset.univ)
        ∗ (some' (F := F) (τ := τ) c E.a4 Finset.univ) ∗ (some' (F := F) (τ := τ) c E.a5 Finset.univ) ∗ BZ E O c 0 0)
      ⊢ iprop((iprop(BY E O c 48 0 ∗ (holds (F := F) (τ := τ) c E.a16 Finset.univ (O.top 48)) ∗ FN E O c ∗ BZ E O c 2 0) -∗ wp frame (wpE defs 𝒱 (c : Thread nD τ) bd) Set.univ (k) Q)
        -∗ wp frame (wpE defs 𝒱 (c : Thread nD τ) bd) Set.univ (E.finish O.κ k) Q) := by
  unfold Env.finish some'
  iintro ⟨HY, HB, Ht, ⟨%G, H19⟩, ⟨%G20, H20⟩, ⟨%G21, H21⟩, ⟨%G4, H4⟩, ⟨%G5, H5⟩, HZ⟩ Hk
  iapply (yStart_spec (n := 46) (i := 48) (by decide) (by decide)) $$ [HY HB]
  · isplitl [HY]; · iexact HY
    iexact HB
  iintro H
  iapply (yStart_spec (n := 47) (i := 48) (by decide) (by decide)) $$ H
  iintro ⟨-, HB⟩
  iapply (ld_spec (O.top 48) (Finset.subset_univ _) (top_get _)) $$ Ht
  iintro Ht
  obtain ⟨G1, h1, h2⟩ := exists_put (rFin 0) G (O.fin0)
  iapply (put_spec G1 (Finset.subset_univ _) h1 (fun i _ hi => h2 i hi)) $$ H19
  iintro H19
  obtain ⟨G2, h3, h4⟩ := exists_put (rFin 1) G1 (O.fin1)
  iapply (put_spec G2 (Finset.subset_univ _) h3 (fun i _ hi => h4 i hi)) $$ H19
  iintro H19
  iapply (put_spec O.am (Finset.subset_univ _) (fun j => by rw [one_emb]; rfl) (fun i _ hi => absurd (one_in i) hi)) $$ H20
  iintro H20
  iapply (put_spec O.sc (Finset.subset_univ _) (fun j => by rw [one_emb]; rfl) (fun i _ hi => absurd (one_in i) hi)) $$ H21
  iintro H21
  unfold Env.amStart Env.scStart BZ
  iapply (wp_copyB (g := O.am) (g' := G5) (D := DZ (τ := τ) E O c) rfl (show 0 < 2 by decide) .rfl) $$ [H20 H5 HZ]
  · isplitl [H20]; · iexact H20
    isplitl [H5]; · iexact H5
    iexact HZ
  iintro HZ
  iapply (wp_copyB (g := O.sc) (g' := G4) (D := DZ (τ := τ) E O c) hcr (show 1 < 2 by decide) .rfl) $$ [H21 H4 HZ]
  · isplitl [H21]; · iexact H21
    isplitl [H4]; · iexact H4
    iexact HZ
  iintro HZ
  iapply Hk
  isplitl [HB]; · iexact HB
  isplitl [Ht]; · iexact Ht
  isplitl [H19]
  · unfold FN
    iexists G2
    isplitl [H19]; · iexact H19
    ipureintro; exact h3
  iexact HZ

end store

section waits

theorem nC_pos : 0 < nC E := View.dmaCredit_pos _ (show 0 < S256x1024.numel by decide)
theorem nY_pos : 0 < nY E := View.dmaCredit_pos _ (show 0 < S256x512.numel by decide)

theorem xsWait_spec {n : ℕ} (hn : n < 6) {k : (Prog (TpuEff nD τ sig (Elt F) Λ .tc) α)} :
    iprop(LS (τ := τ) E O c n ∗ ow (F := F) (τ := τ) c) ⊢ iprop((iprop(LS E O c (n + 1) ∗ ow c) -∗ wp frame (wpE defs 𝒱 (c : Thread nD τ) bd) Set.univ (k) Q) -∗ wp frame (wpE defs 𝒱 (c : Thread nD τ) bd) Set.univ (E.xsWait ⟨n, hn⟩ k) Q) := by
  unfold LS Env.xsWait
  iintro ⟨H, Ho⟩ Hk
  icases (stage_step hn) $$ H with ⟨H, Hb⟩
  unfold FS
  iapply wp_wait $$ [H Ho]
  · isplitl [H]; · iexact H
    iexact Ho
  iintro ⟨⟨H1, H2⟩, ⟨H3, Ho⟩⟩
  iapply Hk
  isplitl [H1 H2 H3 Hb]
  · iapply Hb
    isplitl [H1]; · iexact H1
    isplitl [H2]; · iexact H2
    iexact H3
  · iexact Ho

theorem xOut_spec {n : ℕ} (hn : n + 1 < 6) {k : (Prog (TpuEff nD τ sig (Elt F) Λ .tc) α)} :
    iprop(BC (τ := τ) E O c 6 (n * nC E) ∗ LS E O c n ∗ ow (F := F) (τ := τ) c)
      ⊢ iprop((iprop(BC E O c 6 ((n + 1) * nC E) ∗ LS E O c (n + 1) ∗ ow c) -∗ wp frame (wpE defs 𝒱 (c : Thread nD τ) bd) Set.univ (k) Q) -∗ wp frame (wpE defs 𝒱 (c : Thread nD τ) bd) Set.univ (E.xOut ⟨n, by omega⟩ k) Q) := by
  have hcr : (E.a6.slice (rRow ⟨n, Nat.lt_of_succ_lt hn⟩) (fun _ => rfl)).view.dmaCredit = nC E := rfl
  unfold BC Env.xOut Env.xcWait
  iintro ⟨HB, HL, Ho⟩ Hk
  iapply (wp_waitB (D := DC (τ := τ) E O c) (N := nC E) hcr nC_pos hn) $$ [HB Ho]
  · isplitl [HB]; · iexact HB
    iexact Ho
  iintro ⟨HB, Ho⟩
  iapply (xsWait_spec (n := n) (Nat.lt_of_succ_lt hn)) $$ [HL Ho]
  · isplitl [HL]; · iexact HL
    iexact Ho
  iintro ⟨HL, Ho⟩
  iapply Hk
  isplitl [HB]; · iexact HB
  isplitl [HL]; · iexact HL
  iexact Ho

theorem xOutL_spec {k : (Prog (TpuEff nD τ sig (Elt F) Λ .tc) α)} :
    iprop(BC (τ := τ) E O c 6 (5 * nC E) ∗ LS E O c 5 ∗ ow (F := F) (τ := τ) c)
      ⊢ iprop((iprop(bigSep Finset.univ (DC (τ := τ) E O c) ∗ semVal ((c : Thread nD τ), .dma E.s26.sem) 0 ∗ LS E O c 6 ∗ ow c) -∗ wp frame (wpE defs 𝒱 (c : Thread nD τ) bd) Set.univ (k) Q)
        -∗ wp frame (wpE defs 𝒱 (c : Thread nD τ) bd) Set.univ (E.xOut 5 k) Q) := by
  have hcr : (E.a6.slice (rRow 5) (fun _ => rfl)).view.dmaCredit = nC E := rfl
  unfold BC Env.xOut Env.xcWait
  iintro ⟨HB, HL, Ho⟩ Hk
  iapply (wp_waitBL (D := DC (τ := τ) E O c) (N := nC E) (j := 5) hcr nC_pos rfl) $$ [HB Ho]
  · isplitl [HB]; · iexact HB
    iexact Ho
  iintro ⟨HB, Hs, Ho⟩
  iapply (xsWait_spec (n := 5) (by decide)) $$ [HL Ho]
  · isplitl [HL]; · iexact HL
    iexact Ho
  iintro ⟨HL, Ho⟩
  iapply Hk
  isplitl [HB]; · iexact HB
  isplitl [Hs]; · iexact Hs
  isplitl [HL]; · iexact HL
  iexact Ho

theorem yOut_spec (n : ℕ) : ∀ {u : ℕ} (hu : u + (n + 1) = 48) {k : (Prog (TpuEff nD τ sig (Elt F) Λ .tc) α)},
    iprop(BY (τ := τ) E O c 48 (u * nY E) ∗ ow (F := F) (τ := τ) c)
      ⊢ iprop((iprop(bigSep Finset.univ (DY (τ := τ) E O c) ∗ semVal ((c : Thread nD τ), .dma E.s28.sem) 0 ∗ ow c) -∗ wp frame (wpE defs 𝒱 (c : Thread nD τ) bd) Set.univ (k) Q)
        -∗ wp frame (wpE defs 𝒱 (c : Thread nD τ) bd) Set.univ (E.yOut (n + 1) u hu k) Q) := by
  induction n with
  | zero =>
    intro u hu k
    have hu' : u + 1 = 48 := hu
    have hcr : (E.a3.slice (rYt (mOf u) (gOf u (by omega))) (fun _ => rfl)).view.dmaCredit = nY E := rfl
    rw [Env.yOut]
    unfold BY Env.yWait
    iintro H Hk
    iapply (wp_waitBL (D := DY (τ := τ) E O c) (N := nY E) (j := u) hcr nY_pos hu') $$ H
    iexact Hk
  | succ n ih =>
    intro u hu k
    have hu' : u + 1 < 48 := by omega
    have hu1 : u + 1 + (n + 1) = 48 := by omega
    have hcr : (E.a3.slice (rYt (mOf u) (gOf u (by omega))) (fun _ => rfl)).view.dmaCredit = nY E := rfl
    have ih' := ih hu1 (k := k)
    rw [Env.yOut]
    unfold BY Env.yWait at *
    iintro H Hk
    iapply (wp_waitB (D := DY (τ := τ) E O c) (N := nY E) (j := u) hcr nY_pos hu') $$ H
    iintro H
    iapply ih' $$ H
    iexact Hk

theorem bz_wait (hcr : E.a4.view.dmaCredit = E.a5.view.dmaCredit) {k : (Prog (TpuEff nD τ sig (Elt F) Λ .tc) α)} :
    iprop(BZ (τ := τ) E O c 2 0 ∗ ow (F := F) (τ := τ) c)
      ⊢ iprop((iprop(((holds (F := F) (τ := τ) c E.a5 Finset.univ O.am) ∗ (holds (F := F) (τ := τ) c E.a20 Finset.univ O.am)) ∗ ((holds (F := F) (τ := τ) c E.a4 Finset.univ O.sc) ∗ (holds (F := F) (τ := τ) c E.a21 Finset.univ O.sc))
          ∗ semVal ((c : Thread nD τ), .dma E.s29.sem) 0 ∗ ow c) -∗ wp frame (wpE defs 𝒱 (c : Thread nD τ) bd) Set.univ (k) Q)
        -∗ wp frame (wpE defs 𝒱 (c : Thread nD τ) bd) Set.univ (E.amWait <| E.scWait k) Q) := by
  have hp : 0 < E.a5.view.dmaCredit := View.dmaCredit_pos _ (show 0 < S1x1.numel by decide)
  have e : bigSep Finset.univ (DZ (τ := τ) E O c) ⊢ iprop(((holds (F := F) (τ := τ) c E.a5 Finset.univ O.am) ∗ (holds (F := F) (τ := τ) c E.a20 Finset.univ O.am)) ∗ ((holds (F := F) (τ := τ) c E.a4 Finset.univ O.sc) ∗ (holds (F := F) (τ := τ) c E.a21 Finset.univ O.sc))) := by
    rw [show (Finset.univ : Finset (Fin 2)) = insert 0 {1} by decide, sep_insert (by decide), bigSep_singleton]
    exact .rfl
  have e0 : BZ (τ := τ) E O c 2 0 = BZ (τ := τ) E O c 2 (0 * E.a5.view.dmaCredit) := by rw [Nat.zero_mul]
  rw [e0]
  unfold BZ Env.amWait Env.scWait
  iintro H Hk
  iapply (wp_waitB (D := DZ (τ := τ) E O c) (N := E.a5.view.dmaCredit) (j := 0) rfl hp (by decide)) $$ H
  iintro H
  iapply (wp_waitBL (D := DZ (τ := τ) E O c) (N := E.a5.view.dmaCredit) (j := 1) hcr hp rfl) $$ H
  iintro ⟨H, Hs, Ho⟩
  iapply Hk
  icases e $$ H with ⟨H1, H2⟩
  isplitl [H1]; · iexact H1
  isplitl [H2]; · iexact H2
  isplitl [Hs]; · iexact Hs
  iexact Ho

theorem waits_spec (hcr : E.a4.view.dmaCredit = E.a5.view.dmaCredit) {k : (Prog (TpuEff nD τ sig (Elt F) Λ .tc) α)} :
    iprop(BC (τ := τ) E O c 6 0 ∗ LS E O c 0 ∗ BY E O c 48 0 ∗ BZ E O c 2 0 ∗ ow (F := F) (τ := τ) c)
      ⊢ iprop((iprop((bigSep Finset.univ (DC (τ := τ) E O c) ∗ semVal ((c : Thread nD τ), .dma E.s26.sem) 0 ∗ LS E O c 6)
            ∗ (bigSep Finset.univ (DY (τ := τ) E O c) ∗ semVal ((c : Thread nD τ), .dma E.s28.sem) 0)
            ∗ ((holds (F := F) (τ := τ) c E.a5 Finset.univ O.am) ∗ (holds (F := F) (τ := τ) c E.a20 Finset.univ O.am)) ∗ ((holds (F := F) (τ := τ) c E.a4 Finset.univ O.sc) ∗ (holds (F := F) (τ := τ) c E.a21 Finset.univ O.sc))
            ∗ semVal ((c : Thread nD τ), .dma E.s29.sem) 0 ∗ ow c) -∗ wp frame (wpE defs 𝒱 (c : Thread nD τ) bd) Set.univ (k) Q)
        -∗ wp frame (wpE defs 𝒱 (c : Thread nD τ) bd) Set.univ (E.waits k) Q) := by
  have e1 : BC (τ := τ) E O c 6 0 = BC (τ := τ) E O c 6 (0 * nC E) := by rw [Nat.zero_mul]
  have e2 : BY (τ := τ) E O c 48 0 = BY (τ := τ) E O c 48 (0 * nY E) := by rw [Nat.zero_mul]
  rw [e1, e2]
  unfold Env.waits
  iintro ⟨HC, HL, HY, HZ, Ho⟩ Hk
  iapply (xOut_spec (n := 0) (by decide)) $$ [HC HL Ho]
  · isplitl [HC]; · iexact HC
    isplitl [HL]; · iexact HL
    iexact Ho
  iintro H
  iapply (xOut_spec (n := 1) (by decide)) $$ H
  iintro H
  iapply (xOut_spec (n := 2) (by decide)) $$ H
  iintro H
  iapply (xOut_spec (n := 3) (by decide)) $$ H
  iintro H
  iapply (xOut_spec (n := 4) (by decide)) $$ H
  iintro H
  iapply xOutL_spec $$ H
  iintro ⟨HC, Hs, HL, Ho⟩
  iapply (yOut_spec 47 (u := 0) rfl) $$ [HY Ho]
  · isplitl [HY]; · iexact HY
    iexact Ho
  iintro ⟨HY, Hs', Ho⟩
  iapply (bz_wait hcr) $$ [HZ Ho]
  · isplitl [HZ]; · iexact HZ
    iexact Ho
  iintro H
  iapply Hk
  isplitl [HC Hs HL]
  · isplitl [HC]; · iexact HC
    isplitl [Hs]; · iexact Hs
    iexact HL
  isplitl [HY Hs']
  · isplitl [HY]; · iexact HY
    iexact Hs'
  iexact H

end waits

section redo

theorem differs_spec {p : Fin 3} {k : BitVec 1 → (Prog (TpuEff nD τ sig (Elt F) Λ .tc) α)} :
    iprop(EN (τ := τ) E O c ∗ FN E O c) ⊢ iprop((iprop(EN (τ := τ) E O c ∗ FN E O c) -∗ wp frame (wpE defs 𝒱 (c : Thread nD τ) bd) Set.univ (k (O.dif p)) Q) -∗ wp frame (wpE defs 𝒱 (c : Thread nD τ) bd) Set.univ (E.differs p k) Q) := by
  unfold EN FN Env.differs
  iintro ⟨⟨%G, H1, %hG⟩, ⟨%G2, H2, %hG2⟩⟩ Hk
  iapply (ld_spec (fun j => G ((rEst0 p).emb j)) (Finset.subset_univ _) rfl) $$ H1
  iintro H1
  iapply (ld_spec (fun j => G2 (rFin1.emb j)) (Finset.subset_univ _) rfl) $$ H2
  iintro H2
  have e1 : extractAt ![0, 0, 0] (fun j => G ((rEst0 p).emb j)) inOne = O.est p (fun a => ⟨0, by revert a; decide⟩) := by
    rw [← hG]
    show G ((rEst0 p).emb _) = G _
    refine congrArg G (funext fun a => Fin.ext ?_)
    fin_cases a <;> rfl
  have e2 : extractAt ![0, 0, 0] (fun j => G2 (rFin1.emb j)) inOne = O.fin1 (fun a => ⟨0, by revert a; decide⟩) := by
    rw [← hG2]
    show G2 (rFin1.emb _) = G2 _
    refine congrArg G2 (funext fun a => Fin.ext ?_)
    fin_cases a <;> rfl
  rw [e1, e2]
  iapply Hk
  isplitl [H1]
  · iexists G
    isplitl [H1]; · iexact H1
    ipureintro; exact hG
  · iexists G2
    isplitl [H2]; · iexact H2
    ipureintro; exact hG2

variable (E O c)

/-- The result's codes, the first `n` tiles as the kernel leaves them. -/
def RT (n : ℕ) : sProp (MT nD τ sig Unit (Elt F) ℕ (Pipeline.UD sig nD τ) ℕ) := bigSep Finset.univ fun v : Fin 48 => stage n n v.val
  iprop((holds (F := F) (τ := τ) c E.a3 (tile v) O.YE) ∗ (some' (F := F) (τ := τ) c E.a15 (tile v))) iprop(emp) iprop((holds (F := F) (τ := τ) c E.a3 (tile v) O.YC) ∗ (some' (F := F) (τ := τ) c E.a15 (tile v)))
def RB (n : ℕ) : sProp (MT nD τ sig Unit (Elt F) ℕ (Pipeline.UD sig nD τ) ℕ) := iprop(RT (τ := τ) E O c n ∗ (holds (F := F) (τ := τ) c E.a18 Finset.univ O.finv) ∗ YT E O c 48 ∗ semVal ((c : Thread nD τ), .dma E.s28.sem) 0
  ∗ ow (F := F) (τ := τ) c)

variable {E O c}

theorem tile_no {v : Fin 48} {i : S1536x4096.Idx} (hi : i ∈ tile v) : 6 * ((i 1).val / 512) + (i 0).val / 256 = v.val := by
  have := mem_tile.mp hi
  omega
theorem yc_f {v : Fin 48} (h0 : O.dif 0 = 1#1) (hv : O.dif (Ops.slot v.val) = 1#1) : ∀ i ∈ tile v, O.YF i = O.YC i := fun i hi => by
  unfold Ops.YC; rw [tile_no hi, if_pos ⟨h0, hv⟩]
theorem yc_e {v : Fin 48} (h : ¬ (O.dif 0 = 1#1 ∧ O.dif (Ops.slot v.val) = 1#1)) : ∀ i ∈ tile v, O.YE i = O.YC i := fun i hi => by
  unfold Ops.YC; rw [tile_no hi, if_neg h]

theorem same (P : sProp (MT nD τ sig Unit (Elt F) ℕ (Pipeline.UD sig nD τ) ℕ)) : P ⊢ P := .rfl
theorem rt_one {v : Fin 48} (h : ∀ i ∈ tile v, O.YE i = O.YC i) :
    iprop((holds (F := F) (τ := τ) c E.a3 (tile v) O.YE) ∗ (some' (F := F) (τ := τ) c E.a15 (tile v))) ⊢ iprop((holds (F := F) (τ := τ) c E.a3 (tile v) O.YC) ∗ (some' (F := F) (τ := τ) c E.a15 (tile v))) := by
  iintro ⟨H1, H2⟩
  isplitl [H1]
  · iapply (holds_congr h) $$ H1
  · iexact H2
theorem rt_new {v : Fin 48} :
    iprop((holds (F := F) (τ := τ) c E.a3 (tile v) O.YE) ∗ (holds (F := F) (τ := τ) c E.a15 (tile v) O.YE)) ⊢ iprop((holds (F := F) (τ := τ) c E.a3 (tile v) O.YE) ∗ (some' (F := F) (τ := τ) c E.a15 (tile v))) := by
  iintro ⟨H1, H2⟩
  isplitl [H1]; · iexact H1
  iapply some_of $$ H2

/-- Tiles whose estimate was right are left. -/
theorem rt_skip {lo hi : ℕ} (hle : lo ≤ hi) (h : ∀ v : Fin 48, lo ≤ v.val → v.val < hi → ¬ (O.dif 0 = 1#1 ∧ O.dif (Ops.slot v.val) = 1#1)) :
    RT (τ := τ) E O c lo ⊢ RT (τ := τ) E O c hi := by
  unfold RT
  refine bigSep_mono fun v _ => ?_
  unfold stage
  by_cases h1 : v.val < lo
  · rw [if_pos h1, if_pos (by omega)]; exact same _
  rw [if_neg h1, if_neg h1]
  by_cases h2 : v.val < hi
  · rw [if_pos h2]; exact rt_one (yc_e (h v (by omega) h2))
  · rw [if_neg h2, if_neg h2]; exact same _

theorem again_spec {v : ℕ} (hv : v < 48) {o : Fin 4 → Fin 2 → ℕ} {hi hp} {t : Fin 2 → ℕ} {ht hw}
    (ho : ∀ r, o r = ![256 * (v % 6), 512 * (v / 6) + 128 * r.val]) (htt : t = ![256 * (v % 6), 512 * (v / 6)])
    (h0 : O.dif 0 = 1#1) (h1 : O.dif (Ops.slot v) = 1#1) {k : (Prog (TpuEff nD τ sig (Elt F) Λ .tc) α)} :
    RB (τ := τ) E O c v ⊢ iprop((RB (τ := τ) E O c (v + 1) -∗ wp frame (wpE defs 𝒱 (c : Thread nD τ) bd) Set.univ (k) Q) -∗ wp frame (wpE defs 𝒱 (c : Thread nD τ) bd) Set.univ (E.again o hi hp t ht hw k) Q) := by
  subst htt
  unfold RB RT YT Env.again
  iintro ⟨HR, Hi, HY, Hs, Ho⟩ Hk
  icases (stage_step hv) $$ HR with ⟨⟨H3, H15⟩, HRb⟩
  icases (stage_use ⟨v, hv⟩ hv) $$ HY with ⟨Hy, HYb⟩
  iapply (ld_spec (Ops.row1 O.finv) (Finset.subset_univ _) rfl) $$ Hi
  iintro Hi
  iapply (quant4_spec (m := mOf v) (g := gOf v hv) (o := o) (hi := hi) (hp := hp) ho O.YF (fun j i => by unfold Ops.YF; rw [ofTile_emb])) $$ [Hy H15]
  · isplitl [Hy]; · iexact Hy
    iexact H15
  iintro ⟨Hy, H15⟩
  iapply (wp_dma (r := rYt (mOf v) (gOf v hv)) (G := O.YF) (G' := O.YE) (show 0 < S256x512.numel by decide)) $$ [H15 H3 Hs]
  · isplitl [H15]; · iexact H15
    isplitl [H3]; · iexact H3
    iexact Hs
  iintro HF
  iapply wp_wait $$ [HF Ho]
  · isplitl [HF]; · iexact HF
    iexact Ho
  iintro ⟨⟨H3, H15⟩, Hs, Ho⟩
  iapply Hk
  isplitl [HRb H3 H15]
  · iapply HRb
    isplitl [H3]
    · iapply (holds_congr (yc_f (v := ⟨v, hv⟩) h0 h1)) $$ H3
    · iapply some_of $$ H15
  isplitl [Hi]; · iexact Hi
  isplitl [Hy HYb]
  · iapply HYb $$ Hy
  isplitl [Hs]; · iexact Hs
  iexact Ho

theorem redo1_spec {L : Redo} {lo n : ℕ} (hT : L.Tiles lo n) {p : Fin 3} (hp : ∀ v, lo ≤ v → v < lo + n → Ops.slot v = p) (hn : lo + n ≤ 48)
    (h0 : O.dif 0 = 1#1) {k : (Prog (TpuEff nD τ sig (Elt F) Λ .tc) α)} :
    iprop(RB (τ := τ) E O c lo ∗ EN E O c ∗ FN E O c)
      ⊢ iprop((iprop(RB (τ := τ) E O c (lo + n) ∗ EN E O c ∗ FN E O c) -∗ wp frame (wpE defs 𝒱 (c : Thread nD τ) bd) Set.univ (k) Q) -∗ wp frame (wpE defs 𝒱 (c : Thread nD τ) bd) Set.univ (E.redo1 L p k) Q) := by
  obtain ⟨hn', ho, ht⟩ := hT
  unfold Env.redo1
  iintro ⟨HR, HE⟩ Hk
  iapply differs_spec $$ HE
  iintro HE
  by_cases hd : O.dif p = 1#1
  · rw [if_pos hd]
    have hb : ∀ (t : Fin L.L.trips) (acc : PUnit), RB (τ := τ) E O c (lo + t.val)
        ⊢ wp frame (wpE defs 𝒱 (c : Thread nD τ) bd) Set.univ (E.again (L.o t) (L.hi t) (L.hp t) (L.t t) (L.ht t) (L.hw t) (.ret ⟨⟩))
          (fun _ : PUnit => RB (τ := τ) E O c (lo + (t.val + 1))) := fun t acc => by
      have ht' : lo + t.val < 48 := by have := t.isLt; omega
      iintro H
      iapply (again_spec ht' (ho t) (ht t) h0 (by rw [hp _ (by omega) (by have := t.isLt; omega)]; exact hd)) $$ H
      iintro H
      rw [wp_ret]
      imodintro
      iexact H
    iapply (Scf.wp_for_bind frame (wpE defs 𝒱 (c : Thread nD τ) bd) Set.univ L.L.lb L.L.ub L.L.st L.ok (⟨⟩ : PUnit) _ (fun t _ => RB (τ := τ) E O c (lo + t)) hb) $$ HR
    iintro %acc HR
    iapply Hk
    isplitl [HR]
    · rw [← hn']; iexact HR
    iexact HE
  · rw [if_neg hd]
    iapply Hk
    isplitl [HR]
    · unfold RB
      icases HR with ⟨HR, H⟩
      isplitl [HR]
      · iapply (rt_skip (Nat.le_add_right lo n) (fun v h1 h2 h => hd (by rw [← hp v h1 h2]; exact h.2))) $$ HR
      iexact H
    iexact HE

theorem redo_spec {L : Fin 3 → Redo} (hL0 : (L 0).Tiles 0 12) (hL1 : (L 1).Tiles 12 12) (hL2 : (L 2).Tiles 24 24) {k : (Prog (TpuEff nD τ sig (Elt F) Λ .tc) α)} :
    iprop(RT (τ := τ) E O c 0 ∗ (some' (F := F) (τ := τ) c E.a18 Finset.univ) ∗ (holds (F := F) (τ := τ) c E.a16 Finset.univ (O.top 48)) ∗ YT E O c 48 ∗ semVal ((c : Thread nD τ), .dma E.s28.sem) 0
        ∗ ow (F := F) (τ := τ) c ∗ EN E O c ∗ FN E O c)
      ⊢ iprop((iprop(RT (τ := τ) E O c 48 ∗ (some' (F := F) (τ := τ) c E.a18 Finset.univ) ∗ (holds (F := F) (τ := τ) c E.a16 Finset.univ (O.top 48)) ∗ YT E O c 48
          ∗ semVal ((c : Thread nD τ), .dma E.s28.sem) 0 ∗ ow c ∗ EN E O c ∗ FN E O c) -∗ wp frame (wpE defs 𝒱 (c : Thread nD τ) bd) Set.univ (k) Q) -∗ wp frame (wpE defs 𝒱 (c : Thread nD τ) bd) Set.univ (E.redo O.κ L k) Q) := by
  have s0 : ∀ v, 0 ≤ v → v < 0 + 12 → Ops.slot v = 0 := fun v _ h => Fin.ext (by show min 2 (v / 12) = 0; omega)
  have s1 : ∀ v, 12 ≤ v → v < 12 + 12 → Ops.slot v = 1 := fun v _ h => Fin.ext (by show min 2 (v / 12) = 1; omega)
  have s2 : ∀ v, 24 ≤ v → v < 24 + 24 → Ops.slot v = 2 := fun v _ h => Fin.ext (by show min 2 (v / 12) = 2; omega)
  unfold Env.redo
  iintro ⟨HR, Hi, Ht, HY, Hs, Ho, HE⟩ Hk
  iapply differs_spec $$ HE
  iintro HE
  by_cases hd : O.dif 0 = 1#1
  · rw [if_pos hd]
    unfold Env.reinv some'
    icases Hi with ⟨%G, Hi⟩
    iapply (ld_spec (O.top 48) (Finset.subset_univ _) (top_get _)) $$ Ht
    iintro Ht
    iapply (put_spec O.finv (Finset.subset_univ _) (fun j => by rw [top_emb]; rfl) (fun i _ hi => absurd (top_in i) hi)) $$ Hi
    iintro Hi
    iapply (redo1_spec hL0 s0 (by decide) hd) $$ [HR Hi HY Hs Ho HE]
    · isplitr [HE]
      · unfold RB
        isplitl [HR]; · iexact HR
        isplitl [Hi]; · iexact Hi
        isplitl [HY]; · iexact HY
        isplitl [Hs]; · iexact Hs
        iexact Ho
      iexact HE
    iintro H
    iapply (redo1_spec (lo := 12) hL1 s1 (by decide) hd) $$ H
    iintro H
    iapply (redo1_spec (lo := 24) hL2 s2 (by decide) hd) $$ H
    unfold RB
    iintro ⟨⟨HR, Hi, HY, Hs, Ho⟩, HE⟩
    iapply Hk
    isplitl [HR]; · iexact HR
    isplitl [Hi]; · iexists _; iexact Hi
    isplitl [Ht]; · iexact Ht
    isplitl [HY]; · iexact HY
    isplitl [Hs]; · iexact Hs
    isplitl [Ho]; · iexact Ho
    iexact HE
  · rw [if_neg hd]
    iapply Hk
    isplitl [HR]
    · iapply (rt_skip (Nat.zero_le 48) (fun v h1 h2 h => hd h.1)) $$ HR
    isplitl [Hi]; · iexact Hi
    isplitl [Ht]; · iexact Ht
    isplitl [HY]; · iexact HY
    isplitl [Hs]; · iexact Hs
    isplitl [Ho]; · iexact Ho
    iexact HE

theorem rt_start : bigSep Finset.univ (DY (τ := τ) E O c) ⊢ RT (τ := τ) E O c 0 := by
  unfold RT DY
  rw [stage_none]
  exact bigSep_mono fun v _ => rt_new

theorem rt_done : RT (τ := τ) E O c 48 ⊢ iprop((holds (F := F) (τ := τ) c E.a3 Finset.univ O.YC) ∗ (some' (F := F) (τ := τ) c E.a15 Finset.univ)) := by
  unfold RT
  rw [stage_all (le_refl 48)]
  iintro H
  icases (sep_unpair _ _) $$ H with ⟨H1, H2⟩
  isplitl [H1]
  · iapply (holds_whole (fun v : Fin 48 => tile v) tiles_disj tiles_univ) $$ H1
  · iapply (some_whole (fun v : Fin 48 => tile v) tiles_disj tiles_univ) $$ H2

theorem es_done : ES (τ := τ) E O c 3 ⊢ iprop(EN (τ := τ) E O c ∗ (some' (F := F) (τ := τ) c E.a18 Finset.univ)) := by
  unfold ES EN some'
  iintro ⟨⟨%G, H1, %hG⟩, ⟨%G2, H2, -⟩⟩
  isplitl [H1]
  · iexists G
    isplitl [H1]; · iexact H1
    ipureintro; intro p j; exact hG p p.isLt j
  · iexists G2; iexact H2

end redo

end Cert.Fp8
-- ==== Proof.Whole.lean ====
/- The whole kernel body: what it needs and what it leaves. -/
module

public import proofs.«01_k».proof.Proof.Ends

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {nD : Nat} {τ : Topo} {sig : RefSig} {Λ : Labels}
  {α : Type} {Q : α → sProp (MT nD τ sig Unit (Elt F) ℕ (Pipeline.UD sig nD τ) ℕ)} {defs : Defs nD τ sig (Elt F) Λ} {𝒱 : Variants} {bd : Option 𝒱.V}
  {E : Env sig} {O : Ops F} {c : Dev nD}

section program

instance dc_storable (m : Fin 6) : Storable (upEmb : UEmb _ (MT nD τ sig Unit (Elt F) ℕ (Pipeline.UD sig nD τ) ℕ)) (DC (τ := τ) E O c m) := by unfold DC holds; infer_instance
instance dy_storable (m : Fin 48) : Storable (upEmb : UEmb _ (MT nD τ sig Unit (Elt F) ℕ (Pipeline.UD sig nD τ) ℕ)) (DY (τ := τ) E O c m) := by unfold DY holds; infer_instance
instance dz_storable (m : Fin 2) : Storable (upEmb : UEmb _ (MT nD τ sig Unit (Elt F) ℕ (Pipeline.UD sig nD τ) ℕ)) (DZ (τ := τ) E O c m) := by
  unfold DZ holds
  by_cases h : m = 0
  · rw [if_pos h]; infer_instance
  · rw [if_neg h]; infer_instance

variable (E c)

/-- The semaphores at zero. -/
def Sems : sProp (MT nD τ sig Unit (Elt F) ℕ (Pipeline.UD sig nD τ) ℕ) := iprop((bigSep Finset.univ fun m : Fin 6 => semVal ((c : Thread nD τ), .dma (E.xSem m)) 0)
  ∗ (bigSep Finset.univ fun m : Fin 4 => semVal ((c : Thread nD τ), .dma (E.w0Sem m)) 0)
  ∗ (bigSep Finset.univ fun g : Fin 7 => semVal ((c : Thread nD τ), .dma (E.wSem ⟨g.val + 1, wg_succ g⟩)) 0)
  ∗ semVal ((c : Thread nD τ), .dma E.s25.sem) 0 ∗ semVal ((c : Thread nD τ), .dma E.s26.sem) 0
  ∗ (bigSep Finset.univ fun m : Fin 6 => semVal ((c : Thread nD τ), .dma (E.xsSem m)) 0)
  ∗ semVal ((c : Thread nD τ), .dma E.s28.sem) 0 ∗ semVal ((c : Thread nD τ), .dma E.s29.sem) 0)

/-- The scratch buffers, whatever they hold. -/
def Scr : sProp (MT nD τ sig Unit (Elt F) ℕ (Pipeline.UD sig nD τ) ℕ) := iprop((some' (F := F) (τ := τ) c E.a8 Finset.univ) ∗ (some' (F := F) (τ := τ) c E.a9 Finset.univ) ∗ (some' (F := F) (τ := τ) c E.a10 Finset.univ) ∗ (some' (F := F) (τ := τ) c E.a11 Finset.univ) ∗ (some' (F := F) (τ := τ) c E.a12 Finset.univ)
  ∗ (some' (F := F) (τ := τ) c E.a13 Finset.univ) ∗ (some' (F := F) (τ := τ) c E.a14 Finset.univ) ∗ (some' (F := F) (τ := τ) c E.a15 Finset.univ) ∗ (some' (F := F) (τ := τ) c E.a16 Finset.univ) ∗ (some' (F := F) (τ := τ) c E.a17 Finset.univ) ∗ (some' (F := F) (τ := τ) c E.a18 Finset.univ)
  ∗ (some' (F := F) (τ := τ) c E.a19 Finset.univ) ∗ (some' (F := F) (τ := τ) c E.a20 Finset.univ) ∗ (some' (F := F) (τ := τ) c E.a21 Finset.univ))

variable {E c}

theorem bc_alloc : (semVal ((c : Thread nD τ), .dma E.s26.sem) 0 : sProp (MT nD τ sig Unit (Elt F) ℕ (Pipeline.UD sig nD τ) ℕ)) ⊢ iprop(|={Set.univ}=> BC (τ := τ) E O c 0 0) :=
  Transfers.batch_alloc' (countersEmb (U := Pipeline.UD sig nD τ)) (c : Thread nD τ) () (nC E) (DC (τ := τ) E O c) (sm := .dma E.s26.sem) (E := Set.univ)
theorem by_alloc : (semVal ((c : Thread nD τ), .dma E.s28.sem) 0 : sProp (MT nD τ sig Unit (Elt F) ℕ (Pipeline.UD sig nD τ) ℕ)) ⊢ iprop(|={Set.univ}=> BY (τ := τ) E O c 0 0) :=
  Transfers.batch_alloc' (countersEmb (U := Pipeline.UD sig nD τ)) (c : Thread nD τ) () (nY E) (DY (τ := τ) E O c) (sm := .dma E.s28.sem) (E := Set.univ)
theorem bz_alloc : (semVal ((c : Thread nD τ), .dma E.s29.sem) 0 : sProp (MT nD τ sig Unit (Elt F) ℕ (Pipeline.UD sig nD τ) ℕ)) ⊢ iprop(|={Set.univ}=> BZ (τ := τ) E O c 0 0) :=
  Transfers.batch_alloc' (countersEmb (U := Pipeline.UD sig nD τ)) (c : Thread nD τ) () E.a5.view.dmaCredit (DZ (τ := τ) E O c) (sm := .dma E.s29.sem) (E := Set.univ)

/-- From the activations, the weights and their scales, the kernel leaves the codes, the scale and the largest magnitude of the product,
and the codes and scales of the activations; the inputs are as before and every semaphore is at zero. -/
theorem program_spec {L : Fin 3 → Redo} (hL0 : (L 0).Tiles 0 12) (hL1 : (L 1).Tiles 12 12) (hL2 : (L 2).Tiles 24 24)
    (hcr : E.a4.view.dmaCredit = E.a5.view.dmaCredit) {k : PUnit → (Prog (TpuEff nD τ sig (Elt F) Λ .tc) α)} :
    iprop((holds (F := F) (τ := τ) c E.a0 Finset.univ O.X) ∗ (holds (F := F) (τ := τ) c E.a1 Finset.univ O.W) ∗ (holds (F := F) (τ := τ) c E.a2 Finset.univ O.S)
        ∗ (some' (F := F) (τ := τ) c E.a3 Finset.univ) ∗ (some' (F := F) (τ := τ) c E.a4 Finset.univ) ∗ (some' (F := F) (τ := τ) c E.a5 Finset.univ) ∗ (some' (F := F) (τ := τ) c E.a6 Finset.univ) ∗ (some' (F := F) (τ := τ) c E.a7 Finset.univ)
        ∗ Scr E c ∗ Sems E c ∗ ow c)
      ⊢ iprop((iprop((holds (F := F) (τ := τ) c E.a0 Finset.univ O.X) ∗ (holds (F := F) (τ := τ) c E.a1 Finset.univ O.W) ∗ (holds (F := F) (τ := τ) c E.a2 Finset.univ O.S)
          ∗ (holds (F := F) (τ := τ) c E.a3 Finset.univ O.YC) ∗ (holds (F := F) (τ := τ) c E.a4 Finset.univ O.sc) ∗ (holds (F := F) (τ := τ) c E.a5 Finset.univ O.am) ∗ (holds (F := F) (τ := τ) c E.a6 Finset.univ O.XC) ∗ (holds (F := F) (τ := τ) c E.a7 Finset.univ O.XS)
          ∗ Scr E c ∗ Sems E c ∗ ow c) -∗ wp frame (wpE defs 𝒱 (c : Thread nD τ) bd) Set.univ (k ⟨⟩) Q)
        -∗ wp frame (wpE defs 𝒱 (c : Thread nD τ) bd) Set.univ (E.program O.κ L k) Q) := by
  have hI : IU (τ := τ) E O c 48 ⊢ iprop(XI (τ := τ) E O c 6 6 ∗ ow c ∗ WT E O c 7) := .rfl
  unfold Scr Sems Env.program
  iintro ⟨H0, H1, H2, H3, H4, H5, H6, H7, ⟨H8, H9, H10, H11, H12, H13, H14, H15, H16, H17, H18, H19, H20, H21⟩,
    ⟨Hx, Hw0, Hw, Hs25, Hs26, Hxs, Hs28, Hs29⟩, Ho⟩ Hk
  imod bc_alloc $$ Hs26 with HBC
  imod by_alloc $$ Hs28 with HBY
  imod bz_alloc $$ Hs29 with HBZ
  ihave HX : XI (τ := τ) E O c 0 0 $$ [H0 H8 Hx]
  · iapply xi_setup
    isplitl [H0]; · iexact H0
    isplitl [H8]; · iexact H8
    iexact Hx
  ihave HW : iprop(W0 (τ := τ) E O c 0 0 ∗ WG E O c 0 0) $$ [H1 H9 Hw0 Hw]
  · iapply w_setup
    isplitl [H1]; · iexact H1
    isplitl [H9]; · iexact H9
    isplitl [Hw0]; · iexact Hw0
    iexact Hw
  icases HW with ⟨HW0, HWG⟩
  ihave HQC : QC (τ := τ) E O c 0 0 $$ [H12 H6]
  · iapply qc_setup
    isplitl [H12]; · iexact H12
    iexact H6
  ihave HQS : QS (τ := τ) E O c 0 0 $$ [H13 H7 Hxs]
  · iapply qs_setup
    isplitl [H13]; · iexact H13
    isplitl [H7]; · iexact H7
    iexact Hxs
  ihave HQY : QY (τ := τ) E O c 0 0 $$ [H15 H3]
  · iapply qy_setup
    isplitl [H15]; · iexact H15
    iexact H3
  ihave HES : ES (τ := τ) E O c 0 $$ [H17 H18]
  · iapply es_setup
    isplitl [H17]; · iexact H17
    iexact H18
  iapply begin_spec $$ [HX Ho HW0 HWG H2 H10 Hs25 H11 HQC HBC HQS HQY HBY H14 H16 HES]
  · isplitl [HX]; · iexact HX
    isplitl [Ho]; · iexact Ho
    isplitl [HW0]; · iexact HW0
    isplitl [HWG]; · iexact HWG
    isplitl [H2]; · iexact H2
    isplitl [H10]; · iexact H10
    isplitl [Hs25]; · iexact Hs25
    isplitl [H11]; · iapply qw_setup $$ H11
    isplitl [HQC]; · iexact HQC
    isplitl [HBC]; · iexact HBC
    isplitl [HQS]; · iexact HQS
    isplitl [HQY]; · iexact HQY
    isplitl [HBY]; · iexact HBY
    isplitl [H14]; · iapply yt_setup $$ H14
    isplitl [H16]; · iexact H16
    iexact HES
  iintro %mx %h1 ⟨H, H2, Hs25⟩
  iapply (front_step (u := 0) _ h1) $$ H
  iintro %mx1 %h2 H
  iapply (units_spec 47 (u := 0) _ h2) $$ H
  iintro %mx2 %h3 H
  iapply (back_step (u := 47) _ h3) $$ H
  iintro %mx3 %h4 ⟨HI, HK⟩
  iapply (lastRound_spec h4) $$ HK
  iintro %mx4 %h5 ⟨HQW, HQC, HBC, HQS, HQY, HBY, H10, HYT, H16, HES⟩
  unfold Env.ending
  icases es_done $$ HES with ⟨HEN, H18⟩
  iapply (finish_spec hcr) $$ [HQY HBY H16 H19 H20 H21 H4 H5 HBZ]
  · isplitl [HQY]; · iexact HQY
    isplitl [HBY]; · iexact HBY
    isplitl [H16]; · iexact H16
    isplitl [H19]; · iexact H19
    isplitl [H20]; · iexact H20
    isplitl [H21]; · iexact H21
    isplitl [H4]; · iexact H4
    isplitl [H5]; · iexact H5
    iexact HBZ
  iintro ⟨HBY, H16, HFN, HBZ⟩
  icases hI $$ HI with ⟨HX, Ho, HWT⟩
  iapply (waits_spec hcr) $$ [HBC HQS HBY HBZ Ho]
  · isplitl [HBC]; · iexact HBC
    isplitl [HQS]; · iapply qs_ls $$ HQS
    isplitl [HBY]; · iexact HBY
    isplitl [HBZ]; · iexact HBZ
    iexact Ho
  iintro ⟨⟨HDC, Hs26, HLS⟩, ⟨HDY, Hs28⟩, ⟨H5, H20⟩, ⟨H4, H21⟩, Hs29, Ho⟩
  iapply (redo_spec hL0 hL1 hL2) $$ [HDY H18 H16 HYT Hs28 Ho HEN HFN]
  · isplitl [HDY]; · iapply rt_start $$ HDY
    isplitl [H18]; · iexact H18
    isplitl [H16]; · iexact H16
    isplitl [HYT]; · iexact HYT
    isplitl [Hs28]; · iexact Hs28
    isplitl [Ho]; · iexact Ho
    isplitl [HEN]; · iexact HEN
    iexact HFN
  iintro ⟨HR, H18, H16, HYT, Hs28, Ho, HEN, HFN⟩
  iapply (wp_assume 𝒱 (c : Thread nD τ) bd Set.univ h5)
  iapply Hk
  icases xi_done $$ HX with ⟨H0, H8, Hx⟩
  icases w_done $$ HWT with ⟨H1, H9, Hw0, Hw⟩
  icases qc_done $$ HDC with ⟨H6, H12⟩
  icases ls_done $$ HLS with ⟨H7, H13, Hxs⟩
  icases rt_done $$ HR with ⟨H3, H15⟩
  unfold EN FN
  icases HEN with ⟨%G17, H17, -⟩
  icases HFN with ⟨%G19, H19, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8 H9 H10 HQW H12 H13 HYT H15 H16 H17 H18 H19 H20 H21]
  · isplitl [H8]; · iexact H8
    isplitl [H9]; · iexact H9
    isplitl [H10]; · iapply some_of $$ H10
    isplitl [HQW]; · iapply qw_done $$ HQW
    isplitl [H12]; · iexact H12
    isplitl [H13]; · iexact H13
    isplitl [HYT]; · iapply yt_done $$ HYT
    isplitl [H15]; · iexact H15
    isplitl [H16]; · iapply some_of $$ H16
    isplitl [H17]; · iapply some_of $$ H17
    isplitl [H18]; · iexact H18
    isplitl [H19]; · iapply some_of $$ H19
    isplitl [H20]; · iapply some_of $$ H20
    iapply some_of $$ H21
  isplitl [Hx Hw0 Hw Hs25 Hs26 Hxs Hs28 Hs29]
  · isplitl [Hx]; · iexact Hx
    isplitl [Hw0]; · iexact Hw0
    isplitl [Hw]; · iexact Hw
    isplitl [Hs25]; · iexact Hs25
    isplitl [Hs26]; · iexact Hs26
    isplitl [Hxs]; · iexact Hxs
    isplitl [Hs28]; · iexact Hs28
    iexact Hs29
  iexact Ho

end program

end Cert.Fp8
-- ==== Proof.Wholes.lean ====
/- A whole buffer, held as `holds` states it and as the launch states it. -/
module

public import proofs.«01_k».proof.Proof.Whole

@[expose] public section

noncomputable section

namespace Cert.Fp8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig}

/-- A buffer the launch gives at contents `f` is held at `f`. -/
theorem holds_of_buf (c : Dev nD) (b : Ref sig .tc) (f : Buf (Elt F) ((c : Thread nD τ).loc b)) :
    (((c : Thread nD τ).loc b ↦{fullShare} f) : sProp (MT nD τ sig Unit (Elt F) ℕ (Pipeline.UD sig nD τ) ℕ))
      ⊢ holds (F := F) (τ := τ) c (Memref.whole b) Finset.univ f := by
  have e : (Memref.whole b).view.setOn Finset.univ = Finset.univ := (Memref.isWhole_whole b).set_eq_univ
  unfold holds
  rw [e]
  iintro H
  iexists f
  isplitl [H]; · iexact H
  ipureintro; intro i _; rfl

/-- A buffer held at `G` is given back at contents `G`. -/
theorem buf_of_holds (c : Dev nD) (b : Ref sig .tc) (G : Buf (Elt F) ((c : Thread nD τ).loc b)) :
    holds (F := F) (τ := τ) c (Memref.whole b) Finset.univ G
      ⊢ (((c : Thread nD τ).loc b ↦{fullShare} G) : sProp (MT nD τ sig Unit (Elt F) ℕ (Pipeline.UD sig nD τ) ℕ)) := by
  have e : (Memref.whole b).view.setOn Finset.univ = Finset.univ := (Memref.isWhole_whole b).set_eq_univ
  unfold holds
  rw [e]
  iintro ⟨%f, H, %hf⟩
  obtain rfl : f = G := funext fun i => hf i (Finset.mem_univ i)
  iexact H

/-- A buffer held, whatever it holds. -/
theorem some_of_buf (c : Dev nD) (b : Ref sig .tc) :
    (iprop(∃ f : Buf (Elt F) ((c : Thread nD τ).loc b), ((c : Thread nD τ).loc b ↦{fullShare} f))
        : sProp (MT nD τ sig Unit (Elt F) ℕ (Pipeline.UD sig nD τ) ℕ)) ⊢ some' (F := F) (τ := τ) c (Memref.whole b) Finset.univ := by
  unfold some'
  iintro ⟨%f, H⟩
  iexists f
  iapply holds_of_buf $$ H

theorem buf_of_some (c : Dev nD) (b : Ref sig .tc) :
    some' (F := F) (τ := τ) c (Memref.whole b) Finset.univ
      ⊢ (iprop(∃ f : Buf (Elt F) ((c : Thread nD τ).loc b), ((c : Thread nD τ).loc b ↦{fullShare} f))
        : sProp (MT nD τ sig Unit (Elt F) ℕ (Pipeline.UD sig nD τ) ℕ)) := by
  unfold some'
  iintro ⟨%f, H⟩
  iexists f
  iapply buf_of_holds $$ H

end Cert.Fp8
-- ==== Proof.RunKernel.lean ====
/- The launch: the program runs, its arguments end as they were and its results end at the values of the kernel's own program. -/
module

public import proofs.«01_k».proof.Proof.Gen.Kernel.Frame
public import proofs.«01_k».proof.Proof.Seg1Kernel
public import proofs.«01_k».proof.Proof.Wholes
public import Idealize.ShloMosaic.Lib.Pipeline.FrameSuffixV

@[expose] public section

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen Cert.Fp8

variable {F : FTy → Type} [FloatOps F]

variable (m : (ℓ : Loc nD τ sig) → Buf (Elt F) ℓ) (ρ : Dev nD → PrngReg)

/-- The buffers as the call finds them, by their references of either kind. -/
abbrev V0 (c : Dev nD) : Valuation τ sig (Elt F) := StableHlo.after (List.flatten [hostOps0]) (fun b => m (c, b))

/-- The kernel's operands, scratch buffers and semaphores. -/
abbrev env : Cert.Fp8.Env sig :=
  ⟨Memref.whole main_v0, Memref.isWhole_whole _,
   Memref.whole main_arg1, Memref.isWhole_whole _,
   Memref.whole main_v1, Memref.isWhole_whole _,
   Memref.whole main_v2_0, Memref.isWhole_whole _,
   Memref.whole main_v2_1, Memref.isWhole_whole _,
   Memref.whole main_v2_2, Memref.isWhole_whole _,
   Memref.whole main_v2_3, Memref.isWhole_whole _,
   Memref.whole main_v2_4, Memref.isWhole_whole _,
   Memref.whole cc0_scratch0, Memref.isWhole_whole _,
   Memref.whole cc0_scratch1, Memref.isWhole_whole _,
   Memref.whole cc0_scratch2, Memref.isWhole_whole _,
   Memref.whole cc0_scratch3, Memref.isWhole_whole _,
   Memref.whole cc0_scratch4, Memref.isWhole_whole _,
   Memref.whole cc0_scratch5, Memref.isWhole_whole _,
   Memref.whole cc0_scratch6, Memref.isWhole_whole _,
   Memref.whole cc0_scratch7, Memref.isWhole_whole _,
   Memref.whole cc0_scratch8, Memref.isWhole_whole _,
   Memref.whole cc0_scratch9, Memref.isWhole_whole _,
   Memref.whole cc0_scratch10, Memref.isWhole_whole _,
   Memref.whole cc0_scratch11, Memref.isWhole_whole _,
   Memref.whole cc0_scratch12, Memref.isWhole_whole _,
   Memref.whole cc0_scratch13, Memref.isWhole_whole _,
   cc0_scratch14, cc0_scratch15, cc0_scratch16, cc0_scratch17, cc0_scratch18, cc0_scratch19, cc0_scratch20, cc0_scratch21⟩

/-- The kernel's inputs as the call finds them. -/
abbrev ops (c : Dev nD) : Cert.Fp8.Ops F := ⟨V m c main_v0, V m c main_arg1, V m c main_v1, c448⟩

/-- The buffers the kernel writes, with what it leaves there. -/
def G (c : Dev nD) : (b : Ref sig .tc) → Buf (Elt F) ((c : Thread nD τ).loc b) :=
  Function.update (Function.update (Function.update (Function.update (Function.update (V m c)
    main_v2_0 (ops m c).YC) main_v2_1 (ops m c).sc) main_v2_2 (ops m c).am) main_v2_3 (ops m c).XC) main_v2_4 (ops m c).XS

theorem G0 (c : Dev nD) : G m c main_v2_0 = (ops m c).YC := by
  unfold G
  rw [Function.update_of_ne (by decide), Function.update_of_ne (by decide), Function.update_of_ne (by decide), Function.update_of_ne (by decide), Function.update_self]
theorem G1 (c : Dev nD) : G m c main_v2_1 = (ops m c).sc := by
  unfold G
  rw [Function.update_of_ne (by decide), Function.update_of_ne (by decide), Function.update_of_ne (by decide), Function.update_self]
theorem G2 (c : Dev nD) : G m c main_v2_2 = (ops m c).am := by
  unfold G
  rw [Function.update_of_ne (by decide), Function.update_of_ne (by decide), Function.update_self]
theorem G3 (c : Dev nD) : G m c main_v2_3 = (ops m c).XC := by
  unfold G
  rw [Function.update_of_ne (by decide), Function.update_self]
theorem G4 (c : Dev nD) : G m c main_v2_4 = (ops m c).XS := by
  unfold G
  rw [Function.update_self]

/-! ## What the launch hands the kernel -/

abbrev osem : Fin 28 → SemLoc sig := fun j => SemLoc.dma j
theorem ownSemFacts : Pipeline.OwnSemFacts (cfg0.spec) osem := by decide
theorem ownSems_eq (c : Dev nD) :
    (Pipeline.ownSems0 (Ix := Unit) (Name := ℕ) (U := Pipeline.UD sig nD τ) (Lvl := ℕ) (Val := Elt F) (τ := τ) osem c : sProp (MT nD τ sig Unit (Elt F) ℕ (Pipeline.UD sig nD τ) ℕ))
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
theorem sems_eq (c : Dev nD) : (Sems (F := F) (τ := τ) env c : sProp (MT nD τ sig Unit (Elt F) ℕ (Pipeline.UD sig nD τ) ℕ)) = iprop((semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ (semVal ((c : Thread nD τ), SemLoc.dma 18) 0) ∗ (semVal ((c : Thread nD τ), SemLoc.dma 19) 0) ∗ (semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ (semVal ((c : Thread nD τ), SemLoc.dma 26) 0) ∗ (semVal ((c : Thread nD τ), SemLoc.dma 27) 0)) := by
  unfold Cert.Fp8.Sems
  rw [bigSep_univ_eq_bigSepL (I := Fin 6) [0, 1, 2, 3, 4, 5] (by decide) (by decide), bigSep_univ_eq_bigSepL (I := Fin 4) [0, 1, 2, 3] (by decide) (by decide),
    bigSep_univ_eq_bigSepL (I := Fin 7) [0, 1, 2, 3, 4, 5, 6] (by decide) (by decide), bigSep_univ_eq_bigSepL (I := Fin 6) [0, 1, 2, 3, 4, 5] (by decide) (by decide)]
  rfl

theorem sems_in (c : Dev nD) :
    (Pipeline.ownSems0 (Ix := Unit) (Name := ℕ) (U := Pipeline.UD sig nD τ) (Lvl := ℕ) (Val := Elt F) (τ := τ) osem c : sProp (MT nD τ sig Unit (Elt F) ℕ (Pipeline.UD sig nD τ) ℕ))
      ⊢ iprop(Sems (F := F) (τ := τ) env c ∗ semVal ((c : Thread nD τ), SemLoc.dma 10) 0) := by
  rw [ownSems_eq, sems_eq]
  iintro ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27⟩
  isplitr [Hs10]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hs6 Hs7 Hs8 Hs9]
    · isplitl [Hs6]; · iexact Hs6
      isplitl [Hs7]; · iexact Hs7
      isplitl [Hs8]; · iexact Hs8
      iexact Hs9
    isplitl [Hs11 Hs12 Hs13 Hs14 Hs15 Hs16 Hs17]
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      iexact Hs17
    isplitl [Hs18]
    · iexact Hs18
    isplitl [Hs19]
    · iexact Hs19
    isplitl [Hs20 Hs21 Hs22 Hs23 Hs24 Hs25]
    · isplitl [Hs20]; · iexact Hs20
      isplitl [Hs21]; · iexact Hs21
      isplitl [Hs22]; · iexact Hs22
      isplitl [Hs23]; · iexact Hs23
      isplitl [Hs24]; · iexact Hs24
      iexact Hs25
    isplitl [Hs26]
    · iexact Hs26
    iexact Hs27
  iexact Hs10
theorem sems_out (c : Dev nD) :
    (iprop(Sems (F := F) (τ := τ) env c ∗ semVal ((c : Thread nD τ), SemLoc.dma 10) 0) : sProp (MT nD τ sig Unit (Elt F) ℕ (Pipeline.UD sig nD τ) ℕ))
      ⊢ Pipeline.ownSems0 (Ix := Unit) (Name := ℕ) (U := Pipeline.UD sig nD τ) (Lvl := ℕ) (Val := Elt F) (τ := τ) osem c := by
  rw [ownSems_eq, sems_eq]
  iintro ⟨⟨⟨Hs0, Hs1, Hs2, Hs3, Hs4, Hs5⟩, ⟨Hs6, Hs7, Hs8, Hs9⟩, ⟨Hs11, Hs12, Hs13, Hs14, Hs15, Hs16, Hs17⟩, Hs18, Hs19, ⟨Hs20, Hs21, Hs22, Hs23, Hs24, Hs25⟩, Hs26, Hs27⟩, Hs10⟩
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  isplitl [Hs26]; · iexact Hs26
  iexact Hs27

theorem scr_in (c : Dev nD) :
    (Pipeline.scopedRest (Ix := Unit) (Name := ℕ) (U := Pipeline.UD sig nD τ) (Lvl := ℕ) (Val := Elt F) (cfg0.spec) c : sProp (MT nD τ sig Unit (Elt F) ℕ (Pipeline.UD sig nD τ) ℕ)) ⊢ Scr (F := F) (τ := τ) env c := by
  rw [scopedRest0_eq]
  unfold Scr
  iintro ⟨G0, G1, G2, G3, G4, G5, G6, G7, G8, G9, G10, G11, G12, G13⟩
  isplitl [G0]; · iapply some_of_buf $$ G0
  isplitl [G1]; · iapply some_of_buf $$ G1
  isplitl [G2]; · iapply some_of_buf $$ G2
  isplitl [G3]; · iapply some_of_buf $$ G3
  isplitl [G4]; · iapply some_of_buf $$ G4
  isplitl [G5]; · iapply some_of_buf $$ G5
  isplitl [G6]; · iapply some_of_buf $$ G6
  isplitl [G7]; · iapply some_of_buf $$ G7
  isplitl [G8]; · iapply some_of_buf $$ G8
  isplitl [G9]; · iapply some_of_buf $$ G9
  isplitl [G10]; · iapply some_of_buf $$ G10
  isplitl [G11]; · iapply some_of_buf $$ G11
  isplitl [G12]; · iapply some_of_buf $$ G12
  iapply some_of_buf $$ G13

theorem scr_out (c : Dev nD) :
    (Scr (F := F) (τ := τ) env c : sProp (MT nD τ sig Unit (Elt F) ℕ (Pipeline.UD sig nD τ) ℕ)) ⊢ Pipeline.scopedRest (Ix := Unit) (Name := ℕ) (U := Pipeline.UD sig nD τ) (Lvl := ℕ) (Val := Elt F) (cfg0.spec) c := by
  rw [scopedRest0_eq]
  unfold Scr
  iintro ⟨G0, G1, G2, G3, G4, G5, G6, G7, G8, G9, G10, G11, G12, G13⟩
  isplitl [G0]; · iapply buf_of_some $$ G0
  isplitl [G1]; · iapply buf_of_some $$ G1
  isplitl [G2]; · iapply buf_of_some $$ G2
  isplitl [G3]; · iapply buf_of_some $$ G3
  isplitl [G4]; · iapply buf_of_some $$ G4
  isplitl [G5]; · iapply buf_of_some $$ G5
  isplitl [G6]; · iapply buf_of_some $$ G6
  isplitl [G7]; · iapply buf_of_some $$ G7
  isplitl [G8]; · iapply buf_of_some $$ G8
  isplitl [G9]; · iapply buf_of_some $$ G9
  isplitl [G10]; · iapply buf_of_some $$ G10
  isplitl [G11]; · iapply buf_of_some $$ G11
  isplitl [G12]; · iapply buf_of_some $$ G12
  iapply buf_of_some $$ G13

/-- The buffers the kernel reads, and those it writes. -/
def HR : Finset (Ref sig .tc) := {main_v0, main_arg1, main_v1}
def RR : Finset (Ref sig .tc) := {main_v2_0, main_v2_1, main_v2_2, main_v2_3, main_v2_4}
theorem HR_sub : HR ⊆ Pipeline.restRefs sig (cfg0.spec) := by decide
theorem RR_sub : RR ⊆ Pipeline.restRefs sig (cfg0.spec) \ HR := by decide

theorem phi_eq (c : Dev nD) (U : (c : Dev nD) → (b : Ref sig .tc) → Buf (Elt F) ((c : Thread nD τ).loc b)) :
    (Pipeline.ΦDRV osem (cfg0.spec) HR RR (V m) U c : sProp (MT nD τ sig Unit (Elt F) ℕ (Pipeline.UD sig nD τ) ℕ))
      = iprop(Pipeline.scopedRest (Ix := Unit) (Name := ℕ) (U := Pipeline.UD sig nD τ) (Lvl := ℕ) (Val := Elt F) (cfg0.spec) c
        ∗ Pipeline.ownSems0 (Ix := Unit) (Name := ℕ) (U := Pipeline.UD sig nD τ) (Lvl := ℕ) (Val := Elt F) (τ := τ) osem c
        ∗ iprop((((c : Thread nD τ).loc main_v0) ↦{fullShare} V m c main_v0) ∗ (((c : Thread nD τ).loc main_arg1) ↦{fullShare} V m c main_arg1)
            ∗ (((c : Thread nD τ).loc main_v1) ↦{fullShare} V m c main_v1))
        ∗ iprop((((c : Thread nD τ).loc main_v2_0) ↦{fullShare} U c main_v2_0) ∗ (((c : Thread nD τ).loc main_v2_1) ↦{fullShare} U c main_v2_1)
            ∗ (((c : Thread nD τ).loc main_v2_2) ↦{fullShare} U c main_v2_2) ∗ (((c : Thread nD τ).loc main_v2_3) ↦{fullShare} U c main_v2_3)
            ∗ (((c : Thread nD τ).loc main_v2_4) ↦{fullShare} U c main_v2_4))) := by
  unfold Pipeline.ΦDRV
  rw [BI.bigSep_eq_bigSepL_of_eq (S := HR) [main_v0, main_arg1, main_v1] (by decide) (by decide),
    BI.bigSep_eq_bigSepL_of_eq (S := RR) [main_v2_0, main_v2_1, main_v2_2, main_v2_3, main_v2_4] (by decide) (by decide)]
  rfl

/-! ## The body -/

theorem tiles0 : (loops 0).Tiles 0 12 :=
  ⟨(by decide : k0_t1_loop.trips = 12), fun v r => (k0_off1_eq v r).trans (by rw [Nat.zero_add]), fun v => (k0_off2_eq v).trans (by rw [Nat.zero_add])⟩
theorem tiles1 : (loops 1).Tiles 12 12 :=
  ⟨(by decide : k0_t2_loop.trips = 12), fun v r => (k0_off3_eq v r).trans (by rw [Nat.add_comm]), fun v => (k0_off4_eq v).trans (by rw [Nat.add_comm])⟩
theorem tiles2 : (loops 2).Tiles 24 24 :=
  ⟨(by decide : k0_t3_loop.trips = 24), fun v r => (k0_off5_eq v r).trans (by rw [Nat.add_comm]), fun v => (k0_off6_eq v).trans (by rw [Nat.add_comm])⟩

theorem credits : (env : Cert.Fp8.Env sig).a4.view.dmaCredit = (env : Cert.Fp8.Env sig).a5.view.dmaCredit := rfl

/-- The kernel's body, from what the launch hands it to what it leaves. -/
theorem body_spec (c : Dev nD) {Q : PUnit → sProp (MT nD τ sig Unit (Elt F) ℕ (Pipeline.UD sig nD τ) ℕ)} :
    iprop(Pipeline.ΦDRV osem (cfg0.spec) HR RR (V m) (V m) c ∗ ow (F := F) (τ := τ) c)
      ⊢ iprop((iprop(Pipeline.ΦDRV osem (cfg0.spec) HR RR (V m) (G m) c ∗ ow (F := F) (τ := τ) c) -∗ Q ⟨⟩)
        -∗ wp frame (wpE (defs₀ (F := F)) Variants.none (c : Thread nD τ) none) Set.univ
          ((env : Cert.Fp8.Env sig).program (c448 : F .f32) loops fun (_ : PUnit.{1}) => .ret ⟨⟩) Q) := by
  rw [phi_eq, phi_eq, G0, G1, G2, G3, G4]
  iintro ⟨⟨HS, Hq, ⟨H0, H1, H2⟩, ⟨R0, R1, R2, R3, R4⟩⟩, Ho⟩ Hk
  icases sems_in c $$ Hq with ⟨Hq, Hs10⟩
  iapply (program_spec (E := env) (O := ops m c) tiles0 tiles1 tiles2 credits) $$ [HS Hq H0 H1 H2 R0 R1 R2 R3 R4 Ho]
  · isplitl [H0]; · iapply (holds_of_buf c main_v0 _) $$ H0
    isplitl [H1]; · iapply (holds_of_buf c main_arg1 _) $$ H1
    isplitl [H2]; · iapply (holds_of_buf c main_v1 _) $$ H2
    isplitl [R0]; · iapply (some_of_buf c main_v2_0); iexists _; iexact R0
    isplitl [R1]; · iapply (some_of_buf c main_v2_1); iexists _; iexact R1
    isplitl [R2]; · iapply (some_of_buf c main_v2_2); iexists _; iexact R2
    isplitl [R3]; · iapply (some_of_buf c main_v2_3); iexists _; iexact R3
    isplitl [R4]; · iapply (some_of_buf c main_v2_4); iexists _; iexact R4
    isplitl [HS]; · iapply scr_in c $$ HS
    isplitl [Hq]; · iexact Hq
    iexact Ho
  iintro ⟨H0, H1, H2, R0, R1, R2, R3, R4, HS, Hq, Ho⟩
  iapply (Idealize.SL.Sem.le_wp_ret _ _)
  iapply Hk
  isplitr [Ho]
  · isplitl [HS]; · iapply scr_out c $$ HS
    isplitl [Hq Hs10]
    · iapply sems_out c
      isplitl [Hq]; · iexact Hq
      iexact Hs10
    isplitl [H0 H1 H2]
    · isplitl [H0]; · iapply (buf_of_holds c main_v0 _) $$ H0
      isplitl [H1]; · iapply (buf_of_holds c main_arg1 _) $$ H1
      iapply (buf_of_holds c main_v1 _) $$ H2
    isplitl [R0]; · iapply (buf_of_holds c main_v2_0 _) $$ R0
    isplitl [R1]; · iapply (buf_of_holds c main_v2_1 _) $$ R1
    isplitl [R2]; · iapply (buf_of_holds c main_v2_2 _) $$ R2
    isplitl [R3]; · iapply (buf_of_holds c main_v2_3 _) $$ R3
    iapply (buf_of_holds c main_v2_4 _) $$ R4
  iexact Ho

/-! ## The run -/

def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRV osem (cfg0.spec) HR RR (V m) (if t.val = 0 then V m else G m) c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : (bodyAt0 (F := F) t) = (env : Cert.Fp8.Env sig).program (c448 : F .f32) loops fun (_ : PUnit.{1}) => .ret ⟨⟩ :=
  program_eq env

theorem body_obligation (c : Dev nD) : BodyObligation (dats (F := F) m 0 c) (defs₀ (F := F)) Variants.none () Set.univ := fun t => by
  rw [defs₀_row, bodyAt_eq]
  obtain rfl := fin_N0 t
  have e0 : (dats (F := F) m 0 c).Φ t0_0.castSucc = Pipeline.ΦDRV osem (cfg0.spec) HR RR (V m) (V m) c := rfl
  have e1 : (dats (F := F) m 0 c).Φ t0_0.succ = Pipeline.ΦDRV osem (cfg0.spec) HR RR (V m) (G m) c := rfl
  rw [e0, e1]
  unfold Dat.owesAt Pipeline.owesWithin
  rw [show (dats (F := F) m 0 c).owed t0_0.castSucc = 0 from rfl, show (dats (F := F) m 0 c).owed t0_0.succ = 0 from rfl]
  iintro ⟨HP, ⟨%W, -, HW⟩, -⟩
  iapply (body_spec m c) $$ [HP HW]
  · isplitl [HP]; · iexact HP
    unfold ow; iexists W; iexact HW
  iintro ⟨HP, HW⟩
  unfold ow
  icases HW with ⟨%W', HW⟩
  isplitl [HP]; · iexact HP
  isplitl [HW]
  · iexists W'; isplitr; · ipureintro; exact fun _ _ => Or.inl trivial
    iexact HW
  iempintro

theorem hmainD : Pipeline.HMainK (Ix := Unit) (Name := ℕ) (U := Pipeline.UD sig nD τ) (Lvl := ℕ) cfgs 0 defs₀ Variants.none m (main (F := F)) (V m)
      (fun _ => Pipeline.chain (([] : List (List (HloOp τ sig (Elt F)))).map StableHlo.seq)) :=
  Pipeline.hmain_around cfgs 0 defs₀ Variants.none m main [hostOps0] [] (by simp only [List.Forall]; exact hostOps0_sub)
    (by simp only [List.Forall]; exact hostOps0_fresh) main_chain

/-- What the buffers hold at the end. -/
abbrev fin (c : Dev nD) (b : Ref sig .tc) : Buf (Elt F) ((c : Thread nD τ).loc b) :=
  Pipeline.withArrays (cfg0.spec) c (Pipeline.withR (V0 m c) RR c (G m c)) (fun w => (dats m 0 c).arrAt w cfg0.N) (Proc.devRef .tc b)

/-- Every execution ends, with the buffers at `fin` and every semaphore at zero. -/
theorem run_main : θ_run defs (onTc (τ := τ) (main (F := F))) (s₀ m ρ) (fun r => (∀ c : Dev nD, ∀ b ∈ Pipeline.restRefs sig (cfg0.spec), r.2.mem ((c.tc : Thread nD τ).loc b) = fin m c b)
    ∧ r.2.sem = fun _ => 0) :=
  Pipeline.θ_run_frame_dmaR_aroundV (Q' := _) cfgs (dats m) (0 : Fin 1) launch0 osem defs₀ Variants.none ownSemFacts HR RR HR_sub RR_sub m ρ main
    (hbody := fun c => (body_obligation m c).loose) (hshare := fun c => (dats m 0 c).share_full fun _ => rfl)
    (howed := fun _ _ => rfl) (V₀ := V0 m) (opss := []) (hsub := fun _ h => absurd h List.not_mem_nil) (hfresh := fun _ h => absurd h List.not_mem_nil)
    (hkeep := fun _ h => absurd h List.not_mem_nil) (G := G m)
    (hmain := hmainD m) (hA := fun _ w => w.elim0)
    (hin := fun _ => .rfl) (hout := fun _ => .rfl) (hQ' := fun r h => ⟨fun c b hb => (h.1 c).2 b hb, h.2⟩)

theorem fin_arg (c : Dev nD) (b : Ref sig .tc) (hb : ∀ w, Pipeline.arrRef (cfg0.spec) w ≠ b) (hR : b ∉ RR) : fin m c b = V m c b := by
  unfold fin
  rw [Pipeline.withArrays_of_ne _ c _ _ b hb, Pipeline.withR_of_not_mem _ _ _ _ b hR]
  rfl

/-- The program runs, its argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c main_arg0 (Pipeline.mem_restRefs_of main_arg0 (by decide) (by decide))).trans
        (fin_arg m c main_arg0 (fun w => w.elim0) (by decide))).trans (V_main_arg0 m c),
      ((h.1 c main_arg1 (Pipeline.mem_restRefs_of main_arg1 (by decide) (by decide))).trans
        (fin_arg m c main_arg1 (fun w => w.elim0) (by decide))).trans (V_main_arg1 m c),
      ((h.1 c main_arg2 (Pipeline.mem_restRefs_of main_arg2 (by decide) (by decide))).trans
        (fin_arg m c main_arg2 (fun w => w.elim0) (by decide))).trans (V_main_arg2 m c)⟩, h.2⟩)
    (run_main m ρ)

end Cert.Kernel
-- ==== Proof.CutKernelIdeal.lean ====
/- The printed kernel as one chain of its parts, cut where each tile's first weights have been pushed. -/
module

public import proofs.«01_k».proof.KernelIdeal
public import proofs.«01_k».proof.Proof.Model
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]

set_option open_calls.check false

/- The kernel's body with its outermost parts opened. -/
open_calls flat := cc0_fp8_linear [k0_part298, k0_part299, k0_part300, k0_part301]

/- The chain's stretches. -/
cut_chain c := flat at 19, 20, 35, 51, 67, 84, 100, 102, 105, 108, 110, 113, 116, 118, 121, 123, 126, 129, 131, 134, 136, 139, 141, 144, 147, 149, 152, 158, 164, 169, 174, 180, 185, 192, 197, 202, 208, 213, 218, 225, 230, 236, 241, 246, 252, 257, 262, 267

end Cert.KernelIdeal
-- ==== Proof.BaseKernelIdeal.lean ====
/- The printed loops over tiles and the constant of the scale. -/
module

public import proofs.«01_k».proof.Proof.CutKernelIdeal
public import proofs.«01_k».proof.Proof.Again
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]

/-- The multiplier of the scale. -/
abbrev c448 : F .f32 := Named.named κ "inv_448" 0x3B124925#32

/-- The printed loop number 1 over tiles. -/
def loop1 : Cert.Fp8.Redo :=
  ⟨k0_t1_loop, Facts₀.k0_t1_ok, fun t r => k0_off1 t (BitVec.ofNat 32 (128 * r.val)), fun t r => Facts₀.k0_off1_inb t r, fun t r => Facts₀.k0_off1_packedfp8e4m3 t r,
    fun t => k0_off2 t, fun t => Facts₀.k0_off2_inb t, fun t => Facts₀.k0_off2_wordsfp8e4m3 t⟩

/-- The printed loop number 2 over tiles. -/
def loop2 : Cert.Fp8.Redo :=
  ⟨k0_t2_loop, Facts₀.k0_t2_ok, fun t r => k0_off3 t (BitVec.ofNat 32 (128 * r.val)), fun t r => Facts₀.k0_off3_inb t r, fun t r => Facts₀.k0_off3_packedfp8e4m3 t r,
    fun t => k0_off4 t, fun t => Facts₀.k0_off4_inb t, fun t => Facts₀.k0_off4_wordsfp8e4m3 t⟩

/-- The printed loop number 3 over tiles. -/
def loop3 : Cert.Fp8.Redo :=
  ⟨k0_t3_loop, Facts₀.k0_t3_ok, fun t r => k0_off5 t (BitVec.ofNat 32 (128 * r.val)), fun t r => Facts₀.k0_off5_inb t r, fun t r => Facts₀.k0_off5_packedfp8e4m3 t r,
    fun t => k0_off6 t, fun t => Facts₀.k0_off6_inb t, fun t => Facts₀.k0_off6_wordsfp8e4m3 t⟩
def loops : Fin 3 → Cert.Fp8.Redo := ![loop1, loop2, loop3]

end Cert.KernelIdeal
-- ==== Proof.Seg4KernelIdeal.lean ====
/- Stretches of the printed kernel, each as the steps of the kernel's own program. -/
module

public import proofs.«01_k».proof.Proof.BaseKernelIdeal
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]
/- Part 215 from its first push of a tile on. -/
cut_chain p36_ := k0_part215 at 5
/- Part 220 from its first push of a tile on. -/
cut_chain p37_ := k0_part220 at 11
/- Part 225 from its first push of a tile on. -/
cut_chain p38_ := k0_part225 at 16
/- Part 232 from its first push of a tile on. -/
cut_chain p39_ := k0_part232 at 12
/- Part 237 from its first push of a tile on. -/
cut_chain p40_ := k0_part237 at 18
/- Part 243 from its first push of a tile on. -/
cut_chain p41_ := k0_part243 at 6
/- Part 248 from its first push of a tile on. -/
cut_chain p42_ := k0_part248 at 12
/- Part 253 from its first push of a tile on. -/
cut_chain p43_ := k0_part253 at 18
/- Part 259 from its first push of a tile on. -/
cut_chain p44_ := k0_part259 at 4
/- Part 264 from its first push of a tile on. -/
cut_chain p45_ := k0_part264 at 9
/- Part 269 from its first push of a tile on. -/
cut_chain p46_ := k0_part269 at 15
/- Part 274 from its first push of a tile on. -/
cut_chain p47_ := k0_part274 at 21

theorem seg47 {R : Type} (E : Cert.Fp8.Env sig) (mx : Mxu F) (κ : Idealize.SL.Sem.Prog (TpuEff nD τ sig (Elt F) Λ₀ .tc) R) :
    (p47_1.tail E.a11 mx >>= fun st => c49 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 46 (by decide) mx fun mx => E.front 47 (by decide) mx fun mx => E.tailP c448 loops κ mx := rfl
theorem run47 (E : Cert.Fp8.Env sig) (mx : Mxu F) :
    (p47_1.tail E.a11 mx >>= fun st => c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (0 + 1) 46 (by decide) mx (E.tailP c448 loops c49.tail) :=
  E.units_of c448 0 46 47 rfl (by decide) (by decide) (by decide) (by decide) mx (E.tailP c448 loops c49.tail) (E.tailP c448 loops c49.tail)
    ((congrArg ((p47_1.tail E.a11 mx) >>= ·) (funext fun st => c49.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg47 E mx c49.tail))
    fun mx => (E.units_zero c448 47 (by decide) mx (E.tailP c448 loops c49.tail)).symm

theorem seg46 {R : Type} (E : Cert.Fp8.Env sig) (mx : Mxu F) (κ : (Mxu F) → (Vec F S256x256 .bf16) → Idealize.SL.Sem.Prog (TpuEff nD τ sig (Elt F) Λ₀ .tc) R) :
    (p46_1.tail E.a3 E.h3 E.a11 E.a15 E.h15 E.s28 mx >>= fun st => c48 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 45 (by decide) mx fun mx => E.front 46 (by decide) mx fun mx => (p47_1.tail E.a11 mx >>= fun st => κ st.1 st.2) := rfl
theorem run46 (E : Cert.Fp8.Env sig) (mx : Mxu F) :
    (p46_1.tail E.a3 E.h3 E.a11 E.a15 E.h15 E.s28 mx >>= fun st => c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (1 + 1) 45 (by decide) mx (E.tailP c448 loops c49.tail) :=
  E.units_of c448 1 45 46 rfl (by decide) (by decide) (by decide) (by decide) mx (E.tailP c448 loops c49.tail)
    (fun mx => (p47_1.tail E.a11 mx >>= fun st => c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p46_1.tail E.a3 E.h3 E.a11 E.a15 E.h15 E.s28 mx) >>= ·) (funext fun st => c48.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg46 E mx (c48.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run47 E mx

theorem seg45 {R : Type} (E : Cert.Fp8.Env sig) (mx : Mxu F) (κ : (Mxu F) → Idealize.SL.Sem.Prog (TpuEff nD τ sig (Elt F) Λ₀ .tc) R) :
    (p45_1.tail E.a3 E.h3 E.a10 E.a11 E.a14 E.a15 E.h15 E.a16 E.s28 mx >>= fun st => c47 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 44 (by decide) mx fun mx => E.front 45 (by decide) mx fun mx => (p46_1.tail E.a3 E.h3 E.a11 E.a15 E.h15 E.s28 mx >>= fun st => κ st) := rfl
theorem run45 (E : Cert.Fp8.Env sig) (mx : Mxu F) :
    (p45_1.tail E.a3 E.h3 E.a10 E.a11 E.a14 E.a15 E.h15 E.a16 E.s28 mx >>= fun st => c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (2 + 1) 44 (by decide) mx (E.tailP c448 loops c49.tail) :=
  E.units_of c448 2 44 45 rfl (by decide) (by decide) (by decide) (by decide) mx (E.tailP c448 loops c49.tail)
    (fun mx => (p46_1.tail E.a3 E.h3 E.a11 E.a15 E.h15 E.s28 mx >>= fun st => c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p45_1.tail E.a3 E.h3 E.a10 E.a11 E.a14 E.a15 E.h15 E.a16 E.s28 mx) >>= ·) (funext fun st => c47.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg45 E mx (c47.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run46 E mx

theorem seg44 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p44_1.tail E.a3 E.h3 E.a10 E.a11 E.a14 E.a15 E.h15 E.a16 E.s28 mx >>= fun st => c46 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 43 (by decide) mx fun mx => E.front 44 (by decide) mx fun mx => (p45_1.tail E.a3 E.h3 E.a10 E.a11 E.a14 E.a15 E.h15 E.a16 E.s28 mx >>= fun st => κ st.1 st.2.1 st.2.2.1 st.2.2.2) := rfl
theorem run44 (E : Cert.Fp8.Env sig) (mx : Mxu F) :
    (p44_1.tail E.a3 E.h3 E.a10 E.a11 E.a14 E.a15 E.h15 E.a16 E.s28 mx >>= fun st => c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (3 + 1) 43 (by decide) mx (E.tailP c448 loops c49.tail) :=
  E.units_of c448 3 43 44 rfl (by decide) (by decide) (by decide) (by decide) mx (E.tailP c448 loops c49.tail)
    (fun mx => (p45_1.tail E.a3 E.h3 E.a10 E.a11 E.a14 E.a15 E.h15 E.a16 E.s28 mx >>= fun st => c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p44_1.tail E.a3 E.h3 E.a10 E.a11 E.a14 E.a15 E.h15 E.a16 E.s28 mx) >>= ·) (funext fun st => c46.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg44 E mx (c46.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run45 E mx

theorem seg43 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p43_1.tail E.a3 E.a11 mx >>= fun st => c45 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 42 (by decide) mx fun mx => E.front 43 (by decide) mx fun mx => (p44_1.tail E.a3 E.h3 E.a10 E.a11 E.a14 E.a15 E.h15 E.a16 E.s28 mx >>= fun st => κ st.1 st.2.1 st.2.2) := rfl
theorem run43 (E : Cert.Fp8.Env sig) (mx : Mxu F) :
    (p43_1.tail E.a3 E.a11 mx >>= fun st => c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (4 + 1) 42 (by decide) mx (E.tailP c448 loops c49.tail) :=
  E.units_of c448 4 42 43 rfl (by decide) (by decide) (by decide) (by decide) mx (E.tailP c448 loops c49.tail)
    (fun mx => (p44_1.tail E.a3 E.h3 E.a10 E.a11 E.a14 E.a15 E.h15 E.a16 E.s28 mx >>= fun st => c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p43_1.tail E.a3 E.a11 mx) >>= ·) (funext fun st => c45.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg43 E mx (c45.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run44 E mx

theorem seg42 {R : Type} (E : Cert.Fp8.Env sig) (mx : Mxu F) (κ : (Mxu F) → Idealize.SL.Sem.Prog (TpuEff nD τ sig (Elt F) Λ₀ .tc) R) :
    (p42_1.tail E.a3 E.h3 E.a11 E.a15 E.h15 E.a16 E.s28 mx >>= fun st => c44 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 41 (by decide) mx fun mx => E.front 42 (by decide) mx fun mx => (p43_1.tail E.a3 E.a11 mx >>= fun st => κ st) := rfl
theorem run42 (E : Cert.Fp8.Env sig) (mx : Mxu F) :
    (p42_1.tail E.a3 E.h3 E.a11 E.a15 E.h15 E.a16 E.s28 mx >>= fun st => c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (5 + 1) 41 (by decide) mx (E.tailP c448 loops c49.tail) :=
  E.units_of c448 5 41 42 rfl (by decide) (by decide) (by decide) (by decide) mx (E.tailP c448 loops c49.tail)
    (fun mx => (p43_1.tail E.a3 E.a11 mx >>= fun st => c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p42_1.tail E.a3 E.h3 E.a11 E.a15 E.h15 E.a16 E.s28 mx) >>= ·) (funext fun st => c44.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg42 E mx (c44.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run43 E mx

theorem seg41 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p41_1.tail E.a3 E.h3 E.a10 E.a11 E.a14 E.a15 E.h15 E.a16 E.s28 mx >>= fun st => c43 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 40 (by decide) mx fun mx => E.front 41 (by decide) mx fun mx => (p42_1.tail E.a3 E.h3 E.a11 E.a15 E.h15 E.a16 E.s28 mx >>= fun st => κ st.1 st.2.1 st.2.2.1 st.2.2.2) := rfl
theorem run41 (E : Cert.Fp8.Env sig) (mx : Mxu F) :
    (p41_1.tail E.a3 E.h3 E.a10 E.a11 E.a14 E.a15 E.h15 E.a16 E.s28 mx >>= fun st => c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (6 + 1) 40 (by decide) mx (E.tailP c448 loops c49.tail) :=
  E.units_of c448 6 40 41 rfl (by decide) (by decide) (by decide) (by decide) mx (E.tailP c448 loops c49.tail)
    (fun mx => (p42_1.tail E.a3 E.h3 E.a11 E.a15 E.h15 E.a16 E.s28 mx >>= fun st => c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p41_1.tail E.a3 E.h3 E.a10 E.a11 E.a14 E.a15 E.h15 E.a16 E.s28 mx) >>= ·) (funext fun st => c43.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg41 E mx (c43.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run42 E mx

theorem seg40 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p40_1.tail E.a3 E.a11 mx >>= fun st => c42 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 39 (by decide) mx fun mx => E.front 40 (by decide) mx fun mx => (p41_1.tail E.a3 E.h3 E.a10 E.a11 E.a14 E.a15 E.h15 E.a16 E.s28 mx >>= fun st => κ st.1 st.2.1 st.2.2) := rfl
theorem run40 (E : Cert.Fp8.Env sig) (mx : Mxu F) :
    (p40_1.tail E.a3 E.a11 mx >>= fun st => c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (7 + 1) 39 (by decide) mx (E.tailP c448 loops c49.tail) :=
  E.units_of c448 7 39 40 rfl (by decide) (by decide) (by decide) (by decide) mx (E.tailP c448 loops c49.tail)
    (fun mx => (p41_1.tail E.a3 E.h3 E.a10 E.a11 E.a14 E.a15 E.h15 E.a16 E.s28 mx >>= fun st => c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p40_1.tail E.a3 E.a11 mx) >>= ·) (funext fun st => c42.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg40 E mx (c42.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run41 E mx

theorem seg39 {R : Type} (E : Cert.Fp8.Env sig) (mx : Mxu F) (κ : (Mxu F) → Idealize.SL.Sem.Prog (TpuEff nD τ sig (Elt F) Λ₀ .tc) R) :
    (p39_1.tail E.a3 E.h3 E.a11 E.a15 E.h15 E.a16 E.s28 mx >>= fun st => c41 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 38 (by decide) mx fun mx => E.front 39 (by decide) mx fun mx => (p40_1.tail E.a3 E.a11 mx >>= fun st => κ st) := rfl
theorem run39 (E : Cert.Fp8.Env sig) (mx : Mxu F) :
    (p39_1.tail E.a3 E.h3 E.a11 E.a15 E.h15 E.a16 E.s28 mx >>= fun st => c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (8 + 1) 38 (by decide) mx (E.tailP c448 loops c49.tail) :=
  E.units_of c448 8 38 39 rfl (by decide) (by decide) (by decide) (by decide) mx (E.tailP c448 loops c49.tail)
    (fun mx => (p40_1.tail E.a3 E.a11 mx >>= fun st => c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p39_1.tail E.a3 E.h3 E.a11 E.a15 E.h15 E.a16 E.s28 mx) >>= ·) (funext fun st => c41.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg39 E mx (c41.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run40 E mx

theorem seg38 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p38_1.tail E.a3 E.h3 E.a11 E.a15 E.h15 E.s28 mx >>= fun st => c40 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 37 (by decide) mx fun mx => E.front 38 (by decide) mx fun mx => (p39_1.tail E.a3 E.h3 E.a11 E.a15 E.h15 E.a16 E.s28 mx >>= fun st => κ st.1 st.2.1 st.2.2.1 st.2.2.2) := rfl
theorem run38 (E : Cert.Fp8.Env sig) (mx : Mxu F) :
    (p38_1.tail E.a3 E.h3 E.a11 E.a15 E.h15 E.s28 mx >>= fun st => c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (9 + 1) 37 (by decide) mx (E.tailP c448 loops c49.tail) :=
  E.units_of c448 9 37 38 rfl (by decide) (by decide) (by decide) (by decide) mx (E.tailP c448 loops c49.tail)
    (fun mx => (p39_1.tail E.a3 E.h3 E.a11 E.a15 E.h15 E.a16 E.s28 mx >>= fun st => c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p38_1.tail E.a3 E.h3 E.a11 E.a15 E.h15 E.s28 mx) >>= ·) (funext fun st => c40.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg38 E mx (c40.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run39 E mx

theorem seg37 {R : Type} (E : Cert.Fp8.Env sig) (mx : Mxu F) (κ : (Mxu F) → Idealize.SL.Sem.Prog (TpuEff nD τ sig (Elt F) Λ₀ .tc) R) :
    (p37_1.tail E.a3 E.h3 E.a10 E.a11 E.a15 E.h15 E.a16 E.s28 mx >>= fun st => c39 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 36 (by decide) mx fun mx => E.front 37 (by decide) mx fun mx => (p38_1.tail E.a3 E.h3 E.a11 E.a15 E.h15 E.s28 mx >>= fun st => κ st) := rfl
theorem run37 (E : Cert.Fp8.Env sig) (mx : Mxu F) :
    (p37_1.tail E.a3 E.h3 E.a10 E.a11 E.a15 E.h15 E.a16 E.s28 mx >>= fun st => c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (10 + 1) 36 (by decide) mx (E.tailP c448 loops c49.tail) :=
  E.units_of c448 10 36 37 rfl (by decide) (by decide) (by decide) (by decide) mx (E.tailP c448 loops c49.tail)
    (fun mx => (p38_1.tail E.a3 E.h3 E.a11 E.a15 E.h15 E.s28 mx >>= fun st => c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p37_1.tail E.a3 E.h3 E.a10 E.a11 E.a15 E.h15 E.a16 E.s28 mx) >>= ·) (funext fun st => c39.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg37 E mx (c39.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run38 E mx

theorem seg36 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p36_1.tail E.a3 E.h3 E.a10 E.a11 E.a14 E.a15 E.h15 E.a16 E.s28 mx >>= fun st => c38 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 35 (by decide) mx fun mx => E.front 36 (by decide) mx fun mx => (p37_1.tail E.a3 E.h3 E.a10 E.a11 E.a15 E.h15 E.a16 E.s28 mx >>= fun st => κ st.1 st.2.1 st.2.2.1 st.2.2.2) := rfl
theorem run36 (E : Cert.Fp8.Env sig) (mx : Mxu F) :
    (p36_1.tail E.a3 E.h3 E.a10 E.a11 E.a14 E.a15 E.h15 E.a16 E.s28 mx >>= fun st => c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (11 + 1) 35 (by decide) mx (E.tailP c448 loops c49.tail) :=
  E.units_of c448 11 35 36 rfl (by decide) (by decide) (by decide) (by decide) mx (E.tailP c448 loops c49.tail)
    (fun mx => (p37_1.tail E.a3 E.h3 E.a10 E.a11 E.a15 E.h15 E.a16 E.s28 mx >>= fun st => c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p36_1.tail E.a3 E.h3 E.a10 E.a11 E.a14 E.a15 E.h15 E.a16 E.s28 mx) >>= ·) (funext fun st => c38.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg36 E mx (c38.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run37 E mx

end Cert.KernelIdeal
-- ==== Proof.Seg3KernelIdeal.lean ====
/- Stretches of the printed kernel, each as the steps of the kernel's own program. -/
module

public import proofs.«01_k».proof.Proof.Seg4KernelIdeal
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]
/- Part 154 from its first push of a tile on. -/
cut_chain p24_ := k0_part154 at 3
/- Part 156 from its first push of a tile on. -/
cut_chain p25_ := k0_part156 at 14
/- Part 159 from its first push of a tile on. -/
cut_chain p26_ := k0_part159 at 5
/- Part 165 from its first push of a tile on. -/
cut_chain p27_ := k0_part165 at 17
/- Part 171 from its first push of a tile on. -/
cut_chain p28_ := k0_part171 at 2
/- Part 176 from its first push of a tile on. -/
cut_chain p29_ := k0_part176 at 11
/- Part 181 from its first push of a tile on. -/
cut_chain p30_ := k0_part181 at 17
/- Part 187 from its first push of a tile on. -/
cut_chain p31_ := k0_part187 at 3
/- Part 192 from its first push of a tile on. -/
cut_chain p32_ := k0_part192 at 8
/- Part 199 from its first push of a tile on. -/
cut_chain p33_ := k0_part199 at 5
/- Part 204 from its first push of a tile on. -/
cut_chain p34_ := k0_part204 at 10
/- Part 209 from its first push of a tile on. -/
cut_chain p35_ := k0_part209 at 19

theorem seg35 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p35_1.tail E.a11 mx >>= fun st => c37 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 34 (by decide) mx fun mx => E.front 35 (by decide) mx fun mx => (p36_1.tail E.a3 E.h3 E.a10 E.a11 E.a14 E.a15 E.h15 E.a16 E.s28 mx >>= fun st => κ st.1 st.2.1 st.2.2) := rfl
theorem run35 (E : Cert.Fp8.Env sig) (mx : Mxu F) :
    (p35_1.tail E.a11 mx >>= fun st => c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (12 + 1) 34 (by decide) mx (E.tailP c448 loops c49.tail) :=
  E.units_of c448 12 34 35 rfl (by decide) (by decide) (by decide) (by decide) mx (E.tailP c448 loops c49.tail)
    (fun mx => (p36_1.tail E.a3 E.h3 E.a10 E.a11 E.a14 E.a15 E.h15 E.a16 E.s28 mx >>= fun st => c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p35_1.tail E.a11 mx) >>= ·) (funext fun st => c37.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg35 E mx (c37.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run36 E mx

theorem seg34 {R : Type} (E : Cert.Fp8.Env sig) (mx : Mxu F) (κ : (Mxu F) → Idealize.SL.Sem.Prog (TpuEff nD τ sig (Elt F) Λ₀ .tc) R) :
    (p34_1.tail E.a3 E.h3 E.a10 E.a11 E.a15 E.h15 E.a16 E.s28 mx >>= fun st => c36 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 33 (by decide) mx fun mx => E.front 34 (by decide) mx fun mx => (p35_1.tail E.a11 mx >>= fun st => κ st) := rfl
theorem run34 (E : Cert.Fp8.Env sig) (mx : Mxu F) :
    (p34_1.tail E.a3 E.h3 E.a10 E.a11 E.a15 E.h15 E.a16 E.s28 mx >>= fun st => c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (13 + 1) 33 (by decide) mx (E.tailP c448 loops c49.tail) :=
  E.units_of c448 13 33 34 rfl (by decide) (by decide) (by decide) (by decide) mx (E.tailP c448 loops c49.tail)
    (fun mx => (p35_1.tail E.a11 mx >>= fun st => c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p34_1.tail E.a3 E.h3 E.a10 E.a11 E.a15 E.h15 E.a16 E.s28 mx) >>= ·) (funext fun st => c36.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg34 E mx (c36.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run35 E mx

theorem seg33 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p33_1.tail E.a3 E.h3 E.a10 E.a11 E.a14 E.a15 E.h15 E.a16 E.s28 mx >>= fun st => c35 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 32 (by decide) mx fun mx => E.front 33 (by decide) mx fun mx => (p34_1.tail E.a3 E.h3 E.a10 E.a11 E.a15 E.h15 E.a16 E.s28 mx >>= fun st => κ st.1 st.2.1 st.2.2.1 st.2.2.2) := rfl
theorem run33 (E : Cert.Fp8.Env sig) (mx : Mxu F) :
    (p33_1.tail E.a3 E.h3 E.a10 E.a11 E.a14 E.a15 E.h15 E.a16 E.s28 mx >>= fun st => c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (14 + 1) 32 (by decide) mx (E.tailP c448 loops c49.tail) :=
  E.units_of c448 14 32 33 rfl (by decide) (by decide) (by decide) (by decide) mx (E.tailP c448 loops c49.tail)
    (fun mx => (p34_1.tail E.a3 E.h3 E.a10 E.a11 E.a15 E.h15 E.a16 E.s28 mx >>= fun st => c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p33_1.tail E.a3 E.h3 E.a10 E.a11 E.a14 E.a15 E.h15 E.a16 E.s28 mx) >>= ·) (funext fun st => c35.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg33 E mx (c35.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run34 E mx

theorem seg32 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p32_1.tail E.a3 E.h3 E.a10 E.a11 E.a14 E.a15 E.h15 E.a16 E.s28 mx >>= fun st => c34 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 31 (by decide) mx fun mx => E.front 32 (by decide) mx fun mx => (p33_1.tail E.a3 E.h3 E.a10 E.a11 E.a14 E.a15 E.h15 E.a16 E.s28 mx >>= fun st => κ st.1 st.2.1 st.2.2) := rfl
theorem run32 (E : Cert.Fp8.Env sig) (mx : Mxu F) :
    (p32_1.tail E.a3 E.h3 E.a10 E.a11 E.a14 E.a15 E.h15 E.a16 E.s28 mx >>= fun st => c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (15 + 1) 31 (by decide) mx (E.tailP c448 loops c49.tail) :=
  E.units_of c448 15 31 32 rfl (by decide) (by decide) (by decide) (by decide) mx (E.tailP c448 loops c49.tail)
    (fun mx => (p33_1.tail E.a3 E.h3 E.a10 E.a11 E.a14 E.a15 E.h15 E.a16 E.s28 mx >>= fun st => c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p32_1.tail E.a3 E.h3 E.a10 E.a11 E.a14 E.a15 E.h15 E.a16 E.s28 mx) >>= ·) (funext fun st => c34.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg32 E mx (c34.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run33 E mx

theorem seg31 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p31_1.tail E.a3 E.h3 E.a10 E.a11 E.a14 E.a15 E.h15 E.a16 E.s28 mx >>= fun st => c33 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 30 (by decide) mx fun mx => E.front 31 (by decide) mx fun mx => (p32_1.tail E.a3 E.h3 E.a10 E.a11 E.a14 E.a15 E.h15 E.a16 E.s28 mx >>= fun st => κ st.1 st.2.1 st.2.2.1 st.2.2.2) := rfl
theorem run31 (E : Cert.Fp8.Env sig) (mx : Mxu F) :
    (p31_1.tail E.a3 E.h3 E.a10 E.a11 E.a14 E.a15 E.h15 E.a16 E.s28 mx >>= fun st => c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (16 + 1) 30 (by decide) mx (E.tailP c448 loops c49.tail) :=
  E.units_of c448 16 30 31 rfl (by decide) (by decide) (by decide) (by decide) mx (E.tailP c448 loops c49.tail)
    (fun mx => (p32_1.tail E.a3 E.h3 E.a10 E.a11 E.a14 E.a15 E.h15 E.a16 E.s28 mx >>= fun st => c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p31_1.tail E.a3 E.h3 E.a10 E.a11 E.a14 E.a15 E.h15 E.a16 E.s28 mx) >>= ·) (funext fun st => c33.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg31 E mx (c33.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run32 E mx

theorem seg30 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p30_1.tail E.a3 E.a11 E.a15 mx >>= fun st => c32 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 29 (by decide) mx fun mx => E.front 30 (by decide) mx fun mx => (p31_1.tail E.a3 E.h3 E.a10 E.a11 E.a14 E.a15 E.h15 E.a16 E.s28 mx >>= fun st => κ st.1 st.2.1 st.2.2) := rfl
theorem run30 (E : Cert.Fp8.Env sig) (mx : Mxu F) :
    (p30_1.tail E.a3 E.a11 E.a15 mx >>= fun st => c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (17 + 1) 29 (by decide) mx (E.tailP c448 loops c49.tail) :=
  E.units_of c448 17 29 30 rfl (by decide) (by decide) (by decide) (by decide) mx (E.tailP c448 loops c49.tail)
    (fun mx => (p31_1.tail E.a3 E.h3 E.a10 E.a11 E.a14 E.a15 E.h15 E.a16 E.s28 mx >>= fun st => c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p30_1.tail E.a3 E.a11 E.a15 mx) >>= ·) (funext fun st => c32.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg30 E mx (c32.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run31 E mx

theorem seg29 {R : Type} (E : Cert.Fp8.Env sig) (mx : Mxu F) (κ : (Mxu F) → Idealize.SL.Sem.Prog (TpuEff nD τ sig (Elt F) Λ₀ .tc) R) :
    (p29_1.tail E.a3 E.h3 E.a10 E.a11 E.a15 E.h15 E.a16 E.s28 mx >>= fun st => c31 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 28 (by decide) mx fun mx => E.front 29 (by decide) mx fun mx => (p30_1.tail E.a3 E.a11 E.a15 mx >>= fun st => κ st) := rfl
theorem run29 (E : Cert.Fp8.Env sig) (mx : Mxu F) :
    (p29_1.tail E.a3 E.h3 E.a10 E.a11 E.a15 E.h15 E.a16 E.s28 mx >>= fun st => c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (18 + 1) 28 (by decide) mx (E.tailP c448 loops c49.tail) :=
  E.units_of c448 18 28 29 rfl (by decide) (by decide) (by decide) (by decide) mx (E.tailP c448 loops c49.tail)
    (fun mx => (p30_1.tail E.a3 E.a11 E.a15 mx >>= fun st => c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p29_1.tail E.a3 E.h3 E.a10 E.a11 E.a15 E.h15 E.a16 E.s28 mx) >>= ·) (funext fun st => c31.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg29 E mx (c31.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run30 E mx

theorem seg28 {R : Type} (E : Cert.Fp8.Env sig) (mx : Mxu F) (κ : (Vec F S8x128 .f32) → (FVec F S256x256 .f32) → (Mxu F) → (FVec F S256x128 .f32) → (Vec F S1x128 .f32) → Idealize.SL.Sem.Prog (TpuEff nD τ sig (Elt F) Λ₀ .tc) R) :
    (p28_1.tail E.a3 E.h3 E.a10 E.a11 E.a14 E.a15 E.h15 E.a16 E.s28 mx >>= fun st => c30 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 27 (by decide) mx fun mx => E.front 28 (by decide) mx fun mx => (p29_1.tail E.a3 E.h3 E.a10 E.a11 E.a15 E.h15 E.a16 E.s28 mx >>= fun st => κ st.1 st.2.1 st.2.2.1 st.2.2.2.1 st.2.2.2.2) := rfl
theorem run28 (E : Cert.Fp8.Env sig) (mx : Mxu F) :
    (p28_1.tail E.a3 E.h3 E.a10 E.a11 E.a14 E.a15 E.h15 E.a16 E.s28 mx >>= fun st => c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (19 + 1) 27 (by decide) mx (E.tailP c448 loops c49.tail) :=
  E.units_of c448 19 27 28 rfl (by decide) (by decide) (by decide) (by decide) mx (E.tailP c448 loops c49.tail)
    (fun mx => (p29_1.tail E.a3 E.h3 E.a10 E.a11 E.a15 E.h15 E.a16 E.s28 mx >>= fun st => c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p28_1.tail E.a3 E.h3 E.a10 E.a11 E.a14 E.a15 E.h15 E.a16 E.s28 mx) >>= ·) (funext fun st => c30.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg28 E mx (c30.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run29 E mx

theorem seg27 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p27_1.tail E.a3 E.h3 E.a11 E.a15 E.h15 E.s28 mx >>= fun st => c29 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.back c448 26 (by decide) mx fun mx => E.front 27 (by decide) mx fun mx => (p28_1.tail E.a3 E.h3 E.a10 E.a11 E.a14 E.a15 E.h15 E.a16 E.s28 mx >>= fun st => κ st.1 st.2.1 st.2.2) := rfl
theorem run27 (E : Cert.Fp8.Env sig) (mx : Mxu F) :
    (p27_1.tail E.a3 E.h3 E.a11 E.a15 E.h15 E.s28 mx >>= fun st => c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.units c448 (20 + 1) 26 (by decide) mx (E.tailP c448 loops c49.tail) :=
  E.units_of c448 20 26 27 rfl (by decide) (by decide) (by decide) (by decide) mx (E.tailP c448 loops c49.tail)
    (fun mx => (p28_1.tail E.a3 E.h3 E.a10 E.a11 E.a14 E.a15 E.h15 E.a16 E.s28 mx >>= fun st => c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p27_1.tail E.a3 E.h3 E.a11 E.a15 E.h15 E.s28 mx) >>= ·) (funext fun st => c29.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg27 E mx (c29.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run28 E mx

theorem seg26 {R : Type} (E : Cert.Fp8.Env sig) (mx : Mxu F) (κ : (Mxu F) → Idealize.SL.Sem.Prog (TpuEff nD τ sig (Elt F) Λ₀ .tc) R) :
    (p26_1.tail E.a10 E.a11 E.a14 E.a16 mx >>= fun st => c28 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 25 (by decide) mx fun mx => E.front 26 (by decide) mx fun mx => (p27_1.tail E.a3 E.h3 E.a11 E.a15 E.h15 E.s28 mx >>= fun st => κ st) := rfl
theorem run26 (E : Cert.Fp8.Env sig) (mx : Mxu F) :
    (p26_1.tail E.a10 E.a11 E.a14 E.a16 mx >>= fun st => c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (21 + 1) 25 (by decide) mx (E.tailP c448 loops c49.tail) :=
  E.units_of c448 21 25 26 rfl (by decide) (by decide) (by decide) (by decide) mx (E.tailP c448 loops c49.tail)
    (fun mx => (p27_1.tail E.a3 E.h3 E.a11 E.a15 E.h15 E.s28 mx >>= fun st => c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st))
    ((congrArg ((p26_1.tail E.a10 E.a11 E.a14 E.a16 mx) >>= ·) (funext fun st => c28.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg26 E mx (c28.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run27 E mx

theorem seg25 {R : Type} (E : Cert.Fp8.Env sig) (mx : Mxu F) (κ : (FVec F S8x128 .f32) → (FVec F S256x256 .f32) → (Mxu F) → Idealize.SL.Sem.Prog (TpuEff nD τ sig (Elt F) Λ₀ .tc) R) :
    (p25_1.tail E.a10 E.a11 E.a14 E.a16 mx >>= fun st => c27 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 24 (by decide) mx fun mx => E.front 25 (by decide) mx fun mx => (p26_1.tail E.a10 E.a11 E.a14 E.a16 mx >>= fun st => κ st.1 st.2.1 st.2.2) := rfl
theorem run25 (E : Cert.Fp8.Env sig) (mx : Mxu F) :
    (p25_1.tail E.a10 E.a11 E.a14 E.a16 mx >>= fun st => c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (22 + 1) 24 (by decide) mx (E.tailP c448 loops c49.tail) :=
  E.units_of c448 22 24 25 rfl (by decide) (by decide) (by decide) (by decide) mx (E.tailP c448 loops c49.tail)
    (fun mx => (p26_1.tail E.a10 E.a11 E.a14 E.a16 mx >>= fun st => c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p25_1.tail E.a10 E.a11 E.a14 E.a16 mx) >>= ·) (funext fun st => c27.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg25 E mx (c27.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run26 E mx

theorem seg24 {R : Type} (E : Cert.Fp8.Env sig) (mx : Mxu F) (κ : (Vec F S8x128 .f32) → (FVec F S256x256 .f32) → (Mxu F) → (FVec F S256x128 .f32) → (Vec F S256x128 .f32) → Idealize.SL.Sem.Prog (TpuEff nD τ sig (Elt F) Λ₀ .tc) R) :
    (p24_1.tail E.a10 E.a11 E.a14 E.a16 mx >>= fun st => c26 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 23 (by decide) mx fun mx => E.front 24 (by decide) mx fun mx => (p25_1.tail E.a10 E.a11 E.a14 E.a16 mx >>= fun st => κ st.1 st.2.1 st.2.2.1 st.2.2.2.1 st.2.2.2.2) := rfl
theorem run24 (E : Cert.Fp8.Env sig) (mx : Mxu F) :
    (p24_1.tail E.a10 E.a11 E.a14 E.a16 mx >>= fun st => c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (23 + 1) 23 (by decide) mx (E.tailP c448 loops c49.tail) :=
  E.units_of c448 23 23 24 rfl (by decide) (by decide) (by decide) (by decide) mx (E.tailP c448 loops c49.tail)
    (fun mx => (p25_1.tail E.a10 E.a11 E.a14 E.a16 mx >>= fun st => c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p24_1.tail E.a10 E.a11 E.a14 E.a16 mx) >>= ·) (funext fun st => c26.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg24 E mx (c26.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run25 E mx

end Cert.KernelIdeal
-- ==== Proof.Seg2KernelIdeal.lean ====
/- Stretches of the printed kernel, each as the steps of the kernel's own program. -/
module

public import proofs.«01_k».proof.Proof.Seg3KernelIdeal
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]
/- Part 123 from its first push of a tile on. -/
cut_chain p12_ := k0_part123 at 5
/- Part 125 from its first push of a tile on. -/
cut_chain p13_ := k0_part125 at 16
/- Part 128 from its first push of a tile on. -/
cut_chain p14_ := k0_part128 at 6
/- Part 130 from its first push of a tile on. -/
cut_chain p15_ := k0_part130 at 18
/- Part 133 from its first push of a tile on. -/
cut_chain p16_ := k0_part133 at 9
/- Part 136 from its first push of a tile on. -/
cut_chain p17_ := k0_part136 at 3
/- Part 138 from its first push of a tile on. -/
cut_chain p18_ := k0_part138 at 14
/- Part 141 from its first push of a tile on. -/
cut_chain p19_ := k0_part141 at 5
/- Part 143 from its first push of a tile on. -/
cut_chain p20_ := k0_part143 at 16
/- Part 146 from its first push of a tile on. -/
cut_chain p21_ := k0_part146 at 7
/- Part 148 from its first push of a tile on. -/
cut_chain p22_ := k0_part148 at 18
/- Part 151 from its first push of a tile on. -/
cut_chain p23_ := k0_part151 at 12

theorem seg23 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p23_1.tail E.a10 E.a11 E.a14 E.a16 mx >>= fun st => c25 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 22 (by decide) mx fun mx => E.front 23 (by decide) mx fun mx => (p24_1.tail E.a10 E.a11 E.a14 E.a16 mx >>= fun st => κ st.1 st.2.1 st.2.2.1 st.2.2.2) := rfl
theorem run23 (E : Cert.Fp8.Env sig) (mx : Mxu F) :
    (p23_1.tail E.a10 E.a11 E.a14 E.a16 mx >>= fun st => c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (24 + 1) 22 (by decide) mx (E.tailP c448 loops c49.tail) :=
  E.units_of c448 24 22 23 rfl (by decide) (by decide) (by decide) (by decide) mx (E.tailP c448 loops c49.tail)
    (fun mx => (p24_1.tail E.a10 E.a11 E.a14 E.a16 mx >>= fun st => c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p23_1.tail E.a10 E.a11 E.a14 E.a16 mx) >>= ·) (funext fun st => c25.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg23 E mx (c25.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run24 E mx

theorem seg22 {R : Type} (E : Cert.Fp8.Env sig) (mx : Mxu F) (κ : (Vec F S8x128 .f32) → (FVec F S256x256 .f32) → (Mxu F) → (FVec F S32x8x128 .f32) → Idealize.SL.Sem.Prog (TpuEff nD τ sig (Elt F) Λ₀ .tc) R) :
    (p22_1.tail E.a11 E.a16 mx >>= fun st => c24 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 21 (by decide) mx fun mx => E.front 22 (by decide) mx fun mx => (p23_1.tail E.a10 E.a11 E.a14 E.a16 mx >>= fun st => κ st.1 st.2.1 st.2.2.1 st.2.2.2) := rfl
theorem run22 (E : Cert.Fp8.Env sig) (mx : Mxu F) :
    (p22_1.tail E.a11 E.a16 mx >>= fun st => c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (25 + 1) 21 (by decide) mx (E.tailP c448 loops c49.tail) :=
  E.units_of c448 25 21 22 rfl (by decide) (by decide) (by decide) (by decide) mx (E.tailP c448 loops c49.tail)
    (fun mx => (p23_1.tail E.a10 E.a11 E.a14 E.a16 mx >>= fun st => c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p22_1.tail E.a11 E.a16 mx) >>= ·) (funext fun st => c24.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg22 E mx (c24.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run23 E mx

theorem seg21 {R : Type} (E : Cert.Fp8.Env sig) (mx : Mxu F) (κ : (Mxu F) → (Vec F S8x128 .f32) → Idealize.SL.Sem.Prog (TpuEff nD τ sig (Elt F) Λ₀ .tc) R) :
    (p21_1.tail E.a10 E.a11 E.a14 E.a16 mx >>= fun st => c23 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 20 (by decide) mx fun mx => E.front 21 (by decide) mx fun mx => (p22_1.tail E.a11 E.a16 mx >>= fun st => κ st.1 st.2) := rfl
theorem run21 (E : Cert.Fp8.Env sig) (mx : Mxu F) :
    (p21_1.tail E.a10 E.a11 E.a14 E.a16 mx >>= fun st => c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (26 + 1) 20 (by decide) mx (E.tailP c448 loops c49.tail) :=
  E.units_of c448 26 20 21 rfl (by decide) (by decide) (by decide) (by decide) mx (E.tailP c448 loops c49.tail)
    (fun mx => (p22_1.tail E.a11 E.a16 mx >>= fun st => c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p21_1.tail E.a10 E.a11 E.a14 E.a16 mx) >>= ·) (funext fun st => c23.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg21 E mx (c23.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run22 E mx

theorem seg20 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p20_1.tail E.a10 E.a11 E.a16 mx >>= fun st => c22 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 19 (by decide) mx fun mx => E.front 20 (by decide) mx fun mx => (p21_1.tail E.a10 E.a11 E.a14 E.a16 mx >>= fun st => κ st.1 st.2.1 st.2.2) := rfl
theorem run20 (E : Cert.Fp8.Env sig) (mx : Mxu F) :
    (p20_1.tail E.a10 E.a11 E.a16 mx >>= fun st => c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (27 + 1) 19 (by decide) mx (E.tailP c448 loops c49.tail) :=
  E.units_of c448 27 19 20 rfl (by decide) (by decide) (by decide) (by decide) mx (E.tailP c448 loops c49.tail)
    (fun mx => (p21_1.tail E.a10 E.a11 E.a14 E.a16 mx >>= fun st => c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p20_1.tail E.a10 E.a11 E.a16 mx) >>= ·) (funext fun st => c22.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg20 E mx (c22.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run21 E mx

theorem seg19 {R : Type} (E : Cert.Fp8.Env sig) (mx : Mxu F) (κ : (Vec F S8x128 .f32) → (FVec F S256x256 .f32) → (Mxu F) → (FVec F S256x128 .f32) → (Vec F S1x128 .f32) → Idealize.SL.Sem.Prog (TpuEff nD τ sig (Elt F) Λ₀ .tc) R) :
    (p19_1.tail E.a10 E.a11 E.a14 E.a16 mx >>= fun st => c21 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 18 (by decide) mx fun mx => E.front 19 (by decide) mx fun mx => (p20_1.tail E.a10 E.a11 E.a16 mx >>= fun st => κ st.1 st.2.1 st.2.2.1 st.2.2.2.1 st.2.2.2.2) := rfl
theorem run19 (E : Cert.Fp8.Env sig) (mx : Mxu F) :
    (p19_1.tail E.a10 E.a11 E.a14 E.a16 mx >>= fun st => c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (28 + 1) 18 (by decide) mx (E.tailP c448 loops c49.tail) :=
  E.units_of c448 28 18 19 rfl (by decide) (by decide) (by decide) (by decide) mx (E.tailP c448 loops c49.tail)
    (fun mx => (p20_1.tail E.a10 E.a11 E.a16 mx >>= fun st => c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p19_1.tail E.a10 E.a11 E.a14 E.a16 mx) >>= ·) (funext fun st => c21.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg19 E mx (c21.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run20 E mx

theorem seg18 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p18_1.tail E.a10 E.a11 E.a14 E.a16 mx >>= fun st => c20 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 17 (by decide) mx fun mx => E.front 18 (by decide) mx fun mx => (p19_1.tail E.a10 E.a11 E.a14 E.a16 mx >>= fun st => κ st.1 st.2.1 st.2.2.1 st.2.2.2) := rfl
theorem run18 (E : Cert.Fp8.Env sig) (mx : Mxu F) :
    (p18_1.tail E.a10 E.a11 E.a14 E.a16 mx >>= fun st => c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (29 + 1) 17 (by decide) mx (E.tailP c448 loops c49.tail) :=
  E.units_of c448 29 17 18 rfl (by decide) (by decide) (by decide) (by decide) mx (E.tailP c448 loops c49.tail)
    (fun mx => (p19_1.tail E.a10 E.a11 E.a14 E.a16 mx >>= fun st => c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p18_1.tail E.a10 E.a11 E.a14 E.a16 mx) >>= ·) (funext fun st => c20.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg18 E mx (c20.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run19 E mx

theorem seg17 {R : Type} (E : Cert.Fp8.Env sig) (mx : Mxu F) (κ : (Vec F S8x128 .f32) → (FVec F S256x256 .f32) → (Mxu F) → (FVec F S256x128 .f32) → Idealize.SL.Sem.Prog (TpuEff nD τ sig (Elt F) Λ₀ .tc) R) :
    (p17_1.tail E.a10 E.a11 E.a14 E.a16 mx >>= fun st => c19 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 16 (by decide) mx fun mx => E.front 17 (by decide) mx fun mx => (p18_1.tail E.a10 E.a11 E.a14 E.a16 mx >>= fun st => κ st.1 st.2.1 st.2.2.1 st.2.2.2) := rfl
theorem run17 (E : Cert.Fp8.Env sig) (mx : Mxu F) :
    (p17_1.tail E.a10 E.a11 E.a14 E.a16 mx >>= fun st => c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (30 + 1) 16 (by decide) mx (E.tailP c448 loops c49.tail) :=
  E.units_of c448 30 16 17 rfl (by decide) (by decide) (by decide) (by decide) mx (E.tailP c448 loops c49.tail)
    (fun mx => (p18_1.tail E.a10 E.a11 E.a14 E.a16 mx >>= fun st => c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p17_1.tail E.a10 E.a11 E.a14 E.a16 mx) >>= ·) (funext fun st => c19.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg17 E mx (c19.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run18 E mx

theorem seg16 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p16_1.tail E.a10 E.a11 E.a14 E.a16 mx >>= fun st => c18 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 15 (by decide) mx fun mx => E.front 16 (by decide) mx fun mx => (p17_1.tail E.a10 E.a11 E.a14 E.a16 mx >>= fun st => κ st.1 st.2.1 st.2.2.1 st.2.2.2) := rfl
theorem run16 (E : Cert.Fp8.Env sig) (mx : Mxu F) :
    (p16_1.tail E.a10 E.a11 E.a14 E.a16 mx >>= fun st => c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (31 + 1) 15 (by decide) mx (E.tailP c448 loops c49.tail) :=
  E.units_of c448 31 15 16 rfl (by decide) (by decide) (by decide) (by decide) mx (E.tailP c448 loops c49.tail)
    (fun mx => (p17_1.tail E.a10 E.a11 E.a14 E.a16 mx >>= fun st => c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p16_1.tail E.a10 E.a11 E.a14 E.a16 mx) >>= ·) (funext fun st => c18.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg16 E mx (c18.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run17 E mx

theorem seg15 {R : Type} (E : Cert.Fp8.Env sig) (mx : Mxu F) (κ : (Mxu F) → (FVec F S8x128 .f32) → (FVec F S256x128 .f32) → (Vec F S256x128 .f32) → Idealize.SL.Sem.Prog (TpuEff nD τ sig (Elt F) Λ₀ .tc) R) :
    (p15_1.tail E.a11 E.a16 mx >>= fun st => c17 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 14 (by decide) mx fun mx => E.front 15 (by decide) mx fun mx => (p16_1.tail E.a10 E.a11 E.a14 E.a16 mx >>= fun st => κ st.1 st.2.1 st.2.2.1 st.2.2.2) := rfl
theorem run15 (E : Cert.Fp8.Env sig) (mx : Mxu F) :
    (p15_1.tail E.a11 E.a16 mx >>= fun st => c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (32 + 1) 14 (by decide) mx (E.tailP c448 loops c49.tail) :=
  E.units_of c448 32 14 15 rfl (by decide) (by decide) (by decide) (by decide) mx (E.tailP c448 loops c49.tail)
    (fun mx => (p16_1.tail E.a10 E.a11 E.a14 E.a16 mx >>= fun st => c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p15_1.tail E.a11 E.a16 mx) >>= ·) (funext fun st => c17.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg15 E mx (c17.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run16 E mx

theorem seg14 {R : Type} (E : Cert.Fp8.Env sig) (mx : Mxu F) (κ : (Mxu F) → (Vec F S8x128 .f32) → (FVec F S256x256 .f32) → Idealize.SL.Sem.Prog (TpuEff nD τ sig (Elt F) Λ₀ .tc) R) :
    (p14_1.tail E.a10 E.a11 E.a14 E.a16 mx >>= fun st => c16 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 13 (by decide) mx fun mx => E.front 14 (by decide) mx fun mx => (p15_1.tail E.a11 E.a16 mx >>= fun st => κ st.1 st.2.1 st.2.2) := rfl
theorem run14 (E : Cert.Fp8.Env sig) (mx : Mxu F) :
    (p14_1.tail E.a10 E.a11 E.a14 E.a16 mx >>= fun st => c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (33 + 1) 13 (by decide) mx (E.tailP c448 loops c49.tail) :=
  E.units_of c448 33 13 14 rfl (by decide) (by decide) (by decide) (by decide) mx (E.tailP c448 loops c49.tail)
    (fun mx => (p15_1.tail E.a11 E.a16 mx >>= fun st => c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p14_1.tail E.a10 E.a11 E.a14 E.a16 mx) >>= ·) (funext fun st => c16.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg14 E mx (c16.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run15 E mx

theorem seg13 {R : Type} (E : Cert.Fp8.Env sig) (mx : Mxu F) (κ : (Mxu F) → (FVec F S8x128 .f32) → (FVec F S32x8x128 .f32) → Idealize.SL.Sem.Prog (TpuEff nD τ sig (Elt F) Λ₀ .tc) R) :
    (p13_1.tail E.a10 E.a11 E.a16 mx >>= fun st => c15 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 12 (by decide) mx fun mx => E.front 13 (by decide) mx fun mx => (p14_1.tail E.a10 E.a11 E.a14 E.a16 mx >>= fun st => κ st.1 st.2.1 st.2.2) := rfl
theorem run13 (E : Cert.Fp8.Env sig) (mx : Mxu F) :
    (p13_1.tail E.a10 E.a11 E.a16 mx >>= fun st => c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (34 + 1) 12 (by decide) mx (E.tailP c448 loops c49.tail) :=
  E.units_of c448 34 12 13 rfl (by decide) (by decide) (by decide) (by decide) mx (E.tailP c448 loops c49.tail)
    (fun mx => (p14_1.tail E.a10 E.a11 E.a14 E.a16 mx >>= fun st => c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p13_1.tail E.a10 E.a11 E.a16 mx) >>= ·) (funext fun st => c15.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg13 E mx (c15.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run14 E mx

theorem seg12 {R : Type} (E : Cert.Fp8.Env sig) (mx : Mxu F) (κ : (Vec F S8x128 .f32) → (FVec F S256x256 .f32) → (Mxu F) → (FVec F S256x128 .f32) → (FVec F S256x128 .f32) → Idealize.SL.Sem.Prog (TpuEff nD τ sig (Elt F) Λ₀ .tc) R) :
    (p12_1.tail E.a10 E.a11 E.a14 E.a16 mx >>= fun st => c14 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2 κ)
      = E.back c448 11 (by decide) mx fun mx => E.front 12 (by decide) mx fun mx => (p13_1.tail E.a10 E.a11 E.a16 mx >>= fun st => κ st.1 st.2.1 st.2.2.1 st.2.2.2.1 st.2.2.2.2) := rfl
theorem run12 (E : Cert.Fp8.Env sig) (mx : Mxu F) :
    (p12_1.tail E.a10 E.a11 E.a14 E.a16 mx >>= fun st => c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)
      = E.units c448 (35 + 1) 11 (by decide) mx (E.tailP c448 loops c49.tail) :=
  E.units_of c448 35 11 12 rfl (by decide) (by decide) (by decide) (by decide) mx (E.tailP c448 loops c49.tail)
    (fun mx => (p13_1.tail E.a10 E.a11 E.a16 mx >>= fun st => c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p12_1.tail E.a10 E.a11 E.a14 E.a16 mx) >>= ·) (funext fun st => c14.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2)).trans (seg12 E mx (c14.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run13 E mx

end Cert.KernelIdeal
-- ==== Proof.Seg1KernelIdeal.lean ====
/- Stretches of the printed kernel, each as the steps of the kernel's own program. -/
module

public import proofs.«01_k».proof.Proof.Seg2KernelIdeal
public import Idealize.ShloMosaic.Lib.Tactic.OpenCalls
public import Idealize.ShloMosaic.Lib.Tactic.Stretches
public meta import Idealize.ShloMosaic.Lib.Tactic.OpenCalls
public meta import Idealize.ShloMosaic.Lib.Tactic.Stretches

@[expose] public section

set_option maxHeartbeats 0
set_option maxRecDepth 100000

noncomputable section

namespace Cert.KernelIdeal

open Idealize.ShloMosaic

variable {F : FTy → Type} [FloatOps F] [Named F] [Facts]
/- Part 26 from its first push of a tile on. -/
cut_chain p0_ := k0_part26 at 6
/- Part 27 from its first push of a tile on. -/
cut_chain p1_ := k0_part27 at 12
/- Part 42 from its first push of a tile on. -/
cut_chain p2_ := k0_part42 at 4
/- Part 58 from its first push of a tile on. -/
cut_chain p3_ := k0_part58 at 9
/- Part 74 from its first push of a tile on. -/
cut_chain p4_ := k0_part74 at 14
/- Part 91 from its first push of a tile on. -/
cut_chain p5_ := k0_part91 at 2
/- Part 107 from its first push of a tile on. -/
cut_chain p6_ := k0_part107 at 4
/- Part 109 from its first push of a tile on. -/
cut_chain p7_ := k0_part109 at 21
/- Part 112 from its first push of a tile on. -/
cut_chain p8_ := k0_part112 at 17
/- Part 115 from its first push of a tile on. -/
cut_chain p9_ := k0_part115 at 8
/- Part 117 from its first push of a tile on. -/
cut_chain p10_ := k0_part117 at 19
/- Part 120 from its first push of a tile on. -/
cut_chain p11_ := k0_part120 at 13

theorem seg11 {R : Type} (E : Cert.Fp8.Env sig) (mx : Mxu F) (κ : (FVec F S8x128 .f32) → (FVec F S256x256 .f32) → (Mxu F) → (FVec F S256x128 .f32) → Idealize.SL.Sem.Prog (TpuEff nD τ sig (Elt F) Λ₀ .tc) R) :
    (p11_1.tail E.a10 E.a11 E.a14 E.a16 mx >>= fun st => c13 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 10 (by decide) mx fun mx => E.front 11 (by decide) mx fun mx => (p12_1.tail E.a10 E.a11 E.a14 E.a16 mx >>= fun st => κ st.1 st.2.1 st.2.2.1 st.2.2.2) := rfl
theorem run11 (E : Cert.Fp8.Env sig) (mx : Mxu F) :
    (p11_1.tail E.a10 E.a11 E.a14 E.a16 mx >>= fun st => c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (36 + 1) 10 (by decide) mx (E.tailP c448 loops c49.tail) :=
  E.units_of c448 36 10 11 rfl (by decide) (by decide) (by decide) (by decide) mx (E.tailP c448 loops c49.tail)
    (fun mx => (p12_1.tail E.a10 E.a11 E.a14 E.a16 mx >>= fun st => c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2))
    ((congrArg ((p11_1.tail E.a10 E.a11 E.a14 E.a16 mx) >>= ·) (funext fun st => c13.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg11 E mx (c13.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run12 E mx

theorem seg10 {R : Type} (E : Cert.Fp8.Env sig) (mx : Mxu F) (κ : (Vec F S8x128 .f32) → (FVec F S256x256 .f32) → (Mxu F) → (FVec F S256x128 .f32) → (FVec F S256x128 .f32) → Idealize.SL.Sem.Prog (TpuEff nD τ sig (Elt F) Λ₀ .tc) R) :
    (p10_1.tail E.a11 mx >>= fun st => c12 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 9 (by decide) mx fun mx => E.front 10 (by decide) mx fun mx => (p11_1.tail E.a10 E.a11 E.a14 E.a16 mx >>= fun st => κ st.1 st.2.1 st.2.2.1 st.2.2.2.1 st.2.2.2.2) := rfl
theorem run10 (E : Cert.Fp8.Env sig) (mx : Mxu F) :
    (p10_1.tail E.a11 mx >>= fun st => c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (37 + 1) 9 (by decide) mx (E.tailP c448 loops c49.tail) :=
  E.units_of c448 37 9 10 rfl (by decide) (by decide) (by decide) (by decide) mx (E.tailP c448 loops c49.tail)
    (fun mx => (p11_1.tail E.a10 E.a11 E.a14 E.a16 mx >>= fun st => c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p10_1.tail E.a11 mx) >>= ·) (funext fun st => c12.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg10 E mx (c12.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run11 E mx

theorem seg9 {R : Type} (E : Cert.Fp8.Env sig) (mx : Mxu F) (κ : (Mxu F) → (Vec F S256x256 .bf16) → Idealize.SL.Sem.Prog (TpuEff nD τ sig (Elt F) Λ₀ .tc) R) :
    (p9_1.tail E.a10 E.a11 E.a14 E.a16 mx >>= fun st => c11 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 8 (by decide) mx fun mx => E.front 9 (by decide) mx fun mx => (p10_1.tail E.a11 mx >>= fun st => κ st.1 st.2) := rfl
theorem run9 (E : Cert.Fp8.Env sig) (mx : Mxu F) :
    (p9_1.tail E.a10 E.a11 E.a14 E.a16 mx >>= fun st => c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (38 + 1) 8 (by decide) mx (E.tailP c448 loops c49.tail) :=
  E.units_of c448 38 8 9 rfl (by decide) (by decide) (by decide) (by decide) mx (E.tailP c448 loops c49.tail)
    (fun mx => (p10_1.tail E.a11 mx >>= fun st => c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p9_1.tail E.a10 E.a11 E.a14 E.a16 mx) >>= ·) (funext fun st => c11.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg9 E mx (c11.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run10 E mx

theorem seg8 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p8_1.tail E.a11 E.a16 mx >>= fun st => c10 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 7 (by decide) mx fun mx => E.front 8 (by decide) mx fun mx => (p9_1.tail E.a10 E.a11 E.a14 E.a16 mx >>= fun st => κ st.1 st.2.1 st.2.2) := rfl
theorem run8 (E : Cert.Fp8.Env sig) (mx : Mxu F) :
    (p8_1.tail E.a11 E.a16 mx >>= fun st => c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (39 + 1) 7 (by decide) mx (E.tailP c448 loops c49.tail) :=
  E.units_of c448 39 7 8 rfl (by decide) (by decide) (by decide) (by decide) mx (E.tailP c448 loops c49.tail)
    (fun mx => (p9_1.tail E.a10 E.a11 E.a14 E.a16 mx >>= fun st => c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p8_1.tail E.a11 E.a16 mx) >>= ·) (funext fun st => c10.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg8 E mx (c10.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run9 E mx

theorem seg7 {R : Type} (E : Cert.Fp8.Env sig) (mx : Mxu F) (κ : (Vec F S8x128 .f32) → (FVec F S256x256 .f32) → (Mxu F) → Idealize.SL.Sem.Prog (TpuEff nD τ sig (Elt F) Λ₀ .tc) R) :
    (p7_1.tail E.a11 mx >>= fun st => c9 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2 κ)
      = E.back c448 6 (by decide) mx fun mx => E.front 7 (by decide) mx fun mx => (p8_1.tail E.a11 E.a16 mx >>= fun st => κ st.1 st.2.1 st.2.2) := rfl
theorem run7 (E : Cert.Fp8.Env sig) (mx : Mxu F) :
    (p7_1.tail E.a11 mx >>= fun st => c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)
      = E.units c448 (40 + 1) 6 (by decide) mx (E.tailP c448 loops c49.tail) :=
  E.units_of c448 40 6 7 rfl (by decide) (by decide) (by decide) (by decide) mx (E.tailP c448 loops c49.tail)
    (fun mx => (p8_1.tail E.a11 E.a16 mx >>= fun st => c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p7_1.tail E.a11 mx) >>= ·) (funext fun st => c9.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2)).trans (seg7 E mx (c9.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run8 E mx

theorem seg6 {R : Type} (E : Cert.Fp8.Env sig) (mx : Mxu F) (κ : (Mxu F) → (Vec F S256x256 .bf16) → Idealize.SL.Sem.Prog (TpuEff nD τ sig (Elt F) Λ₀ .tc) R) :
    (p6_1.tail E.a6 E.h6 E.a7 E.a10 E.a11 E.a12 E.h12 E.a13 E.a14 E.a16 E.s26 E.s27 mx >>= fun st => c8 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2 κ)
      = E.back c448 5 (by decide) mx fun mx => E.front 6 (by decide) mx fun mx => (p7_1.tail E.a11 mx >>= fun st => κ st.1 st.2) := rfl
theorem run6 (E : Cert.Fp8.Env sig) (mx : Mxu F) :
    (p6_1.tail E.a6 E.h6 E.a7 E.a10 E.a11 E.a12 E.h12 E.a13 E.a14 E.a16 E.s26 E.s27 mx >>= fun st => c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)
      = E.units c448 (41 + 1) 5 (by decide) mx (E.tailP c448 loops c49.tail) :=
  E.units_of c448 41 5 6 rfl (by decide) (by decide) (by decide) (by decide) mx (E.tailP c448 loops c49.tail)
    (fun mx => (p7_1.tail E.a11 mx >>= fun st => c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2))
    ((congrArg ((p6_1.tail E.a6 E.h6 E.a7 E.a10 E.a11 E.a12 E.h12 E.a13 E.a14 E.a16 E.s26 E.s27 mx) >>= ·) (funext fun st => c8.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2)).trans (seg6 E mx (c8.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run7 E mx

theorem seg5 {R : Type} (E : Cert.Fp8.Env sig) (mx : Mxu F) (κ : (Mxu F) → (FVec F S8x128 .f32) → (FVec F S256x128 .f32) → Idealize.SL.Sem.Prog (TpuEff nD τ sig (Elt F) Λ₀ .tc) R) :
    (p5_1.tail E.a8 E.a11 mx >>= fun st => c7 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2 κ)
      = E.back c448 4 (by decide) mx fun mx => E.front 5 (by decide) mx fun mx => (p6_1.tail E.a6 E.h6 E.a7 E.a10 E.a11 E.a12 E.h12 E.a13 E.a14 E.a16 E.s26 E.s27 mx >>= fun st => κ st.1 st.2.1 st.2.2) := rfl
theorem run5 (E : Cert.Fp8.Env sig) (mx : Mxu F) :
    (p5_1.tail E.a8 E.a11 mx >>= fun st => c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)
      = E.units c448 (42 + 1) 4 (by decide) mx (E.tailP c448 loops c49.tail) :=
  E.units_of c448 42 4 5 rfl (by decide) (by decide) (by decide) (by decide) mx (E.tailP c448 loops c49.tail)
    (fun mx => (p6_1.tail E.a6 E.h6 E.a7 E.a10 E.a11 E.a12 E.h12 E.a13 E.a14 E.a16 E.s26 E.s27 mx >>= fun st => c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2))
    ((congrArg ((p5_1.tail E.a8 E.a11 mx) >>= ·) (funext fun st => c7.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2)).trans (seg5 E mx (c7.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run6 E mx

theorem seg4 {R : Type} (E : Cert.Fp8.Env sig) (mx : Mxu F) (κ : (Mxu F) → (IVec S256x128 32) → (FVec F S256x128 .bf16) → (Vec F S256x128 .bf16) → (IVec S256 32) → Idealize.SL.Sem.Prog (TpuEff nD τ sig (Elt F) Λ₀ .tc) R) :
    (p4_1.tail E.a8 E.a11 mx >>= fun st => c6 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2 κ)
      = E.back c448 3 (by decide) mx fun mx => E.front 4 (by decide) mx fun mx => (p5_1.tail E.a8 E.a11 mx >>= fun st => κ st.1 st.2.1 st.2.2.1 st.2.2.2.1 st.2.2.2.2) := rfl
theorem run4 (E : Cert.Fp8.Env sig) (mx : Mxu F) :
    (p4_1.tail E.a8 E.a11 mx >>= fun st => c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2)
      = E.units c448 (43 + 1) 3 (by decide) mx (E.tailP c448 loops c49.tail) :=
  E.units_of c448 43 3 4 rfl (by decide) (by decide) (by decide) (by decide) mx (E.tailP c448 loops c49.tail)
    (fun mx => (p5_1.tail E.a8 E.a11 mx >>= fun st => c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2))
    ((congrArg ((p4_1.tail E.a8 E.a11 mx) >>= ·) (funext fun st => c6.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2)).trans (seg4 E mx (c6.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run5 E mx

theorem seg3 {R : Type} (E : Cert.Fp8.Env sig) (mx : Mxu F) (κ : (Mxu F) → (IVec S256x128 32) → (FVec F S256x128 .bf16) → (Vec F S256x128 .bf16) → (IVec S256x128 32) → (FVec F S256x128 .f32) → (BitVec 32) → Idealize.SL.Sem.Prog (TpuEff nD τ sig (Elt F) Λ₀ .tc) R) :
    (p3_1.tail E.a8 E.a11 mx >>= fun st => c5 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 2 (by decide) mx fun mx => E.front 3 (by decide) mx fun mx => (p4_1.tail E.a8 E.a11 mx >>= fun st => κ st.1 st.2.1 st.2.2.1 st.2.2.2.1 st.2.2.2.2.1 st.2.2.2.2.2.1 st.2.2.2.2.2.2) := rfl
theorem run3 (E : Cert.Fp8.Env sig) (mx : Mxu F) :
    (p3_1.tail E.a8 E.a11 mx >>= fun st => c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (44 + 1) 2 (by decide) mx (E.tailP c448 loops c49.tail) :=
  E.units_of c448 44 2 3 rfl (by decide) (by decide) (by decide) (by decide) mx (E.tailP c448 loops c49.tail)
    (fun mx => (p4_1.tail E.a8 E.a11 mx >>= fun st => c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2))
    ((congrArg ((p3_1.tail E.a8 E.a11 mx) >>= ·) (funext fun st => c5.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg3 E mx (c5.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run4 E mx

theorem seg2 {R : Type} (E : Cert.Fp8.Env sig) (mx : Mxu F) (κ : (Mxu F) → (IVec S256x128 32) → (FVec F S256x128 .bf16) → (Vec F S256x128 .bf16) → (IVec S256x128 32) → (FVec F S256x128 .f32) → (FVec F S256x128 .f32) → (IVec S256x128 32) → Idealize.SL.Sem.Prog (TpuEff nD τ sig (Elt F) Λ₀ .tc) R) :
    (p2_1.tail E.a8 E.a11 mx >>= fun st => c4 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 1 (by decide) mx fun mx => E.front 2 (by decide) mx fun mx => (p3_1.tail E.a8 E.a11 mx >>= fun st => κ st.1 st.2.1 st.2.2.1 st.2.2.2.1 st.2.2.2.2.1 st.2.2.2.2.2.1 st.2.2.2.2.2.2.1 st.2.2.2.2.2.2.2) := rfl
theorem run2 (E : Cert.Fp8.Env sig) (mx : Mxu F) :
    (p2_1.tail E.a8 E.a11 mx >>= fun st => c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (45 + 1) 1 (by decide) mx (E.tailP c448 loops c49.tail) :=
  E.units_of c448 45 1 2 rfl (by decide) (by decide) (by decide) (by decide) mx (E.tailP c448 loops c49.tail)
    (fun mx => (p3_1.tail E.a8 E.a11 mx >>= fun st => c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))
    ((congrArg ((p2_1.tail E.a8 E.a11 mx) >>= ·) (funext fun st => c4.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg2 E mx (c4.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run3 E mx

theorem seg1 {R : Type} (E : Cert.Fp8.Env sig) (mx : Mxu F) (κ : (Mxu F) → (IVec S256x128 32) → (FVec F S256x128 .bf16) → (Vec F S256x128 .bf16) → (IVec S256x128 32) → (IVec S256x128 1) → (BitVec 32) → (IVec S256x128 32) → Idealize.SL.Sem.Prog (TpuEff nD τ sig (Elt F) Λ₀ .tc) R) :
    (p1_1.tail E.a8 E.a11 mx >>= fun st => c3 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2 κ)
      = E.back c448 0 (by decide) mx fun mx => E.front 1 (by decide) mx fun mx => (p2_1.tail E.a8 E.a11 mx >>= fun st => κ st.1 st.2.1 st.2.2.1 st.2.2.2.1 st.2.2.2.2.1 st.2.2.2.2.2.1 st.2.2.2.2.2.2.1 st.2.2.2.2.2.2.2) := rfl
theorem run1 (E : Cert.Fp8.Env sig) (mx : Mxu F) :
    (p1_1.tail E.a8 E.a11 mx >>= fun st => c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)
      = E.units c448 (46 + 1) 0 (by decide) mx (E.tailP c448 loops c49.tail) :=
  E.units_of c448 46 0 1 rfl (by decide) (by decide) (by decide) (by decide) mx (E.tailP c448 loops c49.tail)
    (fun mx => (p2_1.tail E.a8 E.a11 mx >>= fun st => c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))
    ((congrArg ((p1_1.tail E.a8 E.a11 mx) >>= ·) (funext fun st => c3.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2)).trans (seg1 E mx (c3.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run2 E mx

theorem seg0 {R : Type} (E : Cert.Fp8.Env sig) (mx : Mxu F) (κ : (Mxu F) → (IVec S256x128 32) → (FVec F S256x128 .bf16) → (Vec F S256x128 .bf16) → (IVec S256x128 32) → (FVec F S256x128 .f32) → (FVec F S256x128 .f32) → (BitVec 32) → Idealize.SL.Sem.Prog (TpuEff nD τ sig (Elt F) Λ₀ .tc) R) :
    (p0_1.tail E.a0 E.h0 E.a8 E.h8 E.a9 E.a11 E.s22 mx >>= fun st => c2 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st κ)
      = E.front 0 (by decide) mx fun mx => (p1_1.tail E.a8 E.a11 mx >>= fun st => κ st.1 st.2.1 st.2.2.1 st.2.2.2.1 st.2.2.2.2.1 st.2.2.2.2.2.1 st.2.2.2.2.2.2.1 st.2.2.2.2.2.2.2) := rfl
theorem run0 (E : Cert.Fp8.Env sig) (mx : Mxu F) :
    (p0_1.tail E.a0 E.h0 E.a8 E.h8 E.a9 E.a11 E.s22 mx >>= fun st => c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)
      = E.front 0 (by decide) mx fun mx => E.units c448 (46 + 1) 0 (by decide) mx (E.tailP c448 loops c49.tail) :=
  E.front_of mx (T := (fun mx => (p1_1.tail E.a8 E.a11 mx >>= fun st => c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st.1 st.2.1 st.2.2.1 st.2.2.2.1 st.2.2.2.2.1 st.2.2.2.2.2.1 st.2.2.2.2.2.2.1 st.2.2.2.2.2.2.2))) (T' := fun mx => E.units c448 (46 + 1) 0 (by decide) mx (E.tailP c448 loops c49.tail))
    ((congrArg ((p0_1.tail E.a0 E.h0 E.a8 E.h8 E.a9 E.a11 E.s22 mx) >>= ·) (funext fun st => c2.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)).trans (seg0 E mx (c2.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29)))
    fun mx => run1 E mx

theorem seg {R : Type} (E : Cert.Fp8.Env sig) (κ : (Mxu F) → Idealize.SL.Sem.Prog (TpuEff nD τ sig (Elt F) Λ₀ .tc) R) :
    c1 E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 κ = E.begin fun mx => (p0_1.tail E.a0 E.h0 E.a8 E.h8 E.a9 E.a11 E.s22 mx >>= fun st => κ st) := rfl
/-- The printed kernel is the kernel's own program. -/
theorem program_eq (E : Cert.Fp8.Env sig) :
    cc0_fp8_linear (F := F) E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 = E.program c448 loops fun _ => c49.tail :=
  (E.begin_of (T := fun mx => (p0_1.tail E.a0 E.h0 E.a8 E.h8 E.a9 E.a11 E.s22 mx >>= fun st => c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29 st)) (T' := fun mx => E.front 0 (by decide) mx fun mx => E.units c448 (46 + 1) 0 (by decide) mx (E.tailP c448 loops c49.tail))
    ((flat.eq_at E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29).trans ((c1.eq E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29).trans (seg E (c1.tail E.a0 E.h0 E.a1 E.h1 E.a2 E.h2 E.a3 E.h3 E.a4 E.h4 E.a5 E.h5 E.a6 E.h6 E.a7 E.h7 E.a8 E.h8 E.a9 E.h9 E.a10 E.h10 E.a11 E.h11 E.a12 E.h12 E.a13 E.h13 E.a14 E.h14 E.a15 E.h15 E.a16 E.h16 E.a17 E.h17 E.a18 E.h18 E.a19 E.h19 E.a20 E.h20 E.a21 E.h21 E.s22 E.s23 E.s24 E.s25 E.s26 E.s27 E.s28 E.s29))))
    fun mx => run0 E mx).trans (E.programP c448 loops c49.tail)

end Cert.KernelIdeal
-- ==== Proof.RunKernelIdeal.lean ====
/- The launch: the program runs, its arguments end as they were and its results end at the values of the kernel's own program. -/
module

public import proofs.«01_k».proof.Proof.Gen.KernelIdeal.Frame
public import proofs.«01_k».proof.Proof.Seg1KernelIdeal
public import proofs.«01_k».proof.Proof.Wholes
public import Idealize.ShloMosaic.Lib.Pipeline.FrameSuffixV

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Fp8

variable {F : FTy → Type} [FloatOps F] [Named F]

variable (m : (ℓ : Loc nD τ sig) → Buf (Elt F) ℓ) (ρ : Dev nD → PrngReg)

/-- The buffers as the call finds them, by their references of either kind. -/
abbrev V0 (c : Dev nD) : Valuation τ sig (Elt F) := StableHlo.after (List.flatten [hostOps0]) (fun b => m (c, b))

/-- The kernel's operands, scratch buffers and semaphores. -/
abbrev env : Cert.Fp8.Env sig :=
  ⟨Memref.whole main_v0, Memref.isWhole_whole _,
   Memref.whole main_arg1, Memref.isWhole_whole _,
   Memref.whole main_v1, Memref.isWhole_whole _,
   Memref.whole main_v2_0, Memref.isWhole_whole _,
   Memref.whole main_v2_1, Memref.isWhole_whole _,
   Memref.whole main_v2_2, Memref.isWhole_whole _,
   Memref.whole main_v2_3, Memref.isWhole_whole _,
   Memref.whole main_v2_4, Memref.isWhole_whole _,
   Memref.whole cc0_scratch0, Memref.isWhole_whole _,
   Memref.whole cc0_scratch1, Memref.isWhole_whole _,
   Memref.whole cc0_scratch2, Memref.isWhole_whole _,
   Memref.whole cc0_scratch3, Memref.isWhole_whole _,
   Memref.whole cc0_scratch4, Memref.isWhole_whole _,
   Memref.whole cc0_scratch5, Memref.isWhole_whole _,
   Memref.whole cc0_scratch6, Memref.isWhole_whole _,
   Memref.whole cc0_scratch7, Memref.isWhole_whole _,
   Memref.whole cc0_scratch8, Memref.isWhole_whole _,
   Memref.whole cc0_scratch9, Memref.isWhole_whole _,
   Memref.whole cc0_scratch10, Memref.isWhole_whole _,
   Memref.whole cc0_scratch11, Memref.isWhole_whole _,
   Memref.whole cc0_scratch12, Memref.isWhole_whole _,
   Memref.whole cc0_scratch13, Memref.isWhole_whole _,
   cc0_scratch14, cc0_scratch15, cc0_scratch16, cc0_scratch17, cc0_scratch18, cc0_scratch19, cc0_scratch20, cc0_scratch21⟩

/-- The kernel's inputs as the call finds them. -/
abbrev ops (c : Dev nD) : Cert.Fp8.Ops F := ⟨V m c main_v0, V m c main_arg1, V m c main_v1, c448⟩

/-- The buffers the kernel writes, with what it leaves there. -/
def G (c : Dev nD) : (b : Ref sig .tc) → Buf (Elt F) ((c : Thread nD τ).loc b) :=
  Function.update (Function.update (Function.update (Function.update (Function.update (V m c)
    main_v2_0 (ops m c).YC) main_v2_1 (ops m c).sc) main_v2_2 (ops m c).am) main_v2_3 (ops m c).XC) main_v2_4 (ops m c).XS

theorem G0 (c : Dev nD) : G m c main_v2_0 = (ops m c).YC := by
  unfold G
  rw [Function.update_of_ne (by decide), Function.update_of_ne (by decide), Function.update_of_ne (by decide), Function.update_of_ne (by decide), Function.update_self]
theorem G1 (c : Dev nD) : G m c main_v2_1 = (ops m c).sc := by
  unfold G
  rw [Function.update_of_ne (by decide), Function.update_of_ne (by decide), Function.update_of_ne (by decide), Function.update_self]
theorem G2 (c : Dev nD) : G m c main_v2_2 = (ops m c).am := by
  unfold G
  rw [Function.update_of_ne (by decide), Function.update_of_ne (by decide), Function.update_self]
theorem G3 (c : Dev nD) : G m c main_v2_3 = (ops m c).XC := by
  unfold G
  rw [Function.update_of_ne (by decide), Function.update_self]
theorem G4 (c : Dev nD) : G m c main_v2_4 = (ops m c).XS := by
  unfold G
  rw [Function.update_self]

/-! ## What the launch hands the kernel -/

abbrev osem : Fin 28 → SemLoc sig := fun j => SemLoc.dma j
theorem ownSemFacts : Pipeline.OwnSemFacts (cfg0.spec) osem := by decide
theorem ownSems_eq (c : Dev nD) :
    (Pipeline.ownSems0 (Ix := Unit) (Name := ℕ) (U := Pipeline.UD sig nD τ) (Lvl := ℕ) (Val := Elt F) (τ := τ) osem c : sProp (MT nD τ sig Unit (Elt F) ℕ (Pipeline.UD sig nD τ) ℕ))
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
theorem sems_eq (c : Dev nD) : (Sems (F := F) (τ := τ) env c : sProp (MT nD τ sig Unit (Elt F) ℕ (Pipeline.UD sig nD τ) ℕ)) = iprop((semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ (semVal ((c : Thread nD τ), SemLoc.dma 18) 0) ∗ (semVal ((c : Thread nD τ), SemLoc.dma 19) 0) ∗ (semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) ∗ (semVal ((c : Thread nD τ), SemLoc.dma 26) 0) ∗ (semVal ((c : Thread nD τ), SemLoc.dma 27) 0)) := by
  unfold Cert.Fp8.Sems
  rw [bigSep_univ_eq_bigSepL (I := Fin 6) [0, 1, 2, 3, 4, 5] (by decide) (by decide), bigSep_univ_eq_bigSepL (I := Fin 4) [0, 1, 2, 3] (by decide) (by decide),
    bigSep_univ_eq_bigSepL (I := Fin 7) [0, 1, 2, 3, 4, 5, 6] (by decide) (by decide), bigSep_univ_eq_bigSepL (I := Fin 6) [0, 1, 2, 3, 4, 5] (by decide) (by decide)]
  rfl

theorem sems_in (c : Dev nD) :
    (Pipeline.ownSems0 (Ix := Unit) (Name := ℕ) (U := Pipeline.UD sig nD τ) (Lvl := ℕ) (Val := Elt F) (τ := τ) osem c : sProp (MT nD τ sig Unit (Elt F) ℕ (Pipeline.UD sig nD τ) ℕ))
      ⊢ iprop(Sems (F := F) (τ := τ) env c ∗ semVal ((c : Thread nD τ), SemLoc.dma 10) 0) := by
  rw [ownSems_eq, sems_eq]
  iintro ⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27⟩
  isplitr [Hs10]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hs6 Hs7 Hs8 Hs9]
    · isplitl [Hs6]; · iexact Hs6
      isplitl [Hs7]; · iexact Hs7
      isplitl [Hs8]; · iexact Hs8
      iexact Hs9
    isplitl [Hs11 Hs12 Hs13 Hs14 Hs15 Hs16 Hs17]
    · isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      iexact Hs17
    isplitl [Hs18]
    · iexact Hs18
    isplitl [Hs19]
    · iexact Hs19
    isplitl [Hs20 Hs21 Hs22 Hs23 Hs24 Hs25]
    · isplitl [Hs20]; · iexact Hs20
      isplitl [Hs21]; · iexact Hs21
      isplitl [Hs22]; · iexact Hs22
      isplitl [Hs23]; · iexact Hs23
      isplitl [Hs24]; · iexact Hs24
      iexact Hs25
    isplitl [Hs26]
    · iexact Hs26
    iexact Hs27
  iexact Hs10
theorem sems_out (c : Dev nD) :
    (iprop(Sems (F := F) (τ := τ) env c ∗ semVal ((c : Thread nD τ), SemLoc.dma 10) 0) : sProp (MT nD τ sig Unit (Elt F) ℕ (Pipeline.UD sig nD τ) ℕ))
      ⊢ Pipeline.ownSems0 (Ix := Unit) (Name := ℕ) (U := Pipeline.UD sig nD τ) (Lvl := ℕ) (Val := Elt F) (τ := τ) osem c := by
  rw [ownSems_eq, sems_eq]
  iintro ⟨⟨⟨Hs0, Hs1, Hs2, Hs3, Hs4, Hs5⟩, ⟨Hs6, Hs7, Hs8, Hs9⟩, ⟨Hs11, Hs12, Hs13, Hs14, Hs15, Hs16, Hs17⟩, Hs18, Hs19, ⟨Hs20, Hs21, Hs22, Hs23, Hs24, Hs25⟩, Hs26, Hs27⟩, Hs10⟩
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  isplitl [Hs26]; · iexact Hs26
  iexact Hs27

theorem scr_in (c : Dev nD) :
    (Pipeline.scopedRest (Ix := Unit) (Name := ℕ) (U := Pipeline.UD sig nD τ) (Lvl := ℕ) (Val := Elt F) (cfg0.spec) c : sProp (MT nD τ sig Unit (Elt F) ℕ (Pipeline.UD sig nD τ) ℕ)) ⊢ Scr (F := F) (τ := τ) env c := by
  rw [scopedRest0_eq]
  unfold Scr
  iintro ⟨G0, G1, G2, G3, G4, G5, G6, G7, G8, G9, G10, G11, G12, G13⟩
  isplitl [G0]; · iapply some_of_buf $$ G0
  isplitl [G1]; · iapply some_of_buf $$ G1
  isplitl [G2]; · iapply some_of_buf $$ G2
  isplitl [G3]; · iapply some_of_buf $$ G3
  isplitl [G4]; · iapply some_of_buf $$ G4
  isplitl [G5]; · iapply some_of_buf $$ G5
  isplitl [G6]; · iapply some_of_buf $$ G6
  isplitl [G7]; · iapply some_of_buf $$ G7
  isplitl [G8]; · iapply some_of_buf $$ G8
  isplitl [G9]; · iapply some_of_buf $$ G9
  isplitl [G10]; · iapply some_of_buf $$ G10
  isplitl [G11]; · iapply some_of_buf $$ G11
  isplitl [G12]; · iapply some_of_buf $$ G12
  iapply some_of_buf $$ G13

theorem scr_out (c : Dev nD) :
    (Scr (F := F) (τ := τ) env c : sProp (MT nD τ sig Unit (Elt F) ℕ (Pipeline.UD sig nD τ) ℕ)) ⊢ Pipeline.scopedRest (Ix := Unit) (Name := ℕ) (U := Pipeline.UD sig nD τ) (Lvl := ℕ) (Val := Elt F) (cfg0.spec) c := by
  rw [scopedRest0_eq]
  unfold Scr
  iintro ⟨G0, G1, G2, G3, G4, G5, G6, G7, G8, G9, G10, G11, G12, G13⟩
  isplitl [G0]; · iapply buf_of_some $$ G0
  isplitl [G1]; · iapply buf_of_some $$ G1
  isplitl [G2]; · iapply buf_of_some $$ G2
  isplitl [G3]; · iapply buf_of_some $$ G3
  isplitl [G4]; · iapply buf_of_some $$ G4
  isplitl [G5]; · iapply buf_of_some $$ G5
  isplitl [G6]; · iapply buf_of_some $$ G6
  isplitl [G7]; · iapply buf_of_some $$ G7
  isplitl [G8]; · iapply buf_of_some $$ G8
  isplitl [G9]; · iapply buf_of_some $$ G9
  isplitl [G10]; · iapply buf_of_some $$ G10
  isplitl [G11]; · iapply buf_of_some $$ G11
  isplitl [G12]; · iapply buf_of_some $$ G12
  iapply buf_of_some $$ G13

/-- The buffers the kernel reads, and those it writes. -/
def HR : Finset (Ref sig .tc) := {main_v0, main_arg1, main_v1}
def RR : Finset (Ref sig .tc) := {main_v2_0, main_v2_1, main_v2_2, main_v2_3, main_v2_4}
theorem HR_sub : HR ⊆ Pipeline.restRefs sig (cfg0.spec) := by decide
theorem RR_sub : RR ⊆ Pipeline.restRefs sig (cfg0.spec) \ HR := by decide

theorem phi_eq (c : Dev nD) (U : (c : Dev nD) → (b : Ref sig .tc) → Buf (Elt F) ((c : Thread nD τ).loc b)) :
    (Pipeline.ΦDRV osem (cfg0.spec) HR RR (V m) U c : sProp (MT nD τ sig Unit (Elt F) ℕ (Pipeline.UD sig nD τ) ℕ))
      = iprop(Pipeline.scopedRest (Ix := Unit) (Name := ℕ) (U := Pipeline.UD sig nD τ) (Lvl := ℕ) (Val := Elt F) (cfg0.spec) c
        ∗ Pipeline.ownSems0 (Ix := Unit) (Name := ℕ) (U := Pipeline.UD sig nD τ) (Lvl := ℕ) (Val := Elt F) (τ := τ) osem c
        ∗ iprop((((c : Thread nD τ).loc main_v0) ↦{fullShare} V m c main_v0) ∗ (((c : Thread nD τ).loc main_arg1) ↦{fullShare} V m c main_arg1)
            ∗ (((c : Thread nD τ).loc main_v1) ↦{fullShare} V m c main_v1))
        ∗ iprop((((c : Thread nD τ).loc main_v2_0) ↦{fullShare} U c main_v2_0) ∗ (((c : Thread nD τ).loc main_v2_1) ↦{fullShare} U c main_v2_1)
            ∗ (((c : Thread nD τ).loc main_v2_2) ↦{fullShare} U c main_v2_2) ∗ (((c : Thread nD τ).loc main_v2_3) ↦{fullShare} U c main_v2_3)
            ∗ (((c : Thread nD τ).loc main_v2_4) ↦{fullShare} U c main_v2_4))) := by
  unfold Pipeline.ΦDRV
  rw [BI.bigSep_eq_bigSepL_of_eq (S := HR) [main_v0, main_arg1, main_v1] (by decide) (by decide),
    BI.bigSep_eq_bigSepL_of_eq (S := RR) [main_v2_0, main_v2_1, main_v2_2, main_v2_3, main_v2_4] (by decide) (by decide)]
  rfl

/-! ## The body -/

theorem tiles0 : (loops 0).Tiles 0 12 :=
  ⟨(by decide : k0_t1_loop.trips = 12), fun v r => (k0_off1_eq v r).trans (by rw [Nat.zero_add]), fun v => (k0_off2_eq v).trans (by rw [Nat.zero_add])⟩
theorem tiles1 : (loops 1).Tiles 12 12 :=
  ⟨(by decide : k0_t2_loop.trips = 12), fun v r => (k0_off3_eq v r).trans (by rw [Nat.add_comm]), fun v => (k0_off4_eq v).trans (by rw [Nat.add_comm])⟩
theorem tiles2 : (loops 2).Tiles 24 24 :=
  ⟨(by decide : k0_t3_loop.trips = 24), fun v r => (k0_off5_eq v r).trans (by rw [Nat.add_comm]), fun v => (k0_off6_eq v).trans (by rw [Nat.add_comm])⟩

theorem credits : (env : Cert.Fp8.Env sig).a4.view.dmaCredit = (env : Cert.Fp8.Env sig).a5.view.dmaCredit := rfl

/-- The kernel's body, from what the launch hands it to what it leaves. -/
theorem body_spec (c : Dev nD) {Q : PUnit → sProp (MT nD τ sig Unit (Elt F) ℕ (Pipeline.UD sig nD τ) ℕ)} :
    iprop(Pipeline.ΦDRV osem (cfg0.spec) HR RR (V m) (V m) c ∗ ow (F := F) (τ := τ) c)
      ⊢ iprop((iprop(Pipeline.ΦDRV osem (cfg0.spec) HR RR (V m) (G m) c ∗ ow (F := F) (τ := τ) c) -∗ Q ⟨⟩)
        -∗ wp frame (wpE (defs₀ (F := F)) Variants.none (c : Thread nD τ) none) Set.univ
          ((env : Cert.Fp8.Env sig).program (c448 : F .f32) loops fun (_ : PUnit.{1}) => .ret ⟨⟩) Q) := by
  rw [phi_eq, phi_eq, G0, G1, G2, G3, G4]
  iintro ⟨⟨HS, Hq, ⟨H0, H1, H2⟩, ⟨R0, R1, R2, R3, R4⟩⟩, Ho⟩ Hk
  icases sems_in c $$ Hq with ⟨Hq, Hs10⟩
  iapply (program_spec (E := env) (O := ops m c) tiles0 tiles1 tiles2 credits) $$ [HS Hq H0 H1 H2 R0 R1 R2 R3 R4 Ho]
  · isplitl [H0]; · iapply (holds_of_buf c main_v0 _) $$ H0
    isplitl [H1]; · iapply (holds_of_buf c main_arg1 _) $$ H1
    isplitl [H2]; · iapply (holds_of_buf c main_v1 _) $$ H2
    isplitl [R0]; · iapply (some_of_buf c main_v2_0); iexists _; iexact R0
    isplitl [R1]; · iapply (some_of_buf c main_v2_1); iexists _; iexact R1
    isplitl [R2]; · iapply (some_of_buf c main_v2_2); iexists _; iexact R2
    isplitl [R3]; · iapply (some_of_buf c main_v2_3); iexists _; iexact R3
    isplitl [R4]; · iapply (some_of_buf c main_v2_4); iexists _; iexact R4
    isplitl [HS]; · iapply scr_in c $$ HS
    isplitl [Hq]; · iexact Hq
    iexact Ho
  iintro ⟨H0, H1, H2, R0, R1, R2, R3, R4, HS, Hq, Ho⟩
  iapply (Idealize.SL.Sem.le_wp_ret _ _)
  iapply Hk
  isplitr [Ho]
  · isplitl [HS]; · iapply scr_out c $$ HS
    isplitl [Hq Hs10]
    · iapply sems_out c
      isplitl [Hq]; · iexact Hq
      iexact Hs10
    isplitl [H0 H1 H2]
    · isplitl [H0]; · iapply (buf_of_holds c main_v0 _) $$ H0
      isplitl [H1]; · iapply (buf_of_holds c main_arg1 _) $$ H1
      iapply (buf_of_holds c main_v1 _) $$ H2
    isplitl [R0]; · iapply (buf_of_holds c main_v2_0 _) $$ R0
    isplitl [R1]; · iapply (buf_of_holds c main_v2_1 _) $$ R1
    isplitl [R2]; · iapply (buf_of_holds c main_v2_2 _) $$ R2
    isplitl [R3]; · iapply (buf_of_holds c main_v2_3 _) $$ R3
    iapply (buf_of_holds c main_v2_4 _) $$ R4
  iexact Ho

/-! ## The run -/

def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRV osem (cfg0.spec) HR RR (V m) (if t.val = 0 then V m else G m) c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : (bodyAt0 (F := F) t) = (env : Cert.Fp8.Env sig).program (c448 : F .f32) loops fun (_ : PUnit.{1}) => .ret ⟨⟩ :=
  program_eq env

theorem body_obligation (c : Dev nD) : BodyObligation (dats (F := F) m 0 c) (defs₀ (F := F)) Variants.none () Set.univ := fun t => by
  rw [defs₀_row, bodyAt_eq]
  obtain rfl := fin_N0 t
  have e0 : (dats (F := F) m 0 c).Φ t0_0.castSucc = Pipeline.ΦDRV osem (cfg0.spec) HR RR (V m) (V m) c := rfl
  have e1 : (dats (F := F) m 0 c).Φ t0_0.succ = Pipeline.ΦDRV osem (cfg0.spec) HR RR (V m) (G m) c := rfl
  rw [e0, e1]
  unfold Dat.owesAt Pipeline.owesWithin
  rw [show (dats (F := F) m 0 c).owed t0_0.castSucc = 0 from rfl, show (dats (F := F) m 0 c).owed t0_0.succ = 0 from rfl]
  iintro ⟨HP, ⟨%W, -, HW⟩, -⟩
  iapply (body_spec m c) $$ [HP HW]
  · isplitl [HP]; · iexact HP
    unfold ow; iexists W; iexact HW
  iintro ⟨HP, HW⟩
  unfold ow
  icases HW with ⟨%W', HW⟩
  isplitl [HP]; · iexact HP
  isplitl [HW]
  · iexists W'; isplitr; · ipureintro; exact fun _ _ => Or.inl trivial
    iexact HW
  iempintro

theorem hmainD : Pipeline.HMainK (Ix := Unit) (Name := ℕ) (U := Pipeline.UD sig nD τ) (Lvl := ℕ) cfgs 0 defs₀ Variants.none m (main (F := F)) (V m)
      (fun _ => Pipeline.chain (([] : List (List (HloOp τ sig (Elt F)))).map StableHlo.seq)) :=
  Pipeline.hmain_around cfgs 0 defs₀ Variants.none m main [hostOps0] [] (by simp only [List.Forall]; exact hostOps0_sub)
    (by simp only [List.Forall]; exact hostOps0_fresh) main_chain

/-- What the buffers hold at the end. -/
abbrev fin (c : Dev nD) (b : Ref sig .tc) : Buf (Elt F) ((c : Thread nD τ).loc b) :=
  Pipeline.withArrays (cfg0.spec) c (Pipeline.withR (V0 m c) RR c (G m c)) (fun w => (dats m 0 c).arrAt w cfg0.N) (Proc.devRef .tc b)

/-- Every execution ends, with the buffers at `fin` and every semaphore at zero. -/
theorem run_main : θ_run defs (onTc (τ := τ) (main (F := F))) (s₀ m ρ) (fun r => (∀ c : Dev nD, ∀ b ∈ Pipeline.restRefs sig (cfg0.spec), r.2.mem ((c.tc : Thread nD τ).loc b) = fin m c b)
    ∧ r.2.sem = fun _ => 0) :=
  Pipeline.θ_run_frame_dmaR_aroundV (Q' := _) cfgs (dats m) (0 : Fin 1) launch0 osem defs₀ Variants.none ownSemFacts HR RR HR_sub RR_sub m ρ main
    (hbody := fun c => (body_obligation m c).loose) (hshare := fun c => (dats m 0 c).share_full fun _ => rfl)
    (howed := fun _ _ => rfl) (V₀ := V0 m) (opss := []) (hsub := fun _ h => absurd h List.not_mem_nil) (hfresh := fun _ h => absurd h List.not_mem_nil)
    (hkeep := fun _ h => absurd h List.not_mem_nil) (G := G m)
    (hmain := hmainD m) (hA := fun _ w => w.elim0)
    (hin := fun _ => .rfl) (hout := fun _ => .rfl) (hQ' := fun r h => ⟨fun c b hb => (h.1 c).2 b hb, h.2⟩)

theorem fin_arg (c : Dev nD) (b : Ref sig .tc) (hb : ∀ w, Pipeline.arrRef (cfg0.spec) w ≠ b) (hR : b ∉ RR) : fin m c b = V m c b := by
  unfold fin
  rw [Pipeline.withArrays_of_ne _ c _ _ b hb, Pipeline.withR_of_not_mem _ _ _ _ b hR]
  rfl

/-- The program runs, its argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c main_arg0 (Pipeline.mem_restRefs_of main_arg0 (by decide) (by decide))).trans
        (fin_arg m c main_arg0 (fun w => w.elim0) (by decide))).trans (V_main_arg0 m c),
      ((h.1 c main_arg1 (Pipeline.mem_restRefs_of main_arg1 (by decide) (by decide))).trans
        (fin_arg m c main_arg1 (fun w => w.elim0) (by decide))).trans (V_main_arg1 m c),
      ((h.1 c main_arg2 (Pipeline.mem_restRefs_of main_arg2 (by decide) (by decide))).trans
        (fin_arg m c main_arg2 (fun w => w.elim0) (by decide))).trans (V_main_arg2 m c)⟩, h.2⟩)
    (run_main m ρ)

theorem fin_res (c : Dev nD) (b : Ref sig .tc) (hb : ∀ w, Pipeline.arrRef (cfg0.spec) w ≠ b) (hR : b ∈ RR) : fin m c b = G m c b := by
  unfold fin
  rw [Pipeline.withArrays_of_ne _ c _ _ b hb, Pipeline.withR_of_mem _ _ _ _ b hR]

/-- The program runs and ends with its scale, its largest magnitude, the activations' codes and their scales as the kernel's values
    of what it loads, and its arguments unchanged. -/
theorem run_values : θ_run defs (onTc (τ := τ) (main (F := F))) ⟨m, fun _ => 0, ρ⟩ (fun r => ∀ c : Dev nD,
      r.2.mem ((c.tc : Thread nD τ).loc main_v2_1) = (ops m c).sc
      ∧ r.2.mem ((c.tc : Thread nD τ).loc main_v2_2) = (ops m c).am
      ∧ r.2.mem ((c.tc : Thread nD τ).loc main_v2_3) = (ops m c).XC
      ∧ r.2.mem ((c.tc : Thread nD τ).loc main_v2_4) = (ops m c).XS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h.1 c main_v2_1 (Pipeline.mem_restRefs_of main_v2_1 (by decide) (by decide))).trans (fin_res m c main_v2_1 (fun w => w.elim0) (by decide))).trans (G1 m c),
      ((h.1 c main_v2_2 (Pipeline.mem_restRefs_of main_v2_2 (by decide) (by decide))).trans (fin_res m c main_v2_2 (fun w => w.elim0) (by decide))).trans (G2 m c),
      ((h.1 c main_v2_3 (Pipeline.mem_restRefs_of main_v2_3 (by decide) (by decide))).trans (fin_res m c main_v2_3 (fun w => w.elim0) (by decide))).trans (G3 m c),
      ((h.1 c main_v2_4 (Pipeline.mem_restRefs_of main_v2_4 (by decide) (by decide))).trans (fin_res m c main_v2_4 (fun w => w.elim0) (by decide))).trans (G4 m c),
      ((h.1 c main_arg0 (Pipeline.mem_restRefs_of main_arg0 (by decide) (by decide))).trans (fin_arg m c main_arg0 (fun w => w.elim0) (by decide))).trans (V_main_arg0 m c),
      ((h.1 c main_arg1 (Pipeline.mem_restRefs_of main_arg1 (by decide) (by decide))).trans (fin_arg m c main_arg1 (fun w => w.elim0) (by decide))).trans (V_main_arg1 m c),
      ((h.1 c main_arg2 (Pipeline.mem_restRefs_of main_arg2 (by decide) (by decide))).trans (fin_arg m c main_arg2 (fun w => w.elim0) (by decide))).trans (V_main_arg2 m c)⟩)
    (run_main m ρ)

end Cert.KernelIdeal
-- ==== Proof.RefValues.lean ====
/- What the reference ends with: its values of what its call loads. -/
module

public import proofs.«01_k».proof.Proof.Gen.ReferenceIdeal.Frame
public import Idealize.ShloMosaic.Lib.Pipeline.ValueKit

@[expose] public section

noncomputable section

namespace Cert.ReferenceIdeal

open Idealize.ShloMosaic Idealize.ShloMosaic.TcCoe Idealize.SL.Sem
open Cert.ReferenceIdeal.Gen

variable {F : FTy → Type} [FloatOps F] [Named F]
variable (m : (ℓ : Loc nD τ sig) → Buf (Elt F) ℓ)

/-- What the call loads: the activations in two axes, the weights' codes and their scales in a row. -/
theorem iblk_0 (c : Dev nD) (t : Fin cfg0.N) : iblk m c 0 t = V m c main_v0 := by
  funext y
  refine congrArg (V m c main_v0) (funext fun a => Fin.ext ?_)
  show 0 * _ + 1 * (y a).val = (y a).val
  omega
theorem iblk_1 (c : Dev nD) (t : Fin cfg0.N) : iblk m c 1 t = V m c main_arg1 := by
  funext y
  refine congrArg (V m c main_arg1) (funext fun a => Fin.ext ?_)
  show 0 * _ + 1 * (y a).val = (y a).val
  omega
theorem iblk_2 (c : Dev nD) (t : Fin cfg0.N) : iblk m c 2 t = V m c main_v1 := by
  funext y
  refine congrArg (V m c main_v1) (funext fun a => Fin.ext ?_)
  show 0 * _ + 1 * (y a).val = (y a).val
  omega

theorem out_4 (X : Vec F S1536x1024 .bf16) (W : Vec F S1024x4096 .fp8e4m3) (S : Vec F S1x4096 .f32) :
    out0_4 X W S = k0_pay9 (k0_pay3 X) (k0_pay4 X) W S := by
  unfold out0_4 k0_pay11 k0_pay12
  rw [View.ld_unit_lit _ X (by decide), View.ld_unit_lit _ W (by decide), View.ld_unit_lit _ S (by decide)]
  exact View.canon_cons_unit_lit _ _ [] (by decide)
theorem out_5 (X : Vec F S1536x1024 .bf16) (W : Vec F S1024x4096 .fp8e4m3) (S : Vec F S1x4096 .f32) :
    out0_5 X W S = k0_pay8 (k0_pay3 X) (k0_pay4 X) W S := by
  unfold out0_5 k0_pay11 k0_pay12
  rw [View.ld_unit_lit _ X (by decide), View.ld_unit_lit _ W (by decide), View.ld_unit_lit _ S (by decide)]
  exact View.canon_cons_unit_lit _ _ [] (by decide)
theorem out_6 (X : Vec F S1536x1024 .bf16) (W : Vec F S1024x4096 .fp8e4m3) (S : Vec F S1x4096 .f32) : out0_6 X W S = k0_pay5 X := by
  unfold out0_6
  rw [View.ld_unit_lit _ X (by decide)]
  exact View.canon_cons_unit_lit _ _ [] (by decide)
theorem out_7 (X : Vec F S1536x1024 .bf16) (W : Vec F S1024x4096 .fp8e4m3) (S : Vec F S1x4096 .f32) : out0_7 X W S = k0_pay6 X := by
  unfold out0_7
  rw [View.ld_unit_lit _ X (by decide)]
  exact View.canon_cons_unit_lit _ _ [] (by decide)

/-- An array of one block, the whole of it, is left at what its block is left at. -/
theorem arr_4_of (c : Dev nD) (G : Vec F S1x1 .f32) (h : ∀ t, (dats m 0 c).after 4 t = G) : (dats m 0 c).arrAt 4 cfg0.N = G := by
  refine (dats m 0 c).arrAt_eq_of_covers 4 _ (by decide +kernel) fun t _ y => ?_
  rw [h]
  refine congrArg G (funext fun a => Fin.ext ?_)
  show (y a).val = 0 * _ + 1 * (y a).val
  omega
theorem arr_5_of (c : Dev nD) (G : Vec F S1x1 .f32) (h : ∀ t, (dats m 0 c).after 5 t = G) : (dats m 0 c).arrAt 5 cfg0.N = G := by
  refine (dats m 0 c).arrAt_eq_of_covers 5 _ (by decide +kernel) fun t _ y => ?_
  rw [h]
  refine congrArg G (funext fun a => Fin.ext ?_)
  show (y a).val = 0 * _ + 1 * (y a).val
  omega

theorem arr_4 (c : Dev nD) : (dats m 0 c).arrAt 4 cfg0.N
    = k0_pay9 (k0_pay3 (V m c main_v0)) (k0_pay4 (V m c main_v0)) (V m c main_arg1) (V m c main_v1) :=
  arr_4_of m c _ fun t => (after0_4 m c t).trans (by rw [iblk_0, iblk_1, iblk_2]; exact out_4 _ _ _)
theorem arr_5 (c : Dev nD) : (dats m 0 c).arrAt 5 cfg0.N
    = k0_pay8 (k0_pay3 (V m c main_v0)) (k0_pay4 (V m c main_v0)) (V m c main_arg1) (V m c main_v1) :=
  arr_5_of m c _ fun t => (after0_5 m c t).trans (by rw [iblk_0, iblk_1, iblk_2]; exact out_5 _ _ _)
theorem arr_6 (c : Dev nD) : (dats m 0 c).arrAt 6 cfg0.N = k0_pay5 (V m c main_v0) := by
  refine (dats m 0 c).arrAt_eq_of_covers 6 _ (by decide +kernel) fun t _ y => ?_
  rw [after0_6, iblk_0, iblk_1, iblk_2, out_6]
  refine congrArg (k0_pay5 (V m c main_v0)) (funext fun a => Fin.ext ?_)
  show (y a).val = 0 * _ + 1 * (y a).val
  omega
theorem arr_7 (c : Dev nD) : (dats m 0 c).arrAt 7 cfg0.N = k0_pay6 (V m c main_v0) := by
  refine (dats m 0 c).arrAt_eq_of_covers 7 _ (by decide +kernel) fun t _ y => ?_
  rw [after0_7, iblk_0, iblk_1, iblk_2, out_7]
  refine congrArg (k0_pay6 (V m c main_v0)) (funext fun a => Fin.ext ?_)
  show (y a).val = 0 * _ + 1 * (y a).val
  omega

theorem V_main_v0 (c : Dev nD) : V m c main_v0 = shapeCast S1536x1024 (m ((c : Thread nD τ).loc main_arg0)) Facts₀.shapeCasts_S6x256x1024_S1536x1024 := by
  rfl
theorem V_main_v1 (c : Dev nD) : V m c main_v1 = shapeCast S1x4096 (m ((c : Thread nD τ).loc main_arg2)) Facts₀.shapeCasts_S4096_S1x4096 := by
  rfl

/-- The program runs and ends with its scale, its largest magnitude, the activations' codes and their scales at these, and its
    arguments unchanged. -/
theorem run_values (ρ : Dev nD → PrngReg) : θ_run defs (onTc (τ := τ) (main (F := F))) ⟨m, fun _ => 0, ρ⟩ (fun r => ∀ c : Dev nD,
      r.2.mem ((c.tc : Thread nD τ).loc main_v2_1)
        = k0_pay9 (k0_pay3 (V m c main_v0)) (k0_pay4 (V m c main_v0)) (V m c main_arg1) (V m c main_v1)
      ∧ r.2.mem ((c.tc : Thread nD τ).loc main_v2_2)
        = k0_pay8 (k0_pay3 (V m c main_v0)) (k0_pay4 (V m c main_v0)) (V m c main_arg1) (V m c main_v1)
      ∧ r.2.mem ((c.tc : Thread nD τ).loc main_v2_3) = k0_pay5 (V m c main_v0)
      ∧ r.2.mem ((c.tc : Thread nD τ).loc main_v2_4) = k0_pay6 (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).1 4).trans (arr_4 m c),
      ((h c).1 5).trans (arr_5 m c),
      ((h c).1 6).trans (arr_6 m c),
      ((h c).1 7).trans (arr_7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal
-- ==== Proof.Scale.lean ====
/- The scale of a magnitude, as a number: the least power of two above r, not above 2^120, and 1 where r is below 2^-126 or
   infinite.  Counting thresholds finds it, and so does a minimum over the powers of two. -/
module

public import Idealize.ShloMosaic.PureOps.Ideal
public import Idealize.ShloMosaic.PureOps.Ideal.Laws

@[expose] public section

noncomputable section

namespace Cert.Fp8

open Idealize.ShloMosaic

/-- A power of two. -/
def p2 (e : ℤ) : EReal := (((2 : ℝ) ^ e : ℝ) : EReal)

theorem p2_le {e f : ℤ} : p2 e ≤ p2 f ↔ e ≤ f := by
  unfold p2; rw [EReal.coe_le_coe_iff]; exact zpow_le_zpow_iff_right₀ (by norm_num)
theorem p2_lt {e f : ℤ} : p2 e < p2 f ↔ e < f := by
  unfold p2; rw [EReal.coe_lt_coe_iff]; exact zpow_lt_zpow_iff_right₀ (by norm_num)
theorem p2_zero : p2 0 = 1 := by simp [p2]
theorem div_p2 (e : ℤ) : Ideal.div 1 (p2 e) = p2 (-e) := by
  unfold p2
  rw [Ideal.div_coe (by positivity), one_mul, zpow_neg, one_div]

/-- Where the scale is 1 by convention. -/
def Degenerate (r : EReal) : Prop := r < p2 (-126) ∨ r = ⊤

/-- `s` is the scale of `r`. -/
def IsScale (r s : EReal) : Prop :=
  (Degenerate r ∧ s = 1) ∨ (¬ Degenerate r ∧ ∃ e : ℤ, -125 ≤ e ∧ e ≤ 120 ∧ s = p2 e ∧ p2 (e - 1) ≤ r ∧ (e < 120 → r < p2 e))

theorem IsScale.unique {r s t : EReal} (h : IsScale r s) (h' : IsScale r t) : s = t := by
  rcases h with ⟨d, rfl⟩ | ⟨d, e, h1, h2, rfl, h3, h4⟩ <;> rcases h' with ⟨d', rfl⟩ | ⟨d', f, k1, k2, rfl, k3, k4⟩
  · rfl
  · exact absurd d d'
  · exact absurd d' d
  · rcases lt_trichotomy e f with l | rfl | l
    · exact absurd (lt_of_lt_of_le (h4 (by omega)) ((p2_le.mpr (by omega)).trans k3)) (lt_irrefl _)
    · rfl
    · exact absurd (lt_of_lt_of_le (k4 (by omega)) ((p2_le.mpr (by omega)).trans h3)) (lt_irrefl _)

/-- A property that holds below itself holds of an initial segment. -/
theorem segment (P : ℕ → Prop) (hP : ∀ i j, i ≤ j → P j → P i) : ∀ N : ℕ, ∃ n ≤ N, ∀ j < N, (P j ↔ j < n)
  | 0 => ⟨0, le_rfl, fun _ h => absurd h (Nat.not_lt_zero _)⟩
  | N + 1 => by
    obtain ⟨n, hn, h⟩ := segment P hP N
    by_cases hN : P N
    · refine ⟨N + 1, le_rfl, fun j hj => ⟨fun _ => hj, fun _ => hP j N (by omega) hN⟩⟩
    · refine ⟨n, by omega, fun j hj => ?_⟩
      rcases Nat.lt_succ_iff_lt_or_eq.mp hj with l | rfl
      · exact h j l
      · exact ⟨fun p => absurd p hN, fun l => absurd l (by omega)⟩

/-- The scale found by counting the powers of two from 2^-126 to 2^119 that the value reaches. -/
theorem isScale_count (r : EReal) (n : ℕ) (hn : n ≤ 246) (h : ∀ j : ℕ, j < 246 → (p2 ((j : ℤ) - 126) ≤ r ↔ j < n)) :
    IsScale r (p2 (if 0 < n ∧ r < ⊤ then (n : ℤ) - 126 else 0)) := by
  by_cases d : Degenerate r
  · refine .inl ⟨d, ?_⟩
    rw [if_neg, p2_zero]
    rintro ⟨h0, ht⟩
    rcases d with d | d
    · exact absurd (lt_of_lt_of_le d ((h 0 (by omega)).mpr h0)) (lt_irrefl _)
    · exact absurd (d ▸ ht) (lt_irrefl _)
  · refine .inr ⟨d, ?_⟩
    have d1 : p2 (-126) ≤ r := not_lt.mp fun h => d (.inl h)
    have d2 : r < ⊤ := lt_top_iff_ne_top.mpr fun h => d (.inr h)
    have h0 : 0 < n := (h 0 (by omega)).mp (by simpa using d1)
    refine ⟨(n : ℤ) - 126, by omega, by omega, by rw [if_pos ⟨h0, d2⟩], ?_, fun hl => ?_⟩
    · have := (h (n - 1) (by omega)).mpr (by omega)
      rwa [show (((n - 1 : ℕ) : ℤ) - 126) = (n : ℤ) - 126 - 1 by omega] at this
    · exact not_le.mp fun hc => absurd ((h n (by omega)).mp hc) (lt_irrefl _)

/-- The scale found by the least of the powers of two above the value. -/
theorem isScale_min (r s : EReal) (hd : Degenerate r → s = 1) (hs : ¬ Degenerate r → s =
    (Finset.univ : Finset (Fin 256)).fold min ⊤ fun i => if r < p2 (min ((i.val : ℤ) - 125) 120) then p2 (min ((i.val : ℤ) - 125) 120) else p2 120) :
    IsScale r s := by
  by_cases d : Degenerate r
  · exact .inl ⟨d, hd d⟩
  rw [hs d]
  obtain ⟨n, hn, h⟩ := segment (fun j : ℕ => p2 ((j : ℤ) - 126) ≤ r) (fun i j l q => (p2_le.mpr (by omega)).trans q) 246
  rcases isScale_count r n hn h with ⟨d', _⟩ | ⟨_, e, h1, h2, h3, h4, h5⟩
  · exact absurd d' d
  refine .inr ⟨d, e, h1, h2, le_antisymm ?_ ?_, h4, h5⟩
  · rw [Finset.fold_min_le]
    rcases lt_or_eq_of_le h2 with l | rfl
    · refine .inr ⟨⟨(e + 125).toNat, by omega⟩, Finset.mem_univ _, ?_⟩
      have em : min (((e + 125).toNat : ℤ) - 125) 120 = e := by omega
      show (if r < p2 (min (((e + 125).toNat : ℤ) - 125) 120) then _ else _) ≤ _
      rw [em, if_pos (h5 l)]
    · refine .inr ⟨0, Finset.mem_univ _, ?_⟩
      rw [if_neg]
      refine not_lt.mpr (le_trans (p2_le.mpr ?_) h4)
      show min ((0 : ℤ) - 125) 120 ≤ _
      omega
  · rw [Finset.le_fold_min]
    refine ⟨le_top, fun i _ => ?_⟩
    split
    next l => exact p2_le.mpr (by have := p2_lt.mp (lt_of_le_of_lt h4 l); omega)
    next => exact p2_le.mpr h2

/-- The thresholds of a block's scale. -/
def thr (j : ℕ) : ℝ := if j = 0 then 6291456 * (2 : ℝ) ^ (-149 : ℤ) else ((2 ^ 23 + 6291456 : ℕ) : ℝ) * (2 : ℝ) ^ ((j : ℤ) - 127 - 23)

theorem thr_eq (j : ℕ) (hj : j ≠ 0) : thr j = 448 * (2 : ℝ) ^ ((j : ℤ) - 135) := by
  unfold thr
  rw [if_neg hj, show ((j : ℤ) - 135) = (j - 127 - 23) + 15 by ring, zpow_add₀ (by norm_num)]
  norm_num; ring

theorem thr_le (a : ℝ) (j : ℕ) (hj : j ≠ 0) : thr j ≤ a ↔ p2 ((j : ℤ) - 135) ≤ (((a * (1 / 448)) : ℝ) : EReal) := by
  unfold p2
  rw [thr_eq j hj, EReal.coe_le_coe_iff]
  constructor <;> intro h <;> linarith

theorem thr_zero_le_one : thr 0 ≤ thr 1 := by
  unfold thr; norm_num

theorem thr_mono {i j : ℕ} (h : i ≤ j) : thr i ≤ thr j := by
  have pos : ∀ i j : ℕ, i ≠ 0 → i ≤ j → thr i ≤ thr j := fun i j hi h => by
    rw [thr_eq i hi, thr_eq j (by omega)]
    exact mul_le_mul_of_nonneg_left (zpow_le_zpow_right₀ (by norm_num) (by omega)) (by norm_num)
  rcases Nat.eq_zero_or_pos i with rfl | hi
  · rcases Nat.eq_zero_or_pos j with rfl | hj
    · exact le_rfl
    · exact thr_zero_le_one.trans (pos 1 j one_ne_zero hj)
  · exact pos i j (by omega) h

/-- The scale found by counting the thresholds. -/
theorem isScale_thr (a : ℝ) (n : ℕ) (hn : n ≤ 255) (h : ∀ j < 255, (thr j ≤ a ↔ j < n)) :
    IsScale ((a * (1 / 448) : ℝ) : EReal) (p2 (((if n < 10 then 127 else n - 8 : ℕ) : ℤ) - 127)) := by
  by_cases l : n < 10
  · rw [if_pos l]
    refine .inl ⟨.inl (not_le.mp fun hc => ?_), by exact p2_zero⟩
    exact absurd ((h 9 (by omega)).mp ((thr_le a 9 (by omega)).mpr hc)) (by omega)
  · rw [if_neg l]
    have h9 := (thr_le a 9 (by omega)).mp ((h 9 (by omega)).mpr (by omega))
    refine .inr ⟨?_, ((n - 8 : ℕ) : ℤ) - 127, by omega, by omega, rfl, ?_, fun hl => not_le.mp fun hc => ?_⟩
    · rintro (d | d)
      · exact absurd (lt_of_lt_of_le d h9) (lt_irrefl _)
      · exact absurd d (EReal.coe_ne_top _)
    · have := (thr_le a (n - 1) (by omega)).mp ((h (n - 1) (by omega)).mpr (by omega))
      rwa [show (((n - 1 : ℕ) : ℤ) - 135) = ((n - 8 : ℕ) : ℤ) - 127 - 1 by omega] at this
    · rw [show ((n - 8 : ℕ) : ℤ) - 127 = (n : ℤ) - 135 by omega] at hc
      exact absurd ((h n (by omega)).mp ((thr_le a n (by omega)).mpr hc)) (lt_irrefl _)

/-! ## Words -/

/-- The number a word of f32 denotes, by its fields. -/
theorem ofBits_fields (j f : ℕ) (hj : j < 255) (hf : f < 2 ^ 23) :
    Ideal.ofBits .f32 (BitVec.ofNat 32 (j * 2 ^ 23 + f))
      = if j = 0 then ((f * (2 : ℝ) ^ (-149 : ℤ) : ℝ) : EReal) else (((2 ^ 23 + f : ℕ) * (2 : ℝ) ^ ((j : ℤ) - 127 - 23) : ℝ) : EReal) := by
  have e0 : (BitVec.ofNat 32 (j * 2 ^ 23 + f)).toNat = j * 2 ^ 23 + f := by rw [BitVec.toNat_ofNat]; omega
  have e1 : ((BitVec.ofNat 32 (j * 2 ^ 23 + f)).extractLsb' 23 8).toNat = j := by
    rw [BitVec.extractLsb'_toNat, e0, Nat.shiftRight_eq_div_pow]; omega
  have e2 : ((BitVec.ofNat 32 (j * 2 ^ 23 + f)).extractLsb' 0 23).toNat = f := by
    rw [BitVec.extractLsb'_toNat, e0, Nat.shiftRight_eq_div_pow]; omega
  have e3 : ((BitVec.ofNat 32 (j * 2 ^ 23 + f)).extractLsb' (8 + 23) 1 == 1#1) = false := by
    rw [beq_eq_false_iff_ne]
    intro h
    have := congrArg BitVec.toNat h
    rw [BitVec.extractLsb'_toNat, e0, Nat.shiftRight_eq_div_pow] at this
    have e : (1#1 : BitVec 1).toNat = 1 := rfl
    omega
  show Ideal.ieee 8 23 _ = _
  unfold Ideal.ieee
  simp only [e1, e2, e3]
  rw [if_neg (by omega)]
  by_cases h : j = 0
  · rw [if_pos h, if_pos h]; norm_num
  · rw [if_neg h, if_neg h]; norm_num

theorem ofBits_p2 (j : ℕ) (hj : j < 255) (h0 : j ≠ 0) : Ideal.ofBits .f32 (BitVec.ofNat 32 (j * 2 ^ 23)) = p2 ((j : ℤ) - 127) := by
  have := ofBits_fields j 0 hj (by norm_num)
  rw [Nat.add_zero, if_neg h0] at this
  rw [this]
  unfold p2
  congr 1
  rw [show ((j : ℤ) - 127) = (j - 127 - 23) + 23 by ring, zpow_add₀ (by norm_num)]
  norm_num; ring

theorem ofBits_thr (j : ℕ) (hj : j < 255) : Ideal.ofBits .f32 (BitVec.ofNat 32 (j * 2 ^ 23 + 6291456)) = ((thr j : ℝ) : EReal) := by
  rw [ofBits_fields j 6291456 hj (by norm_num)]
  unfold thr
  split <;> simp

/-- The counting lanes' sum, where the count is `n`. -/
theorem sum_lanes255 : ∀ n : Fin 256, (∑ k : Fin 128, ((if k.val < n.val then 1 else 0) + (if k.val ≠ 127 ∧ k.val + 128 < n.val then 1 else 0))) = n.val := by
  decide +kernel
theorem sum_lanes246 : ∀ n : Fin 247, (∑ k : Fin 128, ((if k.val < n.val then 1 else 0) + (if k.val < 118 ∧ k.val + 128 < n.val then 1 else 0))) = n.val := by
  decide +kernel

end Cert.Fp8

end
-- ==== Proof.Block.lean ====
/- A block of 128 activations in the kernel, over the extended reals: its scale and its codes, in terms of the block's largest
   magnitude. -/
module

public import proofs.«01_k».proof.Proof.Values
public import proofs.«01_k».proof.Proof.Scale
public import Idealize.ShloMosaic.Lib.ValueIdx
public import Idealize.ShloMosaic.Lib.ValueLayoutCasts
public import Idealize.ShloMosaic.Lib.WordSum
public import Idealize.ShloMosaic.Lib.Pipeline.Value

@[expose] public section

noncomputable section

namespace Cert.Fp8

open Idealize.ShloMosaic Idealize.ShloMosaic.TcCoe Idealize.ShloMosaic.ValueIdx

section shapes
variable {α : Type} {a b : ℕ}

/-- Inserting a coordinate at the second axis. -/
theorem lift_row (h : (⟨2, ![a, b]⟩ : Shape).Reduces [1] ⟨1, ![a]⟩) (r : Fin a) (k : Fin b) : h.lift (ix1 r) k = ValueIdx.ix2 r k := by
  funext c
  apply Fin.ext
  refine (Shape.Reduces.lift_val h (ix1 r) k c).trans ?_
  fin_cases c <;> simp [Shape.Reduces.liftVal, ix1, ValueIdx.ix2]

/-- The largest and the least entry of a row. -/
theorem red_max {φ : FTy} (x : FVec Ideal ⟨2, ![a, b]⟩ φ) (acc : BitVec φ.bits) (h : (⟨2, ![a, b]⟩ : Shape).Reduces [1] ⟨1, ![a]⟩) (hφ) (hacc) (r : Fin a) :
    multiReduction .maximumf [1] ⟨1, ![a]⟩ x acc h hφ hacc (ix1 r)
      = (Finset.univ : Finset (Fin b)).fold max (FloatOps.ofBits (F := Ideal) φ acc) fun k => x (ValueIdx.ix2 r k) := by
  refine (Ideal.multiReduction_maximumf_single x acc h hφ hacc (ix1 r)).trans ?_
  refine congrArg (Finset.fold max _ · Finset.univ) (funext fun k => ?_)
  exact congrArg x (lift_row h r k)
theorem red_min {φ : FTy} (x : FVec Ideal ⟨2, ![a, b]⟩ φ) (acc : BitVec φ.bits) (h : (⟨2, ![a, b]⟩ : Shape).Reduces [1] ⟨1, ![a]⟩) (hφ) (hacc) (r : Fin a) :
    multiReduction .minimumf [1] ⟨1, ![a]⟩ x acc h hφ hacc (ix1 r)
      = (Finset.univ : Finset (Fin b)).fold min (FloatOps.ofBits (F := Ideal) φ acc) fun k => x (ValueIdx.ix2 r k) := by
  rw [multiReduction_minimumf_eq_fold]
  refine (Shape.Reduces.fold_filter_drop_single h min _ x (ix1 r)).trans ?_
  refine congrArg (Finset.fold min _ · Finset.univ) (funext fun k => ?_)
  exact congrArg x (lift_row h r k)

/-- A column repeated along the second axis. -/
theorem bc_col (hb : b ≠ 1 := by decide) (x : (⟨2, ![a, 1]⟩ : Shape).Idx → α) (h : (⟨2, ![a, 1]⟩ : Shape).Broadcasts ⟨2, ![a, b]⟩) (r : Fin a) (l : Fin b) :
    broadcastTo ⟨2, ![a, b]⟩ x h (ValueIdx.ix2 r l) = x (ValueIdx.ix2 r 0) := by
  refine broadcastTo_apply x h _ _ fun c => ?_
  fin_cases c
  · by_cases e : a = 1
    · subst e; simp [ValueIdx.ix2]
    · simp [ValueIdx.ix2, e]
  · simp [ValueIdx.ix2]

/-- A shape cast to the same shape. -/
theorem cast_self {s : Shape} (x : s.Idx → α) (h : s.ShapeCasts s) : shapeCast s x h = x := by
  funext j
  exact shapeCast_apply x h j j rfl

end shapes

/-- The largest magnitude of a row. -/
def rmax {n : ℕ} (v : Fin n → EReal) : EReal := (Finset.univ : Finset (Fin n)).fold max ⊥ fun k => max (v k) (-v k)

/-- The largest magnitude of a non-empty row of real entries is real. -/
theorem rmax_real {n : ℕ} (v : Fin (n + 1) → ℝ) : ∃ a : ℝ, rmax (fun k => (v k : EReal)) = (a : EReal) := by
  have h1 : rmax (fun k => (v k : EReal)) ≠ ⊤ := by
    refine ne_of_lt ?_
    rw [rmax, Finset.fold_max_lt]
    exact ⟨bot_lt_top, fun k _ => max_lt (EReal.coe_lt_top _) (by rw [← EReal.coe_neg]; exact EReal.coe_lt_top _)⟩
  have h2 : rmax (fun k => (v k : EReal)) ≠ ⊥ := by
    refine ne_of_gt ?_
    rw [rmax, Finset.lt_fold_max]
    exact .inr ⟨0, Finset.mem_univ _, lt_max_of_lt_left (EReal.bot_lt_coe _)⟩
  exact ⟨_, (EReal.coe_toReal h1 h2).symm⟩

theorem neg_inf16 : Ideal.ofBits .bf16 0xFF80#16 = ⊥ := by rfl

/-- The row's largest magnitude, on each lane. -/
theorem rowAmax_at (v : FVec Ideal S256x128 .bf16) (r : Fin 256) (l : Fin 128) :
    rowAmax v (ValueIdx.ix2 r l) = rmax fun k => v (ValueIdx.ix2 r k) := by
  unfold rowAmax
  rw [bc_col (by decide), cast_self]
  erw [shapeCast_a_a1_apply]
  exact (red_max (absf v) _ _ _ _ r)

/-- The bits of a lane's lower threshold, of its upper one, and of a scale of a given field. -/
theorem bits_lo : ∀ k : Fin 128, IntOp.shli .vector (BitVec.ofNat 32 k.val) 23#32 ||| 6291456#32 = BitVec.ofNat 32 (k.val * 2 ^ 23 + 6291456) := by
  decide +kernel
theorem bits_hi : ∀ k : Fin 128, k.val ≠ 127 →
    IntOp.shli .vector (BitVec.ofNat 32 k.val + 128#32) 23#32 ||| 6291456#32 = BitVec.ofNat 32 ((k.val + 128) * 2 ^ 23 + 6291456) := by
  decide +kernel
theorem bits_field : ∀ n : Fin 256, (if (if (BitVec.ofNat 32 n.val - 8#32).slt 2#32 then 1#1 else 0#1) = 1#1 then 127#32 else BitVec.ofNat 32 n.val - 8#32)
    = BitVec.ofNat 32 (if n.val < 10 then 127 else n.val - 8) := by
  decide +kernel
theorem bits_scale : ∀ f : Fin 255, IntOp.shli .vector (BitVec.ofNat 32 f.val) 23#32 = BitVec.ofNat 32 (f.val * 2 ^ 23) := by
  decide +kernel
theorem bits_inv : ∀ f : Fin 255, IntOp.shli .vector (254#32 - BitVec.ofNat 32 f.val) 23#32 = BitVec.ofNat 32 ((254 - f.val) * 2 ^ 23) := by
  decide +kernel
theorem lane_ne : ∀ k : Fin 128, k.val ≠ 127 → IntOp.cmpi .eq (BitVec.ofNat 32 k.val) 127#32 = 0#1 := by decide +kernel

/-- A row of words' sum over its lanes. -/
theorem row_sum {a b : ℕ} (src : IVec ⟨2, ![a, b]⟩ 32) (h : (⟨2, ![a, b]⟩ : Shape).Reduces [1] ⟨1, ![a]⟩) (hacc) (r : Fin a) (n : ℕ) (hn : n < 2 ^ 32)
    (e : ∑ k : Fin b, (src (ValueIdx.ix2 r k)).toNat = n) :
    multiReductionI .add [1] ⟨1, ![a]⟩ src 0#32 h hacc (ix1 r) = BitVec.ofNat 32 n := by
  have hs : ∑ i ∈ Finset.univ.filter (fun i => h.drop i = ix1 r), (src i).toNat = n := by
    rw [Shape.Reduces.sum_filter_drop_single h (fun i => (src i).toNat)]
    rw [← e]
    exact Finset.sum_congr rfl fun k _ => congrArg (fun i => (src i).toNat) (lift_row h r k)
  apply BitVec.eq_of_toNat_eq
  rw [WordSum.toNat_multiReductionI_add src h hacc _ (by rw [hs]; exact hn), hs]
  rw [BitVec.toNat_ofNat, Nat.mod_eq_of_lt hn]

section words
variable {s : Shape} (x y : IVec s 32) (p q : IVec s 1) (i : s.Idx)
theorem addi_at : addi x y i = x i + y i := rfl
theorem subi_at : subi x y i = x i - y i := rfl
theorem ori_at : ori x y i = x i ||| y i := rfl
theorem ori_at' : ori p q i = p i ||| q i := rfl
theorem shli_at : shli x y i = IntOp.shli .vector (x i) (y i) := rfl
theorem cmpi_at (c : CmpIPredicate) : cmpi c x y i = IntOp.cmpi c (x i) (y i) := rfl
theorem select_at {α : Type} (a b : s.Idx → α) : select p a b i = Scalar.select (p i) (a i) (b i) := rfl
theorem cast_at : bitcastToFloat (F := Ideal) .f32 x i = Ideal.ofBits .f32 (x i) := rfl
theorem cmpf_at {φ : FTy} (c : CmpFPredicate) (u v : FVec Ideal s φ) : cmpf c u v i = Ideal.cmp c (u i) (v i) := rfl
theorem broadcast_at {α : Type} (a : α) : broadcast s a i = a := rfl
theorem extf_at {φ ψ : FTy} (u : FVec Ideal s φ) (h) : extf ψ u h i = u i := rfl
end words

set_option maxRecDepth 8192 in
/-- How many thresholds lie at or below the row's largest magnitude, less eight. -/
theorem blkCount_at (v : FVec Ideal S256x128 .bf16) (r : Fin 256) (a : ℝ) (ha : rmax (fun k => v (ValueIdx.ix2 r k)) = (a : EReal)) (n : ℕ) (hn : n ≤ 255)
    (h : ∀ j < 255, (thr j ≤ a ↔ j < n)) : blkCount v (ValueIdx.ix2 r 0) = BitVec.ofNat 32 n - 8#32 := by
  unfold blkCount
  refine congrArg (· - 8#32) ((shapeCast_a_a1_apply _ (by decide) r 0).trans ?_)
  refine row_sum _ _ _ _ _ (by omega) ?_
  refine Eq.trans ?_ (sum_lanes255 ⟨n, by omega⟩)
  refine Finset.sum_congr rfl fun k _ => ?_
  have hi : iota .tc S256x128 32 [1] (by decide) (ValueIdx.ix2 r k) = BitVec.ofNat 32 k.val := iota_single_apply _ _ _ _ _ _
  have l1 : Ideal.cmp .olt (rowAmax v (ValueIdx.ix2 r k)) (Ideal.ofBits .f32 (IntOp.shli .vector (BitVec.ofNat 32 k.val) 23#32 ||| 6291456#32))
      = BitVec.ofBool (decide (¬ k.val < n)) := by
    rw [rowAmax_at, ha, bits_lo, ofBits_thr _ (by omega)]
    unfold Ideal.cmp
    congr 1
    simp only [decide_eq_decide, EReal.coe_lt_coe_iff]
    rw [← h k.val (by omega), not_le]
  have l2 : k.val ≠ 127 → Ideal.cmp .olt (rowAmax v (ValueIdx.ix2 r k))
      (Ideal.ofBits .f32 (IntOp.shli .vector (BitVec.ofNat 32 k.val + 128#32) 23#32 ||| 6291456#32))
      = BitVec.ofBool (decide (¬ k.val + 128 < n)) := by
    intro hk
    rw [rowAmax_at, ha, bits_hi k hk, ofBits_thr _ (by omega)]
    unfold Ideal.cmp
    congr 1
    simp only [decide_eq_decide, EReal.coe_lt_coe_iff]
    rw [← h (k.val + 128) (by omega), not_le]
  have e1 : ∀ (c : BitVec 1), Scalar.select c 0#32 1#32 = if c = 1#1 then 0#32 else 1#32 := fun _ => rfl
  rw [addi_at, select_at, select_at, ori_at', cmpi_at, cmpf_at, cmpf_at, extf_at, cast_at, cast_at, ori_at, ori_at, shli_at, shli_at, addi_at]
  simp only [broadcast_at]
  rw [hi, l1, e1, e1]
  by_cases hk : k.val = 127
  · have : IntOp.cmpi .eq (BitVec.ofNat 32 k.val) 127#32 = 1#1 := by rw [hk]; rfl
    rw [this]
    have hor : ∀ c : BitVec 1, c ||| 1#1 = 1#1 := by decide
    rw [hor]
    rw [hk]
    by_cases q : 127 < n
    · have q' : ¬ n ≤ 127 := by omega
      simp [q, q']
    · have q' : n ≤ 127 := by omega
      simp [q, q']
  · have : IntOp.cmpi .eq (BitVec.ofNat 32 k.val) 127#32 = 0#1 := lane_ne k hk
    rw [this, l2 hk]
    by_cases q : k.val < n <;> by_cases q' : k.val + 128 < n <;> simp [q, q', hk]

/-- A row of real entries: the field of its scale, the same on every lane, and that it is the scale of its largest magnitude. -/
theorem blk_at (v : FVec Ideal S256x128 .bf16) (r : Fin 256) (a : ℝ) (ha : rmax (fun k => v (ValueIdx.ix2 r k)) = (a : EReal)) :
    ∃ e : ℤ, IsScale ((a * (1 / 448) : ℝ) : EReal) (p2 e) ∧ ∀ l, blkScale v (ValueIdx.ix2 r l) = p2 e ∧ blkInv v (ValueIdx.ix2 r l) = p2 (-e) := by
  obtain ⟨n, hn, h⟩ := segment (fun j : ℕ => thr j ≤ a) (fun i j l q => (thr_mono l).trans q) 255
  have hf : ∀ l, blkField v (ValueIdx.ix2 r l) = BitVec.ofNat 32 (if n < 10 then 127 else n - 8) := by
    intro l
    unfold blkField
    rw [bc_col (by decide), cast_self]
    show (if IntOp.cmpi .slt (blkCount v (ValueIdx.ix2 r 0)) 2#32 = 1#1 then 127#32 else blkCount v (ValueIdx.ix2 r 0)) = _
    rw [blkCount_at v r a ha n hn h, ← bits_field ⟨n, by omega⟩]
    show (if BitVec.ofBool ((BitVec.ofNat 32 n - 8#32).slt 2#32) = 1#1 then _ else _) = _
    cases (BitVec.ofNat 32 n - 8#32).slt 2#32 <;> rfl
  generalize hF : (if n < 10 then 127 else n - 8) = f at hf
  have b1 : 1 ≤ f := by split at hF <;> omega
  have b2 : f ≤ 247 := by split at hF <;> omega
  refine ⟨(f : ℤ) - 127, ?_, fun l => ⟨?_, ?_⟩⟩
  · have := isScale_thr a n hn h
    rw [hF] at this
    exact this
  · show Ideal.ofBits .f32 (IntOp.shli .vector (blkField v (ValueIdx.ix2 r l)) 23#32) = _
    rw [hf, bits_scale ⟨f, by omega⟩, ofBits_p2 _ (by show f < 255; omega) (by show f ≠ 0; omega)]
  · show Ideal.ofBits .f32 (IntOp.shli .vector (254#32 - blkField v (ValueIdx.ix2 r l)) 23#32) = _
    rw [hf, bits_inv ⟨f, by omega⟩, ofBits_p2 _ (by show 254 - f < 255; omega) (by show 254 - f ≠ 0; omega)]
    congr 1
    show ((254 - f : ℕ) : ℤ) - 127 = _
    omega

/-- The codes of a value by the inverse of a scale. -/
def code (x i : EReal) : EReal := min (Ideal.ofBits .f32 0x43E00000#32) (max (Ideal.ofBits .f32 0xC3E00000#32) (x * i))

theorem clip16 : Ideal.ofBits .bf16 0x43E0#16 = Ideal.ofBits .f32 0x43E00000#32 ∧ Ideal.ofBits .bf16 0xC3E0#16 = Ideal.ofBits .f32 0xC3E00000#32 := by
  constructor <;>
  · simp [Ideal.ofBits, Ideal.ieee]
    rw [← EReal.coe_mul, ← EReal.coe_mul]
    norm_num

theorem blkCodes_at (v : FVec Ideal S256x128 .bf16) (i : S256x128.Idx) : blkCodes v i = code (v i) (blkInv v i) := by
  unfold code
  rw [← clip16.1, ← clip16.2]
  rfl

end Cert.Fp8
-- ==== Proof.Ref.lean ====
/- The activations' scales and codes: the reference's, over the extended reals, are the kernel's, the activations being real. -/
module

public import proofs.«01_k».proof.Proof.Block
public import proofs.«01_k».proof.Proof.Gen.ReferenceIdeal.Frame

@[expose] public section

noncomputable section

namespace Cert.Fp8

open Idealize.ShloMosaic Idealize.ShloMosaic.TcCoe Idealize.ShloMosaic.ValueIdx
open Cert.ReferenceIdeal.Gen (k0_pay2 k0_pay3 k0_pay4 k0_pay5 k0_pay6)

theorem ix2_eq {m n : ℕ} (r : Fin m) (c : Fin n) : Cert.Fp8.ix2 r c = ValueIdx.ix2 r c := by
  funext a; fin_cases a <;> rfl

/-! ## The reference's scale of a column -/

theorem lane_exp : ∀ j : Fin 256, (IntOp.minsi (BitVec.ofNat 32 j.val - 125#32) 120#32).toInt = min ((j.val : ℤ) - 125) 120 := by decide +kernel
theorem exp2_word (e : ℤ) : Ideal.exp2 ((e : ℝ) : EReal) = p2 e := by
  rw [Ideal.exp2_coe, p2]
  exact congrArg _ (Real.rpow_intCast 2 e)
theorem bits_least : Ideal.ofBits .f32 0x00800000#32 = p2 (-126) := ofBits_p2 1 (by decide) (by decide)
theorem bits_one : Ideal.ofBits .f32 0x3F800000#32 = 1 := (ofBits_p2 127 (by decide) (by decide)).trans p2_zero
theorem bits_most : Ideal.ofBits .f32 0x7B800000#32 = p2 120 := ofBits_p2 247 (by decide) (by decide)
theorem bits_inf : Ideal.ofBits .f32 0x7F800000#32 = ⊤ := by rfl
theorem bits_ninf : Ideal.ofBits .f32 0xFF800000#32 = ⊥ := by rfl

theorem cmp_lt (x y : EReal) : Ideal.cmp .olt x y = 1#1 ↔ x < y := by
  unfold Ideal.cmp
  by_cases h : x < y <;> simp [h]
theorem cmp_eq (x y : EReal) : Ideal.cmp .oeq x y = 1#1 ↔ x = y := by
  unfold Ideal.cmp
  by_cases h : x = y <;> simp [h]
theorem or_one (p q : BitVec 1) : p ||| q = 1#1 ↔ p = 1#1 ∨ q = 1#1 := by
  revert p q; decide
theorem sel_eq {α : Type} (c : BitVec 1) (a b : α) : Scalar.select c a b = if c = 1#1 then a else b := rfl

/-- The powers of two the reference compares with. -/
abbrev lanes {a : ℕ} (h : (⟨2, ![a, 256]⟩ : Shape).Iotas .tc 32 [1]) : FVec Ideal ⟨2, ![a, 256]⟩ .f32 :=
  exp2 (sitofp .f32 (minsi (subi (iota .tc ⟨2, ![a, 256]⟩ 32 [1] h) (broadcast _ 125#32)) (broadcast _ 120#32)))

theorem lanes_at {a : ℕ} (h) (r : Fin a) (j : Fin 256) : lanes h (ValueIdx.ix2 r j) = p2 (min ((j.val : ℤ) - 125) 120) := by
  have hi : iota .tc ⟨2, ![a, 256]⟩ 32 [1] h (ValueIdx.ix2 r j) = BitVec.ofNat 32 j.val := iota_single_apply _ _ _ _ _ _
  show Ideal.exp2 (((IntOp.minsi (iota .tc ⟨2, ![a, 256]⟩ 32 [1] h (ValueIdx.ix2 r j) - 125#32) 120#32).toInt : ℝ) : EReal) = _
  rw [hi, lane_exp]
  exact exp2_word _

/-- The reference's scale of a column of values. -/
abbrev colScale {a : ℕ} (v : FVec Ideal ⟨2, ![a, 1]⟩ .f32) (h1 : (⟨2, ![a, 256]⟩ : Shape).Iotas .tc 32 [1])
    (h2 : (⟨2, ![a, 1]⟩ : Shape).Broadcasts ⟨2, ![a, 256]⟩) (h3 : (⟨2, ![a, 256]⟩ : Shape).Reduces [1] ⟨1, ![a]⟩) (h4 : FKind.Formats .f32) (h5 : (0x7F800000#32 : BitVec 32) = FKind.minimumf.neutral .f32 h4)
    (h6 : (⟨1, ![a]⟩ : Shape).ShapeCasts ⟨2, ![a, 1]⟩) : FVec Ideal ⟨2, ![a, 1]⟩ .f32 :=
  select (ori (cmpf .olt v (broadcast _ (Scalar.ofBits .f32 0x00800000#32))) (cmpf .oeq v (broadcast _ (Scalar.ofBits .f32 0x7F800000#32))))
    (broadcast _ (Scalar.ofBits .f32 0x3F800000#32))
    (shapeCast ⟨2, ![a, 1]⟩ (multiReduction .minimumf [1] ⟨1, ![a]⟩
      (select (cmpf .olt (broadcastTo ⟨2, ![a, 256]⟩ v h2) (lanes h1)) (lanes h1) (broadcast _ (Scalar.ofBits .f32 0x7B800000#32)))
      0x7F800000#32 h3 h4 h5) h6)

theorem colScale_at {a : ℕ} (v : FVec Ideal ⟨2, ![a, 1]⟩ .f32) (h1) (h2) (h3) (h4) (h5) (h6) (r : Fin a) :
    IsScale (v (ValueIdx.ix2 r 0)) (colScale v h1 h2 h3 h4 h5 h6 (ValueIdx.ix2 r 0)) := by
  unfold colScale
  rw [select_at, ori_at', cmpf_at, cmpf_at, sel_eq]
  have hc : (Ideal.cmp .olt (v (ValueIdx.ix2 r 0)) (broadcast ⟨2, ![a, 1]⟩ (Scalar.ofBits (F := Ideal) .f32 0x00800000#32) (ValueIdx.ix2 r 0))
      ||| Ideal.cmp .oeq (v (ValueIdx.ix2 r 0)) (broadcast ⟨2, ![a, 1]⟩ (Scalar.ofBits (F := Ideal) .f32 0x7F800000#32) (ValueIdx.ix2 r 0)) = 1#1)
      ↔ Degenerate (v (ValueIdx.ix2 r 0)) := by
    rw [or_one, cmp_lt, cmp_eq]
    show _ < Ideal.ofBits .f32 0x00800000#32 ∨ _ = Ideal.ofBits .f32 0x7F800000#32 ↔ _
    rw [bits_least, bits_inf]
    exact Iff.rfl
  refine isScale_min _ _ (fun d => ?_) (fun d => ?_)
  · rw [if_pos (hc.mpr d)]; exact bits_one
  · rw [if_neg (fun e => d (hc.mp e))]
    refine (shapeCast_a_a1_apply _ _ r 0).trans ((red_min _ _ _ _ _ r).trans ?_)
    rw [show FloatOps.ofBits (F := Ideal) .f32 0x7F800000#32 = ⊤ from bits_inf]
    refine congrArg (Finset.fold min _ · Finset.univ) (funext fun k => ?_)
    rw [select_at, cmpf_at, sel_eq, lanes_at, bc_col (by decide)]
    refine (if_congr (cmp_lt _ _) rfl ?_)
    exact bits_most

/-! ## The activations -/

variable (X : S1536x1024.Idx → EReal)

/-- A block of an activation row. -/
def seg (R : Fin 1536) (b : Fin 8) (l : Fin 128) : EReal := X (ValueIdx.ix2 R ⟨128 * b.val + l.val, by omega⟩)

/-- The index of a block's row among the reference's rows. -/
def row (R : Fin 1536) (b : Fin 8) : Fin 12288 := ⟨R.val * 8 + b.val, by omega⟩

theorem pay2_at (R : Fin 1536) (b : Fin 8) (l : Fin 128) :
    k0_pay2 (F := Ideal) X (ValueIdx.ix2 (row R b) l) = seg X R b l := by
  unfold k0_pay2
  rw [shapeCast_apply _ _ _ (ValueIdx.ix2 R ⟨128 * b.val + l.val, by omega⟩ : S1536x1024.Idx) ?_, extf_at, cast_self]
  · rfl
  · rw [Shape.rowMajor_val_two, Shape.rowMajor_val_two]
    show R.val * 1024 + (128 * b.val + l.val) = (R.val * 8 + b.val) * 128 + l.val
    omega

/-- The reference's largest magnitudes of its blocks, over 448, and its scales, by these. -/
abbrev blkMax : FVec Ideal ⟨2, ![12288, 1]⟩ .f32 :=
  mulf (shapeCast ⟨2, ![12288, 1]⟩ (multiReduction .maximumf [1] ⟨1, ![12288]⟩ (absf (k0_pay2 (F := Ideal) X)) 0xFF800000#32
    Cert.ReferenceIdeal.Facts₀.reduces_S12288x128_S12288 (.inl rfl) rfl) Cert.ReferenceIdeal.Facts₀.shapeCasts_S12288_S12288x1)
    (broadcast _ (Named.named (F := Ideal) Cert.ReferenceIdeal.κ "inv_448" 0x3B124925#32))
set_option maxRecDepth 65536 in
theorem pay3_eq : k0_pay3 (F := Ideal) X = colScale (a := 12288) (blkMax X) Cert.ReferenceIdeal.Facts₀.iota_S12288x256_d1_w32
    Cert.ReferenceIdeal.Facts₀.broadcasts_S12288x1_S12288x256 Cert.ReferenceIdeal.Facts₀.reduces_S12288x256_S12288 (.inl rfl) rfl
    Cert.ReferenceIdeal.Facts₀.shapeCasts_S12288_S12288x1 := rfl

theorem blkMax_at (R : Fin 1536) (b : Fin 8) : blkMax X (ValueIdx.ix2 (row R b) 0) = rmax (seg X R b) * ((1 / 448 : ℝ) : EReal) := by
  have h : shapeCast ⟨2, ![12288, 1]⟩ (multiReduction .maximumf [1] ⟨1, ![12288]⟩ (absf (k0_pay2 (F := Ideal) X)) 0xFF800000#32
      Cert.ReferenceIdeal.Facts₀.reduces_S12288x128_S12288 (.inl rfl) rfl) Cert.ReferenceIdeal.Facts₀.shapeCasts_S12288_S12288x1 (ValueIdx.ix2 (row R b) 0)
      = rmax (seg X R b) := by
    rw [shapeCast_a_a1_apply]
    refine (red_max (absf (k0_pay2 (F := Ideal) X)) _ _ _ _ (row R b)).trans ?_
    unfold rmax
    rw [show FloatOps.ofBits (F := Ideal) .f32 0xFF800000#32 = ⊥ from bits_ninf]
    refine congrArg (Finset.fold max _ · Finset.univ) (funext fun k => ?_)
    rw [← pay2_at]
    rfl
  exact congrArg (· * ((1 / 448 : ℝ) : EReal)) h

/-- The reference's scale of a block, of its largest magnitude over 448. -/
theorem pay3_at (R : Fin 1536) (b : Fin 8) :
    IsScale (rmax (seg X R b) * ((1 / 448 : ℝ) : EReal)) (k0_pay3 (F := Ideal) X (ValueIdx.ix2 (row R b) 0)) := by
  have h := colScale_at (a := 12288) (blkMax X) Cert.ReferenceIdeal.Facts₀.iota_S12288x256_d1_w32
    Cert.ReferenceIdeal.Facts₀.broadcasts_S12288x1_S12288x256 Cert.ReferenceIdeal.Facts₀.reduces_S12288x256_S12288 (.inl rfl) rfl
    Cert.ReferenceIdeal.Facts₀.shapeCasts_S12288_S12288x1 (row R b)
  rw [← pay3_eq, blkMax_at] at h
  exact h

theorem pay4_at (R : Fin 1536) (b : Fin 8) (l : Fin 128) :
    k0_pay4 (F := Ideal) X (ValueIdx.ix2 (row R b) l) = code (seg X R b l) (Ideal.div 1 (k0_pay3 (F := Ideal) X (ValueIdx.ix2 (row R b) 0))) := by
  rw [← pay2_at, ← bits_one]
  unfold code
  refine congrArg (fun t : EReal => min (Ideal.ofBits .f32 0x43E00000#32) (max (Ideal.ofBits .f32 0xC3E00000#32) (k0_pay2 (F := Ideal) X (ValueIdx.ix2 (row R b) l) * t))) ?_
  exact bc_col (by decide) _ _ (row R b) l

/-- The reference's codes and scales by a row and a block. -/
theorem pay5_at (R : Fin 1536) (b : Fin 8) (l : Fin 128) :
    k0_pay5 (F := Ideal) X (ValueIdx.ix2 R ⟨128 * b.val + l.val, by omega⟩) = k0_pay4 (F := Ideal) X (ValueIdx.ix2 (row R b) l) := by
  unfold k0_pay5
  refine shapeCast_apply _ _ _ _ ?_
  rw [Shape.rowMajor_val_two, Shape.rowMajor_val_two]
  show (R.val * 8 + b.val) * 128 + l.val = R.val * 1024 + (128 * b.val + l.val)
  omega
theorem pay6_at (R : Fin 1536) (b : Fin 8) :
    k0_pay6 (F := Ideal) X (ValueIdx.ix2 R b) = k0_pay3 (F := Ideal) X (ValueIdx.ix2 (row R b) 0) := by
  unfold k0_pay6
  refine shapeCast_apply _ _ _ _ ?_
  rw [Shape.rowMajor_val_two, Shape.rowMajor_val_two]
  show (R.val * 8 + b.val) * 1 + 0 = R.val * 8 + b.val
  omega

/-! ## The kernel's -/

variable (O : Ops Ideal)

/-- The chunk of a row, and its place in it. -/
def chunk (R : Fin 1536) : Fin 6 := ⟨R.val / 256, by omega⟩
def place (R : Fin 1536) : Fin 256 := ⟨R.val % 256, Nat.mod_lt _ (by decide)⟩

theorem xb_at (R : Fin 1536) (b : Fin 8) (l : Fin 128) : O.xb (chunk R) b (ValueIdx.ix2 (place R) l) = seg O.X R b l := by
  unfold Ops.xb seg
  refine congrArg O.X (funext fun a => Fin.ext ?_)
  have : 256 * (R.val / 256) + R.val % 256 = R.val := Nat.div_add_mod _ _
  fin_cases a
  · show 256 * (R.val / 256) + 1 * (R.val % 256) = R.val
    omega
  · show 128 * b.val + 1 * l.val = 128 * b.val + l.val
    omega

theorem lane_pack : ∀ (l : Fin 128) (b : Fin 8), IntOp.cmpi .eq (BitVec.ofNat 32 l.val) (BitVec.ofNat 32 b.val) = if l.val = b.val then 1#1 else 0#1 := by
  decide +kernel

theorem pack_at (b : Fin 8) (v p : FVec Ideal S256x128 .bf16) (r : Fin 256) (l : Fin 128) :
    pack b v p (ValueIdx.ix2 r l) = if l.val = b.val then blkScale v (ValueIdx.ix2 r l) else p (ValueIdx.ix2 r l) := by
  have hi : iota .tc S256x128 32 [1] (by decide) (ValueIdx.ix2 r l) = BitVec.ofNat 32 l.val := iota_single_apply _ _ _ _ _ _
  unfold pack
  rw [select_at, cmpi_at, hi, broadcast_at, lane_pack, sel_eq]
  by_cases h : l.val = b.val <;> simp [h]

theorem pk_at (m : Fin 6) (r : Fin 256) (b : Fin 8) :
    O.pk m (ValueIdx.ix2 r ⟨b.val, by omega⟩) = blkScale (O.xb m b) (ValueIdx.ix2 r ⟨b.val, by omega⟩) := by
  unfold Ops.pk
  fin_cases b <;> simp [pack_at]

theorem XS_at (R : Fin 1536) (b : Fin 8) : O.XS (ValueIdx.ix2 R b) = blkScale (O.xb (chunk R) b) (ValueIdx.ix2 (place R) ⟨b.val, by omega⟩) := by
  rw [← pk_at]
  unfold Ops.XS ofRow8
  refine (congrFun (cast_self (packOut (O.pk (chunk R))) _) _).trans ?_
  show O.pk (chunk R) _ = _
  refine congrArg (O.pk (chunk R)) (funext fun a => Fin.ext ?_)
  fin_cases a
  · show 0 + R.val % 256 = R.val % 256
    omega
  · show 0 + b.val = b.val
    omega

theorem XC_at (R : Fin 1536) (b : Fin 8) (l : Fin 128) : O.XC (ValueIdx.ix2 R ⟨128 * b.val + l.val, by omega⟩)
    = code (seg O.X R b l) (blkInv (O.xb (chunk R) b) (ValueIdx.ix2 (place R) l)) := by
  rw [← xb_at, ← blkCodes_at]
  unfold Ops.XC ofBlk
  have e1 : (⟨(128 * b.val + l.val) / 128, by omega⟩ : Fin 8) = b := Fin.ext (by show (128 * b.val + l.val) / 128 = b.val; omega)
  have e2 : (⟨(128 * b.val + l.val) % 128, by omega⟩ : Fin 128) = l := Fin.ext (by show (128 * b.val + l.val) % 128 = l.val; omega)
  refine (congrFun (cast_self (blkCodes (O.xb (chunk R) ⟨(128 * b.val + l.val) / 128, by omega⟩)) _) _).trans ?_
  refine (congrArg _ (ix2_eq (place R) (⟨(128 * b.val + l.val) % 128, by omega⟩ : Fin 128))).trans ?_
  rw [e1, e2]

variable (hX : ∀ i, ∃ a : ℝ, O.X i = (a : EReal))
include hX

/-- One power of two is the scale of a block in the kernel and in the reference, and its inverse is the kernel's. -/
theorem scale_block (R : Fin 1536) (b : Fin 8) : ∃ e : ℤ, k0_pay3 (F := Ideal) O.X (ValueIdx.ix2 (row R b) 0) = p2 e
    ∧ ∀ l, blkScale (O.xb (chunk R) b) (ValueIdx.ix2 (place R) l) = p2 e ∧ blkInv (O.xb (chunk R) b) (ValueIdx.ix2 (place R) l) = p2 (-e) := by
  choose f hf using hX
  obtain ⟨a, ha⟩ : ∃ a : ℝ, rmax (seg O.X R b) = (a : EReal) := by
    obtain ⟨a, ha⟩ := rmax_real (n := 127) fun l : Fin 128 => f (ValueIdx.ix2 R ⟨128 * b.val + l.val, by omega⟩)
    refine ⟨a, ?_⟩
    rw [← ha]
    exact congrArg rmax (funext fun l => hf _)
  obtain ⟨e, h1, h2⟩ := blk_at (O.xb (chunk R) b) (place R) a (by rw [← ha]; exact congrArg rmax (funext fun l => xb_at O R b l))
  refine ⟨e, ?_, h2⟩
  have h3 := pay3_at O.X R b
  rw [ha, ← EReal.coe_mul] at h3
  exact h3.unique h1

/-- The kernel's scales of the activations are the reference's. -/
theorem scales_eq : O.XS = k0_pay6 (F := Ideal) O.X := by
  funext i
  obtain ⟨R, b, rfl⟩ : ∃ (R : Fin 1536) (b : Fin 8), i = ValueIdx.ix2 R b := ⟨i 0, i 1, (eq_ix2 i)⟩
  obtain ⟨e, h1, h2⟩ := scale_block O hX R b
  rw [XS_at, pay6_at, (h2 _).1, h1]

/-- The kernel's codes of the activations are the reference's. -/
theorem codes_eq : O.XC = k0_pay5 (F := Ideal) O.X := by
  funext i
  obtain ⟨R, b, l, rfl⟩ : ∃ (R : Fin 1536) (b : Fin 8) (l : Fin 128), i = ValueIdx.ix2 R ⟨128 * b.val + l.val, by omega⟩ := by
    have h1 : (i 1).val < 1024 := (i 1).isLt
    refine ⟨i 0, ⟨(i 1).val / 128, by omega⟩, ⟨(i 1).val % 128, by omega⟩, (eq_ix2 i).trans ?_⟩
    congr 1
    exact Fin.ext (Nat.div_add_mod _ _).symm
  obtain ⟨e, h1, h2⟩ := scale_block O hX R b
  rw [XC_at, pay5_at, pay4_at, (h2 _).2, h1, div_p2]

end Cert.Fp8
-- ==== Proof.Largest.lean ====
/- The result before its quantisation, its largest magnitude and the scale of that, as the kernel computes them over the extended reals. -/
module

public import proofs.«01_k».proof.Proof.Block
public import Idealize.ShloMosaic.Lib.MatmulPlain

@[expose] public section

noncomputable section

namespace Cert.Fp8

open Idealize.ShloMosaic Idealize.ShloMosaic.TcCoe Idealize.ShloMosaic.ValueIdx

/-- The magnitude of an extended real. -/
abbrev mag (x : EReal) : EReal := max x (-x)

theorem mag_nonneg (x : EReal) : 0 ≤ mag x := by
  rcases le_total 0 x with h | h
  · exact le_max_of_le_left h
  · exact le_max_of_le_right (EReal.neg_nonneg.mpr h)

theorem bits_bot : Ideal.ofBits .f32 0xFF800000#32 = ⊥ := by rfl

/-! ## The running maximum -/

/-- Reducing the first axis of a rank-3 array, and of a column, by its largest entry: at most a bound where every entry is. -/
theorem red0_le (x : FVec Ideal S32x8x128 .f32) (h : S32x8x128.Reduces [0] S8x128) (hφ) (hacc) (a : Fin 8) (b : Fin 128) (t : EReal) :
    multiReduction .maximumf [0] S8x128 x 0xFF800000#32 h hφ hacc (ValueIdx.ix2 a b) ≤ t ↔ ∀ k : Fin 32, x (ix3 k a b) ≤ t := by
  rw [Ideal.multiReduction_maximumf_single]
  refine (Finset.fold_max_le t).trans ⟨fun q k => ?_, fun q => ⟨?_, fun k _ => ?_⟩⟩
  · have e : h.lift (ValueIdx.ix2 a b) k = ix3 k a b := by
      funext c
      apply Fin.ext
      refine (Shape.Reduces.lift_val h (ValueIdx.ix2 a b) k c).trans ?_
      fin_cases c <;> rfl
    rw [← e]
    exact q.2 k (Finset.mem_univ _)
  · exact bits_bot.le.trans bot_le
  · have e : h.lift (ValueIdx.ix2 a b) k = ix3 k a b := by
      funext c
      apply Fin.ext
      refine (Shape.Reduces.lift_val h (ValueIdx.ix2 a b) k c).trans ?_
      fin_cases c <;> rfl
    exact (congrArg x e).le.trans (q k)
theorem redc_le (x : FVec Ideal S8x1 .f32) (h : S8x1.Reduces [0] S1) (hφ) (hacc) (t : EReal) :
    multiReduction .maximumf [0] S1 x 0xFF800000#32 h hφ hacc (ix1 0) ≤ t ↔ ∀ k : Fin 8, x (ValueIdx.ix2 k 0) ≤ t := by
  rw [Ideal.multiReduction_maximumf_single]
  have e : ∀ k : Fin 8, h.lift (ix1 (0 : Fin 1)) k = ValueIdx.ix2 k 0 := by
    intro k
    funext c
    apply Fin.ext
    refine (Shape.Reduces.lift_val h (ix1 (0 : Fin 1)) k c).trans ?_
    fin_cases c <;> rfl
  refine (Finset.fold_max_le t).trans ⟨fun q k => ?_, fun q => ⟨bits_bot.le.trans bot_le, fun k _ => ?_⟩⟩
  · rw [← e]
    exact q.2 k (Finset.mem_univ _)
  · exact (congrArg x (e k)).le.trans (q k)

theorem grow_le (top : FVec Ideal S8x128 .f32) (y : FVec Ideal S256x128 .f32) (a : Fin 8) (b : Fin 128) (t : EReal) :
    grow top y (ValueIdx.ix2 a b) ≤ t ↔ top (ValueIdx.ix2 a b) ≤ t ∧ ∀ k : Fin 32, mag (y (ValueIdx.ix2 ⟨8 * k.val + a.val, by omega⟩ b)) ≤ t := by
  refine (max_le_iff (a := top (ValueIdx.ix2 a b))).trans (and_congr_right fun _ => (red0_le _ _ _ _ a b t).trans (forall_congr' fun k => ?_))
  rw [shapeCast_apply (absf y) _ (ix3 k a b) (ValueIdx.ix2 ⟨8 * k.val + a.val, by omega⟩ b) ?_]
  · rfl
  · rw [Shape.rowMajor_val_two, Shape.rowMajor_val_three]
    show (8 * k.val + a.val) * 128 + b.val = (k.val * 8 + a.val) * 128 + b.val
    omega

theorem estTop_le (v : FVec Ideal S8x128 .f32) (r : Fin 8) (l : Fin 128) (t : EReal) :
    estTop v (ValueIdx.ix2 r l) ≤ t ↔ ∀ a b, v (ValueIdx.ix2 a b) ≤ t := by
  unfold estTop
  rw [broadcastTo_apply _ _ (ValueIdx.ix2 r l) (ValueIdx.ix2 0 0 : S1x1.Idx) (fun c => by fin_cases c <;> rfl), cast_self]
  rw [show ∀ x h, shapeCast S1x1 x h (ValueIdx.ix2 0 0) = x (ix1 (0 : Fin 1)) from fun x h => shapeCast_a_a1_apply (α := EReal) (a := 1) x h 0 0]
  refine (redc_le _ _ _ _ t).trans (forall_congr' fun a => ?_)
  rw [show ∀ x h, shapeCast S8x1 x h (ValueIdx.ix2 a 0) = x (ix1 a) from fun x h => shapeCast_a_a1_apply (α := EReal) (a := 8) x h a 0]
  refine (congrArg (· ≤ t) (red_max (a := 8) (b := 128) v 0xFF800000#32 (by decide) (.inl rfl) rfl a)).to_iff.trans ?_
  refine (Finset.fold_max_le t).trans ⟨fun q b => q.2 b (Finset.mem_univ _), fun q => ⟨bits_bot.le.trans bot_le, fun b _ => q b⟩⟩

variable (O : Ops Ideal)

/-- The running maximum after `u` units is at most a bound where the bound is not negative and every magnitude so far is. -/
theorem top_le (a : Fin 8) (b : Fin 128) (t : EReal) : ∀ u ≤ 48, O.top u (ValueIdx.ix2 a b) ≤ t ↔
    0 ≤ t ∧ ∀ v (hv : v < 48), v < u → ∀ (j : Fin 4) (k : Fin 32), mag (O.y (mOf v) (gOf v hv) j (ValueIdx.ix2 ⟨8 * k.val + a.val, by omega⟩ b)) ≤ t
  | 0, _ => by
    unfold Ops.top
    rw [cast_self]
    refine (show _ ↔ (0 : EReal) ≤ t from ?_).trans ⟨fun h => ⟨h, fun v _ hv => absurd hv (Nat.not_lt_zero _)⟩, fun h => h.1⟩
    show Ideal.ofBits .f32 0x00000000#32 ≤ t ↔ _
    rw [Ideal.ofBits_zero_f32]
  | u + 1, hu => by
    have ih := top_le a b t u (by omega)
    have hu' : u < 48 := by omega
    unfold Ops.top
    rw [dif_pos hu', cast_self, grow_le, grow_le, grow_le, grow_le, ih]
    constructor
    · rintro ⟨⟨⟨⟨⟨h0, h⟩, h1⟩, h2⟩, h3⟩, h4⟩
      refine ⟨h0, fun v hv hvu j k => ?_⟩
      rcases Nat.lt_succ_iff_lt_or_eq.mp hvu with q | rfl
      · exact h v hv q j k
      · fin_cases j
        exacts [h1 k, h2 k, h3 k, h4 k]
    · rintro ⟨h0, h⟩
      exact ⟨⟨⟨⟨⟨h0, fun v hv q j k => h v hv (by omega) j k⟩, h u hu' (by omega) 0⟩, h u hu' (by omega) 1⟩, h u hu' (by omega) 2⟩, h u hu' (by omega) 3⟩

/-- The largest magnitude the kernel finds is at most a bound where every entry's magnitude is. -/
theorem largest_le (r : Fin 8) (l : Fin 128) (t : EReal) : estTop (O.top 48) (ValueIdx.ix2 r l) ≤ t ↔
    ∀ (m : Fin 6) (g : Fin 8) (j : Fin 4) (p : Fin 256) (q : Fin 128), mag (O.y m g j (ValueIdx.ix2 p q)) ≤ t := by
  rw [estTop_le]
  constructor
  · intro h m g j p q
    have h1 := (top_le O ⟨p.val % 8, Nat.mod_lt _ (by decide)⟩ q t 48 le_rfl).mp (h _ _)
    have h2 := h1.2 (6 * g.val + m.val) (by omega) (by omega) j ⟨p.val / 8, by omega⟩
    have e1 : mOf (6 * g.val + m.val) = m := Fin.ext (by show (6 * g.val + m.val) % 6 = m.val; omega)
    have e2 : gOf (6 * g.val + m.val) (by omega) = g := Fin.ext (by show (6 * g.val + m.val) / 6 = g.val; omega)
    have e3 : (⟨8 * (p.val / 8) + p.val % 8, by omega⟩ : Fin 256) = p := Fin.ext (Nat.div_add_mod _ _)
    rw [e1, e2, e3] at h2
    exact h2
  · intro h a b
    exact (top_le O a b t 48 le_rfl).mpr ⟨(mag_nonneg _).trans (h 0 0 0 0 0), fun v hv _ j k => h _ _ _ _ _⟩

/-- It is the same on every lane. -/
theorem largest_const (r r' : Fin 8) (l l' : Fin 128) : estTop (O.top 48) (ValueIdx.ix2 r l) = estTop (O.top 48) (ValueIdx.ix2 r' l') :=
  eq_of_forall_ge_iff fun t => (largest_le O r l t).trans (largest_le O r' l' t).symm

/-! ## The scale of a magnitude -/

theorem bits_est_lo : ∀ k : Fin 128, IntOp.shli .vector (BitVec.ofNat 32 k.val + 1#32) 23#32 = BitVec.ofNat 32 ((k.val + 1) * 2 ^ 23) := by
  decide +kernel
theorem bits_est_hi : ∀ k : Fin 128, k.val < 118 → IntOp.shli .vector (BitVec.ofNat 32 k.val + 129#32) 23#32 = BitVec.ofNat 32 ((k.val + 129) * 2 ^ 23) := by
  decide +kernel
theorem lane_lt : ∀ k : Fin 128, IntOp.cmpi .sge (BitVec.ofNat 32 k.val) 118#32 = if k.val < 118 then 0#1 else 1#1 := by decide +kernel
theorem bits_est_pos : ∀ n : Fin 247, IntOp.shli .vector (BitVec.ofNat 32 n.val - 126#32 + 127#32) 23#32 = BitVec.ofNat 32 ((n.val + 1) * 2 ^ 23) := by
  decide +kernel
theorem bits_est_gt : ∀ n : Fin 247, IntOp.cmpi .sgt (BitVec.ofNat 32 n.val) 0#32 = if 0 < n.val then 1#1 else 0#1 := by decide +kernel
theorem bits_est_one : IntOp.shli .vector (0#32 + 127#32) 23#32 = BitVec.ofNat 32 (127 * 2 ^ 23) := by decide +kernel
theorem bits_top : Ideal.ofBits .f32 0x7F800000#32 = ⊤ := by rfl
theorem cmp_olt (x y : EReal) : Ideal.cmp .olt x y = if x < y then 1#1 else 0#1 := by
  unfold Ideal.cmp
  by_cases h : x < y <;> simp [h]
theorem select_one {α : Type} (c : BitVec 1) (a b : α) : Scalar.select c a b = if c = 1#1 then a else b := rfl
theorem andi_at {s : Shape} (p q : s.Idx → BitVec 1) (i : s.Idx) : andi p q i = p i &&& q i := rfl
theorem mulf_at {s : Shape} {φ : FTy} (u v : FVec Ideal s φ) (i : s.Idx) : mulf u v i = u i * v i := rfl

set_option maxRecDepth 8192 in
/-- The number of powers of two at or below a magnitude over 448. -/
theorem estExp_at (κ : EReal) (v : FVec Ideal S8x128 .f32) (A : EReal) (hv : ∀ r l, v (ValueIdx.ix2 r l) = A) (n : ℕ) (hn : n ≤ 246)
    (h : ∀ j : ℕ, j < 246 → (p2 ((j : ℤ) - 126) ≤ A * κ ↔ j < n)) (r : Fin 8) (l : Fin 128) :
    estExp (F := Ideal) κ v (ValueIdx.ix2 r l) = if 0 < n ∧ A * κ < ⊤ then BitVec.ofNat 32 n - 126#32 else 0#32 := by
  have hs : ∀ (src : IVec S8x128 32) (h1) (h2) (h3) (h4) (h5), ∑ k : Fin 128, (src (ValueIdx.ix2 r k)).toNat = n →
      broadcastTo S8x128 (shapeCast S8x1 (shapeCast S8x1 (multiReductionI .add [1] S8 src 0#32 h1 h2) h3) h4) h5 (ValueIdx.ix2 r l) = BitVec.ofNat 32 n := by
    intro src h1 h2 h3 h4 h5 e
    refine (bc_col (by decide) _ _ r l).trans ?_
    rw [cast_self]
    exact (shapeCast_a_a1_apply (a := 8) _ h3 r 0).trans (row_sum src h1 h2 r n (by omega) e)
  unfold estExp
  rw [select_at, andi_at, cmpi_at, cmpf_at, subi_at]
  refine (congrArg₂ (fun f g : BitVec 32 => Scalar.select (IntOp.cmpi .sgt f (0#32) &&& Ideal.cmp .olt (v (ValueIdx.ix2 r l) * κ) (Ideal.ofBits .f32 0x7F800000#32))
    (g - 126#32) 0#32) (hs _ _ _ _ _ _ ?_) (hs _ _ _ _ _ _ ?_)).trans ?_
  rotate_left 2
  · rw [hv, bits_top, cmp_olt, select_one]
    have := bits_est_gt ⟨n, by omega⟩
    simp only at this
    rw [this]
    by_cases h1 : 0 < n <;> by_cases h2 : A * κ < ⊤ <;> simp [h1, h2]
  all_goals
    refine Eq.trans ?_ (sum_lanes246 ⟨n, by omega⟩)
    refine Finset.sum_congr rfl fun k _ => ?_
    have hi : iota .tc S8x128 32 [1] (by decide) (ValueIdx.ix2 r k) = BitVec.ofNat 32 k.val := iota_single_apply _ _ _ _ _ _
    have l1 : (A * κ < Ideal.ofBits .f32 (IntOp.shli .vector (BitVec.ofNat 32 k.val + 1#32) 23#32)) ↔ ¬ k.val < n := by
      rw [bits_est_lo, ofBits_p2 _ (by omega) (by omega), ← h k.val (by omega), not_le]
      rw [show (((k.val + 1 : ℕ) : ℤ) - 127) = (k.val : ℤ) - 126 by push_cast; ring]
    have l2 : k.val < 118 → ((A * κ < Ideal.ofBits .f32 (IntOp.shli .vector (BitVec.ofNat 32 k.val + 129#32) 23#32)) ↔ ¬ k.val + 128 < n) := by
      intro hk
      rw [bits_est_hi k hk, ofBits_p2 _ (by omega) (by omega), ← h (k.val + 128) (by omega), not_le]
      rw [show (((k.val + 129 : ℕ) : ℤ) - 127) = ((k.val + 128 : ℕ) : ℤ) - 126 by push_cast; ring]
    rw [addi_at, select_at, select_at, ori_at', cmpi_at, cmpf_at, cmpf_at, mulf_at, cast_at, cast_at, shli_at, shli_at, addi_at, addi_at]
    simp only [broadcast_at]
    rw [hi, hv, cmp_olt, cmp_olt, select_one, select_one, lane_lt, if_congr l1 rfl rfl]
    by_cases hk : k.val < 118
    · rw [if_congr (l2 hk) rfl rfl]
      by_cases q : k.val < n <;> by_cases q' : k.val + 128 < n <;> simp [q, q', hk]
    · have hor : ∀ c : BitVec 1, c ||| 1#1 = 1#1 := by decide
      rw [if_neg hk, hor]
      by_cases q : k.val < n <;> simp [q, hk]

/-- The kernel's scale of a magnitude. -/
theorem estScale_at (κ : EReal) (v : FVec Ideal S8x128 .f32) (A : EReal) (hv : ∀ r l, v (ValueIdx.ix2 r l) = A) (r : Fin 8) (l : Fin 128) :
    IsScale (A * κ) (estScale (F := Ideal) κ v (ValueIdx.ix2 r l)) := by
  obtain ⟨n, hn, h⟩ := segment (fun j : ℕ => p2 ((j : ℤ) - 126) ≤ A * κ) (fun i j l q => (p2_le.mpr (by omega)).trans q) 246
  have hs := isScale_count _ n hn h
  have e : estScale (F := Ideal) κ v (ValueIdx.ix2 r l) = p2 (if 0 < n ∧ A * κ < ⊤ then (n : ℤ) - 126 else 0) := by
    unfold estScale
    rw [cast_at, shli_at, addi_at, broadcast_at, broadcast_at, estExp_at κ v A hv n hn h]
    by_cases c : 0 < n ∧ A * κ < ⊤
    · have := bits_est_pos ⟨n, by omega⟩
      simp only at this
      rw [if_pos c, if_pos c, this, ofBits_p2 _ (by omega) (by omega)]
      congr 1; push_cast; ring
    · rw [if_neg c, if_neg c, bits_est_one, ofBits_p2 _ (by decide) (by decide)]
      rfl
  rw [e]
  exact hs

/-! ## The result before its quantisation -/

/-- A pass at a row and a column. -/
theorem pass_at (x w : FVec Ideal S256x256 .bf16) (r c : Fin 256) :
    pass (F := Ideal) x w (ValueIdx.ix2 r c) = ∑ k : Fin 256, (x (ValueIdx.ix2 r k) * w (ValueIdx.ix2 k c) : EReal) := by
  have h := Ideal.matmul_plain_apply (M := 256) (K := 256) (N := 256) (φ₁ := .bf16) (φ₂ := .bf16) none x w (fun _ => 0) r c
  rw [zero_add] at h
  rw [← h]
  exact (zero_add _).symm

/-- A sum over 1024 is four sums over 256. -/
theorem sum_four (f : Fin 1024 → EReal) : ∑ K : Fin 1024, f K = ∑ n : Fin 4, ∑ k : Fin 256, f ⟨256 * n.val + k.val, by omega⟩ := by
  rw [← Fintype.sum_prod_type' (f := fun (n : Fin 4) (k : Fin 256) => f ⟨256 * n.val + k.val, by omega⟩)]
  refine (Equiv.sum_comp (finProdFinEquiv (m := 4) (n := 256)) f).symm.trans ?_
  refine Finset.sum_congr rfl fun p _ => congrArg f (Fin.ext ?_)
  show p.2.val + 256 * p.1.val = 256 * p.1.val + p.2.val
  omega

/-- The product at a row and a column: over the whole inner dimension. -/
theorem z_at (m : Fin 6) (g : Fin 8) (q : Fin 2) (r c : Fin 256) :
    O.z m g q (ValueIdx.ix2 r c) = ∑ K : Fin 1024, (O.XW (ValueIdx.ix2 ⟨256 * m.val + r.val, by omega⟩ K)
      * O.W (ValueIdx.ix2 K ⟨512 * g.val + 256 * q.val + c.val, by omega⟩) : EReal) := by
  have hp : ∀ n : Fin 4, pass (O.xw m n) (O.wt n g q) (ValueIdx.ix2 r c)
      = ∑ k : Fin 256, (O.XW (ValueIdx.ix2 ⟨256 * m.val + r.val, by omega⟩ ⟨256 * n.val + k.val, by omega⟩)
        * O.W (ValueIdx.ix2 (⟨256 * n.val + k.val, by omega⟩ : Fin 1024) ⟨512 * g.val + 256 * q.val + c.val, by omega⟩) : EReal) := by
    intro n
    rw [pass_at]
    refine Finset.sum_congr rfl fun k _ => congrArg₂ (fun a b : EReal => a * b) ?_ ?_
    · refine congrArg O.XW (funext fun a => Fin.ext ?_)
      fin_cases a
      · show 256 * m.val + 1 * r.val = 256 * m.val + r.val
        omega
      · show 256 * n.val + 1 * k.val = 256 * n.val + k.val
        omega
    · refine congrArg O.W (funext fun a => Fin.ext ?_)
      fin_cases a
      · show 256 * n.val + 1 * k.val = 256 * n.val + k.val
        omega
      · show 512 * g.val + 256 * q.val + 1 * c.val = 512 * g.val + 256 * q.val + c.val
        omega
  rw [sum_four, Fin.sum_univ_four, ← hp, ← hp, ← hp, ← hp]
  rfl

/-- The result at a tile's row and lane. -/
theorem y_at (m : Fin 6) (g : Fin 8) (j : Fin 4) (r : Fin 256) (l : Fin 128) :
    O.y m g j (ValueIdx.ix2 r l) = ((∑ K : Fin 1024, (O.XW (ValueIdx.ix2 ⟨256 * m.val + r.val, by omega⟩ K)
      * O.W (ValueIdx.ix2 K ⟨512 * g.val + 128 * j.val + l.val, by omega⟩) : EReal))
      * O.S (ValueIdx.ix2 0 ⟨512 * g.val + 128 * j.val + l.val, by omega⟩) : EReal) := by
  have e1 : O.z m g ⟨j.val / 2, by omega⟩ (ValueIdx.ix2 r ⟨128 * (j.val % 2) + l.val, by omega⟩) = _ := z_at O m g _ r _
  have e2 : (⟨512 * g.val + 256 * (j.val / 2) + (128 * (j.val % 2) + l.val), by omega⟩ : Fin 4096) = ⟨512 * g.val + 128 * j.val + l.val, by omega⟩ :=
    Fin.ext (by show 512 * g.val + 256 * (j.val / 2) + (128 * (j.val % 2) + l.val) = 512 * g.val + 128 * j.val + l.val; omega)
  rw [e2] at e1
  rw [← e1]
  unfold Ops.y scaled
  rw [mulf_at]
  refine congrArg₂ (fun a b : EReal => a * b) ?_ ?_
  · refine congrArg (O.z m g ⟨j.val / 2, by omega⟩) (funext fun a => Fin.ext ?_)
    fin_cases a
    · show 0 + r.val = r.val
      omega
    · show 128 * (j.val % 2) + l.val = 128 * (j.val % 2) + l.val
      rfl
  · refine (broadcastTo_apply _ _ (ValueIdx.ix2 r l) (ValueIdx.ix2 0 l : S1x128.Idx) (fun c => by fin_cases c <;> rfl)).trans ?_
    refine congrArg O.S (funext fun a => Fin.ext ?_)
    fin_cases a
    · rfl
    · show 512 * g.val + 128 * j.val + 1 * l.val = 512 * g.val + 128 * j.val + l.val
      omega

end Cert.Fp8
-- ==== Proof.Result.lean ====
/- The largest magnitude of the result and its scale: the reference's, over the extended reals, are the kernel's, the activations being real. -/
module

public import proofs.«01_k».proof.Proof.Ref
public import proofs.«01_k».proof.Proof.Largest
public import Idealize.ShloMosaic.Lib.ValueLayout

@[expose] public section

noncomputable section

namespace Cert.Fp8

open Idealize.ShloMosaic Idealize.ShloMosaic.TcCoe Idealize.ShloMosaic.ValueIdx
open Cert.ReferenceIdeal.Gen (k0_pay3 k0_pay4 k0_pay7 k0_pay8 k0_pay9)

/-! ## The reference's -/

section reference

variable (s : FVec Ideal Cert.ReferenceIdeal.S12288x1 .f32) (c : FVec Ideal Cert.ReferenceIdeal.S12288x128 .fp8e4m3)
  (W : Vec Ideal Cert.ReferenceIdeal.S1024x4096 .fp8e4m3) (S : Vec Ideal Cert.ReferenceIdeal.S1x4096 .f32)

/-- The reference's codes times their scales, by a row and a column. -/
def codeScale (R : Fin 1536) (K : Fin 1024) : EReal :=
  c (ValueIdx.ix2 (row R ⟨K.val / 128, by omega⟩) (⟨K.val % 128, Nat.mod_lt _ (by decide)⟩ : Fin 128)) * s (ValueIdx.ix2 (row R ⟨K.val / 128, by omega⟩) (0 : Fin 1))

theorem pay7_at (R : Fin 1536) (C : Fin 4096) : k0_pay7 (F := Ideal) s c W S (ValueIdx.ix2 R C)
    = (∑ K : Fin 1024, (codeScale s c R K * W (ValueIdx.ix2 K C) : EReal)) * S (ValueIdx.ix2 (0 : Fin 1) C) := by
  unfold k0_pay7
  rw [mulf_at]
  refine congrArg₂ (fun a b : EReal => a * b) ?_ ?_
  · refine (Ideal.matmul_plain_apply (M := 1536) (K := 1024) (N := 4096) (φ₁ := .bf16) (φ₂ := .bf16) none _ _ _ R C).trans ?_
    refine (congrArg (· + _) (show _ = (0 : EReal) from Ideal.ofBits_zero_f32)).trans ((zero_add _).trans ?_)
    refine Finset.sum_congr rfl fun K _ => congrArg (fun a : EReal => a * W (ValueIdx.ix2 K C)) ?_
    rw [shapeCast_apply _ _ (ValueIdx.ix2 R K) (ValueIdx.ix2 (row R ⟨K.val / 128, by omega⟩) (⟨K.val % 128, Nat.mod_lt _ (by decide)⟩ : Fin 128)) ?_, mulf_at]
    · refine congrArg₂ (fun a b : EReal => a * b) rfl ?_
      exact bc_col (by decide) _ _ _ _
    · rw [Shape.rowMajor_val_two, Shape.rowMajor_val_two]
      show (R.val * 8 + K.val / 128) * 128 + K.val % 128 = R.val * 1024 + K.val
      omega
  · refine (broadcastTo_apply _ _ (ValueIdx.ix2 R C) (ValueIdx.ix2 (0 : Fin 1) C) (fun a => by fin_cases a <;> rfl)).trans ?_
    exact congrFun (cast_self S _) _

/-- The reference's largest magnitude is at most a bound where every entry's magnitude is. -/
theorem pay8_le (t : EReal) : k0_pay8 (F := Ideal) s c W S (ValueIdx.ix2 (0 : Fin 1) (0 : Fin 1)) ≤ t
    ↔ ∀ (R : Fin 1536) (C : Fin 4096), mag (k0_pay7 (F := Ideal) s c W S (ValueIdx.ix2 R C)) ≤ t := by
  generalize hy : k0_pay7 (F := Ideal) s c W S = y
  unfold k0_pay8
  rw [hy, broadcast_at]
  unfold extractAt
  rw [shapeCast_apply _ _ _ (ix1 (0 : Fin 1)) (by rw [Shape.rowMajor_val_one, Shape.rowMajor_val_three]; rfl)]
  refine (congrArg (· ≤ t) (multiReduction_maximumf_eq_fold (F := Ideal) (φ := .f32)
    (shapeCast Cert.ReferenceIdeal.S1x1536x4096 (absf y) Cert.ReferenceIdeal.Facts₀.shapeCasts_S1536x4096_S1x1536x4096) 0xFF800000#32
    Cert.ReferenceIdeal.Facts₀.reduces_S1x1536x4096_S1 (.inl rfl) rfl (ix1 (0 : Fin 1)))).to_iff.trans ?_
  refine (Finset.fold_max_le t).trans ⟨fun q R C => ?_, fun q => ⟨bits_bot.le.trans bot_le, fun i _ => ?_⟩⟩
  · refine le_trans (le_of_eq ?_) (q.2 (ix3 (0 : Fin 1) R C) (Finset.mem_filter.mpr ⟨Finset.mem_univ _, ?_⟩))
    · exact (shapeCast_ab_1ab_apply (a := 1536) (b := 4096) (absf y) _ 0 R C).symm
    · funext a
      fin_cases a
      exact Subsingleton.elim (α := Fin 1) _ _
  · obtain ⟨u, R, C, rfl⟩ : ∃ (u : Fin 1) (R : Fin 1536) (C : Fin 4096), i = ix3 u R C := ⟨i 0, i 1, i 2, eq_ix3 i⟩
    exact (shapeCast_ab_1ab_apply (a := 1536) (b := 4096) (absf y) _ u R C).le.trans (q R C)

theorem pay9_eq : k0_pay9 (F := Ideal) s c W S = colScale (a := 1) (mulf (k0_pay8 (F := Ideal) s c W S)
    (broadcast _ (Named.named (F := Ideal) Cert.ReferenceIdeal.κ "inv_448" 0x3B124925#32)))
    Cert.ReferenceIdeal.Facts₀.iota_S1x256_d1_w32 Cert.ReferenceIdeal.Facts₀.broadcasts_S1x1_S1x256 Cert.ReferenceIdeal.Facts₀.reduces_S1x256_S1 (.inl rfl) rfl
    Cert.ReferenceIdeal.Facts₀.shapeCasts_S1_S1x1 := by
  unfold k0_pay9
  generalize k0_pay8 (F := Ideal) s c W S = y
  rfl

/-- The reference's scale of the result is that of its largest magnitude over 448. -/
theorem pay9_at : IsScale (k0_pay8 (F := Ideal) s c W S (ValueIdx.ix2 (0 : Fin 1) (0 : Fin 1)) * ((1 / 448 : ℝ) : EReal))
    (k0_pay9 (F := Ideal) s c W S (ValueIdx.ix2 (0 : Fin 1) (0 : Fin 1))) := by
  have hn : Named.named (F := Ideal) (φ := .f32) Cert.ReferenceIdeal.κ "inv_448" 0x3B124925#32 = ((1 / 448 : ℝ) : EReal) := rfl
  have h := colScale_at (a := 1) (mulf (k0_pay8 (F := Ideal) s c W S) (broadcast _ (Named.named (F := Ideal) Cert.ReferenceIdeal.κ "inv_448" 0x3B124925#32)))
    Cert.ReferenceIdeal.Facts₀.iota_S1x256_d1_w32 Cert.ReferenceIdeal.Facts₀.broadcasts_S1x1_S1x256 Cert.ReferenceIdeal.Facts₀.reduces_S1x256_S1 (.inl rfl) rfl
    Cert.ReferenceIdeal.Facts₀.shapeCasts_S1_S1x1 0
  rw [← pay9_eq, mulf_at, broadcast_at, hn] at h
  exact h

end reference

/-! ## The kernel's -/

variable (O : Ops Ideal)

theorem XW_at (R : Fin 1536) (K : Fin 1024) : O.XW (ValueIdx.ix2 R K)
    = (code (seg O.X R ⟨K.val / 128, by omega⟩ ⟨K.val % 128, Nat.mod_lt _ (by decide)⟩)
        (blkInv (O.xb (chunk R) ⟨K.val / 128, by omega⟩) (ValueIdx.ix2 (place R) (⟨K.val % 128, Nat.mod_lt _ (by decide)⟩ : Fin 128)))
      * blkScale (O.xb (chunk R) ⟨K.val / 128, by omega⟩) (ValueIdx.ix2 (place R) (⟨K.val % 128, Nat.mod_lt _ (by decide)⟩ : Fin 128)) : EReal) := by
  rw [← xb_at, ← blkCodes_at]
  unfold Ops.XW ofBlk
  refine (congrFun (cast_self (blkXw (O.xb (chunk R) ⟨K.val / 128, by omega⟩)) _) _).trans ?_
  refine (congrArg _ (ix2_eq (place R) (⟨K.val % 128, Nat.mod_lt _ (by decide)⟩ : Fin 128))).trans ?_
  rfl

variable (hX : ∀ i, ∃ a : ℝ, O.X i = (a : EReal))
include hX

/-- The kernel's scaled codes are the reference's. -/
theorem XW_eq (R : Fin 1536) (K : Fin 1024) : O.XW (ValueIdx.ix2 R K) = codeScale (k0_pay3 (F := Ideal) O.X) (k0_pay4 (F := Ideal) O.X) R K := by
  obtain ⟨e, h1, h2⟩ := scale_block O hX R ⟨K.val / 128, by omega⟩
  unfold codeScale
  rw [XW_at, pay4_at, (h2 _).1, (h2 _).2, h1, div_p2]

/-- The kernel's result before its quantisation is the reference's. -/
theorem y_eq (m : Fin 6) (g : Fin 8) (j : Fin 4) (r : Fin 256) (l : Fin 128) : O.y m g j (ValueIdx.ix2 r l)
    = k0_pay7 (F := Ideal) (k0_pay3 O.X) (k0_pay4 O.X) O.W O.S
        (ValueIdx.ix2 (⟨256 * m.val + r.val, by omega⟩ : Fin 1536) (⟨512 * g.val + 128 * j.val + l.val, by omega⟩ : Fin 4096)) := by
  rw [y_at, pay7_at]
  refine congrArg (fun a : EReal => a * _) (Finset.sum_congr rfl fun K _ => ?_)
  rw [XW_eq O hX]

/-- The kernel's largest magnitude is the reference's. -/
theorem largest_eq (r : Fin 8) (l : Fin 128) : estTop (O.top 48) (ValueIdx.ix2 r l)
    = k0_pay8 (F := Ideal) (k0_pay3 O.X) (k0_pay4 O.X) O.W O.S (ValueIdx.ix2 (0 : Fin 1) (0 : Fin 1)) := by
  refine eq_of_forall_ge_iff fun t => (largest_le O r l t).trans (Iff.trans ?_ (pay8_le _ _ _ _ t).symm)
  constructor
  · intro h R C
    have q := h ⟨R.val / 256, by omega⟩ ⟨C.val / 512, by omega⟩ ⟨C.val % 512 / 128, by omega⟩ ⟨R.val % 256, by omega⟩ ⟨C.val % 128, by omega⟩
    rw [y_eq O hX] at q
    have e1 : (⟨256 * (R.val / 256) + R.val % 256, by omega⟩ : Fin 1536) = R := Fin.ext (Nat.div_add_mod _ _)
    have e2 : (⟨512 * (C.val / 512) + 128 * (C.val % 512 / 128) + C.val % 128, by omega⟩ : Fin 4096) = C :=
      Fin.ext (by show 512 * (C.val / 512) + 128 * (C.val % 512 / 128) + C.val % 128 = C.val; omega)
    rw [e1, e2] at q
    exact q
  · intro h m g j p q
    rw [y_eq O hX]
    exact h _ _

theorem am_eq : O.am = k0_pay8 (F := Ideal) (k0_pay3 O.X) (k0_pay4 O.X) O.W O.S := by
  funext i
  have hi : i = ValueIdx.ix2 (0 : Fin 1) (0 : Fin 1) := by
    rw [eq_ix2 i]
    exact congrArg₂ ValueIdx.ix2 (Subsingleton.elim (α := Fin 1) _ _) (Subsingleton.elim (α := Fin 1) _ _)
  rw [hi, ← largest_eq O hX 0 0]
  unfold Ops.am
  rw [cast_self]
  exact congrArg (estTop (O.top 48)) (funext fun a => by fin_cases a <;> rfl)

/-- The kernel's scale of the result is the reference's, the kernel's constant being 1/448. -/
theorem sc_eq (hκ : O.κ = ((1 / 448 : ℝ) : EReal)) : O.sc = k0_pay9 (F := Ideal) (k0_pay3 O.X) (k0_pay4 O.X) O.W O.S := by
  funext i
  have hi : i = ValueIdx.ix2 (0 : Fin 1) (0 : Fin 1) := by
    rw [eq_ix2 i]
    exact congrArg₂ ValueIdx.ix2 (Subsingleton.elim (α := Fin 1) _ _) (Subsingleton.elim (α := Fin 1) _ _)
  have h := estScale_at O.κ (estTop (O.top 48)) _ (fun r l => largest_eq O hX r l) 0 0
  rw [hκ] at h
  rw [hi, (pay9_at _ _ _ _).unique h]
  unfold Ops.sc
  rw [cast_self, hκ]
  exact congrArg (estScale (F := Ideal) ((1 / 448 : ℝ) : EReal) (estTop (O.top 48))) (funext fun a => by fin_cases a <;> rfl)

end Cert.Fp8
-- ==== Proof.lean ====
module

public import proofs.«01_k».proof.Defs
public import proofs.«01_k».proof.Proof.RunKernel
public import proofs.«01_k».proof.Proof.RunKernelIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.RefValues
public import proofs.«01_k».proof.Proof.Result
public import Idealize.ShloMosaic.Lib.ReduceAll
public import Idealize.ShloMosaic.Adequacy
public import Idealize.ShloMosaic.Init

@[expose] public section

noncomputable section

namespace Cert.Proof

open Idealize.ShloMosaic Idealize.SL.Sem

/-- The idealization's one rule: the name `inv_448` stands for 1/448, and the constant the kernel has in its place is that
    number rounded to f32. -/
theorem preserves : Cert.preserves_Kernel_KernelIdeal :=
  IdealRules.named_const.statement Cert.KernelIdeal.κ "inv_448" .f32 0x3B124925#32 ((1 / 448 : ℝ) : EReal) rfl

/-- The side conditions of the precondition. -/
theorem x_finite_facts : Cert.Pre_x_finite.Facts := ⟨by decide, by decide, by decide⟩

/-- Where the precondition holds, every activation is a real number. -/
theorem real_of_pre [Cert.Pre_x_finite.Facts] (x : FVec Ideal Cert.Pre_x_finite.S6x256x1024 .bf16) (w : FVec Ideal Cert.Pre_x_finite.S1024x4096 .fp8e4m3)
    (s : FVec Ideal Cert.Pre_x_finite.S4096 .f32) (h : Cert.Pre_x_finite.fn (F := Ideal) x w s = fun _ => 1#1) (i : Cert.Pre_x_finite.S6x256x1024.Idx) :
    ∃ a : ℝ, x i = (a : EReal) := by
  have : Subsingleton Cert.Pre_x_finite.S_.Idx := ⟨fun a b => funext fun k => k.elim0⟩
  have h1 : Ideal.cmp .olt (max (x i) (-(x i))) (Ideal.ofBits .bf16 0x7F80#16) = 1#1 :=
    Host.reduce_andi_all _ _ _ _ (fun k => k.elim0) (congrFun h fun k => k.elim0) i
  have h2 : max (x i) (-(x i)) < ⊤ := (Cert.Fp8.cmp_lt _ _).mp h1
  have h3 : x i ≠ ⊤ := ne_of_lt (lt_of_le_of_lt (le_max_left _ _) h2)
  have h4 : x i ≠ ⊥ := fun e => by
    rw [e, EReal.neg_bot] at h2
    exact absurd h2 (not_lt.mpr (le_max_right _ _))
  exact ⟨(x i).toReal, (EReal.coe_toReal h3 h4).symm⟩

section
attribute [local instance] Cert.Kernel.Gen.facts Cert.KernelIdeal.Gen.facts Cert.ReferenceIdeal.Gen.facts x_finite_facts

/-- From equal finite activations, weights' codes and scales the kernel and the reference end with one scale of the result, one largest
    magnitude of it, and one array of the activations' codes and one of their scales. -/
theorem algebraic : Cert.algebraic_KernelIdeal_ReferenceIdeal_pre_x_finite := by
  intro m g m' g' hpre heq
  have hX : ∀ c i, ∃ a : ℝ, (Cert.KernelIdeal.ops m c).X i = (a : EReal) := fun c i => real_of_pre _ _ _ (hpre c) _
  have e0 : ∀ c, Cert.ReferenceIdeal.Gen.V m' c Cert.ReferenceIdeal.main_v0 = (Cert.KernelIdeal.ops m c).X := fun c =>
    (Cert.ReferenceIdeal.V_main_v0 m' c).trans
      ((congrArg (fun x => shapeCast Cert.ReferenceIdeal.S1536x1024 x Cert.ReferenceIdeal.Facts₀.shapeCasts_S6x256x1024_S1536x1024) (heq c).1).trans rfl)
  have e1 : ∀ c, Cert.ReferenceIdeal.Gen.V m' c Cert.ReferenceIdeal.main_arg1 = (Cert.KernelIdeal.ops m c).W := fun c =>
    (Cert.ReferenceIdeal.Gen.V_main_arg1 m' c).trans ((heq c).2.1.trans (Cert.KernelIdeal.Gen.V_main_arg1 m c).symm)
  have e2 : ∀ c, Cert.ReferenceIdeal.Gen.V m' c Cert.ReferenceIdeal.main_v1 = (Cert.KernelIdeal.ops m c).S := fun c =>
    (Cert.ReferenceIdeal.V_main_v1 m' c).trans
      ((congrArg (fun x => shapeCast Cert.ReferenceIdeal.S1x4096 x Cert.ReferenceIdeal.Facts₀.shapeCasts_S4096_S1x4096) (heq c).2.2).trans rfl)
  refine ⟨fun c => (Cert.KernelIdeal.ops m c).sc, fun c => (Cert.KernelIdeal.ops m c).am, fun c => (Cert.KernelIdeal.ops m c).XC,
    fun c => (Cert.KernelIdeal.ops m c).XS, Cert.KernelIdeal.run_values m g, (θ_run _ _ _).mono (fun r h c => ?_) (Cert.ReferenceIdeal.run_values m' g')⟩
  obtain ⟨h1, h2, h3, h4, h5⟩ := h c
  rw [e0, e1, e2] at h1 h2
  rw [e0] at h3 h4
  exact ⟨h1.trans (Cert.Fp8.sc_eq _ (hX c) rfl).symm, h2.trans (Cert.Fp8.am_eq _ (hX c)).symm, h3.trans (Cert.Fp8.codes_eq _ (hX c)).symm,
    h4.trans (Cert.Fp8.scales_eq _ (hX c)).symm, h5⟩

end

/-- Everything the certificate claims. -/
theorem claim : Cert.Claim :=
  ⟨Cert.Kernel.Gen.facts, Cert.KernelIdeal.Gen.facts, Cert.ReferenceIdeal.Gen.facts, x_finite_facts,
    fun m ρ _ => Cert.Kernel.frame m ρ, fun m ρ _ => Cert.KernelIdeal.frame m ρ, fun m ρ _ => Cert.KernelIdeal.frame m ρ,
    fun m ρ _ => Cert.ReferenceIdeal.Gen.frame m ρ, fun m ρ _ => Cert.ReferenceIdeal.Gen.frame m ρ, preserves, algebraic⟩

end Cert.Proof

end
